-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)) (v7 : (c : Dev Cert.KernelIdeal.nD) → Buf (Elt Ideal) ((c.tc : Thread Cert.KernelIdeal.nD Cert.KernelIdeal.τ).loc Cert.KernelIdeal.main_v3_7)) (v8 : (c : Dev Cert.KernelIdeal.nD) → Buf (Elt Ideal) ((c.tc : Thread Cert.KernelIdeal.nD Cert.KernelIdeal.τ).loc Cert.KernelIdeal.main_v3_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_v3_7) = v7 c
          ∧ r.2.mem ((c.tc : Thread Cert.KernelIdeal.nD Cert.KernelIdeal.τ).loc Cert.KernelIdeal.main_v3_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_v2_5) = v5 c
          ∧ r.2.mem ((c.tc : Thread Cert.ReferenceIdeal.nD Cert.ReferenceIdeal.τ).loc Cert.ReferenceIdeal.main_v2_6) = v6 c
          ∧ r.2.mem ((c.tc : Thread Cert.ReferenceIdeal.nD Cert.ReferenceIdeal.τ).loc Cert.ReferenceIdeal.main_v2_7) = v7 c
          ∧ r.2.mem ((c.tc : Thread Cert.ReferenceIdeal.nD Cert.ReferenceIdeal.τ).loc Cert.ReferenceIdeal.main_v2_8) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x128x7168 : Shape := ⟨3, ![2, 128, 7168]⟩
abbrev S7168 : Shape := ⟨1, ![7168]⟩
abbrev S7168x18432 : Shape := ⟨2, ![7168, 18432]⟩
abbrev S56x144 : Shape := ⟨2, ![56, 144]⟩
abbrev S2x128x18432 : Shape := ⟨3, ![2, 128, 18432]⟩
abbrev S2 : Shape := ⟨1, ![2]⟩
abbrev S_ : Shape := ⟨0, ![]⟩

class Facts : Prop where
  bcast_S_S7168 : S_.BroadcastsInDim S7168 (![] : Fin 0 → Fin S7168.rank)
  bitsLt_bf16_f32 : FTy.bits .bf16 < FTy.bits .f32
  bcast_S_S2x128x18432 : S_.BroadcastsInDim S2x128x18432 (![] : Fin 0 → Fin S2x128x18432.rank)

variable [Facts]

def fn {F : FTy → Type} [FloatOps F] (main_arg0 : FVec F S2x128x7168 .bf16) (main_arg1 : FVec F S7168 .f32) (main_arg2 : FVec F S7168x18432 .fp8e4m3) (main_arg3 : FVec F S56x144 .f32) (main_arg4 : FVec F S2x128x18432 .bf16) (main_arg5 : IVec S2 32) : IVec S7168 1 × IVec S2x128x18432 1 :=
  let main_v0 : FVec F S7168 .f32 := Host.absf main_arg1
  let main_cst : FVec F S_ .f32 := constant S_ .f32 0x7F7FFFFF#32
  let main_v1 : FVec F S7168 .f32 := broadcastInDim S7168 ![] bcast_S_S7168 main_cst
  let main_v2 : IVec S7168 1 := cmpf .ole main_v0 main_v1
  let main_v3 : FVec F S2x128x18432 .f32 := (extf .f32 · bitsLt_bf16_f32) main_arg4
  let main_v4 : FVec F S2x128x18432 .f32 := Host.absf main_v3
  let main_cst_0 : FVec F S_ .f32 := constant S_ .f32 0x7F7FFFFF#32
  let main_v5 : FVec F S2x128x18432 .f32 := broadcastInDim S2x128x18432 ![] bcast_S_S2x128x18432 main_cst_0
  let main_v6 : IVec S2x128x18432 1 := cmpf .ole main_v4 main_v5
  (main_v2, main_v6)
-- ==== Kernel.lean ====
abbrev S2x128x7168 : Shape := ⟨3, ![2, 128, 7168]⟩
abbrev S7168 : Shape := ⟨1, ![7168]⟩
abbrev S7168x18432 : Shape := ⟨2, ![7168, 18432]⟩
abbrev S56x144 : Shape := ⟨2, ![56, 144]⟩
abbrev S2x128x18432 : Shape := ⟨3, ![2, 128, 18432]⟩
abbrev S2 : Shape := ⟨1, ![2]⟩
abbrev S256x7168 : Shape := ⟨2, ![256, 7168]⟩
abbrev S1x7168 : Shape := ⟨2, ![1, 7168]⟩
abbrev S256x18432 : Shape := ⟨2, ![256, 18432]⟩
abbrev S2x1x7168 : Shape := ⟨3, ![2, 1, 7168]⟩
abbrev S256x144 : Shape := ⟨2, ![256, 144]⟩
abbrev S2x1x18432 : Shape := ⟨3, ![2, 1, 18432]⟩
abbrev S7168x256 : Shape := ⟨2, ![7168, 256]⟩
abbrev S256x256 : Shape := ⟨2, ![256, 256]⟩
abbrev S2x1x256 : Shape := ⟨3, ![2, 1, 256]⟩
abbrev S256x128 : Shape := ⟨2, ![256, 128]⟩
abbrev S16x128 : Shape := ⟨2, ![16, 128]⟩
abbrev S16 : Shape := ⟨1, ![16]⟩
abbrev S16x1 : Shape := ⟨2, ![16, 1]⟩
abbrev S128x128 : Shape := ⟨2, ![128, 128]⟩
abbrev S1 : Shape := ⟨1, ![1]⟩
abbrev S1x128 : Shape := ⟨2, ![1, 128]⟩
abbrev S128 : Shape := ⟨1, ![128]⟩
abbrev S1x1x128 : Shape := ⟨3, ![1, 1, 128]⟩
abbrev S128x1 : Shape := ⟨2, ![128, 1]⟩
abbrev S1x1 : Shape := ⟨2, ![1, 1]⟩
abbrev S128x256 : Shape := ⟨2, ![128, 256]⟩
abbrev S512x256 : Shape := ⟨2, ![512, 256]⟩
abbrev S256 : Shape := ⟨1, ![256]⟩
abbrev S256x1 : Shape := ⟨2, ![256, 1]⟩

abbrev nBuf : Space → Nat
  | .hbm => 18
  | .vmem => 26
  | .smem => 2
  | _ => 0

abbrev bufTy : (tb : Table) → Fin (tcTables nBuf tb) → BufTy
  | .hbm, ⟨0, _⟩ => ⟨S2x128x7168, .bf16⟩
  | .hbm, ⟨1, _⟩ => ⟨S7168, .f32⟩
  | .hbm, ⟨2, _⟩ => ⟨S7168x18432, .fp8e4m3⟩
  | .hbm, ⟨3, _⟩ => ⟨S56x144, .f32⟩
  | .hbm, ⟨4, _⟩ => ⟨S2x128x18432, .bf16⟩
  | .hbm, ⟨5, _⟩ => ⟨S2, .i32⟩
  | .hbm, ⟨6, _⟩ => ⟨S256x7168, .bf16⟩
  | .hbm, ⟨7, _⟩ => ⟨S1x7168, .f32⟩
  | .hbm, ⟨8, _⟩ => ⟨S256x18432, .bf16⟩
  | .hbm, ⟨9, _⟩ => ⟨S256x7168, .bf16⟩
  | .hbm, ⟨10, _⟩ => ⟨S7168x18432, .f32⟩
  | .hbm, ⟨11, _⟩ => ⟨S1x7168, .f32⟩
  | .hbm, ⟨12, _⟩ => ⟨S256x7168, .fp8e4m3⟩
  | .hbm, ⟨13, _⟩ => ⟨S2x1x7168, .f32⟩
  | .hbm, ⟨14, _⟩ => ⟨S256x18432, .fp8e5m2⟩
  | .hbm, ⟨15, _⟩ => ⟨S256x144, .f32⟩
  | .hbm, ⟨16, _⟩ => ⟨S256x18432, .fp8e5m2⟩
  | .hbm, ⟨17, _⟩ => ⟨S2x1x18432, .f32⟩
  | .local _ .vmem, ⟨0, _⟩ => ⟨S256x7168, .bf16⟩
  | .local _ .vmem, ⟨1, _⟩ => ⟨S1x7168, .f32⟩
  | .local _ .vmem, ⟨2, _⟩ => ⟨S7168x256, .fp8e4m3⟩
  | .local _ .vmem, ⟨3, _⟩ => ⟨S7168x256, .fp8e4m3⟩
  | .local _ .vmem, ⟨4, _⟩ => ⟨S256x256, .bf16⟩
  | .local _ .vmem, ⟨5, _⟩ => ⟨S256x256, .bf16⟩
  | .local _ .vmem, ⟨6, _⟩ => ⟨S256x7168, .bf16⟩
  | .local _ .vmem, ⟨7, _⟩ => ⟨S7168x256, .f32⟩
  | .local _ .vmem, ⟨8, _⟩ => ⟨S7168x256, .f32⟩
  | .local _ .vmem, ⟨9, _⟩ => ⟨S1x7168, .f32⟩
  | .local _ .vmem, ⟨10, _⟩ => ⟨S256x7168, .fp8e4m3⟩
  | .local _ .vmem, ⟨11, _⟩ => ⟨S2x1x7168, .f32⟩
  | .local _ .vmem, ⟨12, _⟩ => ⟨S256x256, .fp8e5m2⟩
  | .local _ .vmem, ⟨13, _⟩ => ⟨S256x256, .fp8e5m2⟩
  | .local _ .vmem, ⟨14, _⟩ => ⟨S256x144, .f32⟩
  | .local _ .vmem, ⟨15, _⟩ => ⟨S256x256, .fp8e5m2⟩
  | .local _ .vmem, ⟨16, _⟩ => ⟨S256x256, .fp8e5m2⟩
  | .local _ .vmem, ⟨17, _⟩ => ⟨S2x1x256, .f32⟩
  | .local _ .vmem, ⟨18, _⟩ => ⟨S2x1x256, .f32⟩
  | .local _ .vmem, ⟨19, _⟩ => ⟨S7168x256, .f32⟩
  | .local _ .vmem, ⟨20, _⟩ => ⟨S7168x256, .bf16⟩
  | .local _ .vmem, ⟨21, _⟩ => ⟨S256x128, .f32⟩
  | .local _ .vmem, ⟨22, _⟩ => ⟨S256x256, .f32⟩
  | .local _ .vmem, ⟨23, _⟩ => ⟨S256x256, .bf16⟩
  | .local _ .vmem, ⟨24, _⟩ => ⟨S256x256, .bf16⟩
  | .local _ .vmem, ⟨25, _⟩ => ⟨S256x7168, .f32⟩
  | .local _ .smem, ⟨0, _⟩ => ⟨S2, .i32⟩
  | .local _ .smem, ⟨1, _⟩ => ⟨S56x144, .f32⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_v3_6 : Ref sig .tc := ⟨.hbm, 15, rfl⟩
abbrev main_v3_7 : Ref sig .tc := ⟨.hbm, 16, rfl⟩
abbrev main_v3_8 : Ref sig .tc := ⟨.hbm, 17, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![72], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_917 : BitVec 32 := 0#32
  let c16_i32_918 : BitVec 32 := 16#32
  let v2117 : BitVec 32 := Scalar.addi c0_i32_917 c16_i32_918
  let c1_i32_919 : BitVec 32 := 1#32
  ⟨c0_i32_917, v2117, c1_i32_919⟩
def k0_mult1 (k0_t1 : Fin k0_t1_loop.trips) : BitVec 32 :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  v2127
def k0_off1 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2130 : Index := Scalar.indexCast v2128
  let c0_932 : Index := 0#32
  ![v2130.toNat, 0]
def k0_off2 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2136 : Index := Scalar.indexCast v2128
  let c128_933 : Index := 128#32
  ![v2136.toNat, 128]
def k0_off3 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2142 : Index := Scalar.indexCast v2128
  let c256_934 : Index := 256#32
  ![v2142.toNat, 256]
def k0_off4 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2148 : Index := Scalar.indexCast v2128
  let c384_935 : Index := 384#32
  ![v2148.toNat, 384]
def k0_off5 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2154 : Index := Scalar.indexCast v2128
  let c512_936 : Index := 512#32
  ![v2154.toNat, 512]
def k0_off6 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2160 : Index := Scalar.indexCast v2128
  let c640_937 : Index := 640#32
  ![v2160.toNat, 640]
def k0_off7 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2166 : Index := Scalar.indexCast v2128
  let c768_938 : Index := 768#32
  ![v2166.toNat, 768]
def k0_off8 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2172 : Index := Scalar.indexCast v2128
  let c896_939 : Index := 896#32
  ![v2172.toNat, 896]
def k0_off9 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2178 : Index := Scalar.indexCast v2128
  let c1024_940 : Index := 1024#32
  ![v2178.toNat, 1024]
def k0_off10 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2184 : Index := Scalar.indexCast v2128
  let c1152_941 : Index := 1152#32
  ![v2184.toNat, 1152]
def k0_off11 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2190 : Index := Scalar.indexCast v2128
  let c1280_942 : Index := 1280#32
  ![v2190.toNat, 1280]
def k0_off12 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2196 : Index := Scalar.indexCast v2128
  let c1408_943 : Index := 1408#32
  ![v2196.toNat, 1408]
def k0_off13 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2202 : Index := Scalar.indexCast v2128
  let c1536_944 : Index := 1536#32
  ![v2202.toNat, 1536]
def k0_off14 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2208 : Index := Scalar.indexCast v2128
  let c1664_945 : Index := 1664#32
  ![v2208.toNat, 1664]
def k0_off15 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2214 : Index := Scalar.indexCast v2128
  let c1792_946 : Index := 1792#32
  ![v2214.toNat, 1792]
def k0_off16 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2220 : Index := Scalar.indexCast v2128
  let c1920_947 : Index := 1920#32
  ![v2220.toNat, 1920]
def k0_off17 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2226 : Index := Scalar.indexCast v2128
  let c2048_948 : Index := 2048#32
  ![v2226.toNat, 2048]
def k0_off18 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2232 : Index := Scalar.indexCast v2128
  let c2176_949 : Index := 2176#32
  ![v2232.toNat, 2176]
def k0_off19 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2238 : Index := Scalar.indexCast v2128
  let c2304_950 : Index := 2304#32
  ![v2238.toNat, 2304]
def k0_off20 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2244 : Index := Scalar.indexCast v2128
  let c2432_951 : Index := 2432#32
  ![v2244.toNat, 2432]
def k0_off21 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2250 : Index := Scalar.indexCast v2128
  let c2560_952 : Index := 2560#32
  ![v2250.toNat, 2560]
def k0_off22 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2256 : Index := Scalar.indexCast v2128
  let c2688_953 : Index := 2688#32
  ![v2256.toNat, 2688]
def k0_off23 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2262 : Index := Scalar.indexCast v2128
  let c2816_954 : Index := 2816#32
  ![v2262.toNat, 2816]
def k0_off24 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2268 : Index := Scalar.indexCast v2128
  let c2944_955 : Index := 2944#32
  ![v2268.toNat, 2944]
def k0_off25 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2274 : Index := Scalar.indexCast v2128
  let c3072_956 : Index := 3072#32
  ![v2274.toNat, 3072]
def k0_off26 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2280 : Index := Scalar.indexCast v2128
  let c3200_957 : Index := 3200#32
  ![v2280.toNat, 3200]
def k0_off27 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2286 : Index := Scalar.indexCast v2128
  let c3328_958 : Index := 3328#32
  ![v2286.toNat, 3328]
def k0_off28 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2292 : Index := Scalar.indexCast v2128
  let c3456_959 : Index := 3456#32
  ![v2292.toNat, 3456]
def k0_off29 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2298 : Index := Scalar.indexCast v2128
  let c3584_960 : Index := 3584#32
  ![v2298.toNat, 3584]
def k0_off30 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2304 : Index := Scalar.indexCast v2128
  let c3712_961 : Index := 3712#32
  ![v2304.toNat, 3712]
def k0_off31 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2310 : Index := Scalar.indexCast v2128
  let c3840_962 : Index := 3840#32
  ![v2310.toNat, 3840]
def k0_off32 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2316 : Index := Scalar.indexCast v2128
  let c3968_963 : Index := 3968#32
  ![v2316.toNat, 3968]
def k0_off33 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2322 : Index := Scalar.indexCast v2128
  let c4096_964 : Index := 4096#32
  ![v2322.toNat, 4096]
def k0_off34 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2328 : Index := Scalar.indexCast v2128
  let c4224_965 : Index := 4224#32
  ![v2328.toNat, 4224]
def k0_off35 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2334 : Index := Scalar.indexCast v2128
  let c4352_966 : Index := 4352#32
  ![v2334.toNat, 4352]
def k0_off36 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2340 : Index := Scalar.indexCast v2128
  let c4480_967 : Index := 4480#32
  ![v2340.toNat, 4480]
def k0_off37 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2346 : Index := Scalar.indexCast v2128
  let c4608_968 : Index := 4608#32
  ![v2346.toNat, 4608]
def k0_off38 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2352 : Index := Scalar.indexCast v2128
  let c4736_969 : Index := 4736#32
  ![v2352.toNat, 4736]
def k0_off39 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2358 : Index := Scalar.indexCast v2128
  let c4864_970 : Index := 4864#32
  ![v2358.toNat, 4864]
def k0_off40 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2364 : Index := Scalar.indexCast v2128
  let c4992_971 : Index := 4992#32
  ![v2364.toNat, 4992]
def k0_off41 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2370 : Index := Scalar.indexCast v2128
  let c5120_972 : Index := 5120#32
  ![v2370.toNat, 5120]
def k0_off42 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2376 : Index := Scalar.indexCast v2128
  let c5248_973 : Index := 5248#32
  ![v2376.toNat, 5248]
def k0_off43 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2382 : Index := Scalar.indexCast v2128
  let c5376_974 : Index := 5376#32
  ![v2382.toNat, 5376]
def k0_off44 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2388 : Index := Scalar.indexCast v2128
  let c5504_975 : Index := 5504#32
  ![v2388.toNat, 5504]
def k0_off45 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2394 : Index := Scalar.indexCast v2128
  let c5632_976 : Index := 5632#32
  ![v2394.toNat, 5632]
def k0_off46 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2400 : Index := Scalar.indexCast v2128
  let c5760_977 : Index := 5760#32
  ![v2400.toNat, 5760]
def k0_off47 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2406 : Index := Scalar.indexCast v2128
  let c5888_978 : Index := 5888#32
  ![v2406.toNat, 5888]
def k0_off48 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2412 : Index := Scalar.indexCast v2128
  let c6016_979 : Index := 6016#32
  ![v2412.toNat, 6016]
def k0_off49 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2418 : Index := Scalar.indexCast v2128
  let c6144_980 : Index := 6144#32
  ![v2418.toNat, 6144]
def k0_off50 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2424 : Index := Scalar.indexCast v2128
  let c6272_981 : Index := 6272#32
  ![v2424.toNat, 6272]
def k0_off51 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2430 : Index := Scalar.indexCast v2128
  let c6400_982 : Index := 6400#32
  ![v2430.toNat, 6400]
def k0_off52 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2436 : Index := Scalar.indexCast v2128
  let c6528_983 : Index := 6528#32
  ![v2436.toNat, 6528]
def k0_off53 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2442 : Index := Scalar.indexCast v2128
  let c6656_984 : Index := 6656#32
  ![v2442.toNat, 6656]
def k0_off54 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2448 : Index := Scalar.indexCast v2128
  let c6784_985 : Index := 6784#32
  ![v2448.toNat, 6784]
def k0_off55 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2454 : Index := Scalar.indexCast v2128
  let c6912_986 : Index := 6912#32
  ![v2454.toNat, 6912]
def k0_off56 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2460 : Index := Scalar.indexCast v2128
  let c7040_987 : Index := 7040#32
  ![v2460.toNat, 7040]
def k0_off57 (k0_t1 : Fin k0_t1_loop.trips) : Fin 2 → Nat :=
  let c0_i32_917 : BitVec 32 := 0#32
  let c1_i32_919 : BitVec 32 := 1#32
  let arg23 : BitVec 32 := Scf.iv c0_i32_917 c1_i32_919 k0_t1
  let c16_i32_930 : BitVec 32 := 16#32
  let v2127 : BitVec 32 := Scalar.muli arg23 c16_i32_930
  let v2128 : BitVec 32 := v2127
  let v2475 : Index := Scalar.indexCast v2128
  let c0_991 : Index := 0#32
  ![v2475.toNat, 0]
@[reducible] def k0_t2_loop : Scf.Loop 32 :=
  let c0_i32_921 : BitVec 32 := 0#32
  let c28_i32 : BitVec 32 := 28#32
  let v2118 : BitVec 32 := Scalar.addi c0_i32_921 c28_i32
  let c1_i32_922 : BitVec 32 := 1#32
  ⟨c0_i32_921, v2118, c1_i32_922⟩
def k0_mult2 (k0_t2 : Fin k0_t2_loop.trips) : BitVec 32 :=
  let c0_i32_921 : BitVec 32 := 0#32
  let c1_i32_922 : BitVec 32 := 1#32
  let arg23 : BitVec 32 := Scf.iv c0_i32_921 c1_i32_922 k0_t2
  let c256_i32 : BitVec 32 := 256#32
  let v2127 : BitVec 32 := Scalar.muli arg23 c256_i32
  v2127
def k0_mult3 (k0_t2 : Fin k0_t2_loop.trips) : BitVec 32 :=
  let c0_i32_921 : BitVec 32 := 0#32
  let c1_i32_922 : BitVec 32 := 1#32
  let arg23 : BitVec 32 := Scf.iv c0_i32_921 c1_i32_922 k0_t2
  let c256_i32 : BitVec 32 := 256#32
  let v2127 : BitVec 32 := Scalar.muli arg23 c256_i32
  let v2128 : BitVec 32 := v2127
  let c0_i32_931 : BitVec 32 := 0#32
  let v2133 : BitVec 32 := Scalar.addi v2128 c0_i32_931
  v2133
def k0_off58 (k0_t2 : Fin k0_t2_loop.trips) (c0_i32_931 : BitVec 32) : Fin 2 → Nat :=
  let c0_932 : Index := 0#32
  let c0_i32_921 : BitVec 32 := 0#32
  let c1_i32_922 : BitVec 32 := 1#32
  let arg23 : BitVec 32 := Scf.iv c0_i32_921 c1_i32_922 k0_t2
  let c256_i32 : BitVec 32 := 256#32
  let v2127 : BitVec 32 := Scalar.muli arg23 c256_i32
  let v2128 : BitVec 32 := v2127
  let v2133 : BitVec 32 := Scalar.addi v2128 c0_i32_931
  let v2134 : BitVec 32 := v2133
  let v2135 : Index := Scalar.indexCast v2134
  ![0, v2135.toNat]
def k0_off59 (k0_t2 : Fin k0_t2_loop.trips) (c0_i32_931 : BitVec 32) : Fin 2 → Nat :=
  let c0_935 : Index := 0#32
  let c0_i32_921 : BitVec 32 := 0#32
  let c1_i32_922 : BitVec 32 := 1#32
  let arg23 : BitVec 32 := Scf.iv c0_i32_921 c1_i32_922 k0_t2
  let c256_i32 : BitVec 32 := 256#32
  let v2127 : BitVec 32 := Scalar.muli arg23 c256_i32
  let v2128 : BitVec 32 := v2127
  let v2133 : BitVec 32 := Scalar.addi v2128 c0_i32_931
  let v2134 : BitVec 32 := v2133
  let v2141 : Index := Scalar.indexCast v2134
  ![0, v2141.toNat]
def k0_off60 (k0_t2 : Fin k0_t2_loop.trips) (c0_i32_931 : BitVec 32) : Fin 3 → Nat :=
  let c0_967 : Index := 0#32
  let c0_968 : Index := 0#32
  let c0_i32_921 : BitVec 32 := 0#32
  let c1_i32_922 : BitVec 32 := 1#32
  let arg23 : BitVec 32 := Scf.iv c0_i32_921 c1_i32_922 k0_t2
  let c256_i32 : BitVec 32 := 256#32
  let v2127 : BitVec 32 := Scalar.muli arg23 c256_i32
  let v2128 : BitVec 32 := v2127
  let v2133 : BitVec 32 := Scalar.addi v2128 c0_i32_931
  let v2134 : BitVec 32 := v2133
  let v2238 : Index := Scalar.indexCast v2134
  ![0, 0, v2238.toNat]
def k0_off61 (k0_t2 : Fin k0_t2_loop.trips) (c0_i32_931 : BitVec 32) : Fin 2 → Nat :=
  let c0_i32_921 : BitVec 32 := 0#32
  let c1_i32_922 : BitVec 32 := 1#32
  let arg23 : BitVec 32 := Scf.iv c0_i32_921 c1_i32_922 k0_t2
  let c256_i32 : BitVec 32 := 256#32
  let v2127 : BitVec 32 := Scalar.muli arg23 c256_i32
  let v2128 : BitVec 32 := v2127
  let v2133 : BitVec 32 := Scalar.addi v2128 c0_i32_931
  let v2134 : BitVec 32 := v2133
  let v2247 : Index := Scalar.indexCast v2134
  let c0_969 : Index := 0#32
  ![v2247.toNat, 0]
def k0_mult4 (k0_t2 : Fin k0_t2_loop.trips) : BitVec 32 :=
  let c0_i32_921 : BitVec 32 := 0#32
  let c1_i32_922 : BitVec 32 := 1#32
  let arg23 : BitVec 32 := Scf.iv c0_i32_921 c1_i32_922 k0_t2
  let c256_i32 : BitVec 32 := 256#32
  let v2127 : BitVec 32 := Scalar.muli arg23 c256_i32
  let v2128 : BitVec 32 := v2127
  let c128_i32_970 : BitVec 32 := 128#32
  let v2251 : BitVec 32 := Scalar.addi v2128 c128_i32_970
  v2251
def k0_mult5 (k0_t2 : Fin k0_t2_loop.trips) : BitVec 32 :=
  let c0_i32_921 : BitVec 32 := 0#32
  let c1_i32_922 : BitVec 32 := 1#32
  let arg23 : BitVec 32 := Scf.iv c0_i32_921 c1_i32_922 k0_t2
  let c256_i32 : BitVec 32 := 256#32
  let v2127 : BitVec 32 := Scalar.muli arg23 c256_i32
  let v2128 : BitVec 32 := v2127
  let c0_i32_1010 : BitVec 32 := 0#32
  let v2373 : BitVec 32 := Scalar.addi v2128 c0_i32_1010
  v2373
def k0_off62 (k0_t2 : Fin k0_t2_loop.trips) (c0_i32_1010 : BitVec 32) : Fin 2 → Nat :=
  let c128_1011 : Index := 128#32
  let c0_i32_921 : BitVec 32 := 0#32
  let c1_i32_922 : BitVec 32 := 1#32
  let arg23 : BitVec 32 := Scf.iv c0_i32_921 c1_i32_922 k0_t2
  let c256_i32 : BitVec 32 := 256#32
  let v2127 : BitVec 32 := Scalar.muli arg23 c256_i32
  let v2128 : BitVec 32 := v2127
  let v2373 : BitVec 32 := Scalar.addi v2128 c0_i32_1010
  let v2374 : BitVec 32 := v2373
  let v2375 : Index := Scalar.indexCast v2374
  ![128, v2375.toNat]
def k0_off63 (k0_t2 : Fin k0_t2_loop.trips) (c0_i32_1010 : BitVec 32) : Fin 3 → Nat :=
  let c1_1046 : Index := 1#32
  let c0_1047 : Index := 0#32
  let c0_i32_921 : BitVec 32 := 0#32
  let c1_i32_922 : BitVec 32 := 1#32
  let arg23 : BitVec 32 := Scf.iv c0_i32_921 c1_i32_922 k0_t2
  let c256_i32 : BitVec 32 := 256#32
  let v2127 : BitVec 32 := Scalar.muli arg23 c256_i32
  let v2128 : BitVec 32 := v2127
  let v2373 : BitVec 32 := Scalar.addi v2128 c0_i32_1010
  let v2374 : BitVec 32 := v2373
  let v2478 : Index := Scalar.indexCast v2374
  ![1, 0, v2478.toNat]
def k0_off64 (k0_t2 : Fin k0_t2_loop.trips) (c0_i32_1010 : BitVec 32) : Fin 2 → Nat :=
  let c0_i32_921 : BitVec 32 := 0#32
  let c1_i32_922 : BitVec 32 := 1#32
  let arg23 : BitVec 32 := Scf.iv c0_i32_921 c1_i32_922 k0_t2
  let c256_i32 : BitVec 32 := 256#32
  let v2127 : BitVec 32 := Scalar.muli arg23 c256_i32
  let v2128 : BitVec 32 := v2127
  let v2373 : BitVec 32 := Scalar.addi v2128 c0_i32_1010
  let v2374 : BitVec 32 := v2373
  let v2487 : Index := Scalar.indexCast v2374
  let c128_1048 : Index := 128#32
  ![v2487.toNat, 128]
def k0_mult6 (k0_t2 : Fin k0_t2_loop.trips) : BitVec 32 :=
  let c0_i32_921 : BitVec 32 := 0#32
  let c1_i32_922 : BitVec 32 := 1#32
  let arg23 : BitVec 32 := Scf.iv c0_i32_921 c1_i32_922 k0_t2
  let c256_i32 : BitVec 32 := 256#32
  let v2127 : BitVec 32 := Scalar.muli arg23 c256_i32
  let v2128 : BitVec 32 := v2127
  let c128_i32_1049 : BitVec 32 := 128#32
  let v2491 : BitVec 32 := Scalar.addi v2128 c128_i32_1049
  v2491
def k0_mult7 (i : grid0.Coords) : BitVec 32 :=
  let arg0 : BitVec 32 := BitVec.ofNat 32 (i 0).val
  let c2_i32 : BitVec 32 := 2#32
  let v4 : BitVec 32 := Scalar.muli arg0 c2_i32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c128_i32 : BitVec 32 := 128#32
  let c0_i32_3 : BitVec 32 := 0#32
  let v11 : BitVec 1 := Scalar.cmpi .sgt c128_i32 c0_i32_3
  let v12 : BitVec 32 := Scalar.extui v11
  let c0_i32_4 : BitVec 32 := 0#32
  let v13 : BitVec 1 := Scalar.cmpi .slt c128_i32 c0_i32_4
  let v14 : BitVec 32 := Scalar.extui v13
  let v15 : BitVec 32 := Scalar.subi v12 v14
  let v16 : BitVec 1 := Scalar.cmpi .ne v10 v15
  let v17 : BitVec 32 := Scalar.remsi v4 c128_i32
  let c0_i32_5 : BitVec 32 := 0#32
  let v18 : BitVec 1 := Scalar.cmpi .ne v17 c0_i32_5
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let c128_i32_6 : BitVec 32 := 128#32
  let v22 : BitVec 32 := Scalar.muli v21 c128_i32_6
  v22
def k0_off65 (i : grid0.Coords) : Fin 2 → Nat :=
  let c0_7 : Index := 0#32
  let arg0 : BitVec 32 := BitVec.ofNat 32 (i 0).val
  let c2_i32 : BitVec 32 := 2#32
  let v4 : BitVec 32 := Scalar.muli arg0 c2_i32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c128_i32 : BitVec 32 := 128#32
  let c0_i32_3 : BitVec 32 := 0#32
  let v11 : BitVec 1 := Scalar.cmpi .sgt c128_i32 c0_i32_3
  let v12 : BitVec 32 := Scalar.extui v11
  let c0_i32_4 : BitVec 32 := 0#32
  let v13 : BitVec 1 := Scalar.cmpi .slt c128_i32 c0_i32_4
  let v14 : BitVec 32 := Scalar.extui v13
  let v15 : BitVec 32 := Scalar.subi v12 v14
  let v16 : BitVec 1 := Scalar.cmpi .ne v10 v15
  let v17 : BitVec 32 := Scalar.remsi v4 c128_i32
  let c0_i32_5 : BitVec 32 := 0#32
  let v18 : BitVec 1 := Scalar.cmpi .ne v17 c0_i32_5
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let c128_i32_6 : BitVec 32 := 128#32
  let v22 : BitVec 32 := Scalar.muli v21 c128_i32_6
  let v23 : BitVec 32 := v22
  let v28 : Index := Scalar.indexCast v23
  ![0, v28.toNat]
def k0_off66 (i : grid0.Coords) : Fin 2 → Nat :=
  let c128_158 : Index := 128#32
  let arg0 : BitVec 32 := BitVec.ofNat 32 (i 0).val
  let c2_i32 : BitVec 32 := 2#32
  let v4 : BitVec 32 := Scalar.muli arg0 c2_i32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c128_i32 : BitVec 32 := 128#32
  let c0_i32_3 : BitVec 32 := 0#32
  let v11 : BitVec 1 := Scalar.cmpi .sgt c128_i32 c0_i32_3
  let v12 : BitVec 32 := Scalar.extui v11
  let c0_i32_4 : BitVec 32 := 0#32
  let v13 : BitVec 1 := Scalar.cmpi .slt c128_i32 c0_i32_4
  let v14 : BitVec 32 := Scalar.extui v13
  let v15 : BitVec 32 := Scalar.subi v12 v14
  let v16 : BitVec 1 := Scalar.cmpi .ne v10 v15
  let v17 : BitVec 32 := Scalar.remsi v4 c128_i32
  let c0_i32_5 : BitVec 32 := 0#32
  let v18 : BitVec 1 := Scalar.cmpi .ne v17 c0_i32_5
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let c128_i32_6 : BitVec 32 := 128#32
  let v22 : BitVec 32 := Scalar.muli v21 c128_i32_6
  let v23 : BitVec 32 := v22
  let v470 : Index := Scalar.indexCast v23
  ![128, v470.toNat]
def k0_off67 (i : grid0.Coords) (c0_i32_325 : BitVec 32) : Fin 2 → Nat :=
  let c0_326 : Index := 0#32
  let arg0 : BitVec 32 := BitVec.ofNat 32 (i 0).val
  let c2_i32_324 : BitVec 32 := 2#32
  let v910 : BitVec 32 := Scalar.muli arg0 c2_i32_324
  let v911 : BitVec 32 := Scalar.addi v910 c0_i32_325
  let v912 : Index := Scalar.indexCast v911
  ![0, v912.toNat]
def k0_off68 (i : grid0.Coords) (c0_i32_335 : BitVec 32) : Fin 2 → Nat :=
  let c1_336 : Index := 1#32
  let arg0 : BitVec 32 := BitVec.ofNat 32 (i 0).val
  let c2_i32_334 : BitVec 32 := 2#32
  let v929 : BitVec 32 := Scalar.muli arg0 c2_i32_334
  let v930 : BitVec 32 := Scalar.addi v929 c0_i32_335
  let v931 : Index := Scalar.indexCast v930
  ![1, v931.toNat]
def k0_off69 (i : grid0.Coords) (c0_i32_345 : BitVec 32) : Fin 2 → Nat :=
  let c2 : Index := 2#32
  let arg0 : BitVec 32 := BitVec.ofNat 32 (i 0).val
  let c2_i32_344 : BitVec 32 := 2#32
  let v948 : BitVec 32 := Scalar.muli arg0 c2_i32_344
  let v949 : BitVec 32 := Scalar.addi v948 c0_i32_345
  let v950 : Index := Scalar.indexCast v949
  ![2, v950.toNat]
def k0_off70 (i : grid0.Coords) (c0_i32_353 : BitVec 32) : Fin 2 → Nat :=
  let c3 : Index := 3#32
  let arg0 : BitVec 32 := BitVec.ofNat 32 (i 0).val
  let c2_i32_352 : BitVec 32 := 2#32
  let v967 : BitVec 32 := Scalar.muli arg0 c2_i32_352
  let v968 : BitVec 32 := Scalar.addi v967 c0_i32_353
  let v969 : Index := Scalar.indexCast v968
  ![3, v969.toNat]
def k0_off71 (i : grid0.Coords) (c0_i32_371 : BitVec 32) : Fin 2 → Nat :=
  let c4 : Index := 4#32
  let arg0 : BitVec 32 := BitVec.ofNat 32 (i 0).val
  let c2_i32_370 : BitVec 32 := 2#32
  let v996 : BitVec 32 := Scalar.muli arg0 c2_i32_370
  let v997 : BitVec 32 := Scalar.addi v996 c0_i32_371
  let v998 : Index := Scalar.indexCast v997
  ![4, v998.toNat]
def k0_off72 (i : grid0.Coords) (c0_i32_379 : BitVec 32) : Fin 2 → Nat :=
  let c5 : Index := 5#32
  let arg0 : BitVec 32 := BitVec.ofNat 32 (i 0).val
  let c2_i32_378 : BitVec 32 := 2#32
  let v1015 : BitVec 32 := Scalar.muli arg0 c2_i32_378
  let v1016 : BitVec 32 := Scalar.addi v1015 c0_i32_379
  let v1017 : Index := Scalar.indexCast v1016
  ![5, v1017.toNat]
def k0_off73 (i : grid0.Coords) (c0_i32_387 : BitVec 32) : Fin 2 → Nat :=
  let c6 : Index := 6#32
  let arg0 : BitVec 32 := BitVec.ofNat 32 (i 0).val
  let c2_i32_386 : BitVec 32 := 2#32
  let v1034 : BitVec 32 := Scalar.muli arg0 c2_i32_386
  let v1035 : BitVec 32 := Scalar.addi v1034 c0_i32_387
  let v1036 : Index := Scalar.indexCast v1035
  ![6, v1036.toNat]
def k0_off74 (i : grid0.Coords) (c0_i32_395 : BitVec 32) : Fin 2 → Nat :=
  let c7 : Index := 7#32
  let arg0 : BitVec 32 := BitVec.ofNat 32 (i 0).val
  let c2_i32_394 : BitVec 32 := 2#32
  let v1053 : BitVec 32 := Scalar.muli arg0 c2_i32_394
  let v1054 : BitVec 32 := Scalar.addi v1053 c0_i32_395
  let v1055 : Index := Scalar.indexCast v1054
  ![7, v1055.toNat]
def k0_off75 (i : grid0.Coords) (c0_i32_413 : BitVec 32) : Fin 2 → Nat :=
  let c8 : Index := 8#32
  let arg0 : BitVec 32 := BitVec.ofNat 32 (i 0).val
  let c2_i32_412 : BitVec 32 := 2#32
  let v1082 : BitVec 32 := Scalar.muli arg0 c2_i32_412
  let v1083 : BitVec 32 := Scalar.addi v1082 c0_i32_413
  let v1084 : Index := Scalar.indexCast v1083
  ![8, v1084.toNat]
def k0_off76 (i : grid0.Coords) (c0_i32_421 : BitVec 32) : Fin 2 → Nat :=
  let c9 : Index := 9#32
  let arg0 : BitVec 32 := BitVec.ofNat 32 (i 0).val
  let c2_i32_420 : BitVec 32 := 2#32
  let v1101 : BitVec 32 := Scalar.muli arg0 c2_i32_420
  let v1102 : BitVec 32 := Scalar.addi v1101 c0_i32_421
  let v1103 : Index := Scalar.indexCast v1102
  ![9, v1103.toNat]
def k0_off77 (i : grid0.Coords) (c0_i32_429 : BitVec 32) : Fin 2 → Nat :=
  let c10 : Index := 10#32
  let arg0 : BitVec 32 := BitVec.ofNat 32 (i 0).val
  let c2_i32_428 : BitVec 32 := 2#32
  let v1120 : BitVec 32 := Scalar.muli arg0 c2_i32_428
  let v1121 : BitVec 32 := Scalar.addi v1120 c0_i32_429
  let v1122 : Index := Scalar.indexCast v1121
  ![10, v1122.toNat]
def k0_off78 (i : grid0.Coords) (c0_i32_437 : BitVec 32) : Fin 2 → Nat :=
  let c11 : Index := 11#32
  let arg0 : BitVec 32 := BitVec.ofNat 32 (i 0).val
  let c2_i32_436 : BitVec 32 := 2#32
  let v1139 : BitVec 32 := Scalar.muli arg0 c2_i32_436
  let v1140 : BitVec 32 := Scalar.addi v1139 c0_i32_437
  let v1141 : Index := Scalar.indexCast v1140
  ![11, v1141.toNat]
def k0_off79 (i : grid0.Coords) (c0_i32_455 : BitVec 32) : Fin 2 → Nat :=
  let c12 : Index := 12#32
  let arg0 : BitVec 32 := BitVec.ofNat 32 (i 0).val
  let c2_i32_454 : BitVec 32 := 2#32
  let v1168 : BitVec 32 := Scalar.muli arg0 c2_i32_454
  let v1169 : BitVec 32 := Scalar.addi v1168 c0_i32_455
  let v1170 : Index := Scalar.indexCast v1169
  ![12, v1170.toNat]
def k0_off80 (i : grid0.Coords) (c0_i32_463 : BitVec 32) : Fin 2 → Nat :=
  let c13 : Index := 13#32
  let arg0 : BitVec 32 := BitVec.ofNat 32 (i 0).val
  let c2_i32_462 : BitVec 32 := 2#32
  let v1187 : BitVec 32 := Scalar.muli arg0 c2_i32_462
  let v1188 : BitVec 32 := Scalar.addi v1187 c0_i32_463
  let v1189 : Index := Scalar.indexCast v1188
  ![13, v1189.toNat]
def k0_off81 (i : grid0.Coords) (c0_i32_471 : BitVec 32) : Fin 2 → Nat :=
  let c14 : Index := 14#32
  let arg0 : BitVec 32 := BitVec.ofNat 32 (i 0).val
  let c2_i32_470 : BitVec 32 := 2#32
  let v1206 : BitVec 32 := Scalar.muli arg0 c2_i32_470
  let v1207 : BitVec 32 := Scalar.addi v1206 c0_i32_471
  let v1208 : Index := Scalar.indexCast v1207
  ![14, v1208.toNat]
def k0_off82 (i : grid0.Coords) (c0_i32_479 : BitVec 32) : Fin 2 → Nat :=
  let c15 : Index := 15#32
  let arg0 : BitVec 32 := BitVec.ofNat 32 (i 0).val
  let c2_i32_478 : BitVec 32 := 2#32
  let v1225 : BitVec 32 := Scalar.muli arg0 c2_i32_478
  let v1226 : BitVec 32 := Scalar.addi v1225 c0_i32_479
  let v1227 : Index := Scalar.indexCast v1226
  ![15, v1227.toNat]
def k0_off83 (i : grid0.Coords) (c0_i32_497 : BitVec 32) : Fin 2 → Nat :=
  let c16 : Index := 16#32
  let arg0 : BitVec 32 := BitVec.ofNat 32 (i 0).val
  let c2_i32_496 : BitVec 32 := 2#32
  let v1254 : BitVec 32 := Scalar.muli arg0 c2_i32_496
  let v1255 : BitVec 32 := Scalar.addi v1254 c0_i32_497
  let v1256 : Index := Scalar.indexCast v1255
  ![16, v1256.toNat]
def k0_off84 (i : grid0.Coords) (c0_i32_505 : BitVec 32) : Fin 2 → Nat :=
  let c17 : Index := 17#32
  let arg0 : BitVec 32 := BitVec.ofNat 32 (i 0).val
  let c2_i32_504 : BitVec 32 := 2#32
  let v1273 : BitVec 32 := Scalar.muli arg0 c2_i32_504
  let v1274 : BitVec 32 := Scalar.addi v1273 c0_i32_505
  let v1275 : Index := Scalar.indexCast v1274
  ![17, v1275.toNat]
def k0_off85 (i : grid0.Coords) (c0_i32_513 : BitVec 32) : Fin 2 → Nat :=
  let c18 : Index := 18#32
  let arg0 : BitVec 32 := BitVec.ofNat 32 (i 0).val
  let c2_i32_512 : BitVec 32 := 2#32
  let v1292 : BitVec 32 := Scalar.muli arg0 c2_i32_512
  let v1293 : BitVec 32 := Scalar.addi v1292 c0_i32_513
  let v1294 : Index := Scalar.indexCast v1293
  ![18, v1294.toNat]
def k0_off86 (i : grid0.Coords) (c0_i32_521 : BitVec 32) : Fin 2 → Nat :=
  let c19 : Index := 19#32
  let arg0 : BitVec 32 := BitVec.ofNat 32 (i 0).val
  let c2_i32_520 : BitVec 32 := 2#32
  let v1311 : BitVec 32 := Scalar.muli arg0 c2_i32_520
  let v1312 : BitVec 32 := Scalar.addi v1311 c0_i32_521
  let v1313 : Index := Scalar.indexCast v1312
  ![19, v1313.toNat]
def k0_off87 (i : grid0.Coords) (c0_i32_539 : BitVec 32) : Fin 2 → Nat :=
  let c20 : Index := 20#32
  let arg0 : BitVec 32 := BitVec.ofNat 32 (i 0).val
  let c2_i32_538 : BitVec 32 := 2#32
  let v1340 : BitVec 32 := Scalar.muli arg0 c2_i32_538
  let v1341 : BitVec 32 := Scalar.addi v1340 c0_i32_539
  let v1342 : Index := Scalar.indexCast v1341
  ![20, v1342.toNat]
def k0_off88 (i : grid0.Coords) (c0_i32_547 : BitVec 32) : Fin 2 → Nat :=
  let c21 : Index := 21#32
  let arg0 : BitVec 32 := BitVec.ofNat 32 (i 0).val
  let c2_i32_546 : BitVec 32 := 2#32
  let v1359 : BitVec 32 := Scalar.muli arg0 c2_i32_546
  let v1360 : BitVec 32 := Scalar.addi v1359 c0_i32_547
  let v1361 : Index := Scalar.indexCast v1360
  ![21, v1361.toNat]
def k0_off89 (i : grid0.Coords) (c0_i32_555 : BitVec 32) : Fin 2 → Nat :=
  let c22 : Index := 22#32
  let arg0 : BitVec 32 := BitVec.ofNat 32 (i 0).val
  let c2_i32_554 : BitVec 32 := 2#32
  let v1378 : BitVec 32 := Scalar.muli arg0 c2_i32_554
  let v1379 : BitVec 32 := Scalar.addi v1378 c0_i32_555
  let v1380 : Index := Scalar.indexCast v1379
  ![22, v1380.toNat]
def k0_off90 (i : grid0.Coords) (c0_i32_563 : BitVec 32) : Fin 2 → Nat :=
  let c23 : Index := 23#32
  let arg0 : BitVec 32 := BitVec.ofNat 32 (i 0).val
  let c2_i32_562 : BitVec 32 := 2#32
  let v1397 : BitVec 32 := Scalar.muli arg0 c2_i32_562
  let v1398 : BitVec 32 := Scalar.addi v1397 c0_i32_563
  let v1399 : Index := Scalar.indexCast v1398
  ![23, v1399.toNat]
def k0_off91 (i : grid0.Coords) (c0_i32_581 : BitVec 32) : Fin 2 → Nat :=
  let c24 : Index := 24#32
  let arg0 : BitVec 32 := BitVec.ofNat 32 (i 0).val
  let c2_i32_580 : BitVec 32 := 2#32
  let v1426 : BitVec 32 := Scalar.muli arg0 c2_i32_580
  let v1427 : BitVec 32 := Scalar.addi v1426 c0_i32_581
  let v1428 : Index := Scalar.indexCast v1427
  ![24, v1428.toNat]
def k0_off92 (i : grid0.Coords) (c0_i32_589 : BitVec 32) : Fin 2 → Nat :=
  let c25 : Index := 25#32
  let arg0 : BitVec 32 := BitVec.ofNat 32 (i 0).val
  let c2_i32_588 : BitVec 32 := 2#32
  let v1445 : BitVec 32 := Scalar.muli arg0 c2_i32_588
  let v1446 : BitVec 32 := Scalar.addi v1445 c0_i32_589
  let v1447 : Index := Scalar.indexCast v1446
  ![25, v1447.toNat]
def k0_off93 (i : grid0.Coords) (c0_i32_597 : BitVec 32) : Fin 2 → Nat :=
  let c26 : Index := 26#32
  let arg0 : BitVec 32 := BitVec.ofNat 32 (i 0).val
  let c2_i32_596 : BitVec 32 := 2#32
  let v1464 : BitVec 32 := Scalar.muli arg0 c2_i32_596
  let v1465 : BitVec 32 := Scalar.addi v1464 c0_i32_597
  let v1466 : Index := Scalar.indexCast v1465
  ![26, v1466.toNat]
def k0_off94 (i : grid0.Coords) (c0_i32_605 : BitVec 32) : Fin 2 → Nat :=
  let c27 : Index := 27#32
  let arg0 : BitVec 32 := BitVec.ofNat 32 (i 0).val
  let c2_i32_604 : BitVec 32 := 2#32
  let v1483 : BitVec 32 := Scalar.muli arg0 c2_i32_604
  let v1484 : BitVec 32 := Scalar.addi v1483 c0_i32_605
  let v1485 : Index := Scalar.indexCast v1484
  ![27, v1485.toNat]
def k0_off95 (i : grid0.Coords) (c0_i32_623 : BitVec 32) : Fin 2 → Nat :=
  let c28 : Index := 28#32
  let arg0 : BitVec 32 := BitVec.ofNat 32 (i 0).val
  let c2_i32_622 : BitVec 32 := 2#32
  let v1512 : BitVec 32 := Scalar.muli arg0 c2_i32_622
  let v1513 : BitVec 32 := Scalar.addi v1512 c0_i32_623
  let v1514 : Index := Scalar.indexCast v1513
  ![28, v1514.toNat]
def k0_off96 (i : grid0.Coords) (c0_i32_631 : BitVec 32) : Fin 2 → Nat :=
  let c29 : Index := 29#32
  let arg0 : BitVec 32 := BitVec.ofNat 32 (i 0).val
  let c2_i32_630 : BitVec 32 := 2#32
  let v1531 : BitVec 32 := Scalar.muli arg0 c2_i32_630
  let v1532 : BitVec 32 := Scalar.addi v1531 c0_i32_631
  let v1533 : Index := Scalar.indexCast v1532
  ![29, v1533.toNat]
def k0_off97 (i : grid0.Coords) (c0_i32_639 : BitVec 32) : Fin 2 → Nat :=
  let c30 : Index := 30#32
  let arg0 : BitVec 32 := BitVec.ofNat 32 (i 0).val
  let c2_i32_638 : BitVec 32 := 2#32
  let v1550 : BitVec 32 := Scalar.muli arg0 c2_i32_638
  let v1551 : BitVec 32 := Scalar.addi v1550 c0_i32_639
  let v1552 : Index := Scalar.indexCast v1551
  ![30, v1552.toNat]
def k0_off98 (i : grid0.Coords) (c0_i32_647 : BitVec 32) : Fin 2 → Nat :=
  let c31 : Index := 31#32
  let arg0 : BitVec 32 := BitVec.ofNat 32 (i 0).val
  let c2_i32_646 : BitVec 32 := 2#32
  let v1569 : BitVec 32 := Scalar.muli arg0 c2_i32_646
  let v1570 : BitVec 32 := Scalar.addi v1569 c0_i32_647
  let v1571 : Index := Scalar.indexCast v1570
  ![31, v1571.toNat]
def k0_off99 (i : grid0.Coords) (c0_i32_665 : BitVec 32) : Fin 2 → Nat :=
  let c32 : Index := 32#32
  let arg0 : BitVec 32 := BitVec.ofNat 32 (i 0).val
  let c2_i32_664 : BitVec 32 := 2#32
  let v1598 : BitVec 32 := Scalar.muli arg0 c2_i32_664
  let v1599 : BitVec 32 := Scalar.addi v1598 c0_i32_665
  let v1600 : Index := Scalar.indexCast v1599
  ![32, v1600.toNat]
def k0_off100 (i : grid0.Coords) (c0_i32_673 : BitVec 32) : Fin 2 → Nat :=
  let c33 : Index := 33#32
  let arg0 : BitVec 32 := BitVec.ofNat 32 (i 0).val
  let c2_i32_672 : BitVec 32 := 2#32
  let v1617 : BitVec 32 := Scalar.muli arg0 c2_i32_672
  let v1618 : BitVec 32 := Scalar.addi v1617 c0_i32_673
  let v1619 : Index := Scalar.indexCast v1618
  ![33, v1619.toNat]
def k0_off101 (i : grid0.Coords) (c0_i32_681 : BitVec 32) : Fin 2 → Nat :=
  let c34 : Index := 34#32
  let arg0 : BitVec 32 := BitVec.ofNat 32 (i 0).val
  let c2_i32_680 : BitVec 32 := 2#32
  let v1636 : BitVec 32 := Scalar.muli arg0 c2_i32_680
  let v1637 : BitVec 32 := Scalar.addi v1636 c0_i32_681
  let v1638 : Index := Scalar.indexCast v1637
  ![34, v1638.toNat]
def k0_off102 (i : grid0.Coords) (c0_i32_689 : BitVec 32) : Fin 2 → Nat :=
  let c35 : Index := 35#32
  let arg0 : BitVec 32 := BitVec.ofNat 32 (i 0).val
  let c2_i32_688 : BitVec 32 := 2#32
  let v1655 : BitVec 32 := Scalar.muli arg0 c2_i32_688
  let v1656 : BitVec 32 := Scalar.addi v1655 c0_i32_689
  let v1657 : Index := Scalar.indexCast v1656
  ![35, v1657.toNat]
def k0_off103 (i : grid0.Coords) (c0_i32_707 : BitVec 32) : Fin 2 → Nat :=
  let c36 : Index := 36#32
  let arg0 : BitVec 32 := BitVec.ofNat 32 (i 0).val
  let c2_i32_706 : BitVec 32 := 2#32
  let v1684 : BitVec 32 := Scalar.muli arg0 c2_i32_706
  let v1685 : BitVec 32 := Scalar.addi v1684 c0_i32_707
  let v1686 : Index := Scalar.indexCast v1685
  ![36, v1686.toNat]
def k0_off104 (i : grid0.Coords) (c0_i32_715 : BitVec 32) : Fin 2 → Nat :=
  let c37 : Index := 37#32
  let arg0 : BitVec 32 := BitVec.ofNat 32 (i 0).val
  let c2_i32_714 : BitVec 32 := 2#32
  let v1703 : BitVec 32 := Scalar.muli arg0 c2_i32_714
  let v1704 : BitVec 32 := Scalar.addi v1703 c0_i32_715
  let v1705 : Index := Scalar.indexCast v1704
  ![37, v1705.toNat]
def k0_off105 (i : grid0.Coords) (c0_i32_723 : BitVec 32) : Fin 2 → Nat :=
  let c38 : Index := 38#32
  let arg0 : BitVec 32 := BitVec.ofNat 32 (i 0).val
  let c2_i32_722 : BitVec 32 := 2#32
  let v1722 : BitVec 32 := Scalar.muli arg0 c2_i32_722
  let v1723 : BitVec 32 := Scalar.addi v1722 c0_i32_723
  let v1724 : Index := Scalar.indexCast v1723
  ![38, v1724.toNat]
def k0_off106 (i : grid0.Coords) (c0_i32_731 : BitVec 32) : Fin 2 → Nat :=
  let c39 : Index := 39#32
  let arg0 : BitVec 32 := BitVec.ofNat 32 (i 0).val
  let c2_i32_730 : BitVec 32 := 2#32
  let v1741 : BitVec 32 := Scalar.muli arg0 c2_i32_730
  let v1742 : BitVec 32 := Scalar.addi v1741 c0_i32_731
  let v1743 : Index := Scalar.indexCast v1742
  ![39, v1743.toNat]
def k0_off107 (i : grid0.Coords) (c0_i32_749 : BitVec 32) : Fin 2 → Nat :=
  let c40 : Index := 40#32
  let arg0 : BitVec 32 := BitVec.ofNat 32 (i 0).val
  let c2_i32_748 : BitVec 32 := 2#32
  let v1770 : BitVec 32 := Scalar.muli arg0 c2_i32_748
  let v1771 : BitVec 32 := Scalar.addi v1770 c0_i32_749
  let v1772 : Index := Scalar.indexCast v1771
  ![40, v1772.toNat]
def k0_off108 (i : grid0.Coords) (c0_i32_757 : BitVec 32) : Fin 2 → Nat :=
  let c41 : Index := 41#32
  let arg0 : BitVec 32 := BitVec.ofNat 32 (i 0).val
  let c2_i32_756 : BitVec 32 := 2#32
  let v1789 : BitVec 32 := Scalar.muli arg0 c2_i32_756
  let v1790 : BitVec 32 := Scalar.addi v1789 c0_i32_757
  let v1791 : Index := Scalar.indexCast v1790
  ![41, v1791.toNat]
def k0_off109 (i : grid0.Coords) (c0_i32_765 : BitVec 32) : Fin 2 → Nat :=
  let c42 : Index := 42#32
  let arg0 : BitVec 32 := BitVec.ofNat 32 (i 0).val
  let c2_i32_764 : BitVec 32 := 2#32
  let v1808 : BitVec 32 := Scalar.muli arg0 c2_i32_764
  let v1809 : BitVec 32 := Scalar.addi v1808 c0_i32_765
  let v1810 : Index := Scalar.indexCast v1809
  ![42, v1810.toNat]
def k0_off110 (i : grid0.Coords) (c0_i32_773 : BitVec 32) : Fin 2 → Nat :=
  let c43 : Index := 43#32
  let arg0 : BitVec 32 := BitVec.ofNat 32 (i 0).val
  let c2_i32_772 : BitVec 32 := 2#32
  let v1827 : BitVec 32 := Scalar.muli arg0 c2_i32_772
  let v1828 : BitVec 32 := Scalar.addi v1827 c0_i32_773
  let v1829 : Index := Scalar.indexCast v1828
  ![43, v1829.toNat]
def k0_off111 (i : grid0.Coords) (c0_i32_791 : BitVec 32) : Fin 2 → Nat :=
  let c44 : Index := 44#32
  let arg0 : BitVec 32 := BitVec.ofNat 32 (i 0).val
  let c2_i32_790 : BitVec 32 := 2#32
  let v1856 : BitVec 32 := Scalar.muli arg0 c2_i32_790
  let v1857 : BitVec 32 := Scalar.addi v1856 c0_i32_791
  let v1858 : Index := Scalar.indexCast v1857
  ![44, v1858.toNat]
def k0_off112 (i : grid0.Coords) (c0_i32_799 : BitVec 32) : Fin 2 → Nat :=
  let c45 : Index := 45#32
  let arg0 : BitVec 32 := BitVec.ofNat 32 (i 0).val
  let c2_i32_798 : BitVec 32 := 2#32
  let v1875 : BitVec 32 := Scalar.muli arg0 c2_i32_798
  let v1876 : BitVec 32 := Scalar.addi v1875 c0_i32_799
  let v1877 : Index := Scalar.indexCast v1876
  ![45, v1877.toNat]
def k0_off113 (i : grid0.Coords) (c0_i32_807 : BitVec 32) : Fin 2 → Nat :=
  let c46 : Index := 46#32
  let arg0 : BitVec 32 := BitVec.ofNat 32 (i 0).val
  let c2_i32_806 : BitVec 32 := 2#32
  let v1894 : BitVec 32 := Scalar.muli arg0 c2_i32_806
  let v1895 : BitVec 32 := Scalar.addi v1894 c0_i32_807
  let v1896 : Index := Scalar.indexCast v1895
  ![46, v1896.toNat]
def k0_off114 (i : grid0.Coords) (c0_i32_815 : BitVec 32) : Fin 2 → Nat :=
  let c47 : Index := 47#32
  let arg0 : BitVec 32 := BitVec.ofNat 32 (i 0).val
  let c2_i32_814 : BitVec 32 := 2#32
  let v1913 : BitVec 32 := Scalar.muli arg0 c2_i32_814
  let v1914 : BitVec 32 := Scalar.addi v1913 c0_i32_815
  let v1915 : Index := Scalar.indexCast v1914
  ![47, v1915.toNat]
def k0_off115 (i : grid0.Coords) (c0_i32_833 : BitVec 32) : Fin 2 → Nat :=
  let c48 : Index := 48#32
  let arg0 : BitVec 32 := BitVec.ofNat 32 (i 0).val
  let c2_i32_832 : BitVec 32 := 2#32
  let v1942 : BitVec 32 := Scalar.muli arg0 c2_i32_832
  let v1943 : BitVec 32 := Scalar.addi v1942 c0_i32_833
  let v1944 : Index := Scalar.indexCast v1943
  ![48, v1944.toNat]
def k0_off116 (i : grid0.Coords) (c0_i32_841 : BitVec 32) : Fin 2 → Nat :=
  let c49 : Index := 49#32
  let arg0 : BitVec 32 := BitVec.ofNat 32 (i 0).val
  let c2_i32_840 : BitVec 32 := 2#32
  let v1961 : BitVec 32 := Scalar.muli arg0 c2_i32_840
  let v1962 : BitVec 32 := Scalar.addi v1961 c0_i32_841
  let v1963 : Index := Scalar.indexCast v1962
  ![49, v1963.toNat]
def k0_off117 (i : grid0.Coords) (c0_i32_849 : BitVec 32) : Fin 2 → Nat :=
  let c50 : Index := 50#32
  let arg0 : BitVec 32 := BitVec.ofNat 32 (i 0).val
  let c2_i32_848 : BitVec 32 := 2#32
  let v1980 : BitVec 32 := Scalar.muli arg0 c2_i32_848
  let v1981 : BitVec 32 := Scalar.addi v1980 c0_i32_849
  let v1982 : Index := Scalar.indexCast v1981
  ![50, v1982.toNat]
def k0_off118 (i : grid0.Coords) (c0_i32_857 : BitVec 32) : Fin 2 → Nat :=
  let c51 : Index := 51#32
  let arg0 : BitVec 32 := BitVec.ofNat 32 (i 0).val
  let c2_i32_856 : BitVec 32 := 2#32
  let v1999 : BitVec 32 := Scalar.muli arg0 c2_i32_856
  let v2000 : BitVec 32 := Scalar.addi v1999 c0_i32_857
  let v2001 : Index := Scalar.indexCast v2000
  ![51, v2001.toNat]
def k0_off119 (i : grid0.Coords) (c0_i32_875 : BitVec 32) : Fin 2 → Nat :=
  let c52 : Index := 52#32
  let arg0 : BitVec 32 := BitVec.ofNat 32 (i 0).val
  let c2_i32_874 : BitVec 32 := 2#32
  let v2028 : BitVec 32 := Scalar.muli arg0 c2_i32_874
  let v2029 : BitVec 32 := Scalar.addi v2028 c0_i32_875
  let v2030 : Index := Scalar.indexCast v2029
  ![52, v2030.toNat]
def k0_off120 (i : grid0.Coords) (c0_i32_883 : BitVec 32) : Fin 2 → Nat :=
  let c53 : Index := 53#32
  let arg0 : BitVec 32 := BitVec.ofNat 32 (i 0).val
  let c2_i32_882 : BitVec 32 := 2#32
  let v2047 : BitVec 32 := Scalar.muli arg0 c2_i32_882
  let v2048 : BitVec 32 := Scalar.addi v2047 c0_i32_883
  let v2049 : Index := Scalar.indexCast v2048
  ![53, v2049.toNat]
def k0_off121 (i : grid0.Coords) (c0_i32_891 : BitVec 32) : Fin 2 → Nat :=
  let c54 : Index := 54#32
  let arg0 : BitVec 32 := BitVec.ofNat 32 (i 0).val
  let c2_i32_890 : BitVec 32 := 2#32
  let v2066 : BitVec 32 := Scalar.muli arg0 c2_i32_890
  let v2067 : BitVec 32 := Scalar.addi v2066 c0_i32_891
  let v2068 : Index := Scalar.indexCast v2067
  ![54, v2068.toNat]
def k0_off122 (i : grid0.Coords) (c0_i32_899 : BitVec 32) : Fin 2 → Nat :=
  let c55 : Index := 55#32
  let arg0 : BitVec 32 := BitVec.ofNat 32 (i 0).val
  let c2_i32_898 : BitVec 32 := 2#32
  let v2085 : BitVec 32 := Scalar.muli arg0 c2_i32_898
  let v2086 : BitVec 32 := Scalar.addi v2085 c0_i32_899
  let v2087 : Index := Scalar.indexCast v2086
  ![55, v2087.toNat]
def k0_cond2 (i : grid0.Coords) : BitVec 1 :=
  let arg0 : BitVec 32 := BitVec.ofNat 32 (i 0).val
  let c71_i32 : BitVec 32 := 71#32
  let v2114 : BitVec 1 := Scalar.cmpi .eq arg0 c71_i32
  let v2115 : BitVec 32 := Scalar.extui v2114
  let c0_i32_916 : BitVec 32 := 0#32
  let v2116 : BitVec 1 := Scalar.cmpi .ne v2115 c0_i32_916
  v2116

@[reducible] def k0_t3_loop : Scf.Loop 32 :=
  let c0_i32_922 : BitVec 32 := 0#32
  let c56_i32 : BitVec 32 := 56#32
  let v2120 : BitVec 32 := Scalar.addi c0_i32_922 c56_i32
  let c1_i32_923 : BitVec 32 := 1#32
  ⟨c0_i32_922, v2120, c1_i32_923⟩
def k0_mult8 (k0_t3 : Fin k0_t3_loop.trips) : BitVec 32 :=
  let c0_i32_922 : BitVec 32 := 0#32
  let c1_i32_923 : BitVec 32 := 1#32
  let arg23 : BitVec 32 := Scf.iv c0_i32_922 c1_i32_923 k0_t3
  let c128_i32_931 : BitVec 32 := 128#32
  let v2127 : BitVec 32 := Scalar.muli arg23 c128_i32_931
  v2127
def k0_off123 (k0_t3 : Fin k0_t3_loop.trips) : Fin 2 → Nat :=
  let c0_i32_922 : BitVec 32 := 0#32
  let c1_i32_923 : BitVec 32 := 1#32
  let arg23 : BitVec 32 := Scf.iv c0_i32_922 c1_i32_923 k0_t3
  let c128_i32_931 : BitVec 32 := 128#32
  let v2127 : BitVec 32 := Scalar.muli arg23 c128_i32_931
  let v2128 : BitVec 32 := v2127
  let v2129 : Index := Scalar.indexCast v2128
  let c0_932 : Index := 0#32
  ![v2129.toNat, 0]
def k0_off124 (k0_t3 : Fin k0_t3_loop.trips) : Fin 2 → Nat :=
  let c0_933 : Index := 0#32
  let c0_i32_922 : BitVec 32 := 0#32
  let c1_i32_923 : BitVec 32 := 1#32
  let arg23 : BitVec 32 := Scf.iv c0_i32_922 c1_i32_923 k0_t3
  let c128_i32_931 : BitVec 32 := 128#32
  let v2127 : BitVec 32 := Scalar.muli arg23 c128_i32_931
  let v2128 : BitVec 32 := v2127
  let v2132 : Index := Scalar.indexCast v2128
  ![0, v2132.toNat]
def k0_off125 (k0_t3 : Fin k0_t3_loop.trips) : Fin 2 → Nat :=
  let c0_937 : Index := 0#32
  let c0_i32_922 : BitVec 32 := 0#32
  let c1_i32_923 : BitVec 32 := 1#32
  let arg23 : BitVec 32 := Scf.iv c0_i32_922 c1_i32_923 k0_t3
  let c128_i32_931 : BitVec 32 := 128#32
  let v2127 : BitVec 32 := Scalar.muli arg23 c128_i32_931
  let v2128 : BitVec 32 := v2127
  let v2141 : Index := Scalar.indexCast v2128
  ![0, v2141.toNat]
@[reducible] def k0_t4_loop : Scf.Loop 32 :=
  let c0_i32_927 : BitVec 32 := 0#32
  let c56_i32_928 : BitVec 32 := 56#32
  let v2126 : BitVec 32 := Scalar.addi c0_i32_927 c56_i32_928
  let c1_i32_929 : BitVec 32 := 1#32
  ⟨c0_i32_927, v2126, c1_i32_929⟩
def k0_mult9 (k0_t4 : Fin k0_t4_loop.trips) : BitVec 32 :=
  let c0_i32_927 : BitVec 32 := 0#32
  let c1_i32_929 : BitVec 32 := 1#32
  let arg23 : BitVec 32 := Scf.iv c0_i32_927 c1_i32_929 k0_t4
  let c128_i32_931 : BitVec 32 := 128#32
  let v2127 : BitVec 32 := Scalar.muli arg23 c128_i32_931
  v2127
def k0_off126 (k0_t4 : Fin k0_t4_loop.trips) : Fin 2 → Nat :=
  let c0_934 : Index := 0#32
  let c0_i32_927 : BitVec 32 := 0#32
  let c1_i32_929 : BitVec 32 := 1#32
  let arg23 : BitVec 32 := Scf.iv c0_i32_927 c1_i32_929 k0_t4
  let c128_i32_931 : BitVec 32 := 128#32
  let v2127 : BitVec 32 := Scalar.muli arg23 c128_i32_931
  let v2128 : BitVec 32 := v2127
  let v2130 : Index := Scalar.indexCast v2128
  ![0, v2130.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S56x144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S7168x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S7168x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x7168 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x7168 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1x7168 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x256 .fp8e5m2 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S256x144 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x256 .fp8e5m2 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S2x128x7168 : Shape := ⟨3, ![2, 128, 7168]⟩
abbrev S7168 : Shape := ⟨1, ![7168]⟩
abbrev S7168x18432 : Shape := ⟨2, ![7168, 18432]⟩
abbrev S56x144 : Shape := ⟨2, ![56, 144]⟩
abbrev S2x128x18432 : Shape := ⟨3, ![2, 128, 18432]⟩
abbrev S2 : Shape := ⟨1, ![2]⟩
abbrev S2x1x1 : Shape := ⟨3, ![2, 1, 1]⟩
abbrev S1x7168 : Shape := ⟨2, ![1, 7168]⟩
abbrev S256x7168 : Shape := ⟨2, ![256, 7168]⟩
abbrev S2x1x7168 : Shape := ⟨3, ![2, 1, 7168]⟩
abbrev S256x18432 : Shape := ⟨2, ![256, 18432]⟩
abbrev S256x144 : Shape := ⟨2, ![256, 144]⟩
abbrev S2x1x18432 : Shape := ⟨3, ![2, 1, 18432]⟩
abbrev S2x128 : Shape := ⟨2, ![2, 128]⟩
abbrev S2x128x1 : Shape := ⟨3, ![2, 128, 1]⟩
abbrev S1x1x7168 : Shape := ⟨3, ![1, 1, 7168]⟩
abbrev S2x7168 : Shape := ⟨2, ![2, 7168]⟩
abbrev S2x128x144x128 : Shape := ⟨4, ![2, 128, 144, 128]⟩
abbrev S2x128x144 : Shape := ⟨3, ![2, 128, 144]⟩
abbrev S2x128x144x1 : Shape := ⟨4, ![2, 128, 144, 1]⟩
abbrev S2x18432 : Shape := ⟨2, ![2, 18432]⟩
abbrev S56x128x144x128 : Shape := ⟨4, ![56, 128, 144, 128]⟩
abbrev S56x1x144x1 : Shape := ⟨4, ![56, 1, 144, 1]⟩
abbrev S256x1 : Shape := ⟨2, ![256, 1]⟩
abbrev S256 : Shape := ⟨1, ![256]⟩

abbrev nBuf : Space → Nat
  | .hbm => 17
  | .vmem => 15
  | .smem => 0
  | _ => 0

abbrev bufTy : (tb : Table) → Fin (tcTables nBuf tb) → BufTy
  | .hbm, ⟨0, _⟩ => ⟨S2x128x7168, .bf16⟩
  | .hbm, ⟨1, _⟩ => ⟨S7168, .f32⟩
  | .hbm, ⟨2, _⟩ => ⟨S7168x18432, .fp8e4m3⟩
  | .hbm, ⟨3, _⟩ => ⟨S56x144, .f32⟩
  | .hbm, ⟨4, _⟩ => ⟨S2x128x18432, .bf16⟩
  | .hbm, ⟨5, _⟩ => ⟨S2, .i32⟩
  | .hbm, ⟨6, _⟩ => ⟨S2x1x1, .i32⟩
  | .hbm, ⟨7, _⟩ => ⟨S1x7168, .f32⟩
  | .hbm, ⟨8, _⟩ => ⟨S256x7168, .bf16⟩
  | .hbm, ⟨9, _⟩ => ⟨S7168x18432, .f32⟩
  | .hbm, ⟨10, _⟩ => ⟨S1x7168, .f32⟩
  | .hbm, ⟨11, _⟩ => ⟨S256x7168, .fp8e4m3⟩
  | .hbm, ⟨12, _⟩ => ⟨S2x1x7168, .f32⟩
  | .hbm, ⟨13, _⟩ => ⟨S256x18432, .fp8e5m2⟩
  | .hbm, ⟨14, _⟩ => ⟨S256x144, .f32⟩
  | .hbm, ⟨15, _⟩ => ⟨S256x18432, .fp8e5m2⟩
  | .hbm, ⟨16, _⟩ => ⟨S2x1x18432, .f32⟩
  | .local _ .vmem, ⟨0, _⟩ => ⟨S2x1x1, .i32⟩
  | .local _ .vmem, ⟨1, _⟩ => ⟨S56x144, .f32⟩
  | .local _ .vmem, ⟨2, _⟩ => ⟨S2x128x7168, .bf16⟩
  | .local _ .vmem, ⟨3, _⟩ => ⟨S1x7168, .f32⟩
  | .local _ .vmem, ⟨4, _⟩ => ⟨S7168x18432, .fp8e4m3⟩
  | .local _ .vmem, ⟨5, _⟩ => ⟨S2x128x18432, .bf16⟩
  | .local _ .vmem, ⟨6, _⟩ => ⟨S256x7168, .bf16⟩
  | .local _ .vmem, ⟨7, _⟩ => ⟨S7168x18432, .f32⟩
  | .local _ .vmem, ⟨8, _⟩ => ⟨S1x7168, .f32⟩
  | .local _ .vmem, ⟨9, _⟩ => ⟨S256x7168, .fp8e4m3⟩
  | .local _ .vmem, ⟨10, _⟩ => ⟨S2x1x7168, .f32⟩
  | .local _ .vmem, ⟨11, _⟩ => ⟨S256x18432, .fp8e5m2⟩
  | .local _ .vmem, ⟨12, _⟩ => ⟨S256x144, .f32⟩
  | .local _ .vmem, ⟨13, _⟩ => ⟨S256x18432, .fp8e5m2⟩
  | .local _ .vmem, ⟨14, _⟩ => ⟨S2x1x18432, .f32⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev main_v2_6 : Ref sig .tc := ⟨.hbm, 14, rfl⟩
abbrev main_v2_7 : Ref sig .tc := ⟨.hbm, 15, rfl⟩
abbrev main_v2_8 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S2x1x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S56x144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x18432 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x18432 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7168x18432 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x7168 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x7168 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1x7168 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x18432 .fp8e5m2 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x144 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x18432 .fp8e5m2 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x1x18432 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Ideal.Cut.lean ====
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameSuffix
public import Idealize.ShloMosaic.Lib.Pipeline.DatRel
public import Idealize.ShloMosaic.Lib.Pipeline.ArrRel
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .smem S2 .i32) (harg1 : arg1.IsWhole) (arg2 : Memref sig .tc .smem S56x144 .f32) (harg2 : arg2.IsWhole) (arg3 : Memref sig .tc .vmem S256x7168 .bf16) (harg3 : arg3.IsWhole) (arg4 : Memref sig .tc .vmem S1x7168 .f32) (harg4 : arg4.IsWhole) (arg5 : Memref sig .tc .vmem S7168x256 .fp8e4m3) (harg5 : arg5.IsWhole) (arg6 : Memref sig .tc .vmem S256x256 .bf16) (harg6 : arg6.IsWhole) (arg7 : Memref sig .tc .vmem S256x7168 .bf16) (harg7 : arg7.IsWhole) (arg8 : Memref sig .tc .vmem S7168x256 .f32) (harg8 : arg8.IsWhole) (arg9 : Memref sig .tc .vmem S1x7168 .f32) (harg9 : arg9.IsWhole) (arg10 : Memref sig .tc .vmem S256x7168 .fp8e4m3) (harg10 : arg10.IsWhole) (arg11 : Memref sig .tc .vmem S2x1x7168 .f32) (harg11 : arg11.IsWhole) (arg12 : Memref sig .tc .vmem S256x256 .fp8e5m2) (harg12 : arg12.IsWhole) (arg13 : Memref sig .tc .vmem S256x144 .f32) (harg13 : arg13.IsWhole) (arg14 : Memref sig .tc .vmem S256x256 .fp8e5m2) (harg14 : arg14.IsWhole) (arg15 : Memref sig .tc .vmem S2x1x256 .f32) (harg15 : arg15.IsWhole) (arg16 : Memref sig .tc .vmem S7168x256 .f32) (harg16 : arg16.IsWhole) (arg17 : Memref sig .tc .vmem S7168x256 .bf16) (harg17 : arg17.IsWhole) (arg18 : Memref sig .tc .vmem S256x128 .f32) (harg18 : arg18.IsWhole) (arg19 : Memref sig .tc .vmem S256x256 .f32) (harg19 : arg19.IsWhole) (arg20 : Memref sig .tc .vmem S256x256 .bf16) (harg20 : arg20.IsWhole) (arg21 : Memref sig .tc .vmem S256x256 .bf16) (harg21 : arg21.IsWhole) (arg22 : Memref sig .tc .vmem S256x7168 .f32) (harg22 : arg22.IsWhole)

/-! The body of the kernel cut in three: its first part (which holds the branch taken at the first grid point), the rest of
the unrolled work over what that part returns, and the branch taken at the last grid point. -/

/-- Where the plane of kept row scales that a grid point works on begins. -/
theorem off65_eq : ∀ i : grid0.Coords, k0_off65 i = ![0, (i 0).val / 64 * 128] := by decide +kernel
theorem off66_eq : ∀ i : grid0.Coords, k0_off66 i = ![128, (i 0).val / 64 * 128] := by decide +kernel
instance closedOff65 : ClosedOff (k0_off65 i) := ⟨_, off65_eq i⟩
instance closedOff66 : ClosedOff (k0_off66 i) := ⟨_, off66_eq i⟩

/-- What is done after the unrolled work: at the last grid point the row scales, the weight gradient's norm, and the two
input gradients. -/
def epi : Prog (TpuEff nD τ sig (Elt F) Λ₀ .tc) PUnit := do
  if k0_h2 : k0_cond2 i = 1#1 then do
    let v2117 : Vec F S256x144 .f32 ← Prog.lift (.load arg19 (Rect.unit (s := S256x256) ![0, 0] S256x144.size inb_S256x256_S256x144_0_0).toLoadRect (View.loadsAt_vmem h_S256x144))
    let v2118 : Vec F S256x144 .f32 ← Prog.lift (.load arg13 (Rect.unit (s := S256x144) ![0, 0] S256x144.size inb_S256x144_S256x144_0_0).toLoadRect (View.loadsAt_vmem h_S256x144))
    Prog.lift (.store arg13 (Rect.unit (s := S256x144) ![0, 0] S256x144.size inb_S256x144_S256x144_0_0) v2117 Finset.univ (View.stores_vmem_bits_univ h_S256x144 rfl) (.inl rfl))
    let v2121 : FVec F S256x128 .f32 ← Scf.Loop.for k0_t3_loop (k0_t3_ok i k0_h2) (k0_pay3 (F := F)) (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2)
    Scf.Loop.for k0_t4_loop (k0_t4_ok i k0_h2) ⟨⟩ (k0_t4_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 v2121)
    pure ⟨⟩
  else do
    pure ⟨⟩
  pure ⟨⟩

/-- The unrolled work, over what the first part returns. -/
def mid : { k : _ // k0_part72_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = k0_part19 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 >>= k } :=
  by
  refine ⟨?_, ?h⟩
  case h => unfold k0_part72_skel; rfl

/-- The last of the unrolled work and the branch taken at the last grid point, over what comes before. -/
def fin : { k : _ // cc0_rmsnorm_linear_bwd_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = k0_part72 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 >>= k } :=
  by
  refine ⟨?_, ?h⟩
  case h => unfold cc0_rmsnorm_linear_bwd_skel; rfl

/-- The body is its first part followed by the rest. -/
theorem body_cut : cc0_rmsnorm_linear_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
    = k0_part19 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 >>= fun R => (mid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22).1 R >>= (fin i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22).1 := by
  have h0 : cc0_rmsnorm_linear_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = cc0_rmsnorm_linear_bwd_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 := by
    rw [cc0_rmsnorm_linear_bwd_eq_skeleton]
  have h1 : k0_part72 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = k0_part72_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 := by rw [k0_part72_eq_skeleton]
  have h2 := congrArg (fun p => p >>= (fin (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22).1) (h1.trans (mid (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22).2)
  exact (h0.trans (fin (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22).2).trans (h2.trans (Prog.bind_assoc _ _ _))

end Cert.KernelIdeal.Gen

end
-- ==== Proof.Ideal.First.lean ====
module

public import proofs.«01_k».proof.Proof.Ideal.Cut

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .smem S2 .i32) (harg1 : arg1.IsWhole) (arg2 : Memref sig .tc .smem S56x144 .f32) (harg2 : arg2.IsWhole) (arg3 : Memref sig .tc .vmem S256x7168 .bf16) (harg3 : arg3.IsWhole) (arg4 : Memref sig .tc .vmem S1x7168 .f32) (harg4 : arg4.IsWhole) (arg5 : Memref sig .tc .vmem S7168x256 .fp8e4m3) (harg5 : arg5.IsWhole) (arg6 : Memref sig .tc .vmem S256x256 .bf16) (harg6 : arg6.IsWhole) (arg7 : Memref sig .tc .vmem S256x7168 .bf16) (harg7 : arg7.IsWhole) (arg8 : Memref sig .tc .vmem S7168x256 .f32) (harg8 : arg8.IsWhole) (arg9 : Memref sig .tc .vmem S1x7168 .f32) (harg9 : arg9.IsWhole) (arg10 : Memref sig .tc .vmem S256x7168 .fp8e4m3) (harg10 : arg10.IsWhole) (arg11 : Memref sig .tc .vmem S2x1x7168 .f32) (harg11 : arg11.IsWhole) (arg12 : Memref sig .tc .vmem S256x256 .fp8e5m2) (harg12 : arg12.IsWhole) (arg13 : Memref sig .tc .vmem S256x144 .f32) (harg13 : arg13.IsWhole) (arg14 : Memref sig .tc .vmem S256x256 .fp8e5m2) (harg14 : arg14.IsWhole) (arg15 : Memref sig .tc .vmem S2x1x256 .f32) (harg15 : arg15.IsWhole) (arg16 : Memref sig .tc .vmem S7168x256 .f32) (harg16 : arg16.IsWhole) (arg17 : Memref sig .tc .vmem S7168x256 .bf16) (harg17 : arg17.IsWhole) (arg18 : Memref sig .tc .vmem S256x128 .f32) (harg18 : arg18.IsWhole) (arg19 : Memref sig .tc .vmem S256x256 .f32) (harg19 : arg19.IsWhole) (arg20 : Memref sig .tc .vmem S256x256 .bf16) (harg20 : arg20.IsWhole) (arg21 : Memref sig .tc .vmem S256x256 .bf16) (harg21 : arg21.IsWhole) (arg22 : Memref sig .tc .vmem S256x7168 .f32) (harg22 : arg22.IsWhole)

set_option maxHeartbeats 8000000 in
/-- The first part of the body at the first grid point, run from any contents: what it returns and the pieces it leaves in each buffer. -/
def firstRunA (hc : k0_cond1 i = 1#1) (f1 : BufTy.Contents (Elt F) arg1.view.ty) (f3 : BufTy.Contents (Elt F) arg3.view.ty) (f4 : BufTy.Contents (Elt F) arg4.view.ty) (f6 : BufTy.Contents (Elt F) arg6.view.ty) (f10 : BufTy.Contents (Elt F) arg10.view.ty) (f11 : BufTy.Contents (Elt F) arg11.view.ty) (f16 : BufTy.Contents (Elt F) arg16.view.ty) (f17 : BufTy.Contents (Elt F) arg17.view.ty) (f18 : BufTy.Contents (Elt F) arg18.view.ty) (f19 : BufTy.Contents (Elt F) arg19.view.ty) :
    Σ' (R : (Σ' (arg0 : BitVec 32) (v3 : IVec S128x128 32) (v23 : BitVec 32) (v27 : IVec S128x128 1) (v29 : Vec F S128x128 .f32) (v34 : FVec F S128x128 .f32) (v35 : FVec F S128x128 .f32), FVec F S128x1 .f32)), Σ' (L10 : List (View.Piece (Elt F) S256x7168 .fp8e4m3)), Σ' (L11 : List (View.Piece (Elt F) S2x1x7168 .f32)), Σ' (L16 : List (View.Piece (Elt F) S7168x256 .f32)), Σ' (L17 : List (View.Piece (Elt F) S7168x256 .bf16)), Σ' (L18 : List (View.Piece (Elt F) S256x128 .f32)), { L19 : List (View.Piece (Elt F) S256x256 .f32) //
      ∀ (E : Set ℕ) (K : (Σ' (arg0 : BitVec 32) (v3 : IVec S128x128 32) (v23 : BitVec 32) (v27 : IVec S128x128 1) (v29 : Vec F S128x128 .f32) (v34 : FVec F S128x128 .f32) (v35 : FVec F S128x128 .f32), FVec F S128x1 .f32) → sProp 𝕄),
        iprop((arg1.view.loc (c : Thread nD τ) ↦[arg1.view.set]{fullShare} f1) ∗ (arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg10.view.loc (c : Thread nD τ) ↦[arg10.view.set]{fullShare} f10) ∗ (arg11.view.loc (c : Thread nD τ) ↦[arg11.view.set]{fullShare} f11) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19)
          ∗ (iprop((arg1.view.loc (c : Thread nD τ) ↦[arg1.view.set]{fullShare} f1) ∗ (arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg10.view.loc (c : Thread nD τ) ↦[arg10.view.set]{fullShare} arg10.view.writes (Elt F) f10 L10) ∗ (arg11.view.loc (c : Thread nD τ) ↦[arg11.view.set]{fullShare} arg11.view.writes (Elt F) f11 L11) ∗ (arg16.view.loc (c : Thread nD τ) ↦[arg16.view.set]{fullShare} arg16.view.writes (Elt F) f16 L16) ∗ (arg17.view.loc (c : Thread nD τ) ↦[arg17.view.set]{fullShare} arg17.view.writes (Elt F) f17 L17) ∗ (arg18.view.loc (c : Thread nD τ) ↦[arg18.view.set]{fullShare} arg18.view.writes (Elt F) f18 L18) ∗ (∃ g, arg19.view.loc (c : Thread nD τ) ↦[arg19.view.set]{fullShare} arg19.view.writes (Elt F) g L19)) -∗ K R))
        ⊢ wp frame (wpE (defs₀ (F := F)) Variants.none c none) E (k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, fun E K => ?run⟩
  case run =>
    rw [k0_part19_eq_skeleton]; unfold k0_part19_skel
    iintro ⟨H1, H3, H4, H6, H10, H11, H16, H17, H18, H19, Hk⟩
    sl_exec
    sl_step
    iapply Hk
    sl_close

set_option maxHeartbeats 8000000 in
/-- The first part of the body at every other grid point, run from any contents: what it returns; it stores nothing. -/
def firstRunB (hc : ¬ k0_cond1 i = 1#1) (f1 : BufTy.Contents (Elt F) arg1.view.ty) (f6 : BufTy.Contents (Elt F) arg6.view.ty) (f19 : BufTy.Contents (Elt F) arg19.view.ty) :
    { R : (Σ' (arg0 : BitVec 32) (v3 : IVec S128x128 32) (v23 : BitVec 32) (v27 : IVec S128x128 1) (v29 : Vec F S128x128 .f32) (v34 : FVec F S128x128 .f32) (v35 : FVec F S128x128 .f32), FVec F S128x1 .f32) //
      ∀ (E : Set ℕ) (K : (Σ' (arg0 : BitVec 32) (v3 : IVec S128x128 32) (v23 : BitVec 32) (v27 : IVec S128x128 1) (v29 : Vec F S128x128 .f32) (v34 : FVec F S128x128 .f32) (v35 : FVec F S128x128 .f32), FVec F S128x1 .f32) → sProp 𝕄),
        iprop((arg1.view.loc (c : Thread nD τ) ↦[arg1.view.set]{fullShare} f1) ∗ (arg6.view.loc (c : Thread nD τ) ↦[arg6.view.set]{fullShare} f6) ∗ (arg19.view.loc (c : Thread nD τ) ↦[arg19.view.set]{fullShare} f19)
          ∗ (iprop((arg1.view.loc (c : Thread nD τ) ↦[arg1.view.set]{fullShare} f1) ∗ (arg6.view.loc (c : Thread nD τ) ↦[arg6.view.set]{fullShare} f6) ∗ (arg19.view.loc (c : Thread nD τ) ↦[arg19.view.set]{fullShare} f19)) -∗ K R))
        ⊢ wp frame (wpE (defs₀ (F := F)) Variants.none c none) E (k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, fun E K => ?run⟩
  case run =>
    rw [k0_part19_eq_skeleton]; unfold k0_part19_skel
    iintro ⟨H1, H6, H19, Hk⟩
    sl_exec
    sl_step
    iapply Hk
    sl_close

end Cert.KernelIdeal.Gen

end
-- ==== Proof.Ideal.Mid.lean ====
module

public import proofs.«01_k».proof.Proof.Ideal.Cut

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .smem S2 .i32) (harg1 : arg1.IsWhole) (arg2 : Memref sig .tc .smem S56x144 .f32) (harg2 : arg2.IsWhole) (arg3 : Memref sig .tc .vmem S256x7168 .bf16) (harg3 : arg3.IsWhole) (arg4 : Memref sig .tc .vmem S1x7168 .f32) (harg4 : arg4.IsWhole) (arg5 : Memref sig .tc .vmem S7168x256 .fp8e4m3) (harg5 : arg5.IsWhole) (arg6 : Memref sig .tc .vmem S256x256 .bf16) (harg6 : arg6.IsWhole) (arg7 : Memref sig .tc .vmem S256x7168 .bf16) (harg7 : arg7.IsWhole) (arg8 : Memref sig .tc .vmem S7168x256 .f32) (harg8 : arg8.IsWhole) (arg9 : Memref sig .tc .vmem S1x7168 .f32) (harg9 : arg9.IsWhole) (arg10 : Memref sig .tc .vmem S256x7168 .fp8e4m3) (harg10 : arg10.IsWhole) (arg11 : Memref sig .tc .vmem S2x1x7168 .f32) (harg11 : arg11.IsWhole) (arg12 : Memref sig .tc .vmem S256x256 .fp8e5m2) (harg12 : arg12.IsWhole) (arg13 : Memref sig .tc .vmem S256x144 .f32) (harg13 : arg13.IsWhole) (arg14 : Memref sig .tc .vmem S256x256 .fp8e5m2) (harg14 : arg14.IsWhole) (arg15 : Memref sig .tc .vmem S2x1x256 .f32) (harg15 : arg15.IsWhole) (arg16 : Memref sig .tc .vmem S7168x256 .f32) (harg16 : arg16.IsWhole) (arg17 : Memref sig .tc .vmem S7168x256 .bf16) (harg17 : arg17.IsWhole) (arg18 : Memref sig .tc .vmem S256x128 .f32) (harg18 : arg18.IsWhole) (arg19 : Memref sig .tc .vmem S256x256 .f32) (harg19 : arg19.IsWhole) (arg20 : Memref sig .tc .vmem S256x256 .bf16) (harg20 : arg20.IsWhole) (arg21 : Memref sig .tc .vmem S256x256 .bf16) (harg21 : arg21.IsWhole) (arg22 : Memref sig .tc .vmem S256x7168 .f32) (harg22 : arg22.IsWhole)

set_option maxHeartbeats 8000000 in
/-- The unrolled work, run from any contents: the pieces it leaves in each buffer. -/
def midRun (v0 : BitVec 32) (v3 : IVec S128x128 32) (v23 : BitVec 32) (v27 : IVec S128x128 1) (v29 : Vec F S128x128 .f32) (v34 v35 : FVec F S128x128 .f32) (v39 : FVec F S128x1 .f32)
    (f1 : BufTy.Contents (Elt F) arg1.view.ty) (f2 : BufTy.Contents (Elt F) arg2.view.ty) (f5 : BufTy.Contents (Elt F) arg5.view.ty) (f6 : BufTy.Contents (Elt F) arg6.view.ty) (f8 : BufTy.Contents (Elt F) arg8.view.ty) (f12 : BufTy.Contents (Elt F) arg12.view.ty) (f14 : BufTy.Contents (Elt F) arg14.view.ty) (f15 : BufTy.Contents (Elt F) arg15.view.ty) (f16 : BufTy.Contents (Elt F) arg16.view.ty) (f17 : BufTy.Contents (Elt F) arg17.view.ty) (f19 : BufTy.Contents (Elt F) arg19.view.ty) (f20 : BufTy.Contents (Elt F) arg20.view.ty) (f21 : BufTy.Contents (Elt F) arg21.view.ty) :
    Σ' (L8 : List (View.Piece (Elt F) S7168x256 .f32)), Σ' (L12 : List (View.Piece (Elt F) S256x256 .fp8e5m2)), Σ' (L14 : List (View.Piece (Elt F) S256x256 .fp8e5m2)), Σ' (L15 : List (View.Piece (Elt F) S2x1x256 .f32)), Σ' (L16 : List (View.Piece (Elt F) S7168x256 .f32)), Σ' (L19 : List (View.Piece (Elt F) S256x256 .f32)), Σ' (L20 : List (View.Piece (Elt F) S256x256 .bf16)), { L21 : List (View.Piece (Elt F) S256x256 .bf16) //
      ∀ (E : Set ℕ) (K : PUnit → sProp 𝕄),
        iprop((arg1.view.loc (c : Thread nD τ) ↦[arg1.view.set]{fullShare} f1) ∗ (arg2.view.loc (c : Thread nD τ) ↦[arg2.view.set]{fullShare} f2) ∗ (arg5.view.loc (c : Thread nD τ) ↦[arg5.view.set]{fullShare} f5) ∗ (arg6.view.loc (c : Thread nD τ) ↦[arg6.view.set]{fullShare} f6) ∗ (arg8.view.loc (c : Thread nD τ) ↦[arg8.view.set]{fullShare} f8) ∗ (arg12.view.loc (c : Thread nD τ) ↦[arg12.view.set]{fullShare} f12) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21)
          ∗ (iprop((arg1.view.loc (c : Thread nD τ) ↦[arg1.view.set]{fullShare} f1) ∗ (arg2.view.loc (c : Thread nD τ) ↦[arg2.view.set]{fullShare} f2) ∗ (arg5.view.loc (c : Thread nD τ) ↦[arg5.view.set]{fullShare} f5) ∗ (arg6.view.loc (c : Thread nD τ) ↦[arg6.view.set]{fullShare} f6) ∗ (arg8.view.loc (c : Thread nD τ) ↦[arg8.view.set]{fullShare} arg8.view.writes (Elt F) f8 L8) ∗ (arg12.view.loc (c : Thread nD τ) ↦[arg12.view.set]{fullShare} arg12.view.writes (Elt F) f12 L12) ∗ (arg14.view.loc (c : Thread nD τ) ↦[arg14.view.set]{fullShare} arg14.view.writes (Elt F) f14 L14) ∗ (arg15.view.loc (c : Thread nD τ) ↦[arg15.view.set]{fullShare} arg15.view.writes (Elt F) f15 L15) ∗ (arg16.view.loc (c : Thread nD τ) ↦[arg16.view.set]{fullShare} arg16.view.writes (Elt F) f16 L16) ∗ (arg17.view.loc (c : Thread nD τ) ↦[arg17.view.set]{fullShare} f17) ∗ (arg19.view.loc (c : Thread nD τ) ↦[arg19.view.set]{fullShare} arg19.view.writes (Elt F) f19 L19) ∗ (arg20.view.loc (c : Thread nD τ) ↦[arg20.view.set]{fullShare} arg20.view.writes (Elt F) f20 L20) ∗ (arg21.view.loc (c : Thread nD τ) ↦[arg21.view.set]{fullShare} arg21.view.writes (Elt F) f21 L21)) -∗ wp frame (wpE (defs₀ (F := F)) Variants.none c none) E (epi i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K))
        ⊢ wp frame (wpE (defs₀ (F := F)) Variants.none c none) E ((mid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22).1 ⟨v0, v3, v23, v27, v29, v34, v35, v39⟩ >>= (fin i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22).1) K } := by
  refine ⟨?_, ?_, ?_, ?_, ?_, ?_, ?_, ?_, fun E K => ?run⟩
  case run =>
    dsimp only [mid, fin]
    simp only [k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton]
    iintro ⟨H1, H2, H5, H6, H8, H12, H14, H15, H16, H17, H19, H20, H21, Hk⟩
    sl_exec
    unfold epi
    iapply Hk
    sl_close

end Cert.KernelIdeal.Gen

end
-- ==== Proof.Ideal.Epi.lean ====
module

public import proofs.«01_k».proof.Proof.Ideal.Cut

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .smem S2 .i32) (harg1 : arg1.IsWhole) (arg2 : Memref sig .tc .smem S56x144 .f32) (harg2 : arg2.IsWhole) (arg3 : Memref sig .tc .vmem S256x7168 .bf16) (harg3 : arg3.IsWhole) (arg4 : Memref sig .tc .vmem S1x7168 .f32) (harg4 : arg4.IsWhole) (arg5 : Memref sig .tc .vmem S7168x256 .fp8e4m3) (harg5 : arg5.IsWhole) (arg6 : Memref sig .tc .vmem S256x256 .bf16) (harg6 : arg6.IsWhole) (arg7 : Memref sig .tc .vmem S256x7168 .bf16) (harg7 : arg7.IsWhole) (arg8 : Memref sig .tc .vmem S7168x256 .f32) (harg8 : arg8.IsWhole) (arg9 : Memref sig .tc .vmem S1x7168 .f32) (harg9 : arg9.IsWhole) (arg10 : Memref sig .tc .vmem S256x7168 .fp8e4m3) (harg10 : arg10.IsWhole) (arg11 : Memref sig .tc .vmem S2x1x7168 .f32) (harg11 : arg11.IsWhole) (arg12 : Memref sig .tc .vmem S256x256 .fp8e5m2) (harg12 : arg12.IsWhole) (arg13 : Memref sig .tc .vmem S256x144 .f32) (harg13 : arg13.IsWhole) (arg14 : Memref sig .tc .vmem S256x256 .fp8e5m2) (harg14 : arg14.IsWhole) (arg15 : Memref sig .tc .vmem S2x1x256 .f32) (harg15 : arg15.IsWhole) (arg16 : Memref sig .tc .vmem S7168x256 .f32) (harg16 : arg16.IsWhole) (arg17 : Memref sig .tc .vmem S7168x256 .bf16) (harg17 : arg17.IsWhole) (arg18 : Memref sig .tc .vmem S256x128 .f32) (harg18 : arg18.IsWhole) (arg19 : Memref sig .tc .vmem S256x256 .f32) (harg19 : arg19.IsWhole) (arg20 : Memref sig .tc .vmem S256x256 .bf16) (harg20 : arg20.IsWhole) (arg21 : Memref sig .tc .vmem S256x256 .bf16) (harg21 : arg21.IsWhole) (arg22 : Memref sig .tc .vmem S256x7168 .f32) (harg22 : arg22.IsWhole)

set_option maxHeartbeats 8000000 in
/-- The branch taken at the last grid point, run from any contents: the pieces it leaves in each buffer. -/
def epiRun (hc : k0_cond2 i = 1#1) (f3 : BufTy.Contents (Elt F) arg3.view.ty) (f4 : BufTy.Contents (Elt F) arg4.view.ty) (f7 : BufTy.Contents (Elt F) arg7.view.ty) (f9 : BufTy.Contents (Elt F) arg9.view.ty) (f13 : BufTy.Contents (Elt F) arg13.view.ty) (f16 : BufTy.Contents (Elt F) arg16.view.ty) (f18 : BufTy.Contents (Elt F) arg18.view.ty) (f19 : BufTy.Contents (Elt F) arg19.view.ty) (f22 : BufTy.Contents (Elt F) arg22.view.ty) :
    Σ' (L7 : List (View.Piece (Elt F) S256x7168 .bf16)), Σ' (L9 : List (View.Piece (Elt F) S1x7168 .f32)), Σ' (L13 : List (View.Piece (Elt F) S256x144 .f32)), { L22 : List (View.Piece (Elt F) S256x7168 .f32) //
      ∀ (E : Set ℕ) (K : PUnit → sProp 𝕄),
        iprop((arg3.view.loc (c : Thread nD τ) ↦[arg3.view.set]{fullShare} f3) ∗ (arg4.view.loc (c : Thread nD τ) ↦[arg4.view.set]{fullShare} f4) ∗ (arg7.view.loc (c : Thread nD τ) ↦[arg7.view.set]{fullShare} f7) ∗ (arg9.view.loc (c : Thread nD τ) ↦[arg9.view.set]{fullShare} f9) ∗ (arg13.view.loc (c : Thread nD τ) ↦[arg13.view.set]{fullShare} f13) ∗ (arg16.view.loc (c : Thread nD τ) ↦[arg16.view.set]{fullShare} f16) ∗ (arg18.view.loc (c : Thread nD τ) ↦[arg18.view.set]{fullShare} f18) ∗ (arg19.view.loc (c : Thread nD τ) ↦[arg19.view.set]{fullShare} f19) ∗ (arg22.view.loc (c : Thread nD τ) ↦[arg22.view.set]{fullShare} f22)
          ∗ (iprop((arg3.view.loc (c : Thread nD τ) ↦[arg3.view.set]{fullShare} f3) ∗ (arg4.view.loc (c : Thread nD τ) ↦[arg4.view.set]{fullShare} f4) ∗ (arg7.view.loc (c : Thread nD τ) ↦[arg7.view.set]{fullShare} arg7.view.writes (Elt F) f7 L7) ∗ (arg9.view.loc (c : Thread nD τ) ↦[arg9.view.set]{fullShare} arg9.view.writes (Elt F) f9 L9) ∗ (∃ g, arg13.view.loc (c : Thread nD τ) ↦[arg13.view.set]{fullShare} arg13.view.writes (Elt F) g L13) ∗ (arg16.view.loc (c : Thread nD τ) ↦[arg16.view.set]{fullShare} f16) ∗ (arg18.view.loc (c : Thread nD τ) ↦[arg18.view.set]{fullShare} f18) ∗ (arg19.view.loc (c : Thread nD τ) ↦[arg19.view.set]{fullShare} f19) ∗ (arg22.view.loc (c : Thread nD τ) ↦[arg22.view.set]{fullShare} arg22.view.writes (Elt F) f22 L22)) -∗ K ⟨⟩))
        ⊢ wp frame (wpE (defs₀ (F := F)) Variants.none c none) E (epi i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, fun E K => ?run⟩
  case run =>
    unfold epi
    iintro ⟨H3, H4, H7, H9, H13, H16, H18, H19, H22, Hk⟩
    sl_exec
    sl_step
    iapply Hk
    sl_close

/-- At every other grid point that branch does nothing. -/
theorem epi_skip (hc : ¬ k0_cond2 i = 1#1) (E : Set ℕ) (K : PUnit → sProp 𝕄) :
    K ⟨⟩ ⊢ wp frame (wpE (defs₀ (F := F)) Variants.none c none) E (epi i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  unfold epi
  iintro Hk
  sl_exec
  sl_step
  iexact Hk

end Cert.KernelIdeal.Gen

end
-- ==== Proof.Ideal.Body.lean ====
module

public import proofs.«01_k».proof.Proof.Ideal.First
public import proofs.«01_k».proof.Proof.Ideal.Mid
public import proofs.«01_k».proof.Proof.Ideal.Epi

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .smem S2 .i32) (harg1 : arg1.IsWhole) (arg2 : Memref sig .tc .smem S56x144 .f32) (harg2 : arg2.IsWhole) (arg3 : Memref sig .tc .vmem S256x7168 .bf16) (harg3 : arg3.IsWhole) (arg4 : Memref sig .tc .vmem S1x7168 .f32) (harg4 : arg4.IsWhole) (arg5 : Memref sig .tc .vmem S7168x256 .fp8e4m3) (harg5 : arg5.IsWhole) (arg6 : Memref sig .tc .vmem S256x256 .bf16) (harg6 : arg6.IsWhole) (arg7 : Memref sig .tc .vmem S256x7168 .bf16) (harg7 : arg7.IsWhole) (arg8 : Memref sig .tc .vmem S7168x256 .f32) (harg8 : arg8.IsWhole) (arg9 : Memref sig .tc .vmem S1x7168 .f32) (harg9 : arg9.IsWhole) (arg10 : Memref sig .tc .vmem S256x7168 .fp8e4m3) (harg10 : arg10.IsWhole) (arg11 : Memref sig .tc .vmem S2x1x7168 .f32) (harg11 : arg11.IsWhole) (arg12 : Memref sig .tc .vmem S256x256 .fp8e5m2) (harg12 : arg12.IsWhole) (arg13 : Memref sig .tc .vmem S256x144 .f32) (harg13 : arg13.IsWhole) (arg14 : Memref sig .tc .vmem S256x256 .fp8e5m2) (harg14 : arg14.IsWhole) (arg15 : Memref sig .tc .vmem S2x1x256 .f32) (harg15 : arg15.IsWhole) (arg16 : Memref sig .tc .vmem S7168x256 .f32) (harg16 : arg16.IsWhole) (arg17 : Memref sig .tc .vmem S7168x256 .bf16) (harg17 : arg17.IsWhole) (arg18 : Memref sig .tc .vmem S256x128 .f32) (harg18 : arg18.IsWhole) (arg19 : Memref sig .tc .vmem S256x256 .f32) (harg19 : arg19.IsWhole) (arg20 : Memref sig .tc .vmem S256x256 .bf16) (harg20 : arg20.IsWhole) (arg21 : Memref sig .tc .vmem S256x256 .bf16) (harg21 : arg21.IsWhole) (arg22 : Memref sig .tc .vmem S256x7168 .f32) (harg22 : arg22.IsWhole)

/-- What the first part of the body returns. -/
abbrev RetTy (F : FTy → Type) := Σ' (_ : BitVec 32) (_ : IVec S128x128 32) (_ : BitVec 32) (_ : IVec S128x128 1) (_ : Vec F S128x128 .f32) (_ : FVec F S128x128 .f32) (_ : FVec F S128x128 .f32), FVec F S128x1 .f32

/-- What the first part of the body makes of the contents `f`: the contents `h`, and what it returns. -/
structure FirstStep (f1 : BufTy.Contents (Elt F) arg1.view.ty) (f3 : BufTy.Contents (Elt F) arg3.view.ty) (f4 : BufTy.Contents (Elt F) arg4.view.ty) (f6 : BufTy.Contents (Elt F) arg6.view.ty) (f10 : BufTy.Contents (Elt F) arg10.view.ty) (f11 : BufTy.Contents (Elt F) arg11.view.ty) (f16 : BufTy.Contents (Elt F) arg16.view.ty) (f17 : BufTy.Contents (Elt F) arg17.view.ty) (f18 : BufTy.Contents (Elt F) arg18.view.ty) (f19 : BufTy.Contents (Elt F) arg19.view.ty) (h10 : BufTy.Contents (Elt F) arg10.view.ty) (h11 : BufTy.Contents (Elt F) arg11.view.ty) (h16 : BufTy.Contents (Elt F) arg16.view.ty) (h17 : BufTy.Contents (Elt F) arg17.view.ty) (h18 : BufTy.Contents (Elt F) arg18.view.ty) (h19 : BufTy.Contents (Elt F) arg19.view.ty) (R : RetTy (F := F)) : Prop where
  taken : ∀ hc : k0_cond1 i = 1#1, h10 = arg10.view.writes (Elt F) f10 (firstRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f6 f10 f11 f16 f17 f18 f19).2.1 ∧ h11 = arg11.view.writes (Elt F) f11 (firstRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f6 f10 f11 f16 f17 f18 f19).2.2.1 ∧ h16 = arg16.view.writes (Elt F) f16 (firstRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f6 f10 f11 f16 f17 f18 f19).2.2.2.1 ∧ h17 = arg17.view.writes (Elt F) f17 (firstRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f6 f10 f11 f16 f17 f18 f19).2.2.2.2.1 ∧ h18 = arg18.view.writes (Elt F) f18 (firstRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f6 f10 f11 f16 f17 f18 f19).2.2.2.2.2.1 ∧ (∃ g, h19 = arg19.view.writes (Elt F) g (firstRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f6 f10 f11 f16 f17 f18 f19).2.2.2.2.2.2.1) ∧ R = (firstRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f6 f10 f11 f16 f17 f18 f19).1
  skipped : ∀ hc : ¬ k0_cond1 i = 1#1, h10 = f10 ∧ h11 = f11 ∧ h16 = f16 ∧ h17 = f17 ∧ h18 = f18 ∧ h19 = f19 ∧ R = (firstRunB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f6 f19).1

/-- What the unrolled work makes of the contents `f` and `h`: the contents `g`. -/
def MidStep (R : RetTy (F := F)) (f1 : BufTy.Contents (Elt F) arg1.view.ty) (f2 : BufTy.Contents (Elt F) arg2.view.ty) (f5 : BufTy.Contents (Elt F) arg5.view.ty) (f6 : BufTy.Contents (Elt F) arg6.view.ty) (f8 : BufTy.Contents (Elt F) arg8.view.ty) (f12 : BufTy.Contents (Elt F) arg12.view.ty) (f14 : BufTy.Contents (Elt F) arg14.view.ty) (f15 : BufTy.Contents (Elt F) arg15.view.ty) (h16 : BufTy.Contents (Elt F) arg16.view.ty) (h17 : BufTy.Contents (Elt F) arg17.view.ty) (h19 : BufTy.Contents (Elt F) arg19.view.ty) (f20 : BufTy.Contents (Elt F) arg20.view.ty) (f21 : BufTy.Contents (Elt F) arg21.view.ty) (g8 : BufTy.Contents (Elt F) arg8.view.ty) (g12 : BufTy.Contents (Elt F) arg12.view.ty) (g14 : BufTy.Contents (Elt F) arg14.view.ty) (g15 : BufTy.Contents (Elt F) arg15.view.ty) (g16 : BufTy.Contents (Elt F) arg16.view.ty) (g19 : BufTy.Contents (Elt F) arg19.view.ty) (g20 : BufTy.Contents (Elt F) arg20.view.ty) (g21 : BufTy.Contents (Elt F) arg21.view.ty) : Prop :=
  g8 = arg8.view.writes (Elt F) f8 (midRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 R.1 R.2.1 R.2.2.1 R.2.2.2.1 R.2.2.2.2.1 R.2.2.2.2.2.1 R.2.2.2.2.2.2.1 R.2.2.2.2.2.2.2 f1 f2 f5 f6 f8 f12 f14 f15 h16 h17 h19 f20 f21).1 ∧ g12 = arg12.view.writes (Elt F) f12 (midRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 R.1 R.2.1 R.2.2.1 R.2.2.2.1 R.2.2.2.2.1 R.2.2.2.2.2.1 R.2.2.2.2.2.2.1 R.2.2.2.2.2.2.2 f1 f2 f5 f6 f8 f12 f14 f15 h16 h17 h19 f20 f21).2.1 ∧ g14 = arg14.view.writes (Elt F) f14 (midRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 R.1 R.2.1 R.2.2.1 R.2.2.2.1 R.2.2.2.2.1 R.2.2.2.2.2.1 R.2.2.2.2.2.2.1 R.2.2.2.2.2.2.2 f1 f2 f5 f6 f8 f12 f14 f15 h16 h17 h19 f20 f21).2.2.1 ∧ g15 = arg15.view.writes (Elt F) f15 (midRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 R.1 R.2.1 R.2.2.1 R.2.2.2.1 R.2.2.2.2.1 R.2.2.2.2.2.1 R.2.2.2.2.2.2.1 R.2.2.2.2.2.2.2 f1 f2 f5 f6 f8 f12 f14 f15 h16 h17 h19 f20 f21).2.2.2.1 ∧ g16 = arg16.view.writes (Elt F) h16 (midRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 R.1 R.2.1 R.2.2.1 R.2.2.2.1 R.2.2.2.2.1 R.2.2.2.2.2.1 R.2.2.2.2.2.2.1 R.2.2.2.2.2.2.2 f1 f2 f5 f6 f8 f12 f14 f15 h16 h17 h19 f20 f21).2.2.2.2.1 ∧ g19 = arg19.view.writes (Elt F) h19 (midRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 R.1 R.2.1 R.2.2.1 R.2.2.2.1 R.2.2.2.2.1 R.2.2.2.2.2.1 R.2.2.2.2.2.2.1 R.2.2.2.2.2.2.2 f1 f2 f5 f6 f8 f12 f14 f15 h16 h17 h19 f20 f21).2.2.2.2.2.1 ∧ g20 = arg20.view.writes (Elt F) f20 (midRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 R.1 R.2.1 R.2.2.1 R.2.2.2.1 R.2.2.2.2.1 R.2.2.2.2.2.1 R.2.2.2.2.2.2.1 R.2.2.2.2.2.2.2 f1 f2 f5 f6 f8 f12 f14 f15 h16 h17 h19 f20 f21).2.2.2.2.2.2.1 ∧ g21 = arg21.view.writes (Elt F) f21 (midRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 R.1 R.2.1 R.2.2.1 R.2.2.2.1 R.2.2.2.2.1 R.2.2.2.2.2.1 R.2.2.2.2.2.2.1 R.2.2.2.2.2.2.2 f1 f2 f5 f6 f8 f12 f14 f15 h16 h17 h19 f20 f21).2.2.2.2.2.2.2.1

/-- What the last branch makes of the contents it finds. -/
structure EpiStep (f3 : BufTy.Contents (Elt F) arg3.view.ty) (f4 : BufTy.Contents (Elt F) arg4.view.ty) (f7 : BufTy.Contents (Elt F) arg7.view.ty) (f9 : BufTy.Contents (Elt F) arg9.view.ty) (f13 : BufTy.Contents (Elt F) arg13.view.ty) (f22 : BufTy.Contents (Elt F) arg22.view.ty) (g16 : BufTy.Contents (Elt F) arg16.view.ty) (g19 : BufTy.Contents (Elt F) arg19.view.ty) (h18 : BufTy.Contents (Elt F) arg18.view.ty) (g7 : BufTy.Contents (Elt F) arg7.view.ty) (g9 : BufTy.Contents (Elt F) arg9.view.ty) (g13 : BufTy.Contents (Elt F) arg13.view.ty) (g22 : BufTy.Contents (Elt F) arg22.view.ty) : Prop where
  taken : ∀ hc : k0_cond2 i = 1#1, g7 = arg7.view.writes (Elt F) f7 (epiRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f7 f9 f13 g16 h18 g19 f22).1 ∧ g9 = arg9.view.writes (Elt F) f9 (epiRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f7 f9 f13 g16 h18 g19 f22).2.1 ∧ g22 = arg22.view.writes (Elt F) f22 (epiRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f7 f9 f13 g16 h18 g19 f22).2.2.2.1 ∧ (∃ g, g13 = arg13.view.writes (Elt F) g (epiRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f7 f9 f13 g16 h18 g19 f22).2.2.1)
  skipped : ∀ hc : ¬ k0_cond2 i = 1#1, g7 = f7 ∧ g9 = f9 ∧ g13 = f13 ∧ g22 = f22

/-- What the whole body makes of the contents `f`: the contents `g`. -/
def Step (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (g7 : BufTy.Contents (Elt F) arg7.view.ty) (g8 : BufTy.Contents (Elt F) arg8.view.ty) (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (g14 : BufTy.Contents (Elt F) arg14.view.ty) (g15 : BufTy.Contents (Elt F) arg15.view.ty) (g16 : BufTy.Contents (Elt F) arg16.view.ty) (g17 : BufTy.Contents (Elt F) arg17.view.ty) (g18 : BufTy.Contents (Elt F) arg18.view.ty) (g19 : BufTy.Contents (Elt F) arg19.view.ty) (g20 : BufTy.Contents (Elt F) arg20.view.ty) (g21 : BufTy.Contents (Elt F) arg21.view.ty) (g22 : BufTy.Contents (Elt F) arg22.view.ty) : Prop :=
  ∃ (R : RetTy (F := F)) (h16 : BufTy.Contents (Elt F) arg16.view.ty) (h19 : BufTy.Contents (Elt F) arg19.view.ty),
    FirstStep c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f3 f4 f6 f10 f11 f16 f17 f18 f19 g10 g11 h16 g17 g18 h19 R
    ∧ MidStep c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 R f1 f2 f5 f6 f8 f12 f14 f15 h16 g17 h19 f20 f21 g8 g12 g14 g15 g16 g19 g20 g21
    ∧ EpiStep c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f9 f13 f22 g16 g19 g18 g7 g9 g13 g22

set_option maxHeartbeats 4000000 in
/-- The last branch, taken or not, from any contents. -/
theorem epi_run (f3 : BufTy.Contents (Elt F) arg3.view.ty) (f4 : BufTy.Contents (Elt F) arg4.view.ty) (f7 : BufTy.Contents (Elt F) arg7.view.ty) (f9 : BufTy.Contents (Elt F) arg9.view.ty) (f13 : BufTy.Contents (Elt F) arg13.view.ty) (f16 : BufTy.Contents (Elt F) arg16.view.ty) (f18 : BufTy.Contents (Elt F) arg18.view.ty) (f19 : BufTy.Contents (Elt F) arg19.view.ty) (f22 : BufTy.Contents (Elt F) arg22.view.ty) (E : Set ℕ) (K : PUnit → sProp 𝕄) :
    iprop((arg3.view.loc (c : Thread nD τ) ↦[arg3.view.set]{fullShare} f3) ∗ (arg4.view.loc (c : Thread nD τ) ↦[arg4.view.set]{fullShare} f4) ∗ (arg7.view.loc (c : Thread nD τ) ↦[arg7.view.set]{fullShare} f7) ∗ (arg9.view.loc (c : Thread nD τ) ↦[arg9.view.set]{fullShare} f9) ∗ (arg13.view.loc (c : Thread nD τ) ↦[arg13.view.set]{fullShare} f13) ∗ (arg16.view.loc (c : Thread nD τ) ↦[arg16.view.set]{fullShare} f16) ∗ (arg18.view.loc (c : Thread nD τ) ↦[arg18.view.set]{fullShare} f18) ∗ (arg19.view.loc (c : Thread nD τ) ↦[arg19.view.set]{fullShare} f19) ∗ (arg22.view.loc (c : Thread nD τ) ↦[arg22.view.set]{fullShare} f22)
      ∗ (∀ g7 g9 g13 g22, ⌜EpiStep c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f9 f13 f22 f16 f19 f18 g7 g9 g13 g22⌝ -∗ (arg3.view.loc (c : Thread nD τ) ↦[arg3.view.set]{fullShare} f3) -∗ (arg4.view.loc (c : Thread nD τ) ↦[arg4.view.set]{fullShare} f4) -∗ (arg7.view.loc (c : Thread nD τ) ↦[arg7.view.set]{fullShare} g7) -∗ (arg9.view.loc (c : Thread nD τ) ↦[arg9.view.set]{fullShare} g9) -∗ (arg13.view.loc (c : Thread nD τ) ↦[arg13.view.set]{fullShare} g13) -∗ (arg16.view.loc (c : Thread nD τ) ↦[arg16.view.set]{fullShare} f16) -∗ (arg18.view.loc (c : Thread nD τ) ↦[arg18.view.set]{fullShare} f18) -∗ (arg19.view.loc (c : Thread nD τ) ↦[arg19.view.set]{fullShare} f19) -∗ (arg22.view.loc (c : Thread nD τ) ↦[arg22.view.set]{fullShare} g22) -∗ K ⟨⟩))
    ⊢ wp frame (wpE (defs₀ (F := F)) Variants.none c none) E (epi i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  iintro ⟨H3, H4, H7, H9, H13, H16, H18, H19, H22, Hk⟩
  by_cases hc : k0_cond2 i = 1#1
  · iapply (epiRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f7 f9 f13 f16 f18 f19 f22).2.2.2.2 E K
    isplitl [H3]; · iexact H3
    isplitl [H4]; · iexact H4
    isplitl [H7]; · iexact H7
    isplitl [H9]; · iexact H9
    isplitl [H13]; · iexact H13
    isplitl [H16]; · iexact H16
    isplitl [H18]; · iexact H18
    isplitl [H19]; · iexact H19
    isplitl [H22]; · iexact H22
    iintro ⟨H3, H4, H7, H9, ⟨%q13, H13⟩, H16, H18, H19, H22⟩
    iapply Hk $$ %_ %_ %_ %_ [] H3 H4 H7 H9 H13 H16 H18 H19 H22
    ipureintro
    exact ⟨fun _ => ⟨rfl, rfl, rfl, _, rfl⟩, fun h => absurd hc h⟩
  · iapply epi_skip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc E K
    iapply Hk $$ %_ %_ %_ %_ [] H3 H4 H7 H9 H13 H16 H18 H19 H22
    ipureintro
    exact ⟨fun h => absurd h hc, fun _ => ⟨rfl, rfl, rfl, rfl⟩⟩

set_option maxHeartbeats 4000000 in
/-- The first part of the body, its branch taken or not, from any contents. -/
theorem first_run (f1 : BufTy.Contents (Elt F) arg1.view.ty) (f3 : BufTy.Contents (Elt F) arg3.view.ty) (f4 : BufTy.Contents (Elt F) arg4.view.ty) (f6 : BufTy.Contents (Elt F) arg6.view.ty) (f10 : BufTy.Contents (Elt F) arg10.view.ty) (f11 : BufTy.Contents (Elt F) arg11.view.ty) (f16 : BufTy.Contents (Elt F) arg16.view.ty) (f17 : BufTy.Contents (Elt F) arg17.view.ty) (f18 : BufTy.Contents (Elt F) arg18.view.ty) (f19 : BufTy.Contents (Elt F) arg19.view.ty) (E : Set ℕ) (K : RetTy (F := F) → sProp 𝕄) :
    iprop((arg1.view.loc (c : Thread nD τ) ↦[arg1.view.set]{fullShare} f1) ∗ (arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg10.view.loc (c : Thread nD τ) ↦[arg10.view.set]{fullShare} f10) ∗ (arg11.view.loc (c : Thread nD τ) ↦[arg11.view.set]{fullShare} f11) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19)
      ∗ (∀ R h10 h11 h16 h17 h18 h19, ⌜FirstStep c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f3 f4 f6 f10 f11 f16 f17 f18 f19 h10 h11 h16 h17 h18 h19 R⌝ -∗ (arg1.view.loc (c : Thread nD τ) ↦[arg1.view.set]{fullShare} f1) -∗ (arg3.view.loc (c : Thread nD τ) ↦[arg3.view.set]{fullShare} f3) -∗ (arg4.view.loc (c : Thread nD τ) ↦[arg4.view.set]{fullShare} f4) -∗ (arg6.view.loc (c : Thread nD τ) ↦[arg6.view.set]{fullShare} f6) -∗ (arg10.view.loc (c : Thread nD τ) ↦[arg10.view.set]{fullShare} h10) -∗ (arg11.view.loc (c : Thread nD τ) ↦[arg11.view.set]{fullShare} h11) -∗ (arg16.view.loc (c : Thread nD τ) ↦[arg16.view.set]{fullShare} h16) -∗ (arg17.view.loc (c : Thread nD τ) ↦[arg17.view.set]{fullShare} h17) -∗ (arg18.view.loc (c : Thread nD τ) ↦[arg18.view.set]{fullShare} h18) -∗ (arg19.view.loc (c : Thread nD τ) ↦[arg19.view.set]{fullShare} h19) -∗ K R))
    ⊢ wp frame (wpE (defs₀ (F := F)) Variants.none c none) E (k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  iintro ⟨H1, H3, H4, H6, H10, H11, H16, H17, H18, H19, Hk⟩
  by_cases hc : k0_cond1 i = 1#1
  · iapply (firstRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f6 f10 f11 f16 f17 f18 f19).2.2.2.2.2.2.2 E K
    isplitl [H1]; · iexact H1
    isplitl [H3]; · iexact H3
    isplitl [H4]; · iexact H4
    isplitl [H6]; · iexact H6
    isplitl [H10]; · iexact H10
    isplitl [H11]; · iexact H11
    isplitl [H16]; · iexact H16
    isplitl [H17]; · iexact H17
    isplitl [H18]; · iexact H18
    isplitl [H19]; · iexact H19
    iintro ⟨H1, H3, H4, H6, H10, H11, H16, H17, H18, ⟨%q19, H19⟩⟩
    iapply Hk $$ %_ %_ %_ %_ %_ %_ %_ [] H1 H3 H4 H6 H10 H11 H16 H17 H18 H19
    ipureintro
    exact ⟨fun _ => ⟨rfl, rfl, rfl, rfl, rfl, ⟨_, rfl⟩, rfl⟩, fun h => absurd hc h⟩
  · iapply (firstRunB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f6 f19).2 E K
    isplitl [H1]; · iexact H1
    isplitl [H6]; · iexact H6
    isplitl [H19]; · iexact H19
    iintro ⟨H1, H6, H19⟩
    iapply Hk $$ %_ %_ %_ %_ %_ %_ %_ [] H1 H3 H4 H6 H10 H11 H16 H17 H18 H19
    ipureintro
    exact ⟨fun h => absurd h hc, fun _ => ⟨rfl, rfl, rfl, rfl, rfl, rfl, rfl⟩⟩

set_option maxHeartbeats 4000000 in
/-- The unrolled work, from any contents and from any result of the first part. -/
theorem mid_run (R : RetTy (F := F)) (f1 : BufTy.Contents (Elt F) arg1.view.ty) (f2 : BufTy.Contents (Elt F) arg2.view.ty) (f5 : BufTy.Contents (Elt F) arg5.view.ty) (f6 : BufTy.Contents (Elt F) arg6.view.ty) (f8 : BufTy.Contents (Elt F) arg8.view.ty) (f12 : BufTy.Contents (Elt F) arg12.view.ty) (f14 : BufTy.Contents (Elt F) arg14.view.ty) (f15 : BufTy.Contents (Elt F) arg15.view.ty) (f16 : BufTy.Contents (Elt F) arg16.view.ty) (f17 : BufTy.Contents (Elt F) arg17.view.ty) (f19 : BufTy.Contents (Elt F) arg19.view.ty) (f20 : BufTy.Contents (Elt F) arg20.view.ty) (f21 : BufTy.Contents (Elt F) arg21.view.ty) (E : Set ℕ) (K : PUnit → sProp 𝕄) :
    iprop((arg1.view.loc (c : Thread nD τ) ↦[arg1.view.set]{fullShare} f1) ∗ (arg2.view.loc (c : Thread nD τ) ↦[arg2.view.set]{fullShare} f2) ∗ (arg5.view.loc (c : Thread nD τ) ↦[arg5.view.set]{fullShare} f5) ∗ (arg6.view.loc (c : Thread nD τ) ↦[arg6.view.set]{fullShare} f6) ∗ (arg8.view.loc (c : Thread nD τ) ↦[arg8.view.set]{fullShare} f8) ∗ (arg12.view.loc (c : Thread nD τ) ↦[arg12.view.set]{fullShare} f12) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21)
      ∗ (∀ g8 g12 g14 g15 g16 g19 g20 g21, ⌜MidStep c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 R f1 f2 f5 f6 f8 f12 f14 f15 f16 f17 f19 f20 f21 g8 g12 g14 g15 g16 g19 g20 g21⌝ -∗ (arg1.view.loc (c : Thread nD τ) ↦[arg1.view.set]{fullShare} f1) -∗ (arg2.view.loc (c : Thread nD τ) ↦[arg2.view.set]{fullShare} f2) -∗ (arg5.view.loc (c : Thread nD τ) ↦[arg5.view.set]{fullShare} f5) -∗ (arg6.view.loc (c : Thread nD τ) ↦[arg6.view.set]{fullShare} f6) -∗ (arg8.view.loc (c : Thread nD τ) ↦[arg8.view.set]{fullShare} g8) -∗ (arg12.view.loc (c : Thread nD τ) ↦[arg12.view.set]{fullShare} g12) -∗ (arg14.view.loc (c : Thread nD τ) ↦[arg14.view.set]{fullShare} g14) -∗ (arg15.view.loc (c : Thread nD τ) ↦[arg15.view.set]{fullShare} g15) -∗ (arg16.view.loc (c : Thread nD τ) ↦[arg16.view.set]{fullShare} g16) -∗ (arg17.view.loc (c : Thread nD τ) ↦[arg17.view.set]{fullShare} f17) -∗ (arg19.view.loc (c : Thread nD τ) ↦[arg19.view.set]{fullShare} g19) -∗ (arg20.view.loc (c : Thread nD τ) ↦[arg20.view.set]{fullShare} g20) -∗ (arg21.view.loc (c : Thread nD τ) ↦[arg21.view.set]{fullShare} g21) -∗ wp frame (wpE (defs₀ (F := F)) Variants.none c none) E (epi i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K))
    ⊢ wp frame (wpE (defs₀ (F := F)) Variants.none c none) E ((mid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22).1 R >>= (fin i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22).1) K := by
  iintro ⟨H1, H2, H5, H6, H8, H12, H14, H15, H16, H17, H19, H20, H21, Hk⟩
  iapply (midRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 R.1 R.2.1 R.2.2.1 R.2.2.2.1 R.2.2.2.2.1 R.2.2.2.2.2.1 R.2.2.2.2.2.2.1 R.2.2.2.2.2.2.2 f1 f2 f5 f6 f8 f12 f14 f15 f16 f17 f19 f20 f21).2.2.2.2.2.2.2.2 E K
  isplitl [H1]; · iexact H1
  isplitl [H2]; · iexact H2
  isplitl [H5]; · iexact H5
  isplitl [H6]; · iexact H6
  isplitl [H8]; · iexact H8
  isplitl [H12]; · iexact H12
  isplitl [H14]; · iexact H14
  isplitl [H15]; · iexact H15
  isplitl [H16]; · iexact H16
  isplitl [H17]; · iexact H17
  isplitl [H19]; · iexact H19
  isplitl [H20]; · iexact H20
  isplitl [H21]; · iexact H21
  iintro ⟨H1, H2, H5, H6, H8, H12, H14, H15, H16, H17, H19, H20, H21⟩
  iapply Hk $$ %_ %_ %_ %_ %_ %_ %_ %_ [] H1 H2 H5 H6 H8 H12 H14 H15 H16 H17 H19 H20 H21
  ipureintro
  exact ⟨rfl, rfl, rfl, rfl, rfl, rfl, rfl, rfl⟩

set_option maxHeartbeats 4000000 in
/-- The whole body, at any grid point, from any contents. -/
theorem body_run (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (E : Set ℕ) (K : PUnit → sProp 𝕄) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22)
      ∗ (∀ g7 g8 g9 g10 g11 g12 g13 g14 g15 g16 g17 g18 g19 g20 g21 g22, ⌜Step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f11 f12 f13 f14 f15 f16 f17 f18 f19 f20 f21 f22 g7 g8 g9 g10 g11 g12 g13 g14 g15 g16 g17 g18 g19 g20 g21 g22⌝ -∗ (arg1.view.loc (c : Thread nD τ) ↦[arg1.view.set]{fullShare} f1) -∗ (arg2.view.loc (c : Thread nD τ) ↦[arg2.view.set]{fullShare} f2) -∗ (arg3.view.loc (c : Thread nD τ) ↦[arg3.view.set]{fullShare} f3) -∗ (arg4.view.loc (c : Thread nD τ) ↦[arg4.view.set]{fullShare} f4) -∗ (arg5.view.loc (c : Thread nD τ) ↦[arg5.view.set]{fullShare} f5) -∗ (arg6.view.loc (c : Thread nD τ) ↦[arg6.view.set]{fullShare} f6) -∗ (arg7.view.loc (c : Thread nD τ) ↦[arg7.view.set]{fullShare} g7) -∗ (arg8.view.loc (c : Thread nD τ) ↦[arg8.view.set]{fullShare} g8) -∗ (arg9.view.loc (c : Thread nD τ) ↦[arg9.view.set]{fullShare} g9) -∗ (arg10.view.loc (c : Thread nD τ) ↦[arg10.view.set]{fullShare} g10) -∗ (arg11.view.loc (c : Thread nD τ) ↦[arg11.view.set]{fullShare} g11) -∗ (arg12.view.loc (c : Thread nD τ) ↦[arg12.view.set]{fullShare} g12) -∗ (arg13.view.loc (c : Thread nD τ) ↦[arg13.view.set]{fullShare} g13) -∗ (arg14.view.loc (c : Thread nD τ) ↦[arg14.view.set]{fullShare} g14) -∗ (arg15.view.loc (c : Thread nD τ) ↦[arg15.view.set]{fullShare} g15) -∗ (arg16.view.loc (c : Thread nD τ) ↦[arg16.view.set]{fullShare} g16) -∗ (arg17.view.loc (c : Thread nD τ) ↦[arg17.view.set]{fullShare} g17) -∗ (arg18.view.loc (c : Thread nD τ) ↦[arg18.view.set]{fullShare} g18) -∗ (arg19.view.loc (c : Thread nD τ) ↦[arg19.view.set]{fullShare} g19) -∗ (arg20.view.loc (c : Thread nD τ) ↦[arg20.view.set]{fullShare} g20) -∗ (arg21.view.loc (c : Thread nD τ) ↦[arg21.view.set]{fullShare} g21) -∗ (arg22.view.loc (c : Thread nD τ) ↦[arg22.view.set]{fullShare} g22) -∗ K ⟨⟩))
    ⊢ wp frame (wpE (defs₀ (F := F)) Variants.none c none) E (cc0_rmsnorm_linear_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  rw [body_cut, wp_bind]
  iintro ⟨H1, H2, H3, H4, H5, H6, H7, H8, H9, H10, H11, H12, H13, H14, H15, H16, H17, H18, H19, H20, H21, H22, Hk⟩
  iapply first_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f3 f4 f6 f10 f11 f16 f17 f18 f19 E
  isplitl [H1]; · iexact H1
  isplitl [H3]; · iexact H3
  isplitl [H4]; · iexact H4
  isplitl [H6]; · iexact H6
  isplitl [H10]; · iexact H10
  isplitl [H11]; · iexact H11
  isplitl [H16]; · iexact H16
  isplitl [H17]; · iexact H17
  isplitl [H18]; · iexact H18
  isplitl [H19]; · iexact H19
  iintro %R %h10 %h11 %h16 %h17 %h18 %h19 %hF H1 H3 H4 H6 H10 H11 H16 H17 H18 H19
  iapply mid_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 R f1 f2 f5 f6 f8 f12 f14 f15 h16 h17 h19 f20 f21 E K
  isplitl [H1]; · iexact H1
  isplitl [H2]; · iexact H2
  isplitl [H5]; · iexact H5
  isplitl [H6]; · iexact H6
  isplitl [H8]; · iexact H8
  isplitl [H12]; · iexact H12
  isplitl [H14]; · iexact H14
  isplitl [H15]; · iexact H15
  isplitl [H16]; · iexact H16
  isplitl [H17]; · iexact H17
  isplitl [H19]; · iexact H19
  isplitl [H20]; · iexact H20
  isplitl [H21]; · iexact H21
  iintro %g8 %g12 %g14 %g15 %g16 %g19 %g20 %g21 %hM H1 H2 H5 H6 H8 H12 H14 H15 H16 H17 H19 H20 H21
  iapply epi_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f9 f13 g16 h18 g19 f22 E K
  isplitl [H3]; · iexact H3
  isplitl [H4]; · iexact H4
  isplitl [H7]; · iexact H7
  isplitl [H9]; · iexact H9
  isplitl [H13]; · iexact H13
  isplitl [H16]; · iexact H16
  isplitl [H18]; · iexact H18
  isplitl [H19]; · iexact H19
  isplitl [H22]; · iexact H22
  iintro %g7 %g9 %g13 %g22 %hE H3 H4 H7 H9 H13 H16 H18 H19 H22
  iapply Hk $$ %_ %_ %_ %_ %_ %_ %_ %_ %_ %_ %_ %_ %_ %_ %_ %_ [] H1 H2 H3 H4 H5 H6 H7 H8 H9 H10 H11 H12 H13 H14 H15 H16 H17 H18 H19 H20 H21 H22
  ipureintro
  exact ⟨R, h16, h19, hF, hM, hE⟩

end Cert.KernelIdeal.Gen

end
-- ==== Proof.Ideal.Run.lean ====
module

public import proofs.«01_k».proof.Proof.Ideal.Body

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The buffers a point works on -/

abbrev ms0_0 (t : Fin cfg0.N) : Memref sig .tc .smem S2 .i32 := win0_0.stage (cfg0.slots t 0)
theorem hs0_0 (t : Fin cfg0.N) : (ms0_0 t).IsWhole := hstage0_0 ((cfg0.slots t 0).cast nbuf0_0)
abbrev ms0_1 (t : Fin cfg0.N) : Memref sig .tc .smem S56x144 .f32 := win0_1.stage (cfg0.slots t 1)
theorem hs0_1 (t : Fin cfg0.N) : (ms0_1 t).IsWhole := hstage0_1 ((cfg0.slots t 1).cast nbuf0_1)
abbrev ms0_2 (t : Fin cfg0.N) : Memref sig .tc .vmem S256x7168 .bf16 := win0_2.stage (cfg0.slots t 2)
theorem hs0_2 (t : Fin cfg0.N) : (ms0_2 t).IsWhole := hstage0_2 ((cfg0.slots t 2).cast nbuf0_2)
abbrev ms0_3 (t : Fin cfg0.N) : Memref sig .tc .vmem S1x7168 .f32 := win0_3.stage (cfg0.slots t 3)
theorem hs0_3 (t : Fin cfg0.N) : (ms0_3 t).IsWhole := hstage0_3 ((cfg0.slots t 3).cast nbuf0_3)
abbrev ms0_4 (t : Fin cfg0.N) : Memref sig .tc .vmem S7168x256 .fp8e4m3 := win0_4.stage (cfg0.slots t 4)
theorem hs0_4 (t : Fin cfg0.N) : (ms0_4 t).IsWhole := hstage0_4 ((cfg0.slots t 4).cast nbuf0_4)
abbrev ms0_5 (t : Fin cfg0.N) : Memref sig .tc .vmem S256x256 .bf16 := win0_5.stage (cfg0.slots t 5)
theorem hs0_5 (t : Fin cfg0.N) : (ms0_5 t).IsWhole := hstage0_5 ((cfg0.slots t 5).cast nbuf0_5)
abbrev ms0_6 (t : Fin cfg0.N) : Memref sig .tc .vmem S256x7168 .bf16 := win0_6.stage (cfg0.slots t 6)
theorem hs0_6 (t : Fin cfg0.N) : (ms0_6 t).IsWhole := hstage0_6 ((cfg0.slots t 6).cast nbuf0_6)
abbrev ms0_7 (t : Fin cfg0.N) : Memref sig .tc .vmem S7168x256 .f32 := win0_7.stage (cfg0.slots t 7)
theorem hs0_7 (t : Fin cfg0.N) : (ms0_7 t).IsWhole := hstage0_7 ((cfg0.slots t 7).cast nbuf0_7)
abbrev ms0_8 (t : Fin cfg0.N) : Memref sig .tc .vmem S1x7168 .f32 := win0_8.stage (cfg0.slots t 8)
theorem hs0_8 (t : Fin cfg0.N) : (ms0_8 t).IsWhole := hstage0_8 ((cfg0.slots t 8).cast nbuf0_8)
abbrev ms0_9 (t : Fin cfg0.N) : Memref sig .tc .vmem S256x7168 .fp8e4m3 := win0_9.stage (cfg0.slots t 9)
theorem hs0_9 (t : Fin cfg0.N) : (ms0_9 t).IsWhole := hstage0_9 ((cfg0.slots t 9).cast nbuf0_9)
abbrev ms0_10 (t : Fin cfg0.N) : Memref sig .tc .vmem S2x1x7168 .f32 := win0_10.stage (cfg0.slots t 10)
theorem hs0_10 (t : Fin cfg0.N) : (ms0_10 t).IsWhole := hstage0_10 ((cfg0.slots t 10).cast nbuf0_10)
abbrev ms0_11 (t : Fin cfg0.N) : Memref sig .tc .vmem S256x256 .fp8e5m2 := win0_11.stage (cfg0.slots t 11)
theorem hs0_11 (t : Fin cfg0.N) : (ms0_11 t).IsWhole := hstage0_11 ((cfg0.slots t 11).cast nbuf0_11)
abbrev ms0_12 (t : Fin cfg0.N) : Memref sig .tc .vmem S256x144 .f32 := win0_12.stage (cfg0.slots t 12)
theorem hs0_12 (t : Fin cfg0.N) : (ms0_12 t).IsWhole := hstage0_12 ((cfg0.slots t 12).cast nbuf0_12)
abbrev ms0_13 (t : Fin cfg0.N) : Memref sig .tc .vmem S256x256 .fp8e5m2 := win0_13.stage (cfg0.slots t 13)
theorem hs0_13 (t : Fin cfg0.N) : (ms0_13 t).IsWhole := hstage0_13 ((cfg0.slots t 13).cast nbuf0_13)
abbrev ms0_14 (t : Fin cfg0.N) : Memref sig .tc .vmem S2x1x256 .f32 := win0_14.stage (cfg0.slots t 14)
theorem hs0_14 (t : Fin cfg0.N) : (ms0_14 t).IsWhole := hstage0_14 ((cfg0.slots t 14).cast nbuf0_14)
abbrev scM0_0 : Memref sig .tc .vmem S7168x256 .f32 := Memref.whole cc0_scratch0
abbrev scM0_1 : Memref sig .tc .vmem S7168x256 .bf16 := Memref.whole cc0_scratch1
abbrev scM0_2 : Memref sig .tc .vmem S256x128 .f32 := Memref.whole cc0_scratch2
abbrev scM0_3 : Memref sig .tc .vmem S256x256 .f32 := Memref.whole cc0_scratch3
abbrev scM0_4 : Memref sig .tc .vmem S256x256 .bf16 := Memref.whole cc0_scratch4
abbrev scM0_5 : Memref sig .tc .vmem S256x256 .bf16 := Memref.whole cc0_scratch5
abbrev scM0_6 : Memref sig .tc .vmem S256x7168 .f32 := Memref.whole cc0_scratch6

/-- One run of the body at grid point `t`, on the buffers of that point: `Step` (Body.lean) from contents `f` to contents `g`. -/
def StepAt (c : Dev nD) (t : Fin cfg0.N) (f1 : BufTy.Contents (Elt F) (ms0_0 t).view.ty) (f2 : BufTy.Contents (Elt F) (ms0_1 t).view.ty) (f3 : BufTy.Contents (Elt F) (ms0_2 t).view.ty) (f4 : BufTy.Contents (Elt F) (ms0_3 t).view.ty) (f5 : BufTy.Contents (Elt F) (ms0_4 t).view.ty) (f6 : BufTy.Contents (Elt F) (ms0_5 t).view.ty) (f7 : BufTy.Contents (Elt F) (ms0_6 t).view.ty) (f8 : BufTy.Contents (Elt F) (ms0_7 t).view.ty) (f9 : BufTy.Contents (Elt F) (ms0_8 t).view.ty) (f10 : BufTy.Contents (Elt F) (ms0_9 t).view.ty) (f11 : BufTy.Contents (Elt F) (ms0_10 t).view.ty) (f12 : BufTy.Contents (Elt F) (ms0_11 t).view.ty) (f13 : BufTy.Contents (Elt F) (ms0_12 t).view.ty) (f14 : BufTy.Contents (Elt F) (ms0_13 t).view.ty) (f15 : BufTy.Contents (Elt F) (ms0_14 t).view.ty) (f16 : BufTy.Contents (Elt F) scM0_0.view.ty) (f17 : BufTy.Contents (Elt F) scM0_1.view.ty) (f18 : BufTy.Contents (Elt F) scM0_2.view.ty) (f19 : BufTy.Contents (Elt F) scM0_3.view.ty) (f20 : BufTy.Contents (Elt F) scM0_4.view.ty) (f21 : BufTy.Contents (Elt F) scM0_5.view.ty) (f22 : BufTy.Contents (Elt F) scM0_6.view.ty) (g7 : BufTy.Contents (Elt F) (ms0_6 t).view.ty) (g8 : BufTy.Contents (Elt F) (ms0_7 t).view.ty) (g9 : BufTy.Contents (Elt F) (ms0_8 t).view.ty) (g10 : BufTy.Contents (Elt F) (ms0_9 t).view.ty) (g11 : BufTy.Contents (Elt F) (ms0_10 t).view.ty) (g12 : BufTy.Contents (Elt F) (ms0_11 t).view.ty) (g13 : BufTy.Contents (Elt F) (ms0_12 t).view.ty) (g14 : BufTy.Contents (Elt F) (ms0_13 t).view.ty) (g15 : BufTy.Contents (Elt F) (ms0_14 t).view.ty) (g16 : BufTy.Contents (Elt F) scM0_0.view.ty) (g17 : BufTy.Contents (Elt F) scM0_1.view.ty) (g18 : BufTy.Contents (Elt F) scM0_2.view.ty) (g19 : BufTy.Contents (Elt F) scM0_3.view.ty) (g20 : BufTy.Contents (Elt F) scM0_4.view.ty) (g21 : BufTy.Contents (Elt F) scM0_5.view.ty) (g22 : BufTy.Contents (Elt F) scM0_6.view.ty) : Prop :=
  Step c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) f1 f2 f3 f4 f5 f6 f7 f8 f9 f10 f11 f12 f13 f14 f15 f16 f17 f18 f19 f20 f21 f22 g7 g8 g9 g10 g11 g12 g13 g14 g15 g16 g17 g18 g19 g20 g21 g22

/-! ## What is carried from point to point -/

/-- What a proof says about the run: `P n` of the accumulator, the quantised activations (transposed), the row statistics and
    the row scales before point `n` (nothing is said before point 0), and of what each output's buffer holds after each point. -/
structure Inv (F : FTy → Type) [FloatOps F] where
  P : ℕ → (S7168x256.Idx → Elt F .f32) → (S7168x256.Idx → Elt F .bf16) → (S256x128.Idx → Elt F .f32) → (S256x256.Idx → Elt F .f32) → Prop
  q7 : ℕ → (S256x7168.Idx → Elt F .bf16) → Prop
  q8 : ℕ → (S7168x256.Idx → Elt F .f32) → Prop
  q9 : ℕ → (S1x7168.Idx → Elt F .f32) → Prop
  q10 : (S256x7168.Idx → Elt F .fp8e4m3) → Prop
  q11 : (S2x1x7168.Idx → Elt F .f32) → Prop
  q12 : ℕ → (S256x256.Idx → Elt F .fp8e5m2) → Prop
  q13 : ℕ → (S256x144.Idx → Elt F .f32) → Prop
  q14 : ℕ → (S256x256.Idx → Elt F .fp8e5m2) → Prop
  q15 : ℕ → (S2x1x256.Idx → Elt F .f32) → Prop

/-- The statement that says nothing. -/
def Inv.silent : Inv F where
  P _ _ _ _ _ := True
  q7 _ _ := True
  q8 _ _ := True
  q9 _ _ := True
  q10 _ := True
  q11 _ := True
  q12 _ _ := True
  q13 _ _ := True
  q14 _ _ := True
  q15 _ _ := True

variable (I : Inv F)

/-- The statement is kept by one run of the body: from the inputs' blocks, the carried statement (after point 0) and any step of
    the body, the statement of the next point and of every output's buffer. -/
def Inv.Good (c : Dev nD) : Prop := ∀ (t : Fin cfg0.N) (f1 : BufTy.Contents (Elt F) (ms0_0 t).view.ty) (f2 : BufTy.Contents (Elt F) (ms0_1 t).view.ty) (f3 : BufTy.Contents (Elt F) (ms0_2 t).view.ty) (f4 : BufTy.Contents (Elt F) (ms0_3 t).view.ty) (f5 : BufTy.Contents (Elt F) (ms0_4 t).view.ty) (f6 : BufTy.Contents (Elt F) (ms0_5 t).view.ty) (f7 : BufTy.Contents (Elt F) (ms0_6 t).view.ty) (f8 : BufTy.Contents (Elt F) (ms0_7 t).view.ty) (f9 : BufTy.Contents (Elt F) (ms0_8 t).view.ty) (f10 : BufTy.Contents (Elt F) (ms0_9 t).view.ty) (f11 : BufTy.Contents (Elt F) (ms0_10 t).view.ty) (f12 : BufTy.Contents (Elt F) (ms0_11 t).view.ty) (f13 : BufTy.Contents (Elt F) (ms0_12 t).view.ty) (f14 : BufTy.Contents (Elt F) (ms0_13 t).view.ty) (f15 : BufTy.Contents (Elt F) (ms0_14 t).view.ty) (f16 : BufTy.Contents (Elt F) scM0_0.view.ty) (f17 : BufTy.Contents (Elt F) scM0_1.view.ty) (f18 : BufTy.Contents (Elt F) scM0_2.view.ty) (f19 : BufTy.Contents (Elt F) scM0_3.view.ty) (f20 : BufTy.Contents (Elt F) scM0_4.view.ty) (f21 : BufTy.Contents (Elt F) scM0_5.view.ty) (f22 : BufTy.Contents (Elt F) scM0_6.view.ty) (g7 : BufTy.Contents (Elt F) (ms0_6 t).view.ty) (g8 : BufTy.Contents (Elt F) (ms0_7 t).view.ty) (g9 : BufTy.Contents (Elt F) (ms0_8 t).view.ty) (g10 : BufTy.Contents (Elt F) (ms0_9 t).view.ty) (g11 : BufTy.Contents (Elt F) (ms0_10 t).view.ty) (g12 : BufTy.Contents (Elt F) (ms0_11 t).view.ty) (g13 : BufTy.Contents (Elt F) (ms0_12 t).view.ty) (g14 : BufTy.Contents (Elt F) (ms0_13 t).view.ty) (g15 : BufTy.Contents (Elt F) (ms0_14 t).view.ty) (g16 : BufTy.Contents (Elt F) scM0_0.view.ty) (g17 : BufTy.Contents (Elt F) scM0_1.view.ty) (g18 : BufTy.Contents (Elt F) scM0_2.view.ty) (g19 : BufTy.Contents (Elt F) scM0_3.view.ty) (g20 : BufTy.Contents (Elt F) scM0_4.view.ty) (g21 : BufTy.Contents (Elt F) scM0_5.view.ty) (g22 : BufTy.Contents (Elt F) scM0_6.view.ty),
  ((ms0_0 t).view.read (Elt F) f1) = iblk m c 0 t → ((ms0_1 t).view.read (Elt F) f2) = iblk m c 1 t → ((ms0_2 t).view.read (Elt F) f3) = iblk m c 2 t → ((ms0_3 t).view.read (Elt F) f4) = iblk m c 3 t → ((ms0_4 t).view.read (Elt F) f5) = iblk m c 4 t → ((ms0_5 t).view.read (Elt F) f6) = iblk m c 5 t
  → (t.val ≠ 0 → I.P t.val (scM0_0.view.read (Elt F) f16) (scM0_1.view.read (Elt F) f17) (scM0_2.view.read (Elt F) f18) (scM0_3.view.read (Elt F) f19) ∧ I.q10 ((ms0_9 t).view.read (Elt F) f10) ∧ I.q11 ((ms0_10 t).view.read (Elt F) f11))
  → StepAt c t f1 f2 f3 f4 f5 f6 f7 f8 f9 f10 f11 f12 f13 f14 f15 f16 f17 f18 f19 f20 f21 f22 g7 g8 g9 g10 g11 g12 g13 g14 g15 g16 g17 g18 g19 g20 g21 g22
  → I.P (t.val + 1) (scM0_0.view.read (Elt F) g16) (scM0_1.view.read (Elt F) g17) (scM0_2.view.read (Elt F) g18) (scM0_3.view.read (Elt F) g19)
    ∧ I.q7 t.val ((ms0_6 t).view.read (Elt F) g7) ∧ I.q8 t.val ((ms0_7 t).view.read (Elt F) g8) ∧ I.q9 t.val ((ms0_8 t).view.read (Elt F) g9) ∧ I.q10 ((ms0_9 t).view.read (Elt F) g10) ∧ I.q11 ((ms0_10 t).view.read (Elt F) g11) ∧ I.q12 t.val ((ms0_11 t).view.read (Elt F) g12) ∧ I.q13 t.val ((ms0_12 t).view.read (Elt F) g13) ∧ I.q14 t.val ((ms0_13 t).view.read (Elt F) g14) ∧ I.q15 t.val ((ms0_14 t).view.read (Elt F) g15)

theorem Inv.silent_good (c : Dev nD) : (Inv.silent : Inv F).Good m c := by
  intro t; intros; exact ⟨trivial, trivial, trivial, trivial, trivial, trivial, trivial, trivial, trivial, trivial⟩

/-- What window `w`'s buffer may hold after point `t`. -/
def Inv.Rl (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun X => I.q7 t.val X
  | ⟨7, _⟩ => fun X => I.q8 t.val X
  | ⟨8, _⟩ => fun X => I.q9 t.val X
  | ⟨9, _⟩ => fun X => I.q10 X
  | ⟨10, _⟩ => fun X => I.q11 X
  | ⟨11, _⟩ => fun X => I.q12 t.val X
  | ⟨12, _⟩ => fun X => I.q13 t.val X
  | ⟨13, _⟩ => fun X => I.q14 t.val X
  | ⟨14, _⟩ => fun X => I.q15 t.val X

/-- The body's statement of the scratch between points. -/
def Inv.Phi (c : Dev nD) (n : ℕ) : sProp 𝕄 :=
  iprop((∃ s0 s1 s2 s3, ⌜n ≠ 0 → I.P n s0 s1 s2 s3⌝ ∗ owns (c : Thread nD τ) scM0_0 fullShare s0 ∗ owns (c : Thread nD τ) scM0_1 fullShare s1 ∗ owns (c : Thread nD τ) scM0_2 fullShare s2 ∗ owns (c : Thread nD τ) scM0_3 fullShare s3)
    ∗ (∃ d, owns (c : Thread nD τ) scM0_4 fullShare d) ∗ (∃ d, owns (c : Thread nD τ) scM0_5 fullShare d) ∗ (∃ d, owns (c : Thread nD τ) scM0_6 fullShare d)
    ∗ (∃ r, prngReg c r))

theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA
  rw [scopedRest0_eq]
  simp only [scM0_0, scM0_1, scM0_2, scM0_3, scM0_4, scM0_5, scM0_6, owns_whole]
  try rfl

theorem Inv.Phi_in (c : Dev nD) : Pipeline.ΦA spec0 c ⊢ I.Phi c 0 := by
  rw [PhiA0_eq]; unfold Inv.Phi
  iintro ⟨⟨⟨%d0, H0⟩, ⟨%d1, H1⟩, ⟨%d2, H2⟩, ⟨%d3, H3⟩, H4, H5, H6⟩, Hg⟩
  isplitl [H0 H1 H2 H3]
  · iexists d0, d1, d2, d3
    isplitr
    · ipureintro; intro h; exact absurd rfl h
    isplitl [H0]; · iexact H0
    isplitl [H1]; · iexact H1
    isplitl [H2]; · iexact H2
    iexact H3
  isplitl [H4]; · iexact H4
  isplitl [H5]; · iexact H5
  isplitl [H6]; · iexact H6
  iexact Hg

theorem Inv.Phi_out (c : Dev nD) (n : ℕ) : I.Phi c n ⊢ Pipeline.ΦA spec0 c := by
  rw [PhiA0_eq]; unfold Inv.Phi
  iintro ⟨⟨%d0, %d1, %d2, %d3, %hP, H0, H1, H2, H3⟩, H4, H5, H6, Hg⟩
  isplitl [H0 H1 H2 H3 H4 H5 H6]
  · isplitl [H0]
    · iexists _; iexact H0
    isplitl [H1]
    · iexists _; iexact H1
    isplitl [H2]
    · iexists _; iexact H2
    isplitl [H3]
    · iexists _; iexact H3
    isplitl [H4]; · iexact H4
    isplitl [H5]; · iexact H5
    iexact H6
  iexact Hg

/-! ## The proof data -/

/-- Every input's buffer is left as fetched; nothing is named of the outputs here (`Inv.Rl` says what is known of them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ t := I.Phi c t.val
  q _ := fullShare
  owed _ := 0

theorem A_eq (c : Dev nD) (w : Fin cfg0.W) : (dats m I 0 c).A w = V m c (Pipeline.arrRef spec0 w) := by dsimp only [dats]

theorem after0_0 (c : Dev nD) (t : Fin cfg0.N) : (dats m I 0 c).after 0 t = iblk m c 0 t := by dsimp only [dats]
theorem before0_0 (c : Dev nD) (t : Fin cfg0.N) (d) : (dats m I 0 c).before 0 t d = iblk m c 0 t :=
  before0_0_of m (dats m I 0 c) (A_eq m I c 0) (after0_0 m I c) t d
theorem after0_1 (c : Dev nD) (t : Fin cfg0.N) : (dats m I 0 c).after 1 t = iblk m c 1 t := by dsimp only [dats]
theorem before0_1 (c : Dev nD) (t : Fin cfg0.N) (d) : (dats m I 0 c).before 1 t d = iblk m c 1 t :=
  before0_1_of m (dats m I 0 c) (A_eq m I c 1) (after0_1 m I c) t d
theorem after0_2 (c : Dev nD) (t : Fin cfg0.N) : (dats m I 0 c).after 2 t = iblk m c 2 t := by dsimp only [dats]
theorem before0_2 (c : Dev nD) (t : Fin cfg0.N) (d) : (dats m I 0 c).before 2 t d = iblk m c 2 t :=
  before0_2_of m (dats m I 0 c) (A_eq m I c 2) (after0_2 m I c) t d
theorem after0_3 (c : Dev nD) (t : Fin cfg0.N) : (dats m I 0 c).after 3 t = iblk m c 3 t := by dsimp only [dats]
theorem before0_3 (c : Dev nD) (t : Fin cfg0.N) (d) : (dats m I 0 c).before 3 t d = iblk m c 3 t :=
  before0_3_of m (dats m I 0 c) (A_eq m I c 3) (after0_3 m I c) t d
theorem after0_4 (c : Dev nD) (t : Fin cfg0.N) : (dats m I 0 c).after 4 t = iblk m c 4 t := by dsimp only [dats]
theorem before0_4 (c : Dev nD) (t : Fin cfg0.N) (d) : (dats m I 0 c).before 4 t d = iblk m c 4 t :=
  before0_4_of m (dats m I 0 c) (A_eq m I c 4) (after0_4 m I c) t d
theorem after0_5 (c : Dev nD) (t : Fin cfg0.N) : (dats m I 0 c).after 5 t = iblk m c 5 t := by dsimp only [dats]
theorem before0_5 (c : Dev nD) (t : Fin cfg0.N) (d) : (dats m I 0 c).before 5 t d = iblk m c 5 t :=
  before0_5_of m (dats m I 0 c) (A_eq m I c 5) (after0_5 m I c) t d

/-- The outputs' windows. -/
def forgets0 : Fin 15 → Bool := fun w => w.val == 6 || w.val == 7 || w.val == 8 || w.val == 9 || w.val == 10 || w.val == 11 || w.val == 12 || w.val == 13 || w.val == 14

/-- The proof data with the outputs known by `Inv.Rl`. -/
abbrev rdat (c : Dev nD) := (dats m I 0 c).toRRel forgets0 I.Rl

theorem finds_9 (c : Dev nD) (t : Fin cfg0.N) (Y) (h : (rdat m I c).Finds 9 t Y) (ht : t.val ≠ 0) : I.q10 Y := by
  have hN : t.val < 72 := lt_of_lt_of_eq t.isLt (show cfg0.N = 72 from N_0)
  rcases ((rdat m I c).finds_of_pos (w := 9) (Pipeline.Window.fetch_out _ rfl t) ht Y).mp h with h | h
  · have := (flush0_9 _).mp h; simp only at this; omega
  · exact Pipeline.Dat.toRRel_leaves (dats m I 0 c) rfl h

theorem finds_10 (c : Dev nD) (t : Fin cfg0.N) (Y) (h : (rdat m I c).Finds 10 t Y) (ht : t.val ≠ 0) : I.q11 Y := by
  have hN : t.val < 72 := lt_of_lt_of_eq t.isLt (show cfg0.N = 72 from N_0)
  rcases ((rdat m I c).finds_of_pos (w := 10) (Pipeline.Window.fetch_out _ rfl t) ht Y).mp h with h | h
  · have := (flush0_10 _).mp h; simp only at this; omega
  · exact Pipeline.Dat.toRRel_leaves (dats m I 0 c) rfl h

/-! ## The body at a point -/

def bodyPre (c : Dev nD) (t : Fin cfg0.N) : sProp 𝕄 :=
  iprop((dats m I 0 c).Φ t.castSucc ∗ (dats m I 0 c).owesAt () t.castSucc
    ∗ (∃ d, owns (c : Thread nD τ) (ms0_0 t) fullShare ((dats m I 0 c).before 0 t d))
    ∗ (∃ d, owns (c : Thread nD τ) (ms0_1 t) fullShare ((dats m I 0 c).before 1 t d))
    ∗ (∃ d, owns (c : Thread nD τ) (ms0_2 t) fullShare ((dats m I 0 c).before 2 t d))
    ∗ (∃ d, owns (c : Thread nD τ) (ms0_3 t) fullShare ((dats m I 0 c).before 3 t d))
    ∗ (∃ d, owns (c : Thread nD τ) (ms0_4 t) fullShare ((dats m I 0 c).before 4 t d))
    ∗ (∃ d, owns (c : Thread nD τ) (ms0_5 t) fullShare ((dats m I 0 c).before 5 t d))
    ∗ (∃ Y, ⌜(rdat m I c).Finds 6 t Y⌝ ∗ owns (c : Thread nD τ) (ms0_6 t) fullShare Y)
    ∗ (∃ Y, ⌜(rdat m I c).Finds 7 t Y⌝ ∗ owns (c : Thread nD τ) (ms0_7 t) fullShare Y)
    ∗ (∃ Y, ⌜(rdat m I c).Finds 8 t Y⌝ ∗ owns (c : Thread nD τ) (ms0_8 t) fullShare Y)
    ∗ (∃ Y, ⌜(rdat m I c).Finds 9 t Y⌝ ∗ owns (c : Thread nD τ) (ms0_9 t) fullShare Y)
    ∗ (∃ Y, ⌜(rdat m I c).Finds 10 t Y⌝ ∗ owns (c : Thread nD τ) (ms0_10 t) fullShare Y)
    ∗ (∃ Y, ⌜(rdat m I c).Finds 11 t Y⌝ ∗ owns (c : Thread nD τ) (ms0_11 t) fullShare Y)
    ∗ (∃ Y, ⌜(rdat m I c).Finds 12 t Y⌝ ∗ owns (c : Thread nD τ) (ms0_12 t) fullShare Y)
    ∗ (∃ Y, ⌜(rdat m I c).Finds 13 t Y⌝ ∗ owns (c : Thread nD τ) (ms0_13 t) fullShare Y)
    ∗ (∃ Y, ⌜(rdat m I c).Finds 14 t Y⌝ ∗ owns (c : Thread nD τ) (ms0_14 t) fullShare Y))

def bodyPost (c : Dev nD) (t : Fin cfg0.N) : sProp 𝕄 :=
  iprop((dats m I 0 c).Φ t.succ ∗ (dats m I 0 c).owesAt () t.succ
    ∗ owns (c : Thread nD τ) (ms0_0 t) fullShare ((dats m I 0 c).after 0 t)
    ∗ owns (c : Thread nD τ) (ms0_1 t) fullShare ((dats m I 0 c).after 1 t)
    ∗ owns (c : Thread nD τ) (ms0_2 t) fullShare ((dats m I 0 c).after 2 t)
    ∗ owns (c : Thread nD τ) (ms0_3 t) fullShare ((dats m I 0 c).after 3 t)
    ∗ owns (c : Thread nD τ) (ms0_4 t) fullShare ((dats m I 0 c).after 4 t)
    ∗ owns (c : Thread nD τ) (ms0_5 t) fullShare ((dats m I 0 c).after 5 t)
    ∗ (∃ X, ⌜I.q7 t.val X⌝ ∗ owns (c : Thread nD τ) (ms0_6 t) fullShare X)
    ∗ (∃ X, ⌜I.q8 t.val X⌝ ∗ owns (c : Thread nD τ) (ms0_7 t) fullShare X)
    ∗ (∃ X, ⌜I.q9 t.val X⌝ ∗ owns (c : Thread nD τ) (ms0_8 t) fullShare X)
    ∗ (∃ X, ⌜I.q10 X⌝ ∗ owns (c : Thread nD τ) (ms0_9 t) fullShare X)
    ∗ (∃ X, ⌜I.q11 X⌝ ∗ owns (c : Thread nD τ) (ms0_10 t) fullShare X)
    ∗ (∃ X, ⌜I.q12 t.val X⌝ ∗ owns (c : Thread nD τ) (ms0_11 t) fullShare X)
    ∗ (∃ X, ⌜I.q13 t.val X⌝ ∗ owns (c : Thread nD τ) (ms0_12 t) fullShare X)
    ∗ (∃ X, ⌜I.q14 t.val X⌝ ∗ owns (c : Thread nD τ) (ms0_13 t) fullShare X)
    ∗ (∃ X, ⌜I.q15 t.val X⌝ ∗ owns (c : Thread nD τ) (ms0_14 t) fullShare X))

set_option maxHeartbeats 4000000 in
/-- The body at any point, from the statement before it to the statement after it. -/
theorem sound_body (c : Dev nD) (hI : I.Good m c) (t : Fin cfg0.N) :
    bodyPre m I c t ⊢ wp frame (wpE (defs₀ (F := F)) Variants.none c none) Set.univ (bodyAt0 t) (fun _ => bodyPost m I c t) := by
  unfold bodyPre bodyPost bodyAt0
  simp only [before0_0, before0_1, before0_2, before0_3, before0_4, before0_5, after0_0, after0_1, after0_2, after0_3, after0_4, after0_5]
  rw [show (dats m I 0 c).owesAt () t.succ = (dats m I 0 c).owesAt () t.castSucc from rfl]
  rw [show (dats m I 0 c).Φ t.succ = I.Phi c (t.val + 1) from rfl, show (dats m I 0 c).Φ t.castSucc = I.Phi c t.val from rfl]
  unfold Inv.Phi
  unfold owns
  iintro ⟨⟨⟨%s0, %s1, %s2, %s3, %hP, ⟨%f16, %hf16, H16⟩, ⟨%f17, %hf17, H17⟩, ⟨%f18, %hf18, H18⟩, ⟨%f19, %hf19, H19⟩⟩, ⟨%e4, ⟨%f20, -, H20⟩⟩, ⟨%e5, ⟨%f21, -, H21⟩⟩, ⟨%e6, ⟨%f22, -, H22⟩⟩, Hg⟩, Ho, ⟨%d0, ⟨%f1, %hf1, H1⟩⟩, ⟨%d1, ⟨%f2, %hf2, H2⟩⟩, ⟨%d2, ⟨%f3, %hf3, H3⟩⟩, ⟨%d3, ⟨%f4, %hf4, H4⟩⟩, ⟨%d4, ⟨%f5, %hf5, H5⟩⟩, ⟨%d5, ⟨%f6, %hf6, H6⟩⟩, ⟨%Y6, %hY6, ⟨%f7, %hf7, H7⟩⟩, ⟨%Y7, %hY7, ⟨%f8, %hf8, H8⟩⟩, ⟨%Y8, %hY8, ⟨%f9, %hf9, H9⟩⟩, ⟨%Y9, %hY9, ⟨%f10, %hf10, H10⟩⟩, ⟨%Y10, %hY10, ⟨%f11, %hf11, H11⟩⟩, ⟨%Y11, %hY11, ⟨%f12, %hf12, H12⟩⟩, ⟨%Y12, %hY12, ⟨%f13, %hf13, H13⟩⟩, ⟨%Y13, %hY13, ⟨%f14, %hf14, H14⟩⟩, ⟨%Y14, %hY14, ⟨%f15, %hf15, H15⟩⟩⟩
  subst hf16 hf17 hf18 hf19
  subst hf7 hf8 hf9 hf10 hf11 hf12 hf13 hf14 hf15
  iapply body_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) f1 f2 f3 f4 f5 f6 f7 f8 f9 f10 f11 f12 f13 f14 f15 f16 f17 f18 f19 f20 f21 f22 Set.univ
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro %g7 %g8 %g9 %g10 %g11 %g12 %g13 %g14 %g15 %g16 %g17 %g18 %g19 %g20 %g21 %g22 %hst H1 H2 H3 H4 H5 H6 H7 H8 H9 H10 H11 H12 H13 H14 H15 H16 H17 H18 H19 H20 H21 H22
  obtain ⟨hPn, h7, h8, h9, h10, h11, h12, h13, h14, h15⟩ := hI t f1 f2 f3 f4 f5 f6 f7 f8 f9 f10 f11 f12 f13 f14 f15 f16 f17 f18 f19 f20 f21 f22 g7 g8 g9 g10 g11 g12 g13 g14 g15 g16 g17 g18 g19 g20 g21 g22 hf1 hf2 hf3 hf4 hf5 hf6
    (fun ht => ⟨hP ht, finds_9 m I c t _ hY9 ht, finds_10 m I c t _ hY10 ht⟩) hst
  isplitl [H16 H17 H18 H19 H20 H21 H22 Hg]
  · isplitl [H16 H17 H18 H19]
    · iexists _, _, _, _
      isplitr
      · ipureintro; exact fun _ => hPn
      isplitl [H16]
      · iexists g16; isplitr; · (ipureintro; rfl)
        iexact H16
      isplitl [H17]
      · iexists g17; isplitr; · (ipureintro; rfl)
        iexact H17
      isplitl [H18]
      · iexists g18; isplitr; · (ipureintro; rfl)
        iexact H18
      iexists g19; isplitr; · (ipureintro; rfl)
      iexact H19
    isplitl [H20]
    · iexists _; iexists g20; isplitr; · (ipureintro; rfl)
      iexact H20
    isplitl [H21]
    · iexists _; iexists g21; isplitr; · (ipureintro; rfl)
      iexact H21
    isplitl [H22]
    · iexists _; iexists g22; isplitr; · (ipureintro; rfl)
      iexact H22
    iexact Hg
  isplitl [Ho]; · iexact Ho
  isplitl [H1]
  · iexists f1; isplitr; · (ipureintro; exact hf1)
    iexact H1
  isplitl [H2]
  · iexists f2; isplitr; · (ipureintro; exact hf2)
    iexact H2
  isplitl [H3]
  · iexists f3; isplitr; · (ipureintro; exact hf3)
    iexact H3
  isplitl [H4]
  · iexists f4; isplitr; · (ipureintro; exact hf4)
    iexact H4
  isplitl [H5]
  · iexists f5; isplitr; · (ipureintro; exact hf5)
    iexact H5
  isplitl [H6]
  · iexists f6; isplitr; · (ipureintro; exact hf6)
    iexact H6
  isplitl [H7]
  · iexists _; isplitr; · (ipureintro; exact h7)
    iexists g7; isplitr; · (ipureintro; rfl)
    iexact H7
  isplitl [H8]
  · iexists _; isplitr; · (ipureintro; exact h8)
    iexists g8; isplitr; · (ipureintro; rfl)
    iexact H8
  isplitl [H9]
  · iexists _; isplitr; · (ipureintro; exact h9)
    iexists g9; isplitr; · (ipureintro; rfl)
    iexact H9
  isplitl [H10]
  · iexists _; isplitr; · (ipureintro; exact h10)
    iexists g10; isplitr; · (ipureintro; rfl)
    iexact H10
  isplitl [H11]
  · iexists _; isplitr; · (ipureintro; exact h11)
    iexists g11; isplitr; · (ipureintro; rfl)
    iexact H11
  isplitl [H12]
  · iexists _; isplitr; · (ipureintro; exact h12)
    iexists g12; isplitr; · (ipureintro; rfl)
    iexact H12
  isplitl [H13]
  · iexists _; isplitr; · (ipureintro; exact h13)
    iexists g13; isplitr; · (ipureintro; rfl)
    iexact H13
  isplitl [H14]
  · iexists _; isplitr; · (ipureintro; exact h14)
    iexists g14; isplitr; · (ipureintro; rfl)
    iexact H14
  iexists _; isplitr; · (ipureintro; exact h15)
  iexists g15; isplitr; · (ipureintro; rfl)
  iexact H15

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) (hI : I.Good m c) :
    Pipeline.BodyObligationRel (dats m I 0 c) (defs₀ (F := F)) Variants.none () Set.univ forgets0 I.Rl := fun t => by
  rw [bigSep_W0, bigSep_W0, defs₀_row]
  exact triple_restated (sound_body m I c hI t) rfl .rfl fun _ => .rfl

/-! ## The run -/

set_option backward.isDefEq.respectTransparency.types false in
set_option maxHeartbeats 800000 in
/-- The whole run: every fair execution of @main ends, the inputs' arrays as launched, every output's array written block by block
    with contents `Inv.Rl` allows, and every semaphore at zero. -/
theorem run_rel (hI : ∀ c, I.Good m c) : θ_run defs (onTc (τ := τ) (main (F := F))) (s₀ m ρ)
    (fun r => Pipeline.RDat.FramePost (cfgs 0) (fun c => rdat m I c) (V m) r ∧ r.2.sem = fun _ => 0) :=
  Pipeline.RDat.θ_run_frame_track cfgs (0 : Fin 1) launch0 defs₀ Variants.none (fun c => rdat m I c) m ρ main
    (fun c => (body_obligation m I c (hI c)).toRRel) (fun c w => (dats m I 0 c).share_full (fun _ => rfl) w) (fun _ _ => rfl) (V m)
    (hmain m Variants.none) (A_eq m I) (fun c => I.Phi_in c) (fun c => I.Phi_out c _) _ (fun _ h => h)

/-- From any memory with zero counters every fair execution of @main ends with the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 4 rfl).trans (V_main_arg2 m c),
      (h.1.arr_in c 1 rfl).trans (V_main_arg3 m c),
      ((h.1 c).2 main_arg4 (Pipeline.mem_restRefs_of main_arg4 (by decide) (by decide))).trans (V_main_arg4 m c),
      (h.1.arr_in c 0 rfl).trans (V_main_arg5 m c)⟩, h.2⟩)
    (run_rel m ρ Inv.silent fun c => Inv.silent_good m c)

end Cert.KernelIdeal.Gen

end
-- ==== Proof.Bits.Cut.lean ====
module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.FrameSuffix
public import Idealize.ShloMosaic.Lib.Pipeline.DatRel
public import Idealize.ShloMosaic.Lib.Pipeline.ArrRel
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .smem S2 .i32) (harg1 : arg1.IsWhole) (arg2 : Memref sig .tc .smem S56x144 .f32) (harg2 : arg2.IsWhole) (arg3 : Memref sig .tc .vmem S256x7168 .bf16) (harg3 : arg3.IsWhole) (arg4 : Memref sig .tc .vmem S1x7168 .f32) (harg4 : arg4.IsWhole) (arg5 : Memref sig .tc .vmem S7168x256 .fp8e4m3) (harg5 : arg5.IsWhole) (arg6 : Memref sig .tc .vmem S256x256 .bf16) (harg6 : arg6.IsWhole) (arg7 : Memref sig .tc .vmem S256x7168 .bf16) (harg7 : arg7.IsWhole) (arg8 : Memref sig .tc .vmem S7168x256 .f32) (harg8 : arg8.IsWhole) (arg9 : Memref sig .tc .vmem S1x7168 .f32) (harg9 : arg9.IsWhole) (arg10 : Memref sig .tc .vmem S256x7168 .fp8e4m3) (harg10 : arg10.IsWhole) (arg11 : Memref sig .tc .vmem S2x1x7168 .f32) (harg11 : arg11.IsWhole) (arg12 : Memref sig .tc .vmem S256x256 .fp8e5m2) (harg12 : arg12.IsWhole) (arg13 : Memref sig .tc .vmem S256x144 .f32) (harg13 : arg13.IsWhole) (arg14 : Memref sig .tc .vmem S256x256 .fp8e5m2) (harg14 : arg14.IsWhole) (arg15 : Memref sig .tc .vmem S2x1x256 .f32) (harg15 : arg15.IsWhole) (arg16 : Memref sig .tc .vmem S7168x256 .f32) (harg16 : arg16.IsWhole) (arg17 : Memref sig .tc .vmem S7168x256 .bf16) (harg17 : arg17.IsWhole) (arg18 : Memref sig .tc .vmem S256x128 .f32) (harg18 : arg18.IsWhole) (arg19 : Memref sig .tc .vmem S256x256 .f32) (harg19 : arg19.IsWhole) (arg20 : Memref sig .tc .vmem S256x256 .bf16) (harg20 : arg20.IsWhole) (arg21 : Memref sig .tc .vmem S256x256 .bf16) (harg21 : arg21.IsWhole) (arg22 : Memref sig .tc .vmem S256x7168 .f32) (harg22 : arg22.IsWhole)

/-! The body of the kernel cut in three: its first part (which holds the branch taken at the first grid point), the rest of
the unrolled work over what that part returns, and the branch taken at the last grid point. -/

/-- Where the plane of kept row scales that a grid point works on begins. -/
theorem off65_eq : ∀ i : grid0.Coords, k0_off65 i = ![0, (i 0).val / 64 * 128] := by decide +kernel
theorem off66_eq : ∀ i : grid0.Coords, k0_off66 i = ![128, (i 0).val / 64 * 128] := by decide +kernel
instance closedOff65 : ClosedOff (k0_off65 i) := ⟨_, off65_eq i⟩
instance closedOff66 : ClosedOff (k0_off66 i) := ⟨_, off66_eq i⟩

/-- What is done after the unrolled work: at the last grid point the row scales, the weight gradient's norm, and the two
input gradients. -/
def epi : Prog (TpuEff nD τ sig (Elt F) Λ₀ .tc) PUnit := do
  if k0_h2 : k0_cond2 i = 1#1 then do
    let v2117 : Vec F S256x144 .f32 ← Prog.lift (.load arg19 (Rect.unit (s := S256x256) ![0, 0] S256x144.size inb_S256x256_S256x144_0_0).toLoadRect (View.loadsAt_vmem h_S256x144))
    let v2118 : Vec F S256x144 .f32 ← Prog.lift (.load arg13 (Rect.unit (s := S256x144) ![0, 0] S256x144.size inb_S256x144_S256x144_0_0).toLoadRect (View.loadsAt_vmem h_S256x144))
    Prog.lift (.store arg13 (Rect.unit (s := S256x144) ![0, 0] S256x144.size inb_S256x144_S256x144_0_0) v2117 Finset.univ (View.stores_vmem_bits_univ h_S256x144 rfl) (.inl rfl))
    let v2121 : FVec F S256x128 .f32 ← Scf.Loop.for k0_t3_loop (k0_t3_ok i k0_h2) (k0_pay3 (F := F)) (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2)
    Scf.Loop.for k0_t4_loop (k0_t4_ok i k0_h2) ⟨⟩ (k0_t4_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 v2121)
    pure ⟨⟩
  else do
    pure ⟨⟩
  pure ⟨⟩

/-- The unrolled work, over what the first part returns. -/
def mid : { k : _ // k0_part72_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = k0_part19 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 >>= k } :=
  by
  refine ⟨?_, ?h⟩
  case h => unfold k0_part72_skel; rfl

/-- The last of the unrolled work and the branch taken at the last grid point, over what comes before. -/
def fin : { k : _ // cc0_rmsnorm_linear_bwd_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = k0_part72 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 >>= k } :=
  by
  refine ⟨?_, ?h⟩
  case h => unfold cc0_rmsnorm_linear_bwd_skel; rfl

/-- The body is its first part followed by the rest. -/
theorem body_cut : cc0_rmsnorm_linear_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
    = k0_part19 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 >>= fun R => (mid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22).1 R >>= (fin i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22).1 := by
  have h0 : cc0_rmsnorm_linear_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = cc0_rmsnorm_linear_bwd_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 := by
    rw [cc0_rmsnorm_linear_bwd_eq_skeleton]
  have h1 : k0_part72 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = k0_part72_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 := by rw [k0_part72_eq_skeleton]
  have h2 := congrArg (fun p => p >>= (fin (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22).1) (h1.trans (mid (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22).2)
  exact (h0.trans (fin (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22).2).trans (h2.trans (Prog.bind_assoc _ _ _))

end Cert.Kernel.Gen

end
-- ==== Proof.Bits.First.lean ====
module

public import proofs.«01_k».proof.Proof.Bits.Cut

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .smem S2 .i32) (harg1 : arg1.IsWhole) (arg2 : Memref sig .tc .smem S56x144 .f32) (harg2 : arg2.IsWhole) (arg3 : Memref sig .tc .vmem S256x7168 .bf16) (harg3 : arg3.IsWhole) (arg4 : Memref sig .tc .vmem S1x7168 .f32) (harg4 : arg4.IsWhole) (arg5 : Memref sig .tc .vmem S7168x256 .fp8e4m3) (harg5 : arg5.IsWhole) (arg6 : Memref sig .tc .vmem S256x256 .bf16) (harg6 : arg6.IsWhole) (arg7 : Memref sig .tc .vmem S256x7168 .bf16) (harg7 : arg7.IsWhole) (arg8 : Memref sig .tc .vmem S7168x256 .f32) (harg8 : arg8.IsWhole) (arg9 : Memref sig .tc .vmem S1x7168 .f32) (harg9 : arg9.IsWhole) (arg10 : Memref sig .tc .vmem S256x7168 .fp8e4m3) (harg10 : arg10.IsWhole) (arg11 : Memref sig .tc .vmem S2x1x7168 .f32) (harg11 : arg11.IsWhole) (arg12 : Memref sig .tc .vmem S256x256 .fp8e5m2) (harg12 : arg12.IsWhole) (arg13 : Memref sig .tc .vmem S256x144 .f32) (harg13 : arg13.IsWhole) (arg14 : Memref sig .tc .vmem S256x256 .fp8e5m2) (harg14 : arg14.IsWhole) (arg15 : Memref sig .tc .vmem S2x1x256 .f32) (harg15 : arg15.IsWhole) (arg16 : Memref sig .tc .vmem S7168x256 .f32) (harg16 : arg16.IsWhole) (arg17 : Memref sig .tc .vmem S7168x256 .bf16) (harg17 : arg17.IsWhole) (arg18 : Memref sig .tc .vmem S256x128 .f32) (harg18 : arg18.IsWhole) (arg19 : Memref sig .tc .vmem S256x256 .f32) (harg19 : arg19.IsWhole) (arg20 : Memref sig .tc .vmem S256x256 .bf16) (harg20 : arg20.IsWhole) (arg21 : Memref sig .tc .vmem S256x256 .bf16) (harg21 : arg21.IsWhole) (arg22 : Memref sig .tc .vmem S256x7168 .f32) (harg22 : arg22.IsWhole)

set_option maxHeartbeats 8000000 in
/-- The first part of the body at the first grid point, run from any contents: what it returns and the pieces it leaves in each buffer. -/
def firstRunA (hc : k0_cond1 i = 1#1) (f1 : BufTy.Contents (Elt F) arg1.view.ty) (f3 : BufTy.Contents (Elt F) arg3.view.ty) (f4 : BufTy.Contents (Elt F) arg4.view.ty) (f6 : BufTy.Contents (Elt F) arg6.view.ty) (f10 : BufTy.Contents (Elt F) arg10.view.ty) (f11 : BufTy.Contents (Elt F) arg11.view.ty) (f16 : BufTy.Contents (Elt F) arg16.view.ty) (f17 : BufTy.Contents (Elt F) arg17.view.ty) (f18 : BufTy.Contents (Elt F) arg18.view.ty) (f19 : BufTy.Contents (Elt F) arg19.view.ty) :
    Σ' (R : (Σ' (arg0 : BitVec 32) (v3 : IVec S128x128 32) (v23 : BitVec 32) (v27 : IVec S128x128 1) (v29 : Vec F S128x128 .f32) (v34 : FVec F S128x128 .f32) (v35 : FVec F S128x128 .f32), FVec F S128x1 .f32)), Σ' (L10 : List (View.Piece (Elt F) S256x7168 .fp8e4m3)), Σ' (L11 : List (View.Piece (Elt F) S2x1x7168 .f32)), Σ' (L16 : List (View.Piece (Elt F) S7168x256 .f32)), Σ' (L17 : List (View.Piece (Elt F) S7168x256 .bf16)), Σ' (L18 : List (View.Piece (Elt F) S256x128 .f32)), { L19 : List (View.Piece (Elt F) S256x256 .f32) //
      ∀ (E : Set ℕ) (K : (Σ' (arg0 : BitVec 32) (v3 : IVec S128x128 32) (v23 : BitVec 32) (v27 : IVec S128x128 1) (v29 : Vec F S128x128 .f32) (v34 : FVec F S128x128 .f32) (v35 : FVec F S128x128 .f32), FVec F S128x1 .f32) → sProp 𝕄),
        iprop((arg1.view.loc (c : Thread nD τ) ↦[arg1.view.set]{fullShare} f1) ∗ (arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg10.view.loc (c : Thread nD τ) ↦[arg10.view.set]{fullShare} f10) ∗ (arg11.view.loc (c : Thread nD τ) ↦[arg11.view.set]{fullShare} f11) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19)
          ∗ (iprop((arg1.view.loc (c : Thread nD τ) ↦[arg1.view.set]{fullShare} f1) ∗ (arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg10.view.loc (c : Thread nD τ) ↦[arg10.view.set]{fullShare} arg10.view.writes (Elt F) f10 L10) ∗ (arg11.view.loc (c : Thread nD τ) ↦[arg11.view.set]{fullShare} arg11.view.writes (Elt F) f11 L11) ∗ (arg16.view.loc (c : Thread nD τ) ↦[arg16.view.set]{fullShare} arg16.view.writes (Elt F) f16 L16) ∗ (arg17.view.loc (c : Thread nD τ) ↦[arg17.view.set]{fullShare} arg17.view.writes (Elt F) f17 L17) ∗ (arg18.view.loc (c : Thread nD τ) ↦[arg18.view.set]{fullShare} arg18.view.writes (Elt F) f18 L18) ∗ (∃ g, arg19.view.loc (c : Thread nD τ) ↦[arg19.view.set]{fullShare} arg19.view.writes (Elt F) g L19)) -∗ K R))
        ⊢ wp frame (wpE (defs₀ (F := F)) Variants.none c none) E (k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, fun E K => ?run⟩
  case run =>
    rw [k0_part19_eq_skeleton]; unfold k0_part19_skel
    iintro ⟨H1, H3, H4, H6, H10, H11, H16, H17, H18, H19, Hk⟩
    sl_exec
    sl_step
    iapply Hk
    sl_close

set_option maxHeartbeats 8000000 in
/-- The first part of the body at every other grid point, run from any contents: what it returns; it stores nothing. -/
def firstRunB (hc : ¬ k0_cond1 i = 1#1) (f1 : BufTy.Contents (Elt F) arg1.view.ty) (f6 : BufTy.Contents (Elt F) arg6.view.ty) (f19 : BufTy.Contents (Elt F) arg19.view.ty) :
    { R : (Σ' (arg0 : BitVec 32) (v3 : IVec S128x128 32) (v23 : BitVec 32) (v27 : IVec S128x128 1) (v29 : Vec F S128x128 .f32) (v34 : FVec F S128x128 .f32) (v35 : FVec F S128x128 .f32), FVec F S128x1 .f32) //
      ∀ (E : Set ℕ) (K : (Σ' (arg0 : BitVec 32) (v3 : IVec S128x128 32) (v23 : BitVec 32) (v27 : IVec S128x128 1) (v29 : Vec F S128x128 .f32) (v34 : FVec F S128x128 .f32) (v35 : FVec F S128x128 .f32), FVec F S128x1 .f32) → sProp 𝕄),
        iprop((arg1.view.loc (c : Thread nD τ) ↦[arg1.view.set]{fullShare} f1) ∗ (arg6.view.loc (c : Thread nD τ) ↦[arg6.view.set]{fullShare} f6) ∗ (arg19.view.loc (c : Thread nD τ) ↦[arg19.view.set]{fullShare} f19)
          ∗ (iprop((arg1.view.loc (c : Thread nD τ) ↦[arg1.view.set]{fullShare} f1) ∗ (arg6.view.loc (c : Thread nD τ) ↦[arg6.view.set]{fullShare} f6) ∗ (arg19.view.loc (c : Thread nD τ) ↦[arg19.view.set]{fullShare} f19)) -∗ K R))
        ⊢ wp frame (wpE (defs₀ (F := F)) Variants.none c none) E (k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, fun E K => ?run⟩
  case run =>
    rw [k0_part19_eq_skeleton]; unfold k0_part19_skel
    iintro ⟨H1, H6, H19, Hk⟩
    sl_exec
    sl_step
    iapply Hk
    sl_close

end Cert.Kernel.Gen

end
-- ==== Proof.Bits.Mid.lean ====
module

public import proofs.«01_k».proof.Proof.Bits.Cut

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .smem S2 .i32) (harg1 : arg1.IsWhole) (arg2 : Memref sig .tc .smem S56x144 .f32) (harg2 : arg2.IsWhole) (arg3 : Memref sig .tc .vmem S256x7168 .bf16) (harg3 : arg3.IsWhole) (arg4 : Memref sig .tc .vmem S1x7168 .f32) (harg4 : arg4.IsWhole) (arg5 : Memref sig .tc .vmem S7168x256 .fp8e4m3) (harg5 : arg5.IsWhole) (arg6 : Memref sig .tc .vmem S256x256 .bf16) (harg6 : arg6.IsWhole) (arg7 : Memref sig .tc .vmem S256x7168 .bf16) (harg7 : arg7.IsWhole) (arg8 : Memref sig .tc .vmem S7168x256 .f32) (harg8 : arg8.IsWhole) (arg9 : Memref sig .tc .vmem S1x7168 .f32) (harg9 : arg9.IsWhole) (arg10 : Memref sig .tc .vmem S256x7168 .fp8e4m3) (harg10 : arg10.IsWhole) (arg11 : Memref sig .tc .vmem S2x1x7168 .f32) (harg11 : arg11.IsWhole) (arg12 : Memref sig .tc .vmem S256x256 .fp8e5m2) (harg12 : arg12.IsWhole) (arg13 : Memref sig .tc .vmem S256x144 .f32) (harg13 : arg13.IsWhole) (arg14 : Memref sig .tc .vmem S256x256 .fp8e5m2) (harg14 : arg14.IsWhole) (arg15 : Memref sig .tc .vmem S2x1x256 .f32) (harg15 : arg15.IsWhole) (arg16 : Memref sig .tc .vmem S7168x256 .f32) (harg16 : arg16.IsWhole) (arg17 : Memref sig .tc .vmem S7168x256 .bf16) (harg17 : arg17.IsWhole) (arg18 : Memref sig .tc .vmem S256x128 .f32) (harg18 : arg18.IsWhole) (arg19 : Memref sig .tc .vmem S256x256 .f32) (harg19 : arg19.IsWhole) (arg20 : Memref sig .tc .vmem S256x256 .bf16) (harg20 : arg20.IsWhole) (arg21 : Memref sig .tc .vmem S256x256 .bf16) (harg21 : arg21.IsWhole) (arg22 : Memref sig .tc .vmem S256x7168 .f32) (harg22 : arg22.IsWhole)

set_option maxHeartbeats 8000000 in
/-- The unrolled work, run from any contents: the pieces it leaves in each buffer. -/
def midRun (v0 : BitVec 32) (v3 : IVec S128x128 32) (v23 : BitVec 32) (v27 : IVec S128x128 1) (v29 : Vec F S128x128 .f32) (v34 v35 : FVec F S128x128 .f32) (v39 : FVec F S128x1 .f32)
    (f1 : BufTy.Contents (Elt F) arg1.view.ty) (f2 : BufTy.Contents (Elt F) arg2.view.ty) (f5 : BufTy.Contents (Elt F) arg5.view.ty) (f6 : BufTy.Contents (Elt F) arg6.view.ty) (f8 : BufTy.Contents (Elt F) arg8.view.ty) (f12 : BufTy.Contents (Elt F) arg12.view.ty) (f14 : BufTy.Contents (Elt F) arg14.view.ty) (f15 : BufTy.Contents (Elt F) arg15.view.ty) (f16 : BufTy.Contents (Elt F) arg16.view.ty) (f17 : BufTy.Contents (Elt F) arg17.view.ty) (f19 : BufTy.Contents (Elt F) arg19.view.ty) (f20 : BufTy.Contents (Elt F) arg20.view.ty) (f21 : BufTy.Contents (Elt F) arg21.view.ty) :
    Σ' (L8 : List (View.Piece (Elt F) S7168x256 .f32)), Σ' (L12 : List (View.Piece (Elt F) S256x256 .fp8e5m2)), Σ' (L14 : List (View.Piece (Elt F) S256x256 .fp8e5m2)), Σ' (L15 : List (View.Piece (Elt F) S2x1x256 .f32)), Σ' (L16 : List (View.Piece (Elt F) S7168x256 .f32)), Σ' (L19 : List (View.Piece (Elt F) S256x256 .f32)), Σ' (L20 : List (View.Piece (Elt F) S256x256 .bf16)), { L21 : List (View.Piece (Elt F) S256x256 .bf16) //
      ∀ (E : Set ℕ) (K : PUnit → sProp 𝕄),
        iprop((arg1.view.loc (c : Thread nD τ) ↦[arg1.view.set]{fullShare} f1) ∗ (arg2.view.loc (c : Thread nD τ) ↦[arg2.view.set]{fullShare} f2) ∗ (arg5.view.loc (c : Thread nD τ) ↦[arg5.view.set]{fullShare} f5) ∗ (arg6.view.loc (c : Thread nD τ) ↦[arg6.view.set]{fullShare} f6) ∗ (arg8.view.loc (c : Thread nD τ) ↦[arg8.view.set]{fullShare} f8) ∗ (arg12.view.loc (c : Thread nD τ) ↦[arg12.view.set]{fullShare} f12) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21)
          ∗ (iprop((arg1.view.loc (c : Thread nD τ) ↦[arg1.view.set]{fullShare} f1) ∗ (arg2.view.loc (c : Thread nD τ) ↦[arg2.view.set]{fullShare} f2) ∗ (arg5.view.loc (c : Thread nD τ) ↦[arg5.view.set]{fullShare} f5) ∗ (arg6.view.loc (c : Thread nD τ) ↦[arg6.view.set]{fullShare} f6) ∗ (arg8.view.loc (c : Thread nD τ) ↦[arg8.view.set]{fullShare} arg8.view.writes (Elt F) f8 L8) ∗ (arg12.view.loc (c : Thread nD τ) ↦[arg12.view.set]{fullShare} arg12.view.writes (Elt F) f12 L12) ∗ (arg14.view.loc (c : Thread nD τ) ↦[arg14.view.set]{fullShare} arg14.view.writes (Elt F) f14 L14) ∗ (arg15.view.loc (c : Thread nD τ) ↦[arg15.view.set]{fullShare} arg15.view.writes (Elt F) f15 L15) ∗ (arg16.view.loc (c : Thread nD τ) ↦[arg16.view.set]{fullShare} arg16.view.writes (Elt F) f16 L16) ∗ (arg17.view.loc (c : Thread nD τ) ↦[arg17.view.set]{fullShare} f17) ∗ (arg19.view.loc (c : Thread nD τ) ↦[arg19.view.set]{fullShare} arg19.view.writes (Elt F) f19 L19) ∗ (arg20.view.loc (c : Thread nD τ) ↦[arg20.view.set]{fullShare} arg20.view.writes (Elt F) f20 L20) ∗ (arg21.view.loc (c : Thread nD τ) ↦[arg21.view.set]{fullShare} arg21.view.writes (Elt F) f21 L21)) -∗ wp frame (wpE (defs₀ (F := F)) Variants.none c none) E (epi i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K))
        ⊢ wp frame (wpE (defs₀ (F := F)) Variants.none c none) E ((mid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22).1 ⟨v0, v3, v23, v27, v29, v34, v35, v39⟩ >>= (fin i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22).1) K } := by
  refine ⟨?_, ?_, ?_, ?_, ?_, ?_, ?_, ?_, fun E K => ?run⟩
  case run =>
    dsimp only [mid, fin]
    simp only [k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton]
    iintro ⟨H1, H2, H5, H6, H8, H12, H14, H15, H16, H17, H19, H20, H21, Hk⟩
    sl_exec
    unfold epi
    iapply Hk
    sl_close

end Cert.Kernel.Gen

end
-- ==== Proof.Bits.Epi.lean ====
module

public import proofs.«01_k».proof.Proof.Bits.Cut

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .smem S2 .i32) (harg1 : arg1.IsWhole) (arg2 : Memref sig .tc .smem S56x144 .f32) (harg2 : arg2.IsWhole) (arg3 : Memref sig .tc .vmem S256x7168 .bf16) (harg3 : arg3.IsWhole) (arg4 : Memref sig .tc .vmem S1x7168 .f32) (harg4 : arg4.IsWhole) (arg5 : Memref sig .tc .vmem S7168x256 .fp8e4m3) (harg5 : arg5.IsWhole) (arg6 : Memref sig .tc .vmem S256x256 .bf16) (harg6 : arg6.IsWhole) (arg7 : Memref sig .tc .vmem S256x7168 .bf16) (harg7 : arg7.IsWhole) (arg8 : Memref sig .tc .vmem S7168x256 .f32) (harg8 : arg8.IsWhole) (arg9 : Memref sig .tc .vmem S1x7168 .f32) (harg9 : arg9.IsWhole) (arg10 : Memref sig .tc .vmem S256x7168 .fp8e4m3) (harg10 : arg10.IsWhole) (arg11 : Memref sig .tc .vmem S2x1x7168 .f32) (harg11 : arg11.IsWhole) (arg12 : Memref sig .tc .vmem S256x256 .fp8e5m2) (harg12 : arg12.IsWhole) (arg13 : Memref sig .tc .vmem S256x144 .f32) (harg13 : arg13.IsWhole) (arg14 : Memref sig .tc .vmem S256x256 .fp8e5m2) (harg14 : arg14.IsWhole) (arg15 : Memref sig .tc .vmem S2x1x256 .f32) (harg15 : arg15.IsWhole) (arg16 : Memref sig .tc .vmem S7168x256 .f32) (harg16 : arg16.IsWhole) (arg17 : Memref sig .tc .vmem S7168x256 .bf16) (harg17 : arg17.IsWhole) (arg18 : Memref sig .tc .vmem S256x128 .f32) (harg18 : arg18.IsWhole) (arg19 : Memref sig .tc .vmem S256x256 .f32) (harg19 : arg19.IsWhole) (arg20 : Memref sig .tc .vmem S256x256 .bf16) (harg20 : arg20.IsWhole) (arg21 : Memref sig .tc .vmem S256x256 .bf16) (harg21 : arg21.IsWhole) (arg22 : Memref sig .tc .vmem S256x7168 .f32) (harg22 : arg22.IsWhole)

set_option maxHeartbeats 8000000 in
/-- The branch taken at the last grid point, run from any contents: the pieces it leaves in each buffer. -/
def epiRun (hc : k0_cond2 i = 1#1) (f3 : BufTy.Contents (Elt F) arg3.view.ty) (f4 : BufTy.Contents (Elt F) arg4.view.ty) (f7 : BufTy.Contents (Elt F) arg7.view.ty) (f9 : BufTy.Contents (Elt F) arg9.view.ty) (f13 : BufTy.Contents (Elt F) arg13.view.ty) (f16 : BufTy.Contents (Elt F) arg16.view.ty) (f18 : BufTy.Contents (Elt F) arg18.view.ty) (f19 : BufTy.Contents (Elt F) arg19.view.ty) (f22 : BufTy.Contents (Elt F) arg22.view.ty) :
    Σ' (L7 : List (View.Piece (Elt F) S256x7168 .bf16)), Σ' (L9 : List (View.Piece (Elt F) S1x7168 .f32)), Σ' (L13 : List (View.Piece (Elt F) S256x144 .f32)), { L22 : List (View.Piece (Elt F) S256x7168 .f32) //
      ∀ (E : Set ℕ) (K : PUnit → sProp 𝕄),
        iprop((arg3.view.loc (c : Thread nD τ) ↦[arg3.view.set]{fullShare} f3) ∗ (arg4.view.loc (c : Thread nD τ) ↦[arg4.view.set]{fullShare} f4) ∗ (arg7.view.loc (c : Thread nD τ) ↦[arg7.view.set]{fullShare} f7) ∗ (arg9.view.loc (c : Thread nD τ) ↦[arg9.view.set]{fullShare} f9) ∗ (arg13.view.loc (c : Thread nD τ) ↦[arg13.view.set]{fullShare} f13) ∗ (arg16.view.loc (c : Thread nD τ) ↦[arg16.view.set]{fullShare} f16) ∗ (arg18.view.loc (c : Thread nD τ) ↦[arg18.view.set]{fullShare} f18) ∗ (arg19.view.loc (c : Thread nD τ) ↦[arg19.view.set]{fullShare} f19) ∗ (arg22.view.loc (c : Thread nD τ) ↦[arg22.view.set]{fullShare} f22)
          ∗ (iprop((arg3.view.loc (c : Thread nD τ) ↦[arg3.view.set]{fullShare} f3) ∗ (arg4.view.loc (c : Thread nD τ) ↦[arg4.view.set]{fullShare} f4) ∗ (arg7.view.loc (c : Thread nD τ) ↦[arg7.view.set]{fullShare} arg7.view.writes (Elt F) f7 L7) ∗ (arg9.view.loc (c : Thread nD τ) ↦[arg9.view.set]{fullShare} arg9.view.writes (Elt F) f9 L9) ∗ (∃ g, arg13.view.loc (c : Thread nD τ) ↦[arg13.view.set]{fullShare} arg13.view.writes (Elt F) g L13) ∗ (arg16.view.loc (c : Thread nD τ) ↦[arg16.view.set]{fullShare} f16) ∗ (arg18.view.loc (c : Thread nD τ) ↦[arg18.view.set]{fullShare} f18) ∗ (arg19.view.loc (c : Thread nD τ) ↦[arg19.view.set]{fullShare} f19) ∗ (arg22.view.loc (c : Thread nD τ) ↦[arg22.view.set]{fullShare} arg22.view.writes (Elt F) f22 L22)) -∗ K ⟨⟩))
        ⊢ wp frame (wpE (defs₀ (F := F)) Variants.none c none) E (epi i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, fun E K => ?run⟩
  case run =>
    unfold epi
    iintro ⟨H3, H4, H7, H9, H13, H16, H18, H19, H22, Hk⟩
    sl_exec
    sl_step
    iapply Hk
    sl_close

/-- At every other grid point that branch does nothing. -/
theorem epi_skip (hc : ¬ k0_cond2 i = 1#1) (E : Set ℕ) (K : PUnit → sProp 𝕄) :
    K ⟨⟩ ⊢ wp frame (wpE (defs₀ (F := F)) Variants.none c none) E (epi i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  unfold epi
  iintro Hk
  sl_exec
  sl_step
  iexact Hk

end Cert.Kernel.Gen

end
-- ==== Proof.Bits.Body.lean ====
module

public import proofs.«01_k».proof.Proof.Bits.First
public import proofs.«01_k».proof.Proof.Bits.Mid
public import proofs.«01_k».proof.Proof.Bits.Epi

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .smem S2 .i32) (harg1 : arg1.IsWhole) (arg2 : Memref sig .tc .smem S56x144 .f32) (harg2 : arg2.IsWhole) (arg3 : Memref sig .tc .vmem S256x7168 .bf16) (harg3 : arg3.IsWhole) (arg4 : Memref sig .tc .vmem S1x7168 .f32) (harg4 : arg4.IsWhole) (arg5 : Memref sig .tc .vmem S7168x256 .fp8e4m3) (harg5 : arg5.IsWhole) (arg6 : Memref sig .tc .vmem S256x256 .bf16) (harg6 : arg6.IsWhole) (arg7 : Memref sig .tc .vmem S256x7168 .bf16) (harg7 : arg7.IsWhole) (arg8 : Memref sig .tc .vmem S7168x256 .f32) (harg8 : arg8.IsWhole) (arg9 : Memref sig .tc .vmem S1x7168 .f32) (harg9 : arg9.IsWhole) (arg10 : Memref sig .tc .vmem S256x7168 .fp8e4m3) (harg10 : arg10.IsWhole) (arg11 : Memref sig .tc .vmem S2x1x7168 .f32) (harg11 : arg11.IsWhole) (arg12 : Memref sig .tc .vmem S256x256 .fp8e5m2) (harg12 : arg12.IsWhole) (arg13 : Memref sig .tc .vmem S256x144 .f32) (harg13 : arg13.IsWhole) (arg14 : Memref sig .tc .vmem S256x256 .fp8e5m2) (harg14 : arg14.IsWhole) (arg15 : Memref sig .tc .vmem S2x1x256 .f32) (harg15 : arg15.IsWhole) (arg16 : Memref sig .tc .vmem S7168x256 .f32) (harg16 : arg16.IsWhole) (arg17 : Memref sig .tc .vmem S7168x256 .bf16) (harg17 : arg17.IsWhole) (arg18 : Memref sig .tc .vmem S256x128 .f32) (harg18 : arg18.IsWhole) (arg19 : Memref sig .tc .vmem S256x256 .f32) (harg19 : arg19.IsWhole) (arg20 : Memref sig .tc .vmem S256x256 .bf16) (harg20 : arg20.IsWhole) (arg21 : Memref sig .tc .vmem S256x256 .bf16) (harg21 : arg21.IsWhole) (arg22 : Memref sig .tc .vmem S256x7168 .f32) (harg22 : arg22.IsWhole)

/-- What the first part of the body returns. -/
abbrev RetTy (F : FTy → Type) := Σ' (_ : BitVec 32) (_ : IVec S128x128 32) (_ : BitVec 32) (_ : IVec S128x128 1) (_ : Vec F S128x128 .f32) (_ : FVec F S128x128 .f32) (_ : FVec F S128x128 .f32), FVec F S128x1 .f32

/-- What the first part of the body makes of the contents `f`: the contents `h`, and what it returns. -/
structure FirstStep (f1 : BufTy.Contents (Elt F) arg1.view.ty) (f3 : BufTy.Contents (Elt F) arg3.view.ty) (f4 : BufTy.Contents (Elt F) arg4.view.ty) (f6 : BufTy.Contents (Elt F) arg6.view.ty) (f10 : BufTy.Contents (Elt F) arg10.view.ty) (f11 : BufTy.Contents (Elt F) arg11.view.ty) (f16 : BufTy.Contents (Elt F) arg16.view.ty) (f17 : BufTy.Contents (Elt F) arg17.view.ty) (f18 : BufTy.Contents (Elt F) arg18.view.ty) (f19 : BufTy.Contents (Elt F) arg19.view.ty) (h10 : BufTy.Contents (Elt F) arg10.view.ty) (h11 : BufTy.Contents (Elt F) arg11.view.ty) (h16 : BufTy.Contents (Elt F) arg16.view.ty) (h17 : BufTy.Contents (Elt F) arg17.view.ty) (h18 : BufTy.Contents (Elt F) arg18.view.ty) (h19 : BufTy.Contents (Elt F) arg19.view.ty) (R : RetTy (F := F)) : Prop where
  taken : ∀ hc : k0_cond1 i = 1#1, h10 = arg10.view.writes (Elt F) f10 (firstRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f6 f10 f11 f16 f17 f18 f19).2.1 ∧ h11 = arg11.view.writes (Elt F) f11 (firstRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f6 f10 f11 f16 f17 f18 f19).2.2.1 ∧ h16 = arg16.view.writes (Elt F) f16 (firstRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f6 f10 f11 f16 f17 f18 f19).2.2.2.1 ∧ h17 = arg17.view.writes (Elt F) f17 (firstRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f6 f10 f11 f16 f17 f18 f19).2.2.2.2.1 ∧ h18 = arg18.view.writes (Elt F) f18 (firstRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f6 f10 f11 f16 f17 f18 f19).2.2.2.2.2.1 ∧ (∃ g, h19 = arg19.view.writes (Elt F) g (firstRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f6 f10 f11 f16 f17 f18 f19).2.2.2.2.2.2.1) ∧ R = (firstRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f6 f10 f11 f16 f17 f18 f19).1
  skipped : ∀ hc : ¬ k0_cond1 i = 1#1, h10 = f10 ∧ h11 = f11 ∧ h16 = f16 ∧ h17 = f17 ∧ h18 = f18 ∧ h19 = f19 ∧ R = (firstRunB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f6 f19).1

/-- What the unrolled work makes of the contents `f` and `h`: the contents `g`. -/
def MidStep (R : RetTy (F := F)) (f1 : BufTy.Contents (Elt F) arg1.view.ty) (f2 : BufTy.Contents (Elt F) arg2.view.ty) (f5 : BufTy.Contents (Elt F) arg5.view.ty) (f6 : BufTy.Contents (Elt F) arg6.view.ty) (f8 : BufTy.Contents (Elt F) arg8.view.ty) (f12 : BufTy.Contents (Elt F) arg12.view.ty) (f14 : BufTy.Contents (Elt F) arg14.view.ty) (f15 : BufTy.Contents (Elt F) arg15.view.ty) (h16 : BufTy.Contents (Elt F) arg16.view.ty) (h17 : BufTy.Contents (Elt F) arg17.view.ty) (h19 : BufTy.Contents (Elt F) arg19.view.ty) (f20 : BufTy.Contents (Elt F) arg20.view.ty) (f21 : BufTy.Contents (Elt F) arg21.view.ty) (g8 : BufTy.Contents (Elt F) arg8.view.ty) (g12 : BufTy.Contents (Elt F) arg12.view.ty) (g14 : BufTy.Contents (Elt F) arg14.view.ty) (g15 : BufTy.Contents (Elt F) arg15.view.ty) (g16 : BufTy.Contents (Elt F) arg16.view.ty) (g19 : BufTy.Contents (Elt F) arg19.view.ty) (g20 : BufTy.Contents (Elt F) arg20.view.ty) (g21 : BufTy.Contents (Elt F) arg21.view.ty) : Prop :=
  g8 = arg8.view.writes (Elt F) f8 (midRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 R.1 R.2.1 R.2.2.1 R.2.2.2.1 R.2.2.2.2.1 R.2.2.2.2.2.1 R.2.2.2.2.2.2.1 R.2.2.2.2.2.2.2 f1 f2 f5 f6 f8 f12 f14 f15 h16 h17 h19 f20 f21).1 ∧ g12 = arg12.view.writes (Elt F) f12 (midRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 R.1 R.2.1 R.2.2.1 R.2.2.2.1 R.2.2.2.2.1 R.2.2.2.2.2.1 R.2.2.2.2.2.2.1 R.2.2.2.2.2.2.2 f1 f2 f5 f6 f8 f12 f14 f15 h16 h17 h19 f20 f21).2.1 ∧ g14 = arg14.view.writes (Elt F) f14 (midRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 R.1 R.2.1 R.2.2.1 R.2.2.2.1 R.2.2.2.2.1 R.2.2.2.2.2.1 R.2.2.2.2.2.2.1 R.2.2.2.2.2.2.2 f1 f2 f5 f6 f8 f12 f14 f15 h16 h17 h19 f20 f21).2.2.1 ∧ g15 = arg15.view.writes (Elt F) f15 (midRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 R.1 R.2.1 R.2.2.1 R.2.2.2.1 R.2.2.2.2.1 R.2.2.2.2.2.1 R.2.2.2.2.2.2.1 R.2.2.2.2.2.2.2 f1 f2 f5 f6 f8 f12 f14 f15 h16 h17 h19 f20 f21).2.2.2.1 ∧ g16 = arg16.view.writes (Elt F) h16 (midRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 R.1 R.2.1 R.2.2.1 R.2.2.2.1 R.2.2.2.2.1 R.2.2.2.2.2.1 R.2.2.2.2.2.2.1 R.2.2.2.2.2.2.2 f1 f2 f5 f6 f8 f12 f14 f15 h16 h17 h19 f20 f21).2.2.2.2.1 ∧ g19 = arg19.view.writes (Elt F) h19 (midRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 R.1 R.2.1 R.2.2.1 R.2.2.2.1 R.2.2.2.2.1 R.2.2.2.2.2.1 R.2.2.2.2.2.2.1 R.2.2.2.2.2.2.2 f1 f2 f5 f6 f8 f12 f14 f15 h16 h17 h19 f20 f21).2.2.2.2.2.1 ∧ g20 = arg20.view.writes (Elt F) f20 (midRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 R.1 R.2.1 R.2.2.1 R.2.2.2.1 R.2.2.2.2.1 R.2.2.2.2.2.1 R.2.2.2.2.2.2.1 R.2.2.2.2.2.2.2 f1 f2 f5 f6 f8 f12 f14 f15 h16 h17 h19 f20 f21).2.2.2.2.2.2.1 ∧ g21 = arg21.view.writes (Elt F) f21 (midRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 R.1 R.2.1 R.2.2.1 R.2.2.2.1 R.2.2.2.2.1 R.2.2.2.2.2.1 R.2.2.2.2.2.2.1 R.2.2.2.2.2.2.2 f1 f2 f5 f6 f8 f12 f14 f15 h16 h17 h19 f20 f21).2.2.2.2.2.2.2.1

/-- What the last branch makes of the contents it finds. -/
structure EpiStep (f3 : BufTy.Contents (Elt F) arg3.view.ty) (f4 : BufTy.Contents (Elt F) arg4.view.ty) (f7 : BufTy.Contents (Elt F) arg7.view.ty) (f9 : BufTy.Contents (Elt F) arg9.view.ty) (f13 : BufTy.Contents (Elt F) arg13.view.ty) (f22 : BufTy.Contents (Elt F) arg22.view.ty) (g16 : BufTy.Contents (Elt F) arg16.view.ty) (g19 : BufTy.Contents (Elt F) arg19.view.ty) (h18 : BufTy.Contents (Elt F) arg18.view.ty) (g7 : BufTy.Contents (Elt F) arg7.view.ty) (g9 : BufTy.Contents (Elt F) arg9.view.ty) (g13 : BufTy.Contents (Elt F) arg13.view.ty) (g22 : BufTy.Contents (Elt F) arg22.view.ty) : Prop where
  taken : ∀ hc : k0_cond2 i = 1#1, g7 = arg7.view.writes (Elt F) f7 (epiRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f7 f9 f13 g16 h18 g19 f22).1 ∧ g9 = arg9.view.writes (Elt F) f9 (epiRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f7 f9 f13 g16 h18 g19 f22).2.1 ∧ g22 = arg22.view.writes (Elt F) f22 (epiRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f7 f9 f13 g16 h18 g19 f22).2.2.2.1 ∧ (∃ g, g13 = arg13.view.writes (Elt F) g (epiRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f7 f9 f13 g16 h18 g19 f22).2.2.1)
  skipped : ∀ hc : ¬ k0_cond2 i = 1#1, g7 = f7 ∧ g9 = f9 ∧ g13 = f13 ∧ g22 = f22

/-- What the whole body makes of the contents `f`: the contents `g`. -/
def Step (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (g7 : BufTy.Contents (Elt F) arg7.view.ty) (g8 : BufTy.Contents (Elt F) arg8.view.ty) (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (g14 : BufTy.Contents (Elt F) arg14.view.ty) (g15 : BufTy.Contents (Elt F) arg15.view.ty) (g16 : BufTy.Contents (Elt F) arg16.view.ty) (g17 : BufTy.Contents (Elt F) arg17.view.ty) (g18 : BufTy.Contents (Elt F) arg18.view.ty) (g19 : BufTy.Contents (Elt F) arg19.view.ty) (g20 : BufTy.Contents (Elt F) arg20.view.ty) (g21 : BufTy.Contents (Elt F) arg21.view.ty) (g22 : BufTy.Contents (Elt F) arg22.view.ty) : Prop :=
  ∃ (R : RetTy (F := F)) (h16 : BufTy.Contents (Elt F) arg16.view.ty) (h19 : BufTy.Contents (Elt F) arg19.view.ty),
    FirstStep c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f3 f4 f6 f10 f11 f16 f17 f18 f19 g10 g11 h16 g17 g18 h19 R
    ∧ MidStep c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 R f1 f2 f5 f6 f8 f12 f14 f15 h16 g17 h19 f20 f21 g8 g12 g14 g15 g16 g19 g20 g21
    ∧ EpiStep c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f9 f13 f22 g16 g19 g18 g7 g9 g13 g22

set_option maxHeartbeats 4000000 in
/-- The last branch, taken or not, from any contents. -/
theorem epi_run (f3 : BufTy.Contents (Elt F) arg3.view.ty) (f4 : BufTy.Contents (Elt F) arg4.view.ty) (f7 : BufTy.Contents (Elt F) arg7.view.ty) (f9 : BufTy.Contents (Elt F) arg9.view.ty) (f13 : BufTy.Contents (Elt F) arg13.view.ty) (f16 : BufTy.Contents (Elt F) arg16.view.ty) (f18 : BufTy.Contents (Elt F) arg18.view.ty) (f19 : BufTy.Contents (Elt F) arg19.view.ty) (f22 : BufTy.Contents (Elt F) arg22.view.ty) (E : Set ℕ) (K : PUnit → sProp 𝕄) :
    iprop((arg3.view.loc (c : Thread nD τ) ↦[arg3.view.set]{fullShare} f3) ∗ (arg4.view.loc (c : Thread nD τ) ↦[arg4.view.set]{fullShare} f4) ∗ (arg7.view.loc (c : Thread nD τ) ↦[arg7.view.set]{fullShare} f7) ∗ (arg9.view.loc (c : Thread nD τ) ↦[arg9.view.set]{fullShare} f9) ∗ (arg13.view.loc (c : Thread nD τ) ↦[arg13.view.set]{fullShare} f13) ∗ (arg16.view.loc (c : Thread nD τ) ↦[arg16.view.set]{fullShare} f16) ∗ (arg18.view.loc (c : Thread nD τ) ↦[arg18.view.set]{fullShare} f18) ∗ (arg19.view.loc (c : Thread nD τ) ↦[arg19.view.set]{fullShare} f19) ∗ (arg22.view.loc (c : Thread nD τ) ↦[arg22.view.set]{fullShare} f22)
      ∗ (∀ g7 g9 g13 g22, ⌜EpiStep c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f9 f13 f22 f16 f19 f18 g7 g9 g13 g22⌝ -∗ (arg3.view.loc (c : Thread nD τ) ↦[arg3.view.set]{fullShare} f3) -∗ (arg4.view.loc (c : Thread nD τ) ↦[arg4.view.set]{fullShare} f4) -∗ (arg7.view.loc (c : Thread nD τ) ↦[arg7.view.set]{fullShare} g7) -∗ (arg9.view.loc (c : Thread nD τ) ↦[arg9.view.set]{fullShare} g9) -∗ (arg13.view.loc (c : Thread nD τ) ↦[arg13.view.set]{fullShare} g13) -∗ (arg16.view.loc (c : Thread nD τ) ↦[arg16.view.set]{fullShare} f16) -∗ (arg18.view.loc (c : Thread nD τ) ↦[arg18.view.set]{fullShare} f18) -∗ (arg19.view.loc (c : Thread nD τ) ↦[arg19.view.set]{fullShare} f19) -∗ (arg22.view.loc (c : Thread nD τ) ↦[arg22.view.set]{fullShare} g22) -∗ K ⟨⟩))
    ⊢ wp frame (wpE (defs₀ (F := F)) Variants.none c none) E (epi i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  iintro ⟨H3, H4, H7, H9, H13, H16, H18, H19, H22, Hk⟩
  by_cases hc : k0_cond2 i = 1#1
  · iapply (epiRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f7 f9 f13 f16 f18 f19 f22).2.2.2.2 E K
    isplitl [H3]; · iexact H3
    isplitl [H4]; · iexact H4
    isplitl [H7]; · iexact H7
    isplitl [H9]; · iexact H9
    isplitl [H13]; · iexact H13
    isplitl [H16]; · iexact H16
    isplitl [H18]; · iexact H18
    isplitl [H19]; · iexact H19
    isplitl [H22]; · iexact H22
    iintro ⟨H3, H4, H7, H9, ⟨%q13, H13⟩, H16, H18, H19, H22⟩
    iapply Hk $$ %_ %_ %_ %_ [] H3 H4 H7 H9 H13 H16 H18 H19 H22
    ipureintro
    exact ⟨fun _ => ⟨rfl, rfl, rfl, _, rfl⟩, fun h => absurd hc h⟩
  · iapply epi_skip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc E K
    iapply Hk $$ %_ %_ %_ %_ [] H3 H4 H7 H9 H13 H16 H18 H19 H22
    ipureintro
    exact ⟨fun h => absurd h hc, fun _ => ⟨rfl, rfl, rfl, rfl⟩⟩

set_option maxHeartbeats 4000000 in
/-- The first part of the body, its branch taken or not, from any contents. -/
theorem first_run (f1 : BufTy.Contents (Elt F) arg1.view.ty) (f3 : BufTy.Contents (Elt F) arg3.view.ty) (f4 : BufTy.Contents (Elt F) arg4.view.ty) (f6 : BufTy.Contents (Elt F) arg6.view.ty) (f10 : BufTy.Contents (Elt F) arg10.view.ty) (f11 : BufTy.Contents (Elt F) arg11.view.ty) (f16 : BufTy.Contents (Elt F) arg16.view.ty) (f17 : BufTy.Contents (Elt F) arg17.view.ty) (f18 : BufTy.Contents (Elt F) arg18.view.ty) (f19 : BufTy.Contents (Elt F) arg19.view.ty) (E : Set ℕ) (K : RetTy (F := F) → sProp 𝕄) :
    iprop((arg1.view.loc (c : Thread nD τ) ↦[arg1.view.set]{fullShare} f1) ∗ (arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg10.view.loc (c : Thread nD τ) ↦[arg10.view.set]{fullShare} f10) ∗ (arg11.view.loc (c : Thread nD τ) ↦[arg11.view.set]{fullShare} f11) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19)
      ∗ (∀ R h10 h11 h16 h17 h18 h19, ⌜FirstStep c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f3 f4 f6 f10 f11 f16 f17 f18 f19 h10 h11 h16 h17 h18 h19 R⌝ -∗ (arg1.view.loc (c : Thread nD τ) ↦[arg1.view.set]{fullShare} f1) -∗ (arg3.view.loc (c : Thread nD τ) ↦[arg3.view.set]{fullShare} f3) -∗ (arg4.view.loc (c : Thread nD τ) ↦[arg4.view.set]{fullShare} f4) -∗ (arg6.view.loc (c : Thread nD τ) ↦[arg6.view.set]{fullShare} f6) -∗ (arg10.view.loc (c : Thread nD τ) ↦[arg10.view.set]{fullShare} h10) -∗ (arg11.view.loc (c : Thread nD τ) ↦[arg11.view.set]{fullShare} h11) -∗ (arg16.view.loc (c : Thread nD τ) ↦[arg16.view.set]{fullShare} h16) -∗ (arg17.view.loc (c : Thread nD τ) ↦[arg17.view.set]{fullShare} h17) -∗ (arg18.view.loc (c : Thread nD τ) ↦[arg18.view.set]{fullShare} h18) -∗ (arg19.view.loc (c : Thread nD τ) ↦[arg19.view.set]{fullShare} h19) -∗ K R))
    ⊢ wp frame (wpE (defs₀ (F := F)) Variants.none c none) E (k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  iintro ⟨H1, H3, H4, H6, H10, H11, H16, H17, H18, H19, Hk⟩
  by_cases hc : k0_cond1 i = 1#1
  · iapply (firstRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f6 f10 f11 f16 f17 f18 f19).2.2.2.2.2.2.2 E K
    isplitl [H1]; · iexact H1
    isplitl [H3]; · iexact H3
    isplitl [H4]; · iexact H4
    isplitl [H6]; · iexact H6
    isplitl [H10]; · iexact H10
    isplitl [H11]; · iexact H11
    isplitl [H16]; · iexact H16
    isplitl [H17]; · iexact H17
    isplitl [H18]; · iexact H18
    isplitl [H19]; · iexact H19
    iintro ⟨H1, H3, H4, H6, H10, H11, H16, H17, H18, ⟨%q19, H19⟩⟩
    iapply Hk $$ %_ %_ %_ %_ %_ %_ %_ [] H1 H3 H4 H6 H10 H11 H16 H17 H18 H19
    ipureintro
    exact ⟨fun _ => ⟨rfl, rfl, rfl, rfl, rfl, ⟨_, rfl⟩, rfl⟩, fun h => absurd hc h⟩
  · iapply (firstRunB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f6 f19).2 E K
    isplitl [H1]; · iexact H1
    isplitl [H6]; · iexact H6
    isplitl [H19]; · iexact H19
    iintro ⟨H1, H6, H19⟩
    iapply Hk $$ %_ %_ %_ %_ %_ %_ %_ [] H1 H3 H4 H6 H10 H11 H16 H17 H18 H19
    ipureintro
    exact ⟨fun h => absurd h hc, fun _ => ⟨rfl, rfl, rfl, rfl, rfl, rfl, rfl⟩⟩

set_option maxHeartbeats 4000000 in
/-- The unrolled work, from any contents and from any result of the first part. -/
theorem mid_run (R : RetTy (F := F)) (f1 : BufTy.Contents (Elt F) arg1.view.ty) (f2 : BufTy.Contents (Elt F) arg2.view.ty) (f5 : BufTy.Contents (Elt F) arg5.view.ty) (f6 : BufTy.Contents (Elt F) arg6.view.ty) (f8 : BufTy.Contents (Elt F) arg8.view.ty) (f12 : BufTy.Contents (Elt F) arg12.view.ty) (f14 : BufTy.Contents (Elt F) arg14.view.ty) (f15 : BufTy.Contents (Elt F) arg15.view.ty) (f16 : BufTy.Contents (Elt F) arg16.view.ty) (f17 : BufTy.Contents (Elt F) arg17.view.ty) (f19 : BufTy.Contents (Elt F) arg19.view.ty) (f20 : BufTy.Contents (Elt F) arg20.view.ty) (f21 : BufTy.Contents (Elt F) arg21.view.ty) (E : Set ℕ) (K : PUnit → sProp 𝕄) :
    iprop((arg1.view.loc (c : Thread nD τ) ↦[arg1.view.set]{fullShare} f1) ∗ (arg2.view.loc (c : Thread nD τ) ↦[arg2.view.set]{fullShare} f2) ∗ (arg5.view.loc (c : Thread nD τ) ↦[arg5.view.set]{fullShare} f5) ∗ (arg6.view.loc (c : Thread nD τ) ↦[arg6.view.set]{fullShare} f6) ∗ (arg8.view.loc (c : Thread nD τ) ↦[arg8.view.set]{fullShare} f8) ∗ (arg12.view.loc (c : Thread nD τ) ↦[arg12.view.set]{fullShare} f12) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21)
      ∗ (∀ g8 g12 g14 g15 g16 g19 g20 g21, ⌜MidStep c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 R f1 f2 f5 f6 f8 f12 f14 f15 f16 f17 f19 f20 f21 g8 g12 g14 g15 g16 g19 g20 g21⌝ -∗ (arg1.view.loc (c : Thread nD τ) ↦[arg1.view.set]{fullShare} f1) -∗ (arg2.view.loc (c : Thread nD τ) ↦[arg2.view.set]{fullShare} f2) -∗ (arg5.view.loc (c : Thread nD τ) ↦[arg5.view.set]{fullShare} f5) -∗ (arg6.view.loc (c : Thread nD τ) ↦[arg6.view.set]{fullShare} f6) -∗ (arg8.view.loc (c : Thread nD τ) ↦[arg8.view.set]{fullShare} g8) -∗ (arg12.view.loc (c : Thread nD τ) ↦[arg12.view.set]{fullShare} g12) -∗ (arg14.view.loc (c : Thread nD τ) ↦[arg14.view.set]{fullShare} g14) -∗ (arg15.view.loc (c : Thread nD τ) ↦[arg15.view.set]{fullShare} g15) -∗ (arg16.view.loc (c : Thread nD τ) ↦[arg16.view.set]{fullShare} g16) -∗ (arg17.view.loc (c : Thread nD τ) ↦[arg17.view.set]{fullShare} f17) -∗ (arg19.view.loc (c : Thread nD τ) ↦[arg19.view.set]{fullShare} g19) -∗ (arg20.view.loc (c : Thread nD τ) ↦[arg20.view.set]{fullShare} g20) -∗ (arg21.view.loc (c : Thread nD τ) ↦[arg21.view.set]{fullShare} g21) -∗ wp frame (wpE (defs₀ (F := F)) Variants.none c none) E (epi i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K))
    ⊢ wp frame (wpE (defs₀ (F := F)) Variants.none c none) E ((mid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22).1 R >>= (fin i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22).1) K := by
  iintro ⟨H1, H2, H5, H6, H8, H12, H14, H15, H16, H17, H19, H20, H21, Hk⟩
  iapply (midRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 R.1 R.2.1 R.2.2.1 R.2.2.2.1 R.2.2.2.2.1 R.2.2.2.2.2.1 R.2.2.2.2.2.2.1 R.2.2.2.2.2.2.2 f1 f2 f5 f6 f8 f12 f14 f15 f16 f17 f19 f20 f21).2.2.2.2.2.2.2.2 E K
  isplitl [H1]; · iexact H1
  isplitl [H2]; · iexact H2
  isplitl [H5]; · iexact H5
  isplitl [H6]; · iexact H6
  isplitl [H8]; · iexact H8
  isplitl [H12]; · iexact H12
  isplitl [H14]; · iexact H14
  isplitl [H15]; · iexact H15
  isplitl [H16]; · iexact H16
  isplitl [H17]; · iexact H17
  isplitl [H19]; · iexact H19
  isplitl [H20]; · iexact H20
  isplitl [H21]; · iexact H21
  iintro ⟨H1, H2, H5, H6, H8, H12, H14, H15, H16, H17, H19, H20, H21⟩
  iapply Hk $$ %_ %_ %_ %_ %_ %_ %_ %_ [] H1 H2 H5 H6 H8 H12 H14 H15 H16 H17 H19 H20 H21
  ipureintro
  exact ⟨rfl, rfl, rfl, rfl, rfl, rfl, rfl, rfl⟩

set_option maxHeartbeats 4000000 in
/-- The whole body, at any grid point, from any contents. -/
theorem body_run (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (E : Set ℕ) (K : PUnit → sProp 𝕄) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22)
      ∗ (∀ g7 g8 g9 g10 g11 g12 g13 g14 g15 g16 g17 g18 g19 g20 g21 g22, ⌜Step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f11 f12 f13 f14 f15 f16 f17 f18 f19 f20 f21 f22 g7 g8 g9 g10 g11 g12 g13 g14 g15 g16 g17 g18 g19 g20 g21 g22⌝ -∗ (arg1.view.loc (c : Thread nD τ) ↦[arg1.view.set]{fullShare} f1) -∗ (arg2.view.loc (c : Thread nD τ) ↦[arg2.view.set]{fullShare} f2) -∗ (arg3.view.loc (c : Thread nD τ) ↦[arg3.view.set]{fullShare} f3) -∗ (arg4.view.loc (c : Thread nD τ) ↦[arg4.view.set]{fullShare} f4) -∗ (arg5.view.loc (c : Thread nD τ) ↦[arg5.view.set]{fullShare} f5) -∗ (arg6.view.loc (c : Thread nD τ) ↦[arg6.view.set]{fullShare} f6) -∗ (arg7.view.loc (c : Thread nD τ) ↦[arg7.view.set]{fullShare} g7) -∗ (arg8.view.loc (c : Thread nD τ) ↦[arg8.view.set]{fullShare} g8) -∗ (arg9.view.loc (c : Thread nD τ) ↦[arg9.view.set]{fullShare} g9) -∗ (arg10.view.loc (c : Thread nD τ) ↦[arg10.view.set]{fullShare} g10) -∗ (arg11.view.loc (c : Thread nD τ) ↦[arg11.view.set]{fullShare} g11) -∗ (arg12.view.loc (c : Thread nD τ) ↦[arg12.view.set]{fullShare} g12) -∗ (arg13.view.loc (c : Thread nD τ) ↦[arg13.view.set]{fullShare} g13) -∗ (arg14.view.loc (c : Thread nD τ) ↦[arg14.view.set]{fullShare} g14) -∗ (arg15.view.loc (c : Thread nD τ) ↦[arg15.view.set]{fullShare} g15) -∗ (arg16.view.loc (c : Thread nD τ) ↦[arg16.view.set]{fullShare} g16) -∗ (arg17.view.loc (c : Thread nD τ) ↦[arg17.view.set]{fullShare} g17) -∗ (arg18.view.loc (c : Thread nD τ) ↦[arg18.view.set]{fullShare} g18) -∗ (arg19.view.loc (c : Thread nD τ) ↦[arg19.view.set]{fullShare} g19) -∗ (arg20.view.loc (c : Thread nD τ) ↦[arg20.view.set]{fullShare} g20) -∗ (arg21.view.loc (c : Thread nD τ) ↦[arg21.view.set]{fullShare} g21) -∗ (arg22.view.loc (c : Thread nD τ) ↦[arg22.view.set]{fullShare} g22) -∗ K ⟨⟩))
    ⊢ wp frame (wpE (defs₀ (F := F)) Variants.none c none) E (cc0_rmsnorm_linear_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  rw [body_cut, wp_bind]
  iintro ⟨H1, H2, H3, H4, H5, H6, H7, H8, H9, H10, H11, H12, H13, H14, H15, H16, H17, H18, H19, H20, H21, H22, Hk⟩
  iapply first_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f3 f4 f6 f10 f11 f16 f17 f18 f19 E
  isplitl [H1]; · iexact H1
  isplitl [H3]; · iexact H3
  isplitl [H4]; · iexact H4
  isplitl [H6]; · iexact H6
  isplitl [H10]; · iexact H10
  isplitl [H11]; · iexact H11
  isplitl [H16]; · iexact H16
  isplitl [H17]; · iexact H17
  isplitl [H18]; · iexact H18
  isplitl [H19]; · iexact H19
  iintro %R %h10 %h11 %h16 %h17 %h18 %h19 %hF H1 H3 H4 H6 H10 H11 H16 H17 H18 H19
  iapply mid_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 R f1 f2 f5 f6 f8 f12 f14 f15 h16 h17 h19 f20 f21 E K
  isplitl [H1]; · iexact H1
  isplitl [H2]; · iexact H2
  isplitl [H5]; · iexact H5
  isplitl [H6]; · iexact H6
  isplitl [H8]; · iexact H8
  isplitl [H12]; · iexact H12
  isplitl [H14]; · iexact H14
  isplitl [H15]; · iexact H15
  isplitl [H16]; · iexact H16
  isplitl [H17]; · iexact H17
  isplitl [H19]; · iexact H19
  isplitl [H20]; · iexact H20
  isplitl [H21]; · iexact H21
  iintro %g8 %g12 %g14 %g15 %g16 %g19 %g20 %g21 %hM H1 H2 H5 H6 H8 H12 H14 H15 H16 H17 H19 H20 H21
  iapply epi_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f9 f13 g16 h18 g19 f22 E K
  isplitl [H3]; · iexact H3
  isplitl [H4]; · iexact H4
  isplitl [H7]; · iexact H7
  isplitl [H9]; · iexact H9
  isplitl [H13]; · iexact H13
  isplitl [H16]; · iexact H16
  isplitl [H18]; · iexact H18
  isplitl [H19]; · iexact H19
  isplitl [H22]; · iexact H22
  iintro %g7 %g9 %g13 %g22 %hE H3 H4 H7 H9 H13 H16 H18 H19 H22
  iapply Hk $$ %_ %_ %_ %_ %_ %_ %_ %_ %_ %_ %_ %_ %_ %_ %_ %_ [] H1 H2 H3 H4 H5 H6 H7 H8 H9 H10 H11 H12 H13 H14 H15 H16 H17 H18 H19 H20 H21 H22
  ipureintro
  exact ⟨R, h16, h19, hF, hM, hE⟩

end Cert.Kernel.Gen

end
-- ==== Proof.Bits.Run.lean ====
module

public import proofs.«01_k».proof.Proof.Bits.Body

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The buffers a point works on -/

abbrev ms0_0 (t : Fin cfg0.N) : Memref sig .tc .smem S2 .i32 := win0_0.stage (cfg0.slots t 0)
theorem hs0_0 (t : Fin cfg0.N) : (ms0_0 t).IsWhole := hstage0_0 ((cfg0.slots t 0).cast nbuf0_0)
abbrev ms0_1 (t : Fin cfg0.N) : Memref sig .tc .smem S56x144 .f32 := win0_1.stage (cfg0.slots t 1)
theorem hs0_1 (t : Fin cfg0.N) : (ms0_1 t).IsWhole := hstage0_1 ((cfg0.slots t 1).cast nbuf0_1)
abbrev ms0_2 (t : Fin cfg0.N) : Memref sig .tc .vmem S256x7168 .bf16 := win0_2.stage (cfg0.slots t 2)
theorem hs0_2 (t : Fin cfg0.N) : (ms0_2 t).IsWhole := hstage0_2 ((cfg0.slots t 2).cast nbuf0_2)
abbrev ms0_3 (t : Fin cfg0.N) : Memref sig .tc .vmem S1x7168 .f32 := win0_3.stage (cfg0.slots t 3)
theorem hs0_3 (t : Fin cfg0.N) : (ms0_3 t).IsWhole := hstage0_3 ((cfg0.slots t 3).cast nbuf0_3)
abbrev ms0_4 (t : Fin cfg0.N) : Memref sig .tc .vmem S7168x256 .fp8e4m3 := win0_4.stage (cfg0.slots t 4)
theorem hs0_4 (t : Fin cfg0.N) : (ms0_4 t).IsWhole := hstage0_4 ((cfg0.slots t 4).cast nbuf0_4)
abbrev ms0_5 (t : Fin cfg0.N) : Memref sig .tc .vmem S256x256 .bf16 := win0_5.stage (cfg0.slots t 5)
theorem hs0_5 (t : Fin cfg0.N) : (ms0_5 t).IsWhole := hstage0_5 ((cfg0.slots t 5).cast nbuf0_5)
abbrev ms0_6 (t : Fin cfg0.N) : Memref sig .tc .vmem S256x7168 .bf16 := win0_6.stage (cfg0.slots t 6)
theorem hs0_6 (t : Fin cfg0.N) : (ms0_6 t).IsWhole := hstage0_6 ((cfg0.slots t 6).cast nbuf0_6)
abbrev ms0_7 (t : Fin cfg0.N) : Memref sig .tc .vmem S7168x256 .f32 := win0_7.stage (cfg0.slots t 7)
theorem hs0_7 (t : Fin cfg0.N) : (ms0_7 t).IsWhole := hstage0_7 ((cfg0.slots t 7).cast nbuf0_7)
abbrev ms0_8 (t : Fin cfg0.N) : Memref sig .tc .vmem S1x7168 .f32 := win0_8.stage (cfg0.slots t 8)
theorem hs0_8 (t : Fin cfg0.N) : (ms0_8 t).IsWhole := hstage0_8 ((cfg0.slots t 8).cast nbuf0_8)
abbrev ms0_9 (t : Fin cfg0.N) : Memref sig .tc .vmem S256x7168 .fp8e4m3 := win0_9.stage (cfg0.slots t 9)
theorem hs0_9 (t : Fin cfg0.N) : (ms0_9 t).IsWhole := hstage0_9 ((cfg0.slots t 9).cast nbuf0_9)
abbrev ms0_10 (t : Fin cfg0.N) : Memref sig .tc .vmem S2x1x7168 .f32 := win0_10.stage (cfg0.slots t 10)
theorem hs0_10 (t : Fin cfg0.N) : (ms0_10 t).IsWhole := hstage0_10 ((cfg0.slots t 10).cast nbuf0_10)
abbrev ms0_11 (t : Fin cfg0.N) : Memref sig .tc .vmem S256x256 .fp8e5m2 := win0_11.stage (cfg0.slots t 11)
theorem hs0_11 (t : Fin cfg0.N) : (ms0_11 t).IsWhole := hstage0_11 ((cfg0.slots t 11).cast nbuf0_11)
abbrev ms0_12 (t : Fin cfg0.N) : Memref sig .tc .vmem S256x144 .f32 := win0_12.stage (cfg0.slots t 12)
theorem hs0_12 (t : Fin cfg0.N) : (ms0_12 t).IsWhole := hstage0_12 ((cfg0.slots t 12).cast nbuf0_12)
abbrev ms0_13 (t : Fin cfg0.N) : Memref sig .tc .vmem S256x256 .fp8e5m2 := win0_13.stage (cfg0.slots t 13)
theorem hs0_13 (t : Fin cfg0.N) : (ms0_13 t).IsWhole := hstage0_13 ((cfg0.slots t 13).cast nbuf0_13)
abbrev ms0_14 (t : Fin cfg0.N) : Memref sig .tc .vmem S2x1x256 .f32 := win0_14.stage (cfg0.slots t 14)
theorem hs0_14 (t : Fin cfg0.N) : (ms0_14 t).IsWhole := hstage0_14 ((cfg0.slots t 14).cast nbuf0_14)
abbrev scM0_0 : Memref sig .tc .vmem S7168x256 .f32 := Memref.whole cc0_scratch0
abbrev scM0_1 : Memref sig .tc .vmem S7168x256 .bf16 := Memref.whole cc0_scratch1
abbrev scM0_2 : Memref sig .tc .vmem S256x128 .f32 := Memref.whole cc0_scratch2
abbrev scM0_3 : Memref sig .tc .vmem S256x256 .f32 := Memref.whole cc0_scratch3
abbrev scM0_4 : Memref sig .tc .vmem S256x256 .bf16 := Memref.whole cc0_scratch4
abbrev scM0_5 : Memref sig .tc .vmem S256x256 .bf16 := Memref.whole cc0_scratch5
abbrev scM0_6 : Memref sig .tc .vmem S256x7168 .f32 := Memref.whole cc0_scratch6

/-- One run of the body at grid point `t`, on the buffers of that point: `Step` (Body.lean) from contents `f` to contents `g`. -/
def StepAt (c : Dev nD) (t : Fin cfg0.N) (f1 : BufTy.Contents (Elt F) (ms0_0 t).view.ty) (f2 : BufTy.Contents (Elt F) (ms0_1 t).view.ty) (f3 : BufTy.Contents (Elt F) (ms0_2 t).view.ty) (f4 : BufTy.Contents (Elt F) (ms0_3 t).view.ty) (f5 : BufTy.Contents (Elt F) (ms0_4 t).view.ty) (f6 : BufTy.Contents (Elt F) (ms0_5 t).view.ty) (f7 : BufTy.Contents (Elt F) (ms0_6 t).view.ty) (f8 : BufTy.Contents (Elt F) (ms0_7 t).view.ty) (f9 : BufTy.Contents (Elt F) (ms0_8 t).view.ty) (f10 : BufTy.Contents (Elt F) (ms0_9 t).view.ty) (f11 : BufTy.Contents (Elt F) (ms0_10 t).view.ty) (f12 : BufTy.Contents (Elt F) (ms0_11 t).view.ty) (f13 : BufTy.Contents (Elt F) (ms0_12 t).view.ty) (f14 : BufTy.Contents (Elt F) (ms0_13 t).view.ty) (f15 : BufTy.Contents (Elt F) (ms0_14 t).view.ty) (f16 : BufTy.Contents (Elt F) scM0_0.view.ty) (f17 : BufTy.Contents (Elt F) scM0_1.view.ty) (f18 : BufTy.Contents (Elt F) scM0_2.view.ty) (f19 : BufTy.Contents (Elt F) scM0_3.view.ty) (f20 : BufTy.Contents (Elt F) scM0_4.view.ty) (f21 : BufTy.Contents (Elt F) scM0_5.view.ty) (f22 : BufTy.Contents (Elt F) scM0_6.view.ty) (g7 : BufTy.Contents (Elt F) (ms0_6 t).view.ty) (g8 : BufTy.Contents (Elt F) (ms0_7 t).view.ty) (g9 : BufTy.Contents (Elt F) (ms0_8 t).view.ty) (g10 : BufTy.Contents (Elt F) (ms0_9 t).view.ty) (g11 : BufTy.Contents (Elt F) (ms0_10 t).view.ty) (g12 : BufTy.Contents (Elt F) (ms0_11 t).view.ty) (g13 : BufTy.Contents (Elt F) (ms0_12 t).view.ty) (g14 : BufTy.Contents (Elt F) (ms0_13 t).view.ty) (g15 : BufTy.Contents (Elt F) (ms0_14 t).view.ty) (g16 : BufTy.Contents (Elt F) scM0_0.view.ty) (g17 : BufTy.Contents (Elt F) scM0_1.view.ty) (g18 : BufTy.Contents (Elt F) scM0_2.view.ty) (g19 : BufTy.Contents (Elt F) scM0_3.view.ty) (g20 : BufTy.Contents (Elt F) scM0_4.view.ty) (g21 : BufTy.Contents (Elt F) scM0_5.view.ty) (g22 : BufTy.Contents (Elt F) scM0_6.view.ty) : Prop :=
  Step c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) f1 f2 f3 f4 f5 f6 f7 f8 f9 f10 f11 f12 f13 f14 f15 f16 f17 f18 f19 f20 f21 f22 g7 g8 g9 g10 g11 g12 g13 g14 g15 g16 g17 g18 g19 g20 g21 g22

/-! ## What is carried from point to point -/

/-- What a proof says about the run: `P n` of the accumulator, the quantised activations (transposed), the row statistics and
    the row scales before point `n` (nothing is said before point 0), and of what each output's buffer holds after each point. -/
structure Inv (F : FTy → Type) [FloatOps F] where
  P : ℕ → (S7168x256.Idx → Elt F .f32) → (S7168x256.Idx → Elt F .bf16) → (S256x128.Idx → Elt F .f32) → (S256x256.Idx → Elt F .f32) → Prop
  q7 : ℕ → (S256x7168.Idx → Elt F .bf16) → Prop
  q8 : ℕ → (S7168x256.Idx → Elt F .f32) → Prop
  q9 : ℕ → (S1x7168.Idx → Elt F .f32) → Prop
  q10 : (S256x7168.Idx → Elt F .fp8e4m3) → Prop
  q11 : (S2x1x7168.Idx → Elt F .f32) → Prop
  q12 : ℕ → (S256x256.Idx → Elt F .fp8e5m2) → Prop
  q13 : ℕ → (S256x144.Idx → Elt F .f32) → Prop
  q14 : ℕ → (S256x256.Idx → Elt F .fp8e5m2) → Prop
  q15 : ℕ → (S2x1x256.Idx → Elt F .f32) → Prop

/-- The statement that says nothing. -/
def Inv.silent : Inv F where
  P _ _ _ _ _ := True
  q7 _ _ := True
  q8 _ _ := True
  q9 _ _ := True
  q10 _ := True
  q11 _ := True
  q12 _ _ := True
  q13 _ _ := True
  q14 _ _ := True
  q15 _ _ := True

variable (I : Inv F)

/-- The statement is kept by one run of the body: from the inputs' blocks, the carried statement (after point 0) and any step of
    the body, the statement of the next point and of every output's buffer. -/
def Inv.Good (c : Dev nD) : Prop := ∀ (t : Fin cfg0.N) (f1 : BufTy.Contents (Elt F) (ms0_0 t).view.ty) (f2 : BufTy.Contents (Elt F) (ms0_1 t).view.ty) (f3 : BufTy.Contents (Elt F) (ms0_2 t).view.ty) (f4 : BufTy.Contents (Elt F) (ms0_3 t).view.ty) (f5 : BufTy.Contents (Elt F) (ms0_4 t).view.ty) (f6 : BufTy.Contents (Elt F) (ms0_5 t).view.ty) (f7 : BufTy.Contents (Elt F) (ms0_6 t).view.ty) (f8 : BufTy.Contents (Elt F) (ms0_7 t).view.ty) (f9 : BufTy.Contents (Elt F) (ms0_8 t).view.ty) (f10 : BufTy.Contents (Elt F) (ms0_9 t).view.ty) (f11 : BufTy.Contents (Elt F) (ms0_10 t).view.ty) (f12 : BufTy.Contents (Elt F) (ms0_11 t).view.ty) (f13 : BufTy.Contents (Elt F) (ms0_12 t).view.ty) (f14 : BufTy.Contents (Elt F) (ms0_13 t).view.ty) (f15 : BufTy.Contents (Elt F) (ms0_14 t).view.ty) (f16 : BufTy.Contents (Elt F) scM0_0.view.ty) (f17 : BufTy.Contents (Elt F) scM0_1.view.ty) (f18 : BufTy.Contents (Elt F) scM0_2.view.ty) (f19 : BufTy.Contents (Elt F) scM0_3.view.ty) (f20 : BufTy.Contents (Elt F) scM0_4.view.ty) (f21 : BufTy.Contents (Elt F) scM0_5.view.ty) (f22 : BufTy.Contents (Elt F) scM0_6.view.ty) (g7 : BufTy.Contents (Elt F) (ms0_6 t).view.ty) (g8 : BufTy.Contents (Elt F) (ms0_7 t).view.ty) (g9 : BufTy.Contents (Elt F) (ms0_8 t).view.ty) (g10 : BufTy.Contents (Elt F) (ms0_9 t).view.ty) (g11 : BufTy.Contents (Elt F) (ms0_10 t).view.ty) (g12 : BufTy.Contents (Elt F) (ms0_11 t).view.ty) (g13 : BufTy.Contents (Elt F) (ms0_12 t).view.ty) (g14 : BufTy.Contents (Elt F) (ms0_13 t).view.ty) (g15 : BufTy.Contents (Elt F) (ms0_14 t).view.ty) (g16 : BufTy.Contents (Elt F) scM0_0.view.ty) (g17 : BufTy.Contents (Elt F) scM0_1.view.ty) (g18 : BufTy.Contents (Elt F) scM0_2.view.ty) (g19 : BufTy.Contents (Elt F) scM0_3.view.ty) (g20 : BufTy.Contents (Elt F) scM0_4.view.ty) (g21 : BufTy.Contents (Elt F) scM0_5.view.ty) (g22 : BufTy.Contents (Elt F) scM0_6.view.ty),
  ((ms0_0 t).view.read (Elt F) f1) = iblk m c 0 t → ((ms0_1 t).view.read (Elt F) f2) = iblk m c 1 t → ((ms0_2 t).view.read (Elt F) f3) = iblk m c 2 t → ((ms0_3 t).view.read (Elt F) f4) = iblk m c 3 t → ((ms0_4 t).view.read (Elt F) f5) = iblk m c 4 t → ((ms0_5 t).view.read (Elt F) f6) = iblk m c 5 t
  → (t.val ≠ 0 → I.P t.val (scM0_0.view.read (Elt F) f16) (scM0_1.view.read (Elt F) f17) (scM0_2.view.read (Elt F) f18) (scM0_3.view.read (Elt F) f19) ∧ I.q10 ((ms0_9 t).view.read (Elt F) f10) ∧ I.q11 ((ms0_10 t).view.read (Elt F) f11))
  → StepAt c t f1 f2 f3 f4 f5 f6 f7 f8 f9 f10 f11 f12 f13 f14 f15 f16 f17 f18 f19 f20 f21 f22 g7 g8 g9 g10 g11 g12 g13 g14 g15 g16 g17 g18 g19 g20 g21 g22
  → I.P (t.val + 1) (scM0_0.view.read (Elt F) g16) (scM0_1.view.read (Elt F) g17) (scM0_2.view.read (Elt F) g18) (scM0_3.view.read (Elt F) g19)
    ∧ I.q7 t.val ((ms0_6 t).view.read (Elt F) g7) ∧ I.q8 t.val ((ms0_7 t).view.read (Elt F) g8) ∧ I.q9 t.val ((ms0_8 t).view.read (Elt F) g9) ∧ I.q10 ((ms0_9 t).view.read (Elt F) g10) ∧ I.q11 ((ms0_10 t).view.read (Elt F) g11) ∧ I.q12 t.val ((ms0_11 t).view.read (Elt F) g12) ∧ I.q13 t.val ((ms0_12 t).view.read (Elt F) g13) ∧ I.q14 t.val ((ms0_13 t).view.read (Elt F) g14) ∧ I.q15 t.val ((ms0_14 t).view.read (Elt F) g15)

theorem Inv.silent_good (c : Dev nD) : (Inv.silent : Inv F).Good m c := by
  intro t; intros; exact ⟨trivial, trivial, trivial, trivial, trivial, trivial, trivial, trivial, trivial, trivial⟩

/-- What window `w`'s buffer may hold after point `t`. -/
def Inv.Rl (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun X => I.q7 t.val X
  | ⟨7, _⟩ => fun X => I.q8 t.val X
  | ⟨8, _⟩ => fun X => I.q9 t.val X
  | ⟨9, _⟩ => fun X => I.q10 X
  | ⟨10, _⟩ => fun X => I.q11 X
  | ⟨11, _⟩ => fun X => I.q12 t.val X
  | ⟨12, _⟩ => fun X => I.q13 t.val X
  | ⟨13, _⟩ => fun X => I.q14 t.val X
  | ⟨14, _⟩ => fun X => I.q15 t.val X

/-- The body's statement of the scratch between points. -/
def Inv.Phi (c : Dev nD) (n : ℕ) : sProp 𝕄 :=
  iprop((∃ s0 s1 s2 s3, ⌜n ≠ 0 → I.P n s0 s1 s2 s3⌝ ∗ owns (c : Thread nD τ) scM0_0 fullShare s0 ∗ owns (c : Thread nD τ) scM0_1 fullShare s1 ∗ owns (c : Thread nD τ) scM0_2 fullShare s2 ∗ owns (c : Thread nD τ) scM0_3 fullShare s3)
    ∗ (∃ d, owns (c : Thread nD τ) scM0_4 fullShare d) ∗ (∃ d, owns (c : Thread nD τ) scM0_5 fullShare d) ∗ (∃ d, owns (c : Thread nD τ) scM0_6 fullShare d)
    ∗ (∃ r, prngReg c r))

theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA
  rw [scopedRest0_eq]
  simp only [scM0_0, scM0_1, scM0_2, scM0_3, scM0_4, scM0_5, scM0_6, owns_whole]
  try rfl

theorem Inv.Phi_in (c : Dev nD) : Pipeline.ΦA spec0 c ⊢ I.Phi c 0 := by
  rw [PhiA0_eq]; unfold Inv.Phi
  iintro ⟨⟨⟨%d0, H0⟩, ⟨%d1, H1⟩, ⟨%d2, H2⟩, ⟨%d3, H3⟩, H4, H5, H6⟩, Hg⟩
  isplitl [H0 H1 H2 H3]
  · iexists d0, d1, d2, d3
    isplitr
    · ipureintro; intro h; exact absurd rfl h
    isplitl [H0]; · iexact H0
    isplitl [H1]; · iexact H1
    isplitl [H2]; · iexact H2
    iexact H3
  isplitl [H4]; · iexact H4
  isplitl [H5]; · iexact H5
  isplitl [H6]; · iexact H6
  iexact Hg

theorem Inv.Phi_out (c : Dev nD) (n : ℕ) : I.Phi c n ⊢ Pipeline.ΦA spec0 c := by
  rw [PhiA0_eq]; unfold Inv.Phi
  iintro ⟨⟨%d0, %d1, %d2, %d3, %hP, H0, H1, H2, H3⟩, H4, H5, H6, Hg⟩
  isplitl [H0 H1 H2 H3 H4 H5 H6]
  · isplitl [H0]
    · iexists _; iexact H0
    isplitl [H1]
    · iexists _; iexact H1
    isplitl [H2]
    · iexists _; iexact H2
    isplitl [H3]
    · iexists _; iexact H3
    isplitl [H4]; · iexact H4
    isplitl [H5]; · iexact H5
    iexact H6
  iexact Hg

/-! ## The proof data -/

/-- Every input's buffer is left as fetched; nothing is named of the outputs here (`Inv.Rl` says what is known of them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ t := I.Phi c t.val
  q _ := fullShare
  owed _ := 0

theorem A_eq (c : Dev nD) (w : Fin cfg0.W) : (dats m I 0 c).A w = V m c (Pipeline.arrRef spec0 w) := by dsimp only [dats]

theorem after0_0 (c : Dev nD) (t : Fin cfg0.N) : (dats m I 0 c).after 0 t = iblk m c 0 t := by dsimp only [dats]
theorem before0_0 (c : Dev nD) (t : Fin cfg0.N) (d) : (dats m I 0 c).before 0 t d = iblk m c 0 t :=
  before0_0_of m (dats m I 0 c) (A_eq m I c 0) (after0_0 m I c) t d
theorem after0_1 (c : Dev nD) (t : Fin cfg0.N) : (dats m I 0 c).after 1 t = iblk m c 1 t := by dsimp only [dats]
theorem before0_1 (c : Dev nD) (t : Fin cfg0.N) (d) : (dats m I 0 c).before 1 t d = iblk m c 1 t :=
  before0_1_of m (dats m I 0 c) (A_eq m I c 1) (after0_1 m I c) t d
theorem after0_2 (c : Dev nD) (t : Fin cfg0.N) : (dats m I 0 c).after 2 t = iblk m c 2 t := by dsimp only [dats]
theorem before0_2 (c : Dev nD) (t : Fin cfg0.N) (d) : (dats m I 0 c).before 2 t d = iblk m c 2 t :=
  before0_2_of m (dats m I 0 c) (A_eq m I c 2) (after0_2 m I c) t d
theorem after0_3 (c : Dev nD) (t : Fin cfg0.N) : (dats m I 0 c).after 3 t = iblk m c 3 t := by dsimp only [dats]
theorem before0_3 (c : Dev nD) (t : Fin cfg0.N) (d) : (dats m I 0 c).before 3 t d = iblk m c 3 t :=
  before0_3_of m (dats m I 0 c) (A_eq m I c 3) (after0_3 m I c) t d
theorem after0_4 (c : Dev nD) (t : Fin cfg0.N) : (dats m I 0 c).after 4 t = iblk m c 4 t := by dsimp only [dats]
theorem before0_4 (c : Dev nD) (t : Fin cfg0.N) (d) : (dats m I 0 c).before 4 t d = iblk m c 4 t :=
  before0_4_of m (dats m I 0 c) (A_eq m I c 4) (after0_4 m I c) t d
theorem after0_5 (c : Dev nD) (t : Fin cfg0.N) : (dats m I 0 c).after 5 t = iblk m c 5 t := by dsimp only [dats]
theorem before0_5 (c : Dev nD) (t : Fin cfg0.N) (d) : (dats m I 0 c).before 5 t d = iblk m c 5 t :=
  before0_5_of m (dats m I 0 c) (A_eq m I c 5) (after0_5 m I c) t d

/-- The outputs' windows. -/
def forgets0 : Fin 15 → Bool := fun w => w.val == 6 || w.val == 7 || w.val == 8 || w.val == 9 || w.val == 10 || w.val == 11 || w.val == 12 || w.val == 13 || w.val == 14

/-- The proof data with the outputs known by `Inv.Rl`. -/
abbrev rdat (c : Dev nD) := (dats m I 0 c).toRRel forgets0 I.Rl

theorem finds_9 (c : Dev nD) (t : Fin cfg0.N) (Y) (h : (rdat m I c).Finds 9 t Y) (ht : t.val ≠ 0) : I.q10 Y := by
  have hN : t.val < 72 := lt_of_lt_of_eq t.isLt (show cfg0.N = 72 from N_0)
  rcases ((rdat m I c).finds_of_pos (w := 9) (Pipeline.Window.fetch_out _ rfl t) ht Y).mp h with h | h
  · have := (flush0_9 _).mp h; simp only at this; omega
  · exact Pipeline.Dat.toRRel_leaves (dats m I 0 c) rfl h

theorem finds_10 (c : Dev nD) (t : Fin cfg0.N) (Y) (h : (rdat m I c).Finds 10 t Y) (ht : t.val ≠ 0) : I.q11 Y := by
  have hN : t.val < 72 := lt_of_lt_of_eq t.isLt (show cfg0.N = 72 from N_0)
  rcases ((rdat m I c).finds_of_pos (w := 10) (Pipeline.Window.fetch_out _ rfl t) ht Y).mp h with h | h
  · have := (flush0_10 _).mp h; simp only at this; omega
  · exact Pipeline.Dat.toRRel_leaves (dats m I 0 c) rfl h

/-! ## The body at a point -/

def bodyPre (c : Dev nD) (t : Fin cfg0.N) : sProp 𝕄 :=
  iprop((dats m I 0 c).Φ t.castSucc ∗ (dats m I 0 c).owesAt () t.castSucc
    ∗ (∃ d, owns (c : Thread nD τ) (ms0_0 t) fullShare ((dats m I 0 c).before 0 t d))
    ∗ (∃ d, owns (c : Thread nD τ) (ms0_1 t) fullShare ((dats m I 0 c).before 1 t d))
    ∗ (∃ d, owns (c : Thread nD τ) (ms0_2 t) fullShare ((dats m I 0 c).before 2 t d))
    ∗ (∃ d, owns (c : Thread nD τ) (ms0_3 t) fullShare ((dats m I 0 c).before 3 t d))
    ∗ (∃ d, owns (c : Thread nD τ) (ms0_4 t) fullShare ((dats m I 0 c).before 4 t d))
    ∗ (∃ d, owns (c : Thread nD τ) (ms0_5 t) fullShare ((dats m I 0 c).before 5 t d))
    ∗ (∃ Y, ⌜(rdat m I c).Finds 6 t Y⌝ ∗ owns (c : Thread nD τ) (ms0_6 t) fullShare Y)
    ∗ (∃ Y, ⌜(rdat m I c).Finds 7 t Y⌝ ∗ owns (c : Thread nD τ) (ms0_7 t) fullShare Y)
    ∗ (∃ Y, ⌜(rdat m I c).Finds 8 t Y⌝ ∗ owns (c : Thread nD τ) (ms0_8 t) fullShare Y)
    ∗ (∃ Y, ⌜(rdat m I c).Finds 9 t Y⌝ ∗ owns (c : Thread nD τ) (ms0_9 t) fullShare Y)
    ∗ (∃ Y, ⌜(rdat m I c).Finds 10 t Y⌝ ∗ owns (c : Thread nD τ) (ms0_10 t) fullShare Y)
    ∗ (∃ Y, ⌜(rdat m I c).Finds 11 t Y⌝ ∗ owns (c : Thread nD τ) (ms0_11 t) fullShare Y)
    ∗ (∃ Y, ⌜(rdat m I c).Finds 12 t Y⌝ ∗ owns (c : Thread nD τ) (ms0_12 t) fullShare Y)
    ∗ (∃ Y, ⌜(rdat m I c).Finds 13 t Y⌝ ∗ owns (c : Thread nD τ) (ms0_13 t) fullShare Y)
    ∗ (∃ Y, ⌜(rdat m I c).Finds 14 t Y⌝ ∗ owns (c : Thread nD τ) (ms0_14 t) fullShare Y))

def bodyPost (c : Dev nD) (t : Fin cfg0.N) : sProp 𝕄 :=
  iprop((dats m I 0 c).Φ t.succ ∗ (dats m I 0 c).owesAt () t.succ
    ∗ owns (c : Thread nD τ) (ms0_0 t) fullShare ((dats m I 0 c).after 0 t)
    ∗ owns (c : Thread nD τ) (ms0_1 t) fullShare ((dats m I 0 c).after 1 t)
    ∗ owns (c : Thread nD τ) (ms0_2 t) fullShare ((dats m I 0 c).after 2 t)
    ∗ owns (c : Thread nD τ) (ms0_3 t) fullShare ((dats m I 0 c).after 3 t)
    ∗ owns (c : Thread nD τ) (ms0_4 t) fullShare ((dats m I 0 c).after 4 t)
    ∗ owns (c : Thread nD τ) (ms0_5 t) fullShare ((dats m I 0 c).after 5 t)
    ∗ (∃ X, ⌜I.q7 t.val X⌝ ∗ owns (c : Thread nD τ) (ms0_6 t) fullShare X)
    ∗ (∃ X, ⌜I.q8 t.val X⌝ ∗ owns (c : Thread nD τ) (ms0_7 t) fullShare X)
    ∗ (∃ X, ⌜I.q9 t.val X⌝ ∗ owns (c : Thread nD τ) (ms0_8 t) fullShare X)
    ∗ (∃ X, ⌜I.q10 X⌝ ∗ owns (c : Thread nD τ) (ms0_9 t) fullShare X)
    ∗ (∃ X, ⌜I.q11 X⌝ ∗ owns (c : Thread nD τ) (ms0_10 t) fullShare X)
    ∗ (∃ X, ⌜I.q12 t.val X⌝ ∗ owns (c : Thread nD τ) (ms0_11 t) fullShare X)
    ∗ (∃ X, ⌜I.q13 t.val X⌝ ∗ owns (c : Thread nD τ) (ms0_12 t) fullShare X)
    ∗ (∃ X, ⌜I.q14 t.val X⌝ ∗ owns (c : Thread nD τ) (ms0_13 t) fullShare X)
    ∗ (∃ X, ⌜I.q15 t.val X⌝ ∗ owns (c : Thread nD τ) (ms0_14 t) fullShare X))

set_option maxHeartbeats 4000000 in
/-- The body at any point, from the statement before it to the statement after it. -/
theorem sound_body (c : Dev nD) (hI : I.Good m c) (t : Fin cfg0.N) :
    bodyPre m I c t ⊢ wp frame (wpE (defs₀ (F := F)) Variants.none c none) Set.univ (bodyAt0 t) (fun _ => bodyPost m I c t) := by
  unfold bodyPre bodyPost bodyAt0
  simp only [before0_0, before0_1, before0_2, before0_3, before0_4, before0_5, after0_0, after0_1, after0_2, after0_3, after0_4, after0_5]
  rw [show (dats m I 0 c).owesAt () t.succ = (dats m I 0 c).owesAt () t.castSucc from rfl]
  rw [show (dats m I 0 c).Φ t.succ = I.Phi c (t.val + 1) from rfl, show (dats m I 0 c).Φ t.castSucc = I.Phi c t.val from rfl]
  unfold Inv.Phi
  unfold owns
  iintro ⟨⟨⟨%s0, %s1, %s2, %s3, %hP, ⟨%f16, %hf16, H16⟩, ⟨%f17, %hf17, H17⟩, ⟨%f18, %hf18, H18⟩, ⟨%f19, %hf19, H19⟩⟩, ⟨%e4, ⟨%f20, -, H20⟩⟩, ⟨%e5, ⟨%f21, -, H21⟩⟩, ⟨%e6, ⟨%f22, -, H22⟩⟩, Hg⟩, Ho, ⟨%d0, ⟨%f1, %hf1, H1⟩⟩, ⟨%d1, ⟨%f2, %hf2, H2⟩⟩, ⟨%d2, ⟨%f3, %hf3, H3⟩⟩, ⟨%d3, ⟨%f4, %hf4, H4⟩⟩, ⟨%d4, ⟨%f5, %hf5, H5⟩⟩, ⟨%d5, ⟨%f6, %hf6, H6⟩⟩, ⟨%Y6, %hY6, ⟨%f7, %hf7, H7⟩⟩, ⟨%Y7, %hY7, ⟨%f8, %hf8, H8⟩⟩, ⟨%Y8, %hY8, ⟨%f9, %hf9, H9⟩⟩, ⟨%Y9, %hY9, ⟨%f10, %hf10, H10⟩⟩, ⟨%Y10, %hY10, ⟨%f11, %hf11, H11⟩⟩, ⟨%Y11, %hY11, ⟨%f12, %hf12, H12⟩⟩, ⟨%Y12, %hY12, ⟨%f13, %hf13, H13⟩⟩, ⟨%Y13, %hY13, ⟨%f14, %hf14, H14⟩⟩, ⟨%Y14, %hY14, ⟨%f15, %hf15, H15⟩⟩⟩
  subst hf16 hf17 hf18 hf19
  subst hf7 hf8 hf9 hf10 hf11 hf12 hf13 hf14 hf15
  iapply body_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) f1 f2 f3 f4 f5 f6 f7 f8 f9 f10 f11 f12 f13 f14 f15 f16 f17 f18 f19 f20 f21 f22 Set.univ
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro %g7 %g8 %g9 %g10 %g11 %g12 %g13 %g14 %g15 %g16 %g17 %g18 %g19 %g20 %g21 %g22 %hst H1 H2 H3 H4 H5 H6 H7 H8 H9 H10 H11 H12 H13 H14 H15 H16 H17 H18 H19 H20 H21 H22
  obtain ⟨hPn, h7, h8, h9, h10, h11, h12, h13, h14, h15⟩ := hI t f1 f2 f3 f4 f5 f6 f7 f8 f9 f10 f11 f12 f13 f14 f15 f16 f17 f18 f19 f20 f21 f22 g7 g8 g9 g10 g11 g12 g13 g14 g15 g16 g17 g18 g19 g20 g21 g22 hf1 hf2 hf3 hf4 hf5 hf6
    (fun ht => ⟨hP ht, finds_9 m I c t _ hY9 ht, finds_10 m I c t _ hY10 ht⟩) hst
  isplitl [H16 H17 H18 H19 H20 H21 H22 Hg]
  · isplitl [H16 H17 H18 H19]
    · iexists _, _, _, _
      isplitr
      · ipureintro; exact fun _ => hPn
      isplitl [H16]
      · iexists g16; isplitr; · (ipureintro; rfl)
        iexact H16
      isplitl [H17]
      · iexists g17; isplitr; · (ipureintro; rfl)
        iexact H17
      isplitl [H18]
      · iexists g18; isplitr; · (ipureintro; rfl)
        iexact H18
      iexists g19; isplitr; · (ipureintro; rfl)
      iexact H19
    isplitl [H20]
    · iexists _; iexists g20; isplitr; · (ipureintro; rfl)
      iexact H20
    isplitl [H21]
    · iexists _; iexists g21; isplitr; · (ipureintro; rfl)
      iexact H21
    isplitl [H22]
    · iexists _; iexists g22; isplitr; · (ipureintro; rfl)
      iexact H22
    iexact Hg
  isplitl [Ho]; · iexact Ho
  isplitl [H1]
  · iexists f1; isplitr; · (ipureintro; exact hf1)
    iexact H1
  isplitl [H2]
  · iexists f2; isplitr; · (ipureintro; exact hf2)
    iexact H2
  isplitl [H3]
  · iexists f3; isplitr; · (ipureintro; exact hf3)
    iexact H3
  isplitl [H4]
  · iexists f4; isplitr; · (ipureintro; exact hf4)
    iexact H4
  isplitl [H5]
  · iexists f5; isplitr; · (ipureintro; exact hf5)
    iexact H5
  isplitl [H6]
  · iexists f6; isplitr; · (ipureintro; exact hf6)
    iexact H6
  isplitl [H7]
  · iexists _; isplitr; · (ipureintro; exact h7)
    iexists g7; isplitr; · (ipureintro; rfl)
    iexact H7
  isplitl [H8]
  · iexists _; isplitr; · (ipureintro; exact h8)
    iexists g8; isplitr; · (ipureintro; rfl)
    iexact H8
  isplitl [H9]
  · iexists _; isplitr; · (ipureintro; exact h9)
    iexists g9; isplitr; · (ipureintro; rfl)
    iexact H9
  isplitl [H10]
  · iexists _; isplitr; · (ipureintro; exact h10)
    iexists g10; isplitr; · (ipureintro; rfl)
    iexact H10
  isplitl [H11]
  · iexists _; isplitr; · (ipureintro; exact h11)
    iexists g11; isplitr; · (ipureintro; rfl)
    iexact H11
  isplitl [H12]
  · iexists _; isplitr; · (ipureintro; exact h12)
    iexists g12; isplitr; · (ipureintro; rfl)
    iexact H12
  isplitl [H13]
  · iexists _; isplitr; · (ipureintro; exact h13)
    iexists g13; isplitr; · (ipureintro; rfl)
    iexact H13
  isplitl [H14]
  · iexists _; isplitr; · (ipureintro; exact h14)
    iexists g14; isplitr; · (ipureintro; rfl)
    iexact H14
  iexists _; isplitr; · (ipureintro; exact h15)
  iexists g15; isplitr; · (ipureintro; rfl)
  iexact H15

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) (hI : I.Good m c) :
    Pipeline.BodyObligationRel (dats m I 0 c) (defs₀ (F := F)) Variants.none () Set.univ forgets0 I.Rl := fun t => by
  rw [bigSep_W0, bigSep_W0, defs₀_row]
  exact triple_restated (sound_body m I c hI t) rfl .rfl fun _ => .rfl

/-! ## The run -/

set_option backward.isDefEq.respectTransparency.types false in
set_option maxHeartbeats 800000 in
/-- The whole run: every fair execution of @main ends, the inputs' arrays as launched, every output's array written block by block
    with contents `Inv.Rl` allows, and every semaphore at zero. -/
theorem run_rel (hI : ∀ c, I.Good m c) : θ_run defs (onTc (τ := τ) (main (F := F))) (s₀ m ρ)
    (fun r => Pipeline.RDat.FramePost (cfgs 0) (fun c => rdat m I c) (V m) r ∧ r.2.sem = fun _ => 0) :=
  Pipeline.RDat.θ_run_frame_track cfgs (0 : Fin 1) launch0 defs₀ Variants.none (fun c => rdat m I c) m ρ main
    (fun c => (body_obligation m I c (hI c)).toRRel) (fun c w => (dats m I 0 c).share_full (fun _ => rfl) w) (fun _ _ => rfl) (V m)
    (hmain m Variants.none) (A_eq m I) (fun c => I.Phi_in c) (fun c => I.Phi_out c _) _ (fun _ h => h)

/-- From any memory with zero counters every fair execution of @main ends with the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 4 rfl).trans (V_main_arg2 m c),
      (h.1.arr_in c 1 rfl).trans (V_main_arg3 m c),
      ((h.1 c).2 main_arg4 (Pipeline.mem_restRefs_of main_arg4 (by decide) (by decide))).trans (V_main_arg4 m c),
      (h.1.arr_in c 0 rfl).trans (V_main_arg5 m c)⟩, h.2⟩)
    (run_rel m ρ Inv.silent fun c => Inv.silent_good m c)

end Cert.Kernel.Gen

end
-- ==== Proof.Val.Scalar.lean ====
module

public import proofs.«01_k».proof.Proof.Gen.ReferenceIdeal
public import Idealize.ShloMosaic.PureOps.Ideal.Laws
public import Idealize.ShloMosaic.Lib.Pipeline.Value
public import Mathlib.Analysis.SpecialFunctions.Log.Basic
public import Mathlib.Tactic.IntervalCases
public import Mathlib.Tactic.Linarith
public import Mathlib.Tactic.Ring
public import Mathlib.Tactic.NormNum

@[expose] public section

noncomputable section

namespace Cert.Val

open Idealize.ShloMosaic Idealize.SL.Sem

/-! ## The kernel's power of two, as the kernel computes it: a binary search for the exponent field -/

section Ops
variable {F : FTy → Type} [FloatOps F]

/-- The float whose bits are the word `n` shifted left by 23. -/
def fl (n : BitVec 32) : F .f32 := FloatOps.ofBits .f32 (IntOp.shli .vector n 23#32)

/-- One step of the search: add `b` to the field unless the float it then denotes exceeds `x`. -/
def step (x : F .f32) (b f : BitVec 32) : BitVec 32 :=
  if FloatOps.cmpf (F := F) .olt x (fl (F := F) (IntOp.addi f b)) = 1#1 then f else IntOp.addi f b

/-- The exponent field of `x`, by the search. -/
def field (x : F .f32) : BitVec 32 :=
  step x 1#32 (step x 2#32 (step x 4#32 (step x 8#32 (step x 16#32 (step x 32#32 (step x 64#32 (step x 128#32 0#32)))))))

/-- The exponent of the scale. -/
def expo (x : F .f32) : BitVec 32 :=
  if IntOp.ori (FloatOps.cmpf (F := F) .oeq x (FloatOps.ofBits .f32 0x00000000#32)) (IntOp.cmpi .eq (field x) 255#32) = 1#1 then 0#32
  else IntOp.subi (field x) 126#32

/-- The scale, and its inverse. -/
def scale (x : F .f32) : F .f32 := fl (IntOp.addi 127#32 (expo x))
def inv (x : F .f32) : F .f32 := fl (IntOp.subi 127#32 (expo x))

/-- The scale's exponent as the reference writes it, from the greatest magnitude `a` and the constant `c`. -/
def rexp (c : BitVec 32) (a : F .f32) : F .f32 :=
  if FloatOps.cmpf (F := F) .oeq a (FloatOps.ofBits .f32 0x00000000#32) = 1#1 then FloatOps.ofBits .f32 0x00000000#32
  else FloatOps.maximumf (FloatOps.addf (FloatOps.floor (FloatOps.divf (FloatOps.log (FloatOps.mulf a (FloatOps.ofBits .f32 c)))
    (FloatOps.log (FloatOps.ofBits .f32 0x40000000#32)))) (FloatOps.ofBits .f32 0x3F800000#32)) (FloatOps.ofBits .f32 0xC2FC0000#32)

/-- The reference's scale and its inverse. -/
def rscale (c : BitVec 32) (a : F .f32) : F .f32 := FloatOps.exp2 (rexp c a)
def rinv (c : BitVec 32) (a : F .f32) : F .f32 := FloatOps.exp2 (FloatOps.subf (FloatOps.ofBits .f32 0x00000000#32) (rexp c a))
end Ops

/-! ## What it computes, over the extended reals -/

theorem ieee_normal (n : ℕ) (h1 : 1 ≤ n) (h2 : n ≤ 254) :
    Ideal.ieee 8 23 (BitVec.ofNat 32 n <<< 23) = (((2 : ℝ) ^ ((n : ℤ) - 127) : ℝ) : EReal) := by
  have e0 : ((BitVec.ofNat 32 n <<< 23).extractLsb' (8 + 23) 1 == 1#1) = false := by interval_cases n <;> decide
  have e1 : ((BitVec.ofNat 32 n <<< 23).extractLsb' 23 8).toNat = n := by interval_cases n <;> decide
  have e2 : ((BitVec.ofNat 32 n <<< 23).extractLsb' 0 23).toNat = 0 := by interval_cases n <;> decide
  unfold Ideal.ieee
  simp only [e0, e1, e2]
  rw [if_neg (by omega), if_neg (by omega)]
  refine congrArg (fun r : ℝ => (r : EReal)) ?_
  have h23 : ((2 : ℝ) ^ (23 : ℕ)) = (2 : ℝ) ^ (23 : ℤ) := by norm_num
  rw [if_neg (by decide), one_mul, Nat.add_zero, Nat.cast_pow, Nat.cast_ofNat, h23, ← zpow_add₀ (by norm_num)]
  refine congrArg (fun k : ℤ => (2 : ℝ) ^ k) ?_
  push_cast
  omega

theorem fl_normal (n : ℕ) (h1 : 1 ≤ n) (h2 : n ≤ 254) :
    fl (F := Ideal) (BitVec.ofNat 32 n) = (((2 : ℝ) ^ ((n : ℤ) - 127) : ℝ) : EReal) := by
  rw [← ieee_normal n h1 h2]; rfl

theorem fl_top : fl (F := Ideal) 255#32 = (⊤ : EReal) := by
  show Ideal.ieee 8 23 (255#32 <<< 23) = ⊤
  unfold Ideal.ieee
  simp

/-- The invariant of the search: the field `n` is within `w` of the place. -/
structure Near (x : EReal) (n w : ℕ) : Prop where
  lo : n = 0 ∨ fl (F := Ideal) (BitVec.ofNat 32 n) ≤ x
  le : n + w ≤ 256
  hi : n + w = 256 ∨ x < fl (F := Ideal) (BitVec.ofNat 32 (n + w))

theorem Near.step {x : EReal} {n w : ℕ} (h : Near x n (w + w)) (hw : 0 < w) :
    ∃ n', Val.step (F := Ideal) x (BitVec.ofNat 32 w) (BitVec.ofNat 32 n) = BitVec.ofNat 32 n' ∧ Near x n' w := by
  have ha : IntOp.addi (BitVec.ofNat 32 n) (BitVec.ofNat 32 w) = BitVec.ofNat 32 (n + w) := by
    show BitVec.ofNat 32 n + BitVec.ofNat 32 w = _
    rw [BitVec.ofNat_add]
  unfold Val.step
  rw [ha]
  have hle := h.le
  by_cases hx : x < fl (F := Ideal) (BitVec.ofNat 32 (n + w))
  · refine ⟨n, ?_, h.lo, by omega, Or.inr hx⟩
    rw [if_pos]
    show BitVec.ofBool (decide (x < fl (F := Ideal) (BitVec.ofNat 32 (n + w)))) = 1#1
    rw [decide_eq_true hx]; rfl
  · refine ⟨n + w, ?_, Or.inr (not_lt.mp hx), by omega, ?_⟩
    · rw [if_neg]
      show ¬ BitVec.ofBool (decide (x < fl (F := Ideal) (BitVec.ofNat 32 (n + w)))) = 1#1
      rw [decide_eq_false hx]; decide
    · rw [Nat.add_assoc]; exact h.hi

theorem field_near (x : EReal) : ∃ n, field (F := Ideal) x = BitVec.ofNat 32 n ∧ Near x n 1 := by
  have h0 : Near x 0 (128 + 128) := ⟨Or.inl rfl, le_rfl, Or.inl rfl⟩
  obtain ⟨n1, e1, h1⟩ := h0.step (by norm_num)
  obtain ⟨n2, e2, h2⟩ := Near.step (w := 64) h1 (by norm_num)
  obtain ⟨n3, e3, h3⟩ := Near.step (w := 32) h2 (by norm_num)
  obtain ⟨n4, e4, h4⟩ := Near.step (w := 16) h3 (by norm_num)
  obtain ⟨n5, e5, h5⟩ := Near.step (w := 8) h4 (by norm_num)
  obtain ⟨n6, e6, h6⟩ := Near.step (w := 4) h5 (by norm_num)
  obtain ⟨n7, e7, h7⟩ := Near.step (w := 2) h6 (by norm_num)
  obtain ⟨n8, e8, h8⟩ := Near.step (w := 1) h7 (by norm_num)
  refine ⟨n8, ?_, h8⟩
  rw [← e8, ← e7, ← e6, ← e5, ← e4, ← e3, ← e2, ← e1]
  rfl

theorem ofBits_two : Ideal.ofBits .f32 0x40000000#32 = ((2 : ℝ) : EReal) := by
  have := ieee_normal 128 (by norm_num) (by norm_num)
  rw [show (2 : ℝ) = 2 ^ (((128 : ℕ) : ℤ) - 127) by norm_num]
  exact this

theorem ofBits_one : Ideal.ofBits .f32 0x3F800000#32 = ((1 : ℝ) : EReal) := by
  have := ieee_normal 127 (by norm_num) (by norm_num)
  rw [show (1 : ℝ) = 2 ^ (((127 : ℕ) : ℤ) - 127) by norm_num]
  exact this

theorem ofBits_low : Ideal.ofBits .f32 0xC2FC0000#32 = ((-126 : ℝ) : EReal) := by
  show Ideal.ieee 8 23 0xC2FC0000#32 = _
  unfold Ideal.ieee
  simp
  rw [← EReal.coe_mul]
  norm_num

theorem exp2_int (k : ℤ) : Ideal.exp2 (((k : ℝ) : ℝ) : EReal) = (((2 : ℝ) ^ k : ℝ) : EReal) := by
  rw [Ideal.exp2_coe]; congr 1; exact Real.rpow_intCast 2 k

/-- The logarithm to the base two. -/
def lg (x : ℝ) : ℝ := Real.log x * (Real.log 2)⁻¹

theorem lg_lt (x : ℝ) (hx : 0 < x) (m : ℤ) : lg x < m ↔ x < 2 ^ m := by
  have hl : 0 < Real.log 2 := Real.log_pos (by norm_num)
  unfold lg
  rw [← div_eq_mul_inv, div_lt_iff₀ hl, ← Real.log_zpow, Real.log_lt_log_iff hx (by positivity)]

/-- The reference's exponent where the magnitude is not zero. -/
theorem floor_log (x : ℝ) (hx : 0 < x) :
    Ideal.liftRound Int.floor (Ideal.div (Ideal.log (x : EReal)) (Ideal.log ((2 : ℝ) : EReal))) = ((⌊lg x⌋ : ℝ) : EReal) := by
  have h2 : Ideal.log ((2 : ℝ) : EReal) = ((Real.log 2 : ℝ) : EReal) := by
    rw [Ideal.log_coe, if_neg (by norm_num)]
  have hx' : Ideal.log (x : EReal) = ((Real.log x : ℝ) : EReal) := by
    rw [Ideal.log_coe, if_neg (not_le.mpr hx)]
  have hl : Real.log 2 ≠ 0 := (Real.log_pos (by norm_num)).ne'
  rw [h2, hx']
  unfold Ideal.div
  rw [if_neg (by exact_mod_cast hl), ← EReal.coe_inv, ← EReal.coe_mul]
  show ((⌊Real.log x * (Real.log 2)⁻¹⌋ : ℝ) : EReal) = _
  rfl

/-- The kernel's scale and its inverse are the powers of two the reference takes, of any magnitude whose product with the
    constant is below `2 ^ 126`. -/
theorem scale_eq (c : BitVec 32) (a : EReal) (ha : 0 ≤ a) (c' : ℝ) (hc : Ideal.ofBits .f32 c = (c' : EReal)) (hc' : 0 < c')
    (hlt : a * (c' : EReal) < (((2 : ℝ) ^ (126 : ℤ) : ℝ) : EReal)) :
    scale (F := Ideal) (a * (c' : EReal) : EReal) = rscale (F := Ideal) c a ∧
      inv (F := Ideal) (a * (c' : EReal) : EReal) = rinv (F := Ideal) c a := by
  suffices H : ∃ k : ℤ, scale (F := Ideal) (a * (c' : EReal) : EReal) = (((2 : ℝ) ^ k : ℝ) : EReal) ∧
      inv (F := Ideal) (a * (c' : EReal) : EReal) = (((2 : ℝ) ^ (-k) : ℝ) : EReal) ∧ rexp (F := Ideal) c a = ((k : ℝ) : EReal) by
    obtain ⟨k, h1, h2, h3⟩ := H
    unfold rscale rinv
    rw [h1, h2, h3]
    refine ⟨(exp2_int k).symm, ?_⟩
    show _ = Ideal.exp2 (Ideal.ofBits .f32 0x00000000#32 - ((k : ℝ) : EReal))
    rw [Ideal.ofBits_zero_f32, zero_sub, ← EReal.coe_neg, ← Int.cast_neg, exp2_int]
  have hone : ∀ n : ℕ, n ≤ 252 → IntOp.addi 127#32 (IntOp.subi (BitVec.ofNat 32 n) 126#32) = BitVec.ofNat 32 (n + 1) := by
    intro n hn; interval_cases n <;> rfl
  have htwo : ∀ n : ℕ, n ≤ 252 → IntOp.subi 127#32 (IntOp.subi (BitVec.ofNat 32 n) 126#32) = BitVec.ofNat 32 (253 - n) := by
    intro n hn; interval_cases n <;> rfl
  by_cases h0 : a = 0
  · subst h0
    have hz : expo (F := Ideal) ((0 : EReal) * (c' : EReal) : EReal) = 0#32 := by
      unfold expo
      rw [if_pos]
      rw [show FloatOps.cmpf (F := Ideal) .oeq ((0 : EReal) * (c' : EReal) : EReal) (FloatOps.ofBits (F := Ideal) .f32 0x00000000#32) = 1#1 by
        show BitVec.ofBool (decide ((0 : EReal) * (c' : EReal) = Ideal.ofBits .f32 0x00000000#32)) = 1#1
        rw [Ideal.ofBits_zero_f32, zero_mul]; simp]
      generalize IntOp.cmpi .eq (field (F := Ideal) ((0 : EReal) * (c' : EReal) : EReal)) 255#32 = b
      revert b; decide
    refine ⟨0, ?_, ?_, ?_⟩
    · unfold scale; rw [hz]
      have := fl_normal 127 (by norm_num) (by norm_num)
      rw [show (2 : ℝ) ^ (0 : ℤ) = 2 ^ (((127 : ℕ) : ℤ) - 127) by norm_num]
      exact this
    · unfold inv; rw [hz]
      have := fl_normal 127 (by norm_num) (by norm_num)
      rw [show (2 : ℝ) ^ (-(0 : ℤ)) = 2 ^ (((127 : ℕ) : ℤ) - 127) by norm_num]
      exact this
    · unfold rexp
      rw [if_pos (by
        show BitVec.ofBool (decide ((0 : EReal) = Ideal.ofBits .f32 0x00000000#32)) = 1#1
        rw [Ideal.ofBits_zero_f32]; simp)]
      show Ideal.ofBits .f32 0x00000000#32 = _
      rw [Ideal.ofBits_zero_f32]; simp
  have hapos : 0 < a := lt_of_le_of_ne ha (Ne.symm h0)
  have hatop : a ≠ ⊤ := by
    rintro rfl
    rw [EReal.top_mul_coe_of_pos hc'] at hlt
    exact absurd hlt (not_lt.mpr le_top)
  obtain ⟨r, rfl⟩ : ∃ r : ℝ, a = (r : EReal) := ⟨a.toReal, (EReal.coe_toReal hatop (ne_bot_of_gt hapos)).symm⟩
  have hr : 0 < r := by exact_mod_cast hapos
  rw [← EReal.coe_mul] at hlt ⊢
  have hx : 0 < r * c' := mul_pos hr hc'
  have hlt' : r * c' < 2 ^ (126 : ℤ) := by exact_mod_cast hlt
  obtain ⟨n, hn, near⟩ := field_near (((r * c' : ℝ)) : EReal)
  have hn252 : n ≤ 252 := by
    by_contra hgt
    have hle := near.le
    rcases near.lo with h | h
    · omega
    · by_cases h255 : n = 255
      · subst h255; rw [fl_top] at h; exact absurd h (not_le.mpr (EReal.coe_lt_top _))
      · rw [fl_normal n (by omega) (by omega)] at h
        have h' : (2 : ℝ) ^ ((n : ℤ) - 127) ≤ r * c' := by exact_mod_cast h
        have : (2 : ℝ) ^ (126 : ℤ) ≤ 2 ^ ((n : ℤ) - 127) := zpow_le_zpow_right₀ (by norm_num) (by omega)
        linarith
  have hhi : r * c' < 2 ^ ((n : ℤ) - 126) := by
    rcases near.hi with h | h
    · omega
    · rw [fl_normal (n + 1) (by omega) (by omega)] at h
      have h' : r * c' < (2 : ℝ) ^ (((n + 1 : ℕ) : ℤ) - 127) := by exact_mod_cast h
      rwa [show (((n + 1 : ℕ) : ℤ) - 127) = (n : ℤ) - 126 by push_cast; ring] at h'
  have hexpo : expo (F := Ideal) ((r * c' : ℝ) : EReal) = IntOp.subi (BitVec.ofNat 32 n) 126#32 := by
    unfold expo
    rw [if_neg, hn]
    rw [hn, show FloatOps.cmpf (F := Ideal) .oeq ((r * c' : ℝ) : EReal) (FloatOps.ofBits (F := Ideal) .f32 0x00000000#32) = 0#1 by
        show BitVec.ofBool (decide (((r * c' : ℝ) : EReal) = Ideal.ofBits .f32 0x00000000#32)) = 0#1
        rw [Ideal.ofBits_zero_f32, decide_eq_false (by exact_mod_cast hx.ne')]; rfl]
    clear hn near hhi
    interval_cases n <;> decide
  have hrexp : rexp (F := Ideal) c ((r : ℝ) : EReal) = max (((⌊lg (r * c')⌋ : ℝ) : EReal) + ((1 : ℝ) : EReal)) ((-126 : ℝ) : EReal) := by
    unfold rexp
    rw [if_neg (by
      show ¬ BitVec.ofBool (decide (((r : ℝ) : EReal) = Ideal.ofBits .f32 0x00000000#32)) = 1#1
      rw [Ideal.ofBits_zero_f32, decide_eq_false (by exact_mod_cast hr.ne')]; decide)]
    show max (Ideal.liftRound Int.floor (Ideal.div (Ideal.log (((r : ℝ) : EReal) * Ideal.ofBits .f32 c)) (Ideal.log (Ideal.ofBits .f32 0x40000000#32)))
      + Ideal.ofBits .f32 0x3F800000#32) (Ideal.ofBits .f32 0xC2FC0000#32) = _
    rw [hc, ofBits_two, ofBits_one, ofBits_low, ← EReal.coe_mul, floor_log _ hx]
  refine ⟨(n : ℤ) - 126, ?_, ?_, ?_⟩
  · unfold scale
    rw [hexpo, hone n hn252, fl_normal (n + 1) (by omega) (by omega)]
    congr 2; push_cast; ring
  · unfold inv
    rw [hexpo, htwo n hn252, fl_normal (253 - n) (by omega) (by omega)]
    congr 2
    rw [Nat.cast_sub (by omega)]; push_cast; ring
  · rw [hrexp, ← EReal.coe_add]
    have hfl : ∀ m : ℤ, lg (r * c') < m ↔ r * c' < 2 ^ m := by
      exact lg_lt _ hx
    have hlt2 : ⌊lg (r * c')⌋ < (n : ℤ) - 126 := by
      rw [Int.floor_lt]; exact_mod_cast (hfl _).mpr hhi
    rw [← EReal.coe_strictMono.monotone.map_max]
    congr 1
    rcases near.lo with h | h
    · subst h
      rw [max_eq_right]
      · norm_num
      · have : ⌊lg (r * c')⌋ + 1 ≤ (-126 : ℤ) := by push_cast at hlt2; omega
        exact_mod_cast this
    · by_cases hz : n = 0
      · subst hz
        rw [max_eq_right]
        · norm_num
        · have : ⌊lg (r * c')⌋ + 1 ≤ (-126 : ℤ) := by push_cast at hlt2; omega
          exact_mod_cast this
      · rw [fl_normal n (by omega) (by omega)] at h
        have h' : (2 : ℝ) ^ ((n : ℤ) - 127) ≤ r * c' := by exact_mod_cast h
        have hge : (n : ℤ) - 127 ≤ ⌊lg (r * c')⌋ := by
          rw [Int.le_floor]
          by_contra hcon
          exact absurd h' (not_le.mpr ((hfl _).mp (not_le.mp hcon)))
        have heq : ⌊lg (r * c')⌋ + 1 = (n : ℤ) - 126 := by omega
        rw [max_eq_left]
        · exact_mod_cast heq
        · have : (-126 : ℤ) ≤ ⌊lg (r * c')⌋ + 1 := by omega
          exact_mod_cast this

end Cert.Val

end
-- ==== Proof.Val.Spec.lean ====
module

public import proofs.«01_k».proof.Proof.Val.Scalar

@[expose] public section

noncomputable section

namespace Cert.Val

open Idealize.ShloMosaic Idealize.SL.Sem

/-! ## The mathematics of the problem, over the extended reals -/

/-- The inputs, by number: lengths, activations, gain, weight codes, weight scales, gradient. -/
structure In where
  S : ℕ → BitVec 32
  X : ℕ → ℕ → EReal
  G : ℕ → EReal
  W : ℕ → ℕ → EReal
  WS : ℕ → ℕ → EReal
  D : ℕ → ℕ → EReal

/-- The greatest magnitude of 128 values. -/
def top (f : Fin 128 → EReal) : EReal :=
  (Finset.univ : Finset (Fin 128)).fold max (Ideal.ofBits .f32 0xFF800000#32) (fun k => max (f k) (-(f k)))

/-- A value scaled and clipped. -/
def code (lo hi : BitVec 32) (v i : EReal) : EReal := min (Ideal.ofBits .f32 hi) (max (Ideal.ofBits .f32 lo) (v * i))

abbrev rsc (c : BitVec 32) (a : EReal) : EReal := rscale (F := Ideal) c a
abbrev rin (c : BitVec 32) (a : EReal) : EReal := rinv (F := Ideal) c a

/-- The value, or zero past the sequence's end. -/
def sel (c : BitVec 1) (v : EReal) : EReal := Scalar.select c v (Ideal.ofBits .f32 0x00000000#32)

namespace In
variable (a : In)

/-- Whether token `t` lies within its sequence. -/
def ok (t : ℕ) : BitVec 1 := IntOp.cmpi .slt (BitVec.ofNat 32 (t % 128)) (a.S (t / 128))
/-- The reciprocal root mean square of row `t`. -/
def rr (t : ℕ) : EReal :=
  Ideal.rsqrt ((∑ i : Fin 7168, a.X t i * a.X t i) * Ideal.ofBits .f32 0x39124925#32 + Ideal.ofBits .f32 0x358637BD#32)
def xh (t i : ℕ) : EReal := a.X t i * a.rr t
def xn (t i : ℕ) : EReal := sel (a.ok t) (a.xh t i * a.G i)
def dy (t o : ℕ) : EReal := sel (a.ok t) (a.D t o)

/-- The normalised activations: column scales, codes, and codes times scales. -/
def xA (b i : ℕ) : EReal := top fun s => a.xn (128 * b + s) i
def xS (b i : ℕ) : EReal := rsc 0x3B124925#32 (a.xA b i)
def xC (t i : ℕ) : EReal := code 0xC3E00000#32 0x43E00000#32 (a.xn t i) (rin 0x3B124925#32 (a.xA (t / 128) i))
def xQ (t i : ℕ) : EReal := a.xC t i * a.xS (t / 128) i

/-- The gradient scaled along rows. -/
def rA (t j : ℕ) : EReal := top fun l => a.dy t (128 * j + l)
def rS (t j : ℕ) : EReal := rsc 0x37924925#32 (a.rA t j)
def rC (t o : ℕ) : EReal := code 0xC7600000#32 0x47600000#32 (a.dy t o) (rin 0x37924925#32 (a.rA t (o / 128)))
def rQ (t o : ℕ) : EReal := a.rC t o * a.rS t (o / 128)

/-- The gradient scaled along columns. -/
def cA (b o : ℕ) : EReal := top fun s => a.dy (128 * b + s) o
def cS (b o : ℕ) : EReal := rsc 0x37924925#32 (a.cA b o)
def cC (t o : ℕ) : EReal := code 0xC7600000#32 0x47600000#32 (a.dy t o) (rin 0x37924925#32 (a.cA (t / 128) o))
def cQ (t o : ℕ) : EReal := a.cC t o * a.cS (t / 128) o

def wQ (i o : ℕ) : EReal := a.W i o * a.WS (i / 128) (o / 128)

/-- The weight's gradient. -/
def dw (i o : ℕ) : EReal := ∑ t : Fin 256, a.xQ t i * a.cQ t o
/-- The gradient of the normalised activations, over the first `n` columns, and over all. -/
def acc (n i t : ℕ) : EReal := ∑ o ∈ Finset.range n, a.wQ i o * a.rQ t o
def dxn (t i : ℕ) : EReal := a.acc 18432 i t
/-- The gain's gradient and the activations' gradient. -/
def dgamma (i : ℕ) : EReal := ∑ t : Fin 256, a.dxn t i * a.xh t i
def g (t i : ℕ) : EReal := a.dxn t i * a.G i
def cc (t : ℕ) : EReal := (∑ i : Fin 7168, a.g t i * a.xh t i) * Ideal.ofBits .f32 0x39124925#32
def dx (t i : ℕ) : EReal := a.rr t * (a.g t i - a.xh t i * a.cc t)

/-- What is asked of the inputs: the gain and the gradient are finite. -/
structure Fin' : Prop where
  G : ∀ i, max (a.G i) (-(a.G i)) ≤ (((2 : ℝ) ^ (128 : ℤ) : ℝ) : EReal)
  D : ∀ t o, max (a.D t o) (-(a.D t o)) ≤ (((2 : ℝ) ^ (128 : ℤ) : ℝ) : EReal)

end In

/-! ## Bounds -/

theorem top_nonneg (f : Fin 128 → EReal) : 0 ≤ top f := by
  unfold top
  rw [Finset.le_fold_max]
  refine Or.inr ⟨0, Finset.mem_univ _, ?_⟩
  rcases le_total 0 (f 0) with h | h
  · exact le_max_of_le_left h
  · exact le_max_of_le_right (by simpa using EReal.neg_le_neg_iff.mpr h)

theorem top_le (f : Fin 128 → EReal) (B : EReal) (h : ∀ k, max (f k) (-(f k)) ≤ B) : top f ≤ B := by
  unfold top
  rw [Finset.fold_max_le]
  refine ⟨?_, fun k _ => h k⟩
  have : Ideal.ofBits .f32 0xFF800000#32 = (⊥ : EReal) := by
    show Ideal.ieee 8 23 0xFF800000#32 = ⊥
    unfold Ideal.ieee
    simp
  rw [this]; exact bot_le

end Cert.Val

end
-- ==== Proof.Val.Bounds.lean ====
module

public import proofs.«01_k».proof.Proof.Val.Spec

@[expose] public section

noncomputable section

namespace Cert.Val

open Idealize.ShloMosaic Idealize.SL.Sem

/-! ## The constants -/

theorem c_57344 : Ideal.ofBits .f32 0x37924925#32 = ((9586981 * (2 : ℝ) ^ (-39 : ℤ) : ℝ) : EReal) := by
  show Ideal.ieee 8 23 0x37924925#32 = _
  unfold Ideal.ieee
  simp
theorem c_448 : Ideal.ofBits .f32 0x3B124925#32 = ((9586981 * (2 : ℝ) ^ (-32 : ℤ) : ℝ) : EReal) := by
  show Ideal.ieee 8 23 0x3B124925#32 = _
  unfold Ideal.ieee
  simp
theorem c_7168 : Ideal.ofBits .f32 0x39124925#32 = ((9586981 * (2 : ℝ) ^ (-36 : ℤ) : ℝ) : EReal) := by
  show Ideal.ieee 8 23 0x39124925#32 = _
  unfold Ideal.ieee
  simp
theorem c_eps : Ideal.ofBits .f32 0x358637BD#32 = ((8796093 * (2 : ℝ) ^ (-43 : ℤ) : ℝ) : EReal) := by
  show Ideal.ieee 8 23 0x358637BD#32 = _
  unfold Ideal.ieee
  simp
theorem c_zero : Ideal.ofBits .f32 0x00000000#32 = 0 := by
  show Ideal.ieee 8 23 0x00000000#32 = _
  unfold Ideal.ieee
  simp

/-- A value whose magnitude is bounded by a real is a real of that magnitude. -/
theorem real_of_le (x : EReal) (B : ℝ) (h : max x (-x) ≤ (B : EReal)) : ∃ r : ℝ, x = (r : EReal) ∧ |r| ≤ B := by
  obtain ⟨h1, h2⟩ := max_le_iff.mp h
  induction x using EReal.rec with
  | bot => simp at h2
  | top => simp at h1
  | coe r => exact ⟨r, rfl, abs_le'.mpr ⟨by exact_mod_cast h1, by rw [← EReal.coe_neg] at h2; exact_mod_cast h2⟩⟩

theorem mag_coe (r B : ℝ) (h : |r| ≤ B) : max (r : EReal) (-(r : EReal)) ≤ (B : EReal) := by
  obtain ⟨h1, h2⟩ := abs_le'.mp h
  rw [← EReal.coe_neg]
  exact max_le (by exact_mod_cast h1) (by exact_mod_cast h2)

theorem sq_nonneg' (x : EReal) : 0 ≤ x * x := by
  induction x using EReal.rec with
  | bot => simp
  | top => simp
  | coe r => rw [← EReal.coe_mul]; exact_mod_cast mul_self_nonneg r

namespace In
variable (a : In)

theorem xh_real (t i : ℕ) (hi : i < 7168) : ∃ z : ℝ, a.xh t i = (z : EReal) ∧ |z| ≤ 100 := by
  have hle : a.X t i * a.X t i ≤ ∑ i : Fin 7168, a.X t i * a.X t i :=
    Finset.single_le_sum (f := fun i : Fin 7168 => a.X t i * a.X t i) (fun k _ => sq_nonneg' _) (Finset.mem_univ (⟨i, hi⟩ : Fin 7168))
  unfold xh rr
  rw [c_7168, c_eps]
  generalize (∑ i : Fin 7168, a.X t i * a.X t i) = q at hle ⊢
  have hq : 0 ≤ q := le_trans (sq_nonneg' _) hle
  induction q using EReal.rec with
  | bot => simp at hq
  | top =>
    rw [EReal.top_mul_coe_of_pos (by positivity), EReal.top_add_coe, Ideal.rsqrt_top, mul_zero]
    exact ⟨0, by simp, by simp⟩
  | coe q =>
    have hq' : 0 ≤ q := by exact_mod_cast hq
    generalize a.X t i = x at hle ⊢
    induction x using EReal.rec with
    | bot => simp at hle
    | top => simp at hle
    | coe x =>
      rw [← EReal.coe_mul] at hle
      have hx : x * x ≤ q := by exact_mod_cast hle
      rw [← EReal.coe_mul, ← EReal.coe_add, Ideal.rsqrt_coe]
      have e1 : (2 : ℝ) ^ (-36 : ℤ) = 1 / 68719476736 := by norm_num
      have e2 : (2 : ℝ) ^ (-43 : ℤ) = 1 / 8796093022208 := by norm_num
      have hm : 0 < q * (9586981 * (2 : ℝ) ^ (-36 : ℤ)) + 8796093 * (2 : ℝ) ^ (-43 : ℤ) := by positivity
      rw [if_neg (not_lt.mpr hm.le), if_neg hm.ne', ← EReal.coe_mul]
      refine ⟨_, rfl, ?_⟩
      have hge : q / 10000 ≤ q * (9586981 * (2 : ℝ) ^ (-36 : ℤ)) + 8796093 * (2 : ℝ) ^ (-43 : ℤ) := by
        rw [e1, e2]; linarith
      generalize q * (9586981 * (2 : ℝ) ^ (-36 : ℤ)) + 8796093 * (2 : ℝ) ^ (-43 : ℤ) = m at hm hge ⊢
      have hs : 0 < Real.sqrt m := Real.sqrt_pos.mpr hm
      rw [abs_mul, abs_of_pos (inv_pos.mpr hs), ← div_eq_mul_inv, div_le_iff₀ hs]
      refine abs_le_of_sq_le_sq ?_ (by positivity)
      rw [mul_pow, Real.sq_sqrt hm.le]
      nlinarith

theorem sel_real (c : BitVec 1) (v : EReal) (B : ℝ) (hB : 0 ≤ B) (h : max v (-v) ≤ (B : EReal)) : max (sel c v) (-(sel c v)) ≤ (B : EReal) := by
  unfold sel Scalar.select
  split
  · exact h
  · rw [c_zero]; simpa using hB

/-- The normalised activations are small enough. -/
theorem xn_le (h : a.Fin') (t i : ℕ) (hi : i < 7168) : max (a.xn t i) (-(a.xn t i)) ≤ ((100 * (2 : ℝ) ^ (128 : ℤ) : ℝ) : EReal) := by
  refine sel_real _ _ _ (by positivity) ?_
  obtain ⟨z, hz, hz'⟩ := a.xh_real t i hi
  obtain ⟨g, hg, hg'⟩ := real_of_le _ _ (h.G i)
  rw [hz, hg, ← EReal.coe_mul]
  refine mag_coe _ _ ?_
  rw [abs_mul]
  exact mul_le_mul hz' hg' (abs_nonneg _) (by norm_num)

theorem dy_le (h : a.Fin') (t o : ℕ) : max (a.dy t o) (-(a.dy t o)) ≤ (((2 : ℝ) ^ (128 : ℤ) : ℝ) : EReal) :=
  sel_real _ _ _ (by positivity) (h.D t o)

end In

/-- Where the search for the exponent gives the scale. -/
theorem scale_row (f : Fin 128 → EReal) (h : ∀ k, max (f k) (-(f k)) ≤ (((2 : ℝ) ^ (128 : ℤ) : ℝ) : EReal)) :
    scale (F := Ideal) (top f * Ideal.ofBits .f32 0x37924925#32 : EReal) = rsc 0x37924925#32 (top f)
    ∧ inv (F := Ideal) (top f * Ideal.ofBits .f32 0x37924925#32 : EReal) = rin 0x37924925#32 (top f) := by
  have h0 := top_nonneg f
  have h1 := top_le f _ h
  rw [c_57344]
  refine scale_eq _ _ h0 _ c_57344 (by positivity) ?_
  refine lt_of_le_of_lt (mul_le_mul_of_nonneg_right h1 (by exact_mod_cast (by positivity : (0:ℝ) ≤ 9586981 * (2 : ℝ) ^ (-39 : ℤ)))) ?_
  rw [← EReal.coe_mul]
  exact_mod_cast (by norm_num : (2 : ℝ) ^ (128 : ℤ) * (9586981 * (2 : ℝ) ^ (-39 : ℤ)) < (2 : ℝ) ^ (126 : ℤ))

theorem scale_x (f : Fin 128 → EReal) (h : ∀ k, max (f k) (-(f k)) ≤ ((100 * (2 : ℝ) ^ (128 : ℤ) : ℝ) : EReal)) :
    scale (F := Ideal) (top f * Ideal.ofBits .f32 0x3B124925#32 : EReal) = rsc 0x3B124925#32 (top f)
    ∧ inv (F := Ideal) (top f * Ideal.ofBits .f32 0x3B124925#32 : EReal) = rin 0x3B124925#32 (top f) := by
  have h0 := top_nonneg f
  have h1 := top_le f _ h
  rw [c_448]
  refine scale_eq _ _ h0 _ c_448 (by positivity) ?_
  refine lt_of_le_of_lt (mul_le_mul_of_nonneg_right h1 (by exact_mod_cast (by positivity : (0:ℝ) ≤ 9586981 * (2 : ℝ) ^ (-32 : ℤ)))) ?_
  rw [← EReal.coe_mul]
  exact_mod_cast (by norm_num : (100 * (2 : ℝ) ^ (128 : ℤ)) * (9586981 * (2 : ℝ) ^ (-32 : ℤ)) < (2 : ℝ) ^ (126 : ℤ))

end Cert.Val

end
-- ==== Proof.Val.Block.lean ====
module

public import proofs.«01_k».proof.Proof.Val.Scalar
public import proofs.«01_k».proof.Proof.Gen.KernelIdeal.Skeleton

@[expose] public section

noncomputable section

namespace Cert.Val

open Idealize.ShloMosaic Idealize.SL.Sem
open Cert.KernelIdeal Cert.KernelIdeal.Gen

variable {F : FTy → Type} [FloatOps F]

/-! ## The kernel's quantiser on whole vectors -/

section Generic
variable {T : Shape}

/-- One step of the search for the exponent field, at every element. -/
def vstep (x : FVec F T .f32) (b : BitVec 32) (f : IVec T 32) : IVec T 32 :=
  select (cmpf .olt x (bitcastToFloat .f32 (shli (addi f (broadcast T b)) (broadcast T 23#32)))) f (addi f (broadcast T b))

/-- The exponent field of every element. -/
def vfield (x : FVec F T .f32) : IVec T 32 :=
  vstep x 1#32 (vstep x 2#32 (vstep x 4#32 (vstep x 8#32 (vstep x 16#32 (vstep x 32#32 (vstep x 64#32 (vstep x 128#32 (broadcast T 0#32))))))))

/-- The scale's exponent, the scale and its inverse, of every element. -/
def vexpo (x : FVec F T .f32) : IVec T 32 :=
  select (ori (cmpf .oeq x (broadcast T (Scalar.ofBits .f32 0x00000000#32))) (cmpi .eq (vfield x) (broadcast T 255#32)))
    (broadcast T 0#32) (subi (vfield x) (broadcast T 126#32))
def vscale (x : FVec F T .f32) : FVec F T .f32 := bitcastToFloat .f32 (shli (addi (broadcast T 127#32) (vexpo x)) (broadcast T 23#32))
def vinv (x : FVec F T .f32) : FVec F T .f32 := bitcastToFloat .f32 (shli (subi (broadcast T 127#32) (vexpo x)) (broadcast T 23#32))

theorem vstep_apply (x : FVec F T .f32) (b : BitVec 32) (f : IVec T 32) (i : T.Idx) : vstep x b f i = step (x i) b (f i) := rfl
theorem vfield_apply (x : FVec F T .f32) (i : T.Idx) : vfield x i = field (x i) := by
  unfold vfield field; simp only [vstep_apply]; rfl
theorem vexpo_apply (x : FVec F T .f32) (i : T.Idx) : vexpo x i = expo (x i) := by
  unfold expo; rw [← vfield_apply]; rfl
theorem vscale_apply (x : FVec F T .f32) (i : T.Idx) : vscale x i = scale (x i) := by
  unfold scale; rw [← vexpo_apply]; rfl
theorem vinv_apply (x : FVec F T .f32) (i : T.Idx) : vinv x i = inv (x i) := by
  unfold inv; rw [← vexpo_apply]; rfl
end Generic

/-! ## A block of the gradient: scaled along its rows and along its columns -/

/-- The block with the rows past the sequence's end put to zero. -/
def dblk (ok : IVec S128x128 1) (d : Vec F S128x128 .bf16) : FVec F S128x128 .f32 :=
  select ok (extf .f32 (shapeCast S128x128 d shapeCasts_S128x128_S128x128) bitsLt_bf16_f32) (broadcast S128x128 (Scalar.ofBits .f32 0x00000000#32))

/-- The greatest magnitude of each row (column), times the constant. -/
def rowA (v : FVec F S128x128 .f32) : FVec F S128x1 .f32 :=
  mulf (shapeCast S128x1 (multiReduction .maximumf [1] S128 (absf v) 0xFF800000#32 reduces_S128x128_S128_2 (.inl rfl) rfl) shapeCasts_S128_S128x1)
    (broadcast S128x1 (Scalar.ofBits .f32 0x37924925#32))
def colA (c : BitVec 32) (v : FVec F S128x128 .f32) : FVec F S1x128 .f32 :=
  mulf (shapeCast S1x128 (multiReduction .maximumf [0] S128 (absf v) 0xFF800000#32 reduces_S128x128_S128 (.inl rfl) rfl) shapeCasts_S128_S1x128)
    (broadcast S1x128 (Scalar.ofBits .f32 c))

def rowInvB (v : FVec F S128x128 .f32) : FVec F S128x128 .f32 := broadcastTo S128x128 (vinv (rowA v)) broadcasts_S128x1_S128x128
def colInvB (c : BitVec 32) (v : FVec F S128x128 .f32) : FVec F S128x128 .f32 := broadcastTo S128x128 (vinv (colA c v)) broadcasts_S1x128_S128x128

/-- Scaled and clipped. -/
def clipped (lo hi : BitVec 32) (v inv : FVec F S128x128 .f32) : FVec F S128x128 .f32 :=
  minimumf (broadcast S128x128 (Scalar.ofBits .f32 hi)) (maximumf (broadcast S128x128 (Scalar.ofBits .f32 lo)) (mulf v inv))

/-- The codes, the row's (column's) scales as stored, and the codes times the scales. -/
def rowC (v : FVec F S128x128 .f32) : FVec F S128x128 .fp8e5m2 :=
  truncf .fp8e5m2 (clipped 0xC7600000#32 0x47600000#32 v (rowInvB v)) bitsLt_fp8e5m2_f32
def colC (v : FVec F S128x128 .f32) : FVec F S128x128 .fp8e5m2 :=
  truncf .fp8e5m2 (clipped 0xC7600000#32 0x47600000#32 v (colInvB 0x37924925#32 v)) bitsLt_fp8e5m2_f32
def colS (c : BitVec 32) (v : FVec F S128x128 .f32) : FVec F S1x1x128 .f32 := shapeCast S1x1x128 (vscale (colA c v)) shapeCasts_S1x128_S1x1x128
def rowQ (v : FVec F S128x128 .f32) : FVec F S128x128 .bf16 :=
  shapeCast S128x128 (mulf (extf .bf16 (rowC v) bitsLt_fp8e5m2_bf16) (broadcastTo S128x128 (truncf .bf16 (vscale (rowA v)) bitsLt_bf16_f32) broadcasts_S128x1_S128x128))
    shapeCasts_S128x128_S128x128
def colQ (v : FVec F S128x128 .f32) : FVec F S128x128 .bf16 :=
  shapeCast S128x128 (mulf (extf .bf16 (colC v) bitsLt_fp8e5m2_bf16)
    (broadcastTo S128x128 (truncf .bf16 (vscale (colA 0x37924925#32 v)) bitsLt_bf16_f32) broadcasts_S1x128_S128x128)) shapeCasts_S128x128_S128x128

/-! ## A block of the activations -/

/-- The normalised activations, rows past the sequence's end at zero. -/
def xblk (ok : IVec S128x128 1) (x : Vec F S128x128 .bf16) (r : Vec F S128x128 .f32) (g : Vec F S1x128 .f32) : FVec F S128x128 .f32 :=
  select ok (mulf (mulf (extf .f32 (shapeCast S128x128 x shapeCasts_S128x128_S128x128) bitsLt_bf16_f32) r)
    (broadcastTo S128x128 (shapeCast S1x128 g shapeCasts_S1x128_S1x128) broadcasts_S1x128_S128x128)) (broadcast S128x128 (Scalar.ofBits .f32 0x00000000#32))
/-- Their codes, and the codes times the scales, transposed. -/
def xC8 (v : FVec F S128x128 .f32) : FVec F S128x128 .fp8e4m3 :=
  truncf .fp8e4m3 (clipped 0xC3E00000#32 0x43E00000#32 v (colInvB 0x3B124925#32 v)) bitsLt_fp8e4m3_f32
def xQT (v : FVec F S128x128 .f32) : FVec F S128x128 .bf16 :=
  shapeCast S128x128 (transpose S128x128 [1, 0] (mulf (extf .bf16 (xC8 v) bitsLt_fp8e4m3_bf16)
    (broadcastTo S128x128 (truncf .bf16 (vscale (colA 0x3B124925#32 v)) bitsLt_bf16_f32) broadcasts_S1x128_S128x128)) transposes_S128x128_p1_0_S128x128)
    shapeCasts_S128x128_S128x128

end Cert.Val

end
-- ==== Proof.Val.At.lean ====
module

public import proofs.«01_k».proof.Proof.Val.Bounds
public import proofs.«01_k».proof.Proof.Val.Block
public import Idealize.ShloMosaic.Lib.MatmulPlain

@[expose] public section

noncomputable section

namespace Cert.Val

open Idealize.ShloMosaic Idealize.SL.Sem Idealize.ShloMosaic.ValueIdx
open Cert.KernelIdeal Cert.KernelIdeal.Gen

/-! ## The blocks' functions read at an index, over the extended reals -/

section
variable (v : FVec Ideal S128x128 .f32) (f : ℕ → ℕ → EReal) (hv : ∀ x : S128x128.Idx, v x = f (x 0).val (x 1).val)
include hv

theorem colA_apply (c : BitVec 32) (y : S1x128.Idx) : colA c v y = top (fun s => f s.val (y 1).val) * Ideal.ofBits .f32 c := by
  refine congrArg (· * Ideal.ofBits .f32 c) ?_
  refine (shapeCast_apply _ shapeCasts_S128_S1x128 y (ix1 (y 1)) ?_).trans ?_
  · rw [Shape.rowMajor_val_one, Shape.rowMajor_val_two]
    have : (y 0).val < 1 := (y 0).isLt
    show (y 1).val = (y 0).val * 128 + (y 1).val
    omega
  · refine (Ideal.multiReduction_maximumf_single _ _ _ _ _ _).trans ?_
    refine congrArg (fun g => (Finset.univ : Finset (Fin 128)).fold max (Ideal.ofBits .f32 0xFF800000#32) g) (funext fun k => ?_)
    show max (v _) (-(v _)) = _
    rw [hv]; rfl

theorem rowA_apply (y : S128x1.Idx) : rowA v y = top (fun l => f (y 0).val l.val) * Ideal.ofBits .f32 0x37924925#32 := by
  refine congrArg (· * Ideal.ofBits .f32 0x37924925#32) ?_
  refine (shapeCast_apply _ shapeCasts_S128_S128x1 y (ix1 (y 0)) ?_).trans ?_
  · rw [Shape.rowMajor_val_one, Shape.rowMajor_val_two]
    have : (y 1).val < 1 := (y 1).isLt
    show (y 0).val = (y 0).val * 1 + (y 1).val
    omega
  · refine (Ideal.multiReduction_maximumf_single _ _ _ _ _ _).trans ?_
    refine congrArg (fun g => (Finset.univ : Finset (Fin 128)).fold max (Ideal.ofBits .f32 0xFF800000#32) g) (funext fun k => ?_)
    show max (v _) (-(v _)) = _
    rw [hv]; rfl

omit hv in
theorem bcol_apply {φ : FTy} (u : FVec Ideal S1x128 φ) (x : S128x128.Idx) :
    broadcastTo S128x128 u broadcasts_S1x128_S128x128 x = u (ix2 (0 : Fin 1) (x 1)) := by
  refine broadcastTo_apply _ _ _ _ fun a => ?_
  match a with
  | ⟨0, _⟩ => rfl
  | ⟨1, _⟩ => rfl

omit hv in
theorem brow_apply {φ : FTy} (u : FVec Ideal S128x1 φ) (x : S128x128.Idx) :
    broadcastTo S128x128 u broadcasts_S128x1_S128x128 x = u (ix2 (x 0) (0 : Fin 1)) := by
  refine broadcastTo_apply _ _ _ _ fun a => ?_
  match a with
  | ⟨0, _⟩ => rfl
  | ⟨1, _⟩ => rfl

theorem rowC_apply (hb : ∀ s l, max (f s l) (-(f s l)) ≤ (((2 : ℝ) ^ (128 : ℤ) : ℝ) : EReal)) (x : S128x128.Idx) :
    rowC v x = code 0xC7600000#32 0x47600000#32 (f (x 0).val (x 1).val) (rin 0x37924925#32 (top fun l => f (x 0).val l.val)) := by
  show min _ (max _ (v x * rowInvB v x)) = _
  unfold code rowInvB
  rw [brow_apply, vinv_apply, rowA_apply v f hv, hv]
  exact congrArg (fun i => min _ (max _ (_ * i))) (scale_row _ fun k => hb _ _).2

theorem rowS_apply (hb : ∀ s l, max (f s l) (-(f s l)) ≤ (((2 : ℝ) ^ (128 : ℤ) : ℝ) : EReal)) (y : S128x1.Idx) :
    vscale (rowA v) y = rsc 0x37924925#32 (top fun l => f (y 0).val l.val) := by
  rw [vscale_apply, rowA_apply v f hv]
  exact (scale_row _ fun k => hb _ _).1

theorem rowQ_apply (hb : ∀ s l, max (f s l) (-(f s l)) ≤ (((2 : ℝ) ^ (128 : ℤ) : ℝ) : EReal)) (x : S128x128.Idx) :
    rowQ v x = code 0xC7600000#32 0x47600000#32 (f (x 0).val (x 1).val) (rin 0x37924925#32 (top fun l => f (x 0).val l.val))
      * rsc 0x37924925#32 (top fun l => f (x 0).val l.val) := by
  unfold rowQ
  rw [shapeCast_self]
  refine congrArg₂ (fun a b : EReal => a * b) (rowC_apply v f hv hb x) ?_
  rw [brow_apply]
  exact rowS_apply v f hv hb _

theorem colC_apply (hb : ∀ s l, max (f s l) (-(f s l)) ≤ (((2 : ℝ) ^ (128 : ℤ) : ℝ) : EReal)) (x : S128x128.Idx) :
    colC v x = code 0xC7600000#32 0x47600000#32 (f (x 0).val (x 1).val) (rin 0x37924925#32 (top fun s => f s.val (x 1).val)) := by
  show min _ (max _ (v x * colInvB _ v x)) = _
  unfold code colInvB
  rw [bcol_apply, vinv_apply, colA_apply v f hv, hv]
  exact congrArg (fun i => min _ (max _ (_ * i))) (scale_row _ fun k => hb _ _).2

theorem vcolS_apply (hb : ∀ s l, max (f s l) (-(f s l)) ≤ (((2 : ℝ) ^ (128 : ℤ) : ℝ) : EReal)) (y : S1x128.Idx) :
    vscale (colA 0x37924925#32 v) y = rsc 0x37924925#32 (top fun s => f s.val (y 1).val) := by
  rw [vscale_apply, colA_apply v f hv]
  exact (scale_row _ fun k => hb _ _).1

theorem colQ_apply (hb : ∀ s l, max (f s l) (-(f s l)) ≤ (((2 : ℝ) ^ (128 : ℤ) : ℝ) : EReal)) (x : S128x128.Idx) :
    colQ v x = code 0xC7600000#32 0x47600000#32 (f (x 0).val (x 1).val) (rin 0x37924925#32 (top fun s => f s.val (x 1).val))
      * rsc 0x37924925#32 (top fun s => f s.val (x 1).val) := by
  unfold colQ
  rw [shapeCast_self]
  refine congrArg₂ (fun a b : EReal => a * b) (colC_apply v f hv hb x) ?_
  rw [bcol_apply]
  exact vcolS_apply v f hv hb _

omit hv in
theorem cast3_apply (u : FVec Ideal S1x128 .f32) (y : S1x1x128.Idx) :
    shapeCast S1x1x128 u shapeCasts_S1x128_S1x1x128 y = u (ix2 (0 : Fin 1) (y 2)) := by
  refine shapeCast_apply _ _ _ _ ?_
  rw [Shape.rowMajor_val_three, Shape.rowMajor_val_two]
  have h0 : (y 0).val < 1 := (y 0).isLt
  have h1 : (y 1).val < 1 := (y 1).isLt
  show 0 * 128 + (y 2).val = ((y 0).val * 1 + (y 1).val) * 128 + (y 2).val
  omega

theorem colS_apply (hb : ∀ s l, max (f s l) (-(f s l)) ≤ (((2 : ℝ) ^ (128 : ℤ) : ℝ) : EReal)) (y : S1x1x128.Idx) :
    colS 0x37924925#32 v y = rsc 0x37924925#32 (top fun s => f s.val (y 2).val) := by
  unfold colS
  rw [cast3_apply]
  exact vcolS_apply v f hv hb _

/-! The activations' block. -/

theorem xS1_apply (hb : ∀ s l, l < 128 → max (f s l) (-(f s l)) ≤ ((100 * (2 : ℝ) ^ (128 : ℤ) : ℝ) : EReal)) (y : S1x128.Idx) :
    vscale (colA 0x3B124925#32 v) y = rsc 0x3B124925#32 (top fun s => f s.val (y 1).val) := by
  rw [vscale_apply, colA_apply v f hv]
  exact (scale_x _ fun k => hb _ _ (y 1).isLt).1

theorem xS3_apply (hb : ∀ s l, l < 128 → max (f s l) (-(f s l)) ≤ ((100 * (2 : ℝ) ^ (128 : ℤ) : ℝ) : EReal)) (y : S1x1x128.Idx) :
    colS 0x3B124925#32 v y = rsc 0x3B124925#32 (top fun s => f s.val (y 2).val) := by
  unfold colS
  rw [cast3_apply]
  exact xS1_apply v f hv hb _

theorem xC8_apply (hb : ∀ s l, l < 128 → max (f s l) (-(f s l)) ≤ ((100 * (2 : ℝ) ^ (128 : ℤ) : ℝ) : EReal)) (x : S128x128.Idx) :
    xC8 v x = code 0xC3E00000#32 0x43E00000#32 (f (x 0).val (x 1).val) (rin 0x3B124925#32 (top fun s => f s.val (x 1).val)) := by
  show min _ (max _ (v x * colInvB _ v x)) = _
  unfold code colInvB
  rw [bcol_apply, vinv_apply, colA_apply v f hv, hv]
  rw [(scale_x (fun s : Fin 128 => f s.val (x 1).val) fun k => hb _ _ (x 1).isLt).2]
  rfl

theorem xQT_apply (hb : ∀ s l, l < 128 → max (f s l) (-(f s l)) ≤ ((100 * (2 : ℝ) ^ (128 : ℤ) : ℝ) : EReal)) (x : S128x128.Idx) :
    xQT v x = code 0xC3E00000#32 0x43E00000#32 (f (x 1).val (x 0).val) (rin 0x3B124925#32 (top fun s => f s.val (x 0).val))
      * rsc 0x3B124925#32 (top fun s => f s.val (x 0).val) := by
  unfold xQT
  rw [shapeCast_self]
  refine (transpose_apply _ _ _ x (ix2 (x 1) (x 0)) fun b => ?_).trans ?_
  · match b with
    | ⟨0, _⟩ => rfl
    | ⟨1, _⟩ => rfl
  · refine congrArg₂ (fun a b : EReal => a * b) (xC8_apply v f hv hb _) ?_
    exact (bcol_apply _ _).trans (xS1_apply v f hv hb _)

end

/-- The gradient's block at an index. -/
theorem dblk_apply (n : BitVec 32) (d : Vec Ideal S128x128 .bf16) (x : S128x128.Idx) :
    dblk (k0_pay73 (F := Ideal) n) d x = sel (IntOp.cmpi .slt (BitVec.ofNat 32 (x 0).val) n) (d x) := by
  unfold dblk
  rw [shapeCast_self]
  refine congrArg (fun k => Scalar.select (IntOp.cmpi .slt k n) (d x) (Ideal.ofBits .f32 0x00000000#32)) ?_
  simp [iota]

/-- The activations' block at an index. -/
theorem xblk_apply (n : BitVec 32) (d : Vec Ideal S128x128 .bf16) (r : Vec Ideal S128x128 .f32) (g : Vec Ideal S1x128 .f32) (x : S128x128.Idx) :
    xblk (k0_pay73 (F := Ideal) n) d r g x = sel (IntOp.cmpi .slt (BitVec.ofNat 32 (x 0).val) n) (d x * r x * g (ix2 (0 : Fin 1) (x 1))) := by
  unfold xblk
  rw [shapeCast_self, shapeCast_self]
  refine congrArg₂ (fun k w => Scalar.select (IntOp.cmpi .slt k n) w (Ideal.ofBits .f32 0x00000000#32)) ?_ ?_
  · simp [iota]
  · exact congrArg (fun w : EReal => d x * r x * w) (bcol_apply _ _)

end Cert.Val

end
-- ==== Proof.Val.MidL.lean ====
module

public import proofs.«01_k».proof.Proof.Val.Block
public import proofs.«01_k».proof.Proof.Ideal.First
public import proofs.«01_k».proof.Proof.Ideal.Mid

@[expose] public section

noncomputable section

namespace Cert.Val

open Idealize.ShloMosaic Idealize.SL.Sem
open Cert.KernelIdeal Cert.KernelIdeal.Gen

variable {F : FTy → Type} [FloatOps F]

/-- Four pieces, one per quarter of a 256 by 256 buffer. -/
def quarters {e : EltTy} (A B C D : S128x128.Idx → Elt F e) : List (View.Piece (Elt F) S256x256 e) :=
  [⟨Rect.unit ![128, 128] S128x128.size inb_S256x256_S128x128_128_128, D⟩, ⟨Rect.unit ![128, 0] S128x128.size inb_S256x256_S128x128_128_0, C⟩,
   ⟨Rect.unit ![0, 128] S128x128.size inb_S256x256_S128x128_0_128, B⟩, ⟨Rect.unit ![0, 0] S128x128.size inb_S256x256_S128x128_0_0, A⟩]

/-- Four pieces, one per quarter of a 2 by 1 by 256 buffer. -/
def quarters3 (A B C D : S1x1x128.Idx → Elt F .f32) : List (View.Piece (Elt F) S2x1x256 .f32) :=
  [⟨Rect.unit ![1, 0, 128] S1x1x128.size inb_S2x1x256_S1x1x128_1_0_128, D⟩, ⟨Rect.unit ![1, 0, 0] S1x1x128.size inb_S2x1x256_S1x1x128_1_0_0, C⟩,
   ⟨Rect.unit ![0, 0, 128] S1x1x128.size inb_S2x1x256_S1x1x128_0_0_128, B⟩, ⟨Rect.unit ![0, 0, 0] S1x1x128.size inb_S2x1x256_S1x1x128_0_0_0, A⟩]

/-- The four blocks of the gradient's tile, rows past the sequences' ends at zero. -/
def B00 (arg1 : Memref sig .tc .smem S2 .i32) (arg6 : Memref sig .tc .vmem S256x256 .bf16) (f1 : BufTy.Contents (Elt F) arg1.view.ty) (f6 : BufTy.Contents (Elt F) arg6.view.ty) : FVec F S128x128 .f32 :=
  dblk (k0_pay73 (F := F) (firstRunA.sl.r arg1 f1)) (arg6.view.readAt (Elt F) (Rect.unit (s := S256x256) ![0, 0] S128x128.size inb_S256x256_S128x128_0_0).toLoadRect f6)
def B01 (arg1 : Memref sig .tc .smem S2 .i32) (arg6 : Memref sig .tc .vmem S256x256 .bf16) (f1 : BufTy.Contents (Elt F) arg1.view.ty) (f6 : BufTy.Contents (Elt F) arg6.view.ty) : FVec F S128x128 .f32 :=
  dblk (k0_pay73 (F := F) (firstRunA.sl.r arg1 f1)) (arg6.view.readAt (Elt F) (Rect.unit (s := S256x256) ![0, 128] S128x128.size inb_S256x256_S128x128_0_128).toLoadRect f6)
def B10 (arg1 : Memref sig .tc .smem S2 .i32) (arg6 : Memref sig .tc .vmem S256x256 .bf16) (f1 : BufTy.Contents (Elt F) arg1.view.ty) (f6 : BufTy.Contents (Elt F) arg6.view.ty) : FVec F S128x128 .f32 :=
  dblk (k0_pay73 (F := F) (midRun.sl.r_19 arg1 f1)) (arg6.view.readAt (Elt F) (Rect.unit (s := S256x256) ![128, 0] S128x128.size inb_S256x256_S128x128_128_0).toLoadRect f6)
def B11 (arg1 : Memref sig .tc .smem S2 .i32) (arg6 : Memref sig .tc .vmem S256x256 .bf16) (f1 : BufTy.Contents (Elt F) arg1.view.ty) (f6 : BufTy.Contents (Elt F) arg6.view.ty) : FVec F S128x128 .f32 :=
  dblk (k0_pay73 (F := F) (midRun.sl.r_19 arg1 f1)) (arg6.view.readAt (Elt F) (Rect.unit (s := S256x256) ![128, 128] S128x128.size inb_S256x256_S128x128_128_128).toLoadRect f6)

section
variable (c : Dev nD) (i : grid0.Coords) (arg1 : Memref sig .tc .smem S2 .i32) (harg1 : arg1.IsWhole) (arg2 : Memref sig .tc .smem S56x144 .f32) (harg2 : arg2.IsWhole) (arg3 : Memref sig .tc .vmem S256x7168 .bf16) (harg3 : arg3.IsWhole) (arg4 : Memref sig .tc .vmem S1x7168 .f32) (harg4 : arg4.IsWhole) (arg5 : Memref sig .tc .vmem S7168x256 .fp8e4m3) (harg5 : arg5.IsWhole) (arg6 : Memref sig .tc .vmem S256x256 .bf16) (harg6 : arg6.IsWhole) (arg7 : Memref sig .tc .vmem S256x7168 .bf16) (harg7 : arg7.IsWhole) (arg8 : Memref sig .tc .vmem S7168x256 .f32) (harg8 : arg8.IsWhole) (arg9 : Memref sig .tc .vmem S1x7168 .f32) (harg9 : arg9.IsWhole) (arg10 : Memref sig .tc .vmem S256x7168 .fp8e4m3) (harg10 : arg10.IsWhole) (arg11 : Memref sig .tc .vmem S2x1x7168 .f32) (harg11 : arg11.IsWhole) (arg12 : Memref sig .tc .vmem S256x256 .fp8e5m2) (harg12 : arg12.IsWhole) (arg13 : Memref sig .tc .vmem S256x144 .f32) (harg13 : arg13.IsWhole) (arg14 : Memref sig .tc .vmem S256x256 .fp8e5m2) (harg14 : arg14.IsWhole) (arg15 : Memref sig .tc .vmem S2x1x256 .f32) (harg15 : arg15.IsWhole) (arg16 : Memref sig .tc .vmem S7168x256 .f32) (harg16 : arg16.IsWhole) (arg17 : Memref sig .tc .vmem S7168x256 .bf16) (harg17 : arg17.IsWhole) (arg18 : Memref sig .tc .vmem S256x128 .f32) (harg18 : arg18.IsWhole) (arg19 : Memref sig .tc .vmem S256x256 .f32) (harg19 : arg19.IsWhole) (arg20 : Memref sig .tc .vmem S256x256 .bf16) (harg20 : arg20.IsWhole) (arg21 : Memref sig .tc .vmem S256x256 .bf16) (harg21 : arg21.IsWhole) (arg22 : Memref sig .tc .vmem S256x7168 .f32) (harg22 : arg22.IsWhole)

variable (v0 : BitVec 32) (v3 : IVec S128x128 32) (v23 : BitVec 32) (v29 : Vec F S128x128 .f32)
variable (f1 : BufTy.Contents (Elt F) arg1.view.ty) (f2 : BufTy.Contents (Elt F) arg2.view.ty) (f5 : BufTy.Contents (Elt F) arg5.view.ty) (f6 : BufTy.Contents (Elt F) arg6.view.ty) (f8 : BufTy.Contents (Elt F) arg8.view.ty) (f12 : BufTy.Contents (Elt F) arg12.view.ty) (f14 : BufTy.Contents (Elt F) arg14.view.ty) (f15 : BufTy.Contents (Elt F) arg15.view.ty) (f16 : BufTy.Contents (Elt F) arg16.view.ty) (f17 : BufTy.Contents (Elt F) arg17.view.ty) (f19 : BufTy.Contents (Elt F) arg19.view.ty) (f20 : BufTy.Contents (Elt F) arg20.view.ty) (f21 : BufTy.Contents (Elt F) arg21.view.ty)

theorem mid12 : (midRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v3 v23 (k0_pay73 (F := F) (firstRunA.sl.r arg1 f1)) v29 (B00 arg1 arg6 f1 f6) (absf (B00 arg1 arg6 f1 f6)) (rowA (B00 arg1 arg6 f1 f6)) f1 f2 f5 f6 f8 f12 f14 f15 f16 f17 f19 f20 f21).2.1 = quarters (rowC (B00 arg1 arg6 f1 f6)) (rowC (B01 arg1 arg6 f1 f6)) (rowC (B10 arg1 arg6 f1 f6)) (rowC (B11 arg1 arg6 f1 f6)) := rfl

theorem mid14 : (midRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v3 v23 (k0_pay73 (F := F) (firstRunA.sl.r arg1 f1)) v29 (B00 arg1 arg6 f1 f6) (absf (B00 arg1 arg6 f1 f6)) (rowA (B00 arg1 arg6 f1 f6)) f1 f2 f5 f6 f8 f12 f14 f15 f16 f17 f19 f20 f21).2.2.1 = quarters (colC (B00 arg1 arg6 f1 f6)) (colC (B01 arg1 arg6 f1 f6)) (colC (B10 arg1 arg6 f1 f6)) (colC (B11 arg1 arg6 f1 f6)) := rfl

theorem mid15 : (midRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v3 v23 (k0_pay73 (F := F) (firstRunA.sl.r arg1 f1)) v29 (B00 arg1 arg6 f1 f6) (absf (B00 arg1 arg6 f1 f6)) (rowA (B00 arg1 arg6 f1 f6)) f1 f2 f5 f6 f8 f12 f14 f15 f16 f17 f19 f20 f21).2.2.2.1 = quarters3 (colS 0x37924925#32 (B00 arg1 arg6 f1 f6)) (colS 0x37924925#32 (B01 arg1 arg6 f1 f6)) (colS 0x37924925#32 (B10 arg1 arg6 f1 f6)) (colS 0x37924925#32 (B11 arg1 arg6 f1 f6)) := rfl

theorem mid20 : (midRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v3 v23 (k0_pay73 (F := F) (firstRunA.sl.r arg1 f1)) v29 (B00 arg1 arg6 f1 f6) (absf (B00 arg1 arg6 f1 f6)) (rowA (B00 arg1 arg6 f1 f6)) f1 f2 f5 f6 f8 f12 f14 f15 f16 f17 f19 f20 f21).2.2.2.2.2.2.1 = quarters (rowQ (B00 arg1 arg6 f1 f6)) (rowQ (B01 arg1 arg6 f1 f6)) (rowQ (B10 arg1 arg6 f1 f6)) (rowQ (B11 arg1 arg6 f1 f6)) := rfl

theorem mid21 : (midRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v3 v23 (k0_pay73 (F := F) (firstRunA.sl.r arg1 f1)) v29 (B00 arg1 arg6 f1 f6) (absf (B00 arg1 arg6 f1 f6)) (rowA (B00 arg1 arg6 f1 f6)) f1 f2 f5 f6 f8 f12 f14 f15 f16 f17 f19 f20 f21).2.2.2.2.2.2.2.1 = quarters (colQ (B00 arg1 arg6 f1 f6)) (colQ (B01 arg1 arg6 f1 f6)) (colQ (B10 arg1 arg6 f1 f6)) (colQ (B11 arg1 arg6 f1 f6)) := rfl

end

end Cert.Val

end
-- ==== Proof.Val.MidL2.lean ====
module

public import proofs.«01_k».proof.Proof.Val.MidL

@[expose] public section

noncomputable section

namespace Cert.Val

open Idealize.ShloMosaic Idealize.SL.Sem
open Cert.KernelIdeal Cert.KernelIdeal.Gen

variable {F : FTy → Type} [FloatOps F]

/-! ## What the unrolled chunks write -/

/-- A block of the weight: codes times their scale. -/
def wfrag (s : Elt F .f32) (w : Vec F S128x128 .fp8e4m3) : FVec F S128x128 .bf16 :=
  mulf (extf .bf16 w bitsLt_fp8e4m3_bf16) (truncf .bf16 (broadcast S128x128 s) bitsLt_bf16_f32)
/-- Two blocks side by side, and four such rows one below the other. -/
def wrow (a b : FVec F S128x128 .bf16) : FVec F S128x256 .bf16 := concatenate S128x256 1 [⟨S128x128, a⟩, ⟨S128x128, b⟩] concatenates_S128x128_S128x128_S128x256_d1
def wchunk (a b c d : FVec F S128x256 .bf16) : FVec F S512x256 .bf16 :=
  concatenate S512x256 0 [⟨S128x256, a⟩, ⟨S128x256, b⟩, ⟨S128x256, c⟩, ⟨S128x256, d⟩] concatenates_S128x256_S128x256_S128x256_S128x256_S512x256_d0
/-- The accumulator's chunk after a step. -/
def accC (dyq : Vec F S256x256 .bf16) (w : FVec F S512x256 .bf16) (old : Vec F S512x256 .f32) : FVec F S512x256 .f32 :=
  shapeCast S512x256 (addf old (matmul dot_S512x256_S256x256_S512x256_1_1_0_0_n_n none w dyq (constant S512x256 .f32 0x00000000#32))) shapeCasts_S512x256_S512x256
/-- A chunk of the weight's gradient. -/
def dwC (dq : Vec F S256x256 .bf16) (xq : Vec F S512x256 .bf16) : FVec F S512x256 .f32 :=
  matmul dot_S512x256_S256x256_S512x256_1_0_0_1_n_n none xq dq (constant S512x256 .f32 0x00000000#32)

section
variable (c : Dev nD) (i : grid0.Coords) (arg1 : Memref sig .tc .smem S2 .i32) (harg1 : arg1.IsWhole) (arg2 : Memref sig .tc .smem S56x144 .f32) (harg2 : arg2.IsWhole) (arg3 : Memref sig .tc .vmem S256x7168 .bf16) (harg3 : arg3.IsWhole) (arg4 : Memref sig .tc .vmem S1x7168 .f32) (harg4 : arg4.IsWhole) (arg5 : Memref sig .tc .vmem S7168x256 .fp8e4m3) (harg5 : arg5.IsWhole) (arg6 : Memref sig .tc .vmem S256x256 .bf16) (harg6 : arg6.IsWhole) (arg7 : Memref sig .tc .vmem S256x7168 .bf16) (harg7 : arg7.IsWhole) (arg8 : Memref sig .tc .vmem S7168x256 .f32) (harg8 : arg8.IsWhole) (arg9 : Memref sig .tc .vmem S1x7168 .f32) (harg9 : arg9.IsWhole) (arg10 : Memref sig .tc .vmem S256x7168 .fp8e4m3) (harg10 : arg10.IsWhole) (arg11 : Memref sig .tc .vmem S2x1x7168 .f32) (harg11 : arg11.IsWhole) (arg12 : Memref sig .tc .vmem S256x256 .fp8e5m2) (harg12 : arg12.IsWhole) (arg13 : Memref sig .tc .vmem S256x144 .f32) (harg13 : arg13.IsWhole) (arg14 : Memref sig .tc .vmem S256x256 .fp8e5m2) (harg14 : arg14.IsWhole) (arg15 : Memref sig .tc .vmem S2x1x256 .f32) (harg15 : arg15.IsWhole) (arg16 : Memref sig .tc .vmem S7168x256 .f32) (harg16 : arg16.IsWhole) (arg17 : Memref sig .tc .vmem S7168x256 .bf16) (harg17 : arg17.IsWhole) (arg18 : Memref sig .tc .vmem S256x128 .f32) (harg18 : arg18.IsWhole) (arg19 : Memref sig .tc .vmem S256x256 .f32) (harg19 : arg19.IsWhole) (arg20 : Memref sig .tc .vmem S256x256 .bf16) (harg20 : arg20.IsWhole) (arg21 : Memref sig .tc .vmem S256x256 .bf16) (harg21 : arg21.IsWhole) (arg22 : Memref sig .tc .vmem S256x7168 .f32) (harg22 : arg22.IsWhole)

variable (v0 : BitVec 32) (v3 : IVec S128x128 32) (v23 : BitVec 32) (v29 : Vec F S128x128 .f32)
variable (f1 : BufTy.Contents (Elt F) arg1.view.ty) (f2 : BufTy.Contents (Elt F) arg2.view.ty) (f5 : BufTy.Contents (Elt F) arg5.view.ty) (f6 : BufTy.Contents (Elt F) arg6.view.ty) (f8 : BufTy.Contents (Elt F) arg8.view.ty) (f12 : BufTy.Contents (Elt F) arg12.view.ty) (f14 : BufTy.Contents (Elt F) arg14.view.ty) (f15 : BufTy.Contents (Elt F) arg15.view.ty) (f16 : BufTy.Contents (Elt F) arg16.view.ty) (f17 : BufTy.Contents (Elt F) arg17.view.ty) (f19 : BufTy.Contents (Elt F) arg19.view.ty) (f20 : BufTy.Contents (Elt F) arg20.view.ty) (f21 : BufTy.Contents (Elt F) arg21.view.ty)

/-- The gradient as read back, scaled along its rows, and along its columns. -/
abbrev DYQ (arg1 : Memref sig .tc .smem S2 .i32) (arg6 : Memref sig .tc .vmem S256x256 .bf16) (arg20 : Memref sig .tc .vmem S256x256 .bf16) (f1 : BufTy.Contents (Elt F) arg1.view.ty) (f6 : BufTy.Contents (Elt F) arg6.view.ty) : Vec F S256x256 .bf16 :=
  arg20.view.readCov (quarters (rowQ (B00 arg1 arg6 f1 f6)) (rowQ (B01 arg1 arg6 f1 f6)) (rowQ (B10 arg1 arg6 f1 f6)) (rowQ (B11 arg1 arg6 f1 f6))) (Rect.unit (s := S256x256) ![0, 0] S256x256.size inb_S256x256_S256x256_0_0).toLoadRect
abbrev DQ (arg1 : Memref sig .tc .smem S2 .i32) (arg6 : Memref sig .tc .vmem S256x256 .bf16) (arg21 : Memref sig .tc .vmem S256x256 .bf16) (f1 : BufTy.Contents (Elt F) arg1.view.ty) (f6 : BufTy.Contents (Elt F) arg6.view.ty) : Vec F S256x256 .bf16 :=
  arg21.view.readCov (quarters (colQ (B00 arg1 arg6 f1 f6)) (colQ (B01 arg1 arg6 f1 f6)) (colQ (B10 arg1 arg6 f1 f6)) (colQ (B11 arg1 arg6 f1 f6))) (Rect.unit (s := S256x256) ![0, 0] S256x256.size inb_S256x256_S256x256_0_0).toLoadRect

/-- One scale of the weight, at the offset `o`. -/
def wS (arg2 : Memref sig .tc .smem S56x144 .f32) (i : grid0.Coords) (f2 : BufTy.Contents (Elt F) arg2.view.ty) (o : Fin 2 → ℕ) (h : ∀ a, o a + S1x1.size a ≤ S56x144.size a) : Elt F .f32 :=
  arg2.view.readAt (Elt F) (Rect.unit (s := S56x144) o S1x1.size h).toLoadRect f2 (Shape.Idx.first (s := (Rect.unit (s := S56x144) o S1x1.size h).shape) Nat.one_pos)

/-- A row of blocks of the weight: block row `b`, whose scales are at `o`. -/
def wR (arg2 : Memref sig .tc .smem S56x144 .f32) (arg5 : Memref sig .tc .vmem S7168x256 .fp8e4m3) (i : grid0.Coords) (f2 : BufTy.Contents (Elt F) arg2.view.ty) (f5 : BufTy.Contents (Elt F) arg5.view.ty) (b : ℕ)
    (o : BitVec 32 → Fin 2 → ℕ) (h : ∀ r : Fin 2, ∀ a, o (BitVec.ofNat 32 r.val) a + S1x1.size a ≤ S56x144.size a)
    (h0 : ∀ a, (![128 * b, 0] : Fin 2 → ℕ) a + S128x128.size a ≤ S7168x256.size a) (h1 : ∀ a, (![128 * b, 128] : Fin 2 → ℕ) a + S128x128.size a ≤ S7168x256.size a) : FVec F S128x256 .bf16 :=
  wrow (wfrag (wS arg2 i f2 (o 0#32) (h 0)) (arg5.view.readAt (Elt F) (Rect.unit (s := S7168x256) ![128 * b, 0] S128x128.size h0).toLoadRect f5))
    (wfrag (wS arg2 i f2 (o 1#32) (h 1)) (arg5.view.readAt (Elt F) (Rect.unit (s := S7168x256) ![128 * b, 128] S128x128.size h1).toLoadRect f5))

set_option maxRecDepth 8000 in
theorem mid8 : (midRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v3 v23 (k0_pay73 (F := F) (firstRunA.sl.r arg1 f1)) v29 (B00 arg1 arg6 f1 f6) (absf (B00 arg1 arg6 f1 f6)) (rowA (B00 arg1 arg6 f1 f6)) f1 f2 f5 f6 f8 f12 f14 f15 f16 f17 f19 f20 f21).1 =
    [⟨Rect.unit (s := S7168x256) ![6656, 0] S512x256.size inb_S7168x256_S512x256_6656_0, dwC (DQ arg1 arg6 arg21 f1 f6) (arg17.view.readAt (Elt F) (Rect.unit (s := S7168x256) ![6656, 0] S512x256.size inb_S7168x256_S512x256_6656_0).toLoadRect f17)⟩,
    ⟨Rect.unit (s := S7168x256) ![6144, 0] S512x256.size inb_S7168x256_S512x256_6144_0, dwC (DQ arg1 arg6 arg21 f1 f6) (arg17.view.readAt (Elt F) (Rect.unit (s := S7168x256) ![6144, 0] S512x256.size inb_S7168x256_S512x256_6144_0).toLoadRect f17)⟩,
    ⟨Rect.unit (s := S7168x256) ![5632, 0] S512x256.size inb_S7168x256_S512x256_5632_0, dwC (DQ arg1 arg6 arg21 f1 f6) (arg17.view.readAt (Elt F) (Rect.unit (s := S7168x256) ![5632, 0] S512x256.size inb_S7168x256_S512x256_5632_0).toLoadRect f17)⟩,
    ⟨Rect.unit (s := S7168x256) ![5120, 0] S512x256.size inb_S7168x256_S512x256_5120_0, dwC (DQ arg1 arg6 arg21 f1 f6) (arg17.view.readAt (Elt F) (Rect.unit (s := S7168x256) ![5120, 0] S512x256.size inb_S7168x256_S512x256_5120_0).toLoadRect f17)⟩,
    ⟨Rect.unit (s := S7168x256) ![4608, 0] S512x256.size inb_S7168x256_S512x256_4608_0, dwC (DQ arg1 arg6 arg21 f1 f6) (arg17.view.readAt (Elt F) (Rect.unit (s := S7168x256) ![4608, 0] S512x256.size inb_S7168x256_S512x256_4608_0).toLoadRect f17)⟩,
    ⟨Rect.unit (s := S7168x256) ![4096, 0] S512x256.size inb_S7168x256_S512x256_4096_0, dwC (DQ arg1 arg6 arg21 f1 f6) (arg17.view.readAt (Elt F) (Rect.unit (s := S7168x256) ![4096, 0] S512x256.size inb_S7168x256_S512x256_4096_0).toLoadRect f17)⟩,
    ⟨Rect.unit (s := S7168x256) ![3584, 0] S512x256.size inb_S7168x256_S512x256_3584_0, dwC (DQ arg1 arg6 arg21 f1 f6) (arg17.view.readAt (Elt F) (Rect.unit (s := S7168x256) ![3584, 0] S512x256.size inb_S7168x256_S512x256_3584_0).toLoadRect f17)⟩,
    ⟨Rect.unit (s := S7168x256) ![3072, 0] S512x256.size inb_S7168x256_S512x256_3072_0, dwC (DQ arg1 arg6 arg21 f1 f6) (arg17.view.readAt (Elt F) (Rect.unit (s := S7168x256) ![3072, 0] S512x256.size inb_S7168x256_S512x256_3072_0).toLoadRect f17)⟩,
    ⟨Rect.unit (s := S7168x256) ![2560, 0] S512x256.size inb_S7168x256_S512x256_2560_0, dwC (DQ arg1 arg6 arg21 f1 f6) (arg17.view.readAt (Elt F) (Rect.unit (s := S7168x256) ![2560, 0] S512x256.size inb_S7168x256_S512x256_2560_0).toLoadRect f17)⟩,
    ⟨Rect.unit (s := S7168x256) ![2048, 0] S512x256.size inb_S7168x256_S512x256_2048_0, dwC (DQ arg1 arg6 arg21 f1 f6) (arg17.view.readAt (Elt F) (Rect.unit (s := S7168x256) ![2048, 0] S512x256.size inb_S7168x256_S512x256_2048_0).toLoadRect f17)⟩,
    ⟨Rect.unit (s := S7168x256) ![1536, 0] S512x256.size inb_S7168x256_S512x256_1536_0, dwC (DQ arg1 arg6 arg21 f1 f6) (arg17.view.readAt (Elt F) (Rect.unit (s := S7168x256) ![1536, 0] S512x256.size inb_S7168x256_S512x256_1536_0).toLoadRect f17)⟩,
    ⟨Rect.unit (s := S7168x256) ![1024, 0] S512x256.size inb_S7168x256_S512x256_1024_0, dwC (DQ arg1 arg6 arg21 f1 f6) (arg17.view.readAt (Elt F) (Rect.unit (s := S7168x256) ![1024, 0] S512x256.size inb_S7168x256_S512x256_1024_0).toLoadRect f17)⟩,
    ⟨Rect.unit (s := S7168x256) ![512, 0] S512x256.size inb_S7168x256_S512x256_512_0, dwC (DQ arg1 arg6 arg21 f1 f6) (arg17.view.readAt (Elt F) (Rect.unit (s := S7168x256) ![512, 0] S512x256.size inb_S7168x256_S512x256_512_0).toLoadRect f17)⟩,
    ⟨Rect.unit (s := S7168x256) ![0, 0] S512x256.size inb_S7168x256_S512x256_0_0, dwC (DQ arg1 arg6 arg21 f1 f6) (arg17.view.readAt (Elt F) (Rect.unit (s := S7168x256) ![0, 0] S512x256.size inb_S7168x256_S512x256_0_0).toLoadRect f17)⟩] := rfl

set_option maxRecDepth 8000 in
set_option maxHeartbeats 4000000 in
theorem mid16 : (midRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v3 v23 (k0_pay73 (F := F) (firstRunA.sl.r arg1 f1)) v29 (B00 arg1 arg6 f1 f6) (absf (B00 arg1 arg6 f1 f6)) (rowA (B00 arg1 arg6 f1 f6)) f1 f2 f5 f6 f8 f12 f14 f15 f16 f17 f19 f20 f21).2.2.2.2.1 =
    [⟨Rect.unit (s := S7168x256) ![6656, 0] S512x256.size inb_S7168x256_S512x256_6656_0, accC (DYQ arg1 arg6 arg20 f1 f6) (wchunk (wR arg2 arg5 i f2 f5 52 (k0_off119 i) (k0_off119_inb i) inb_S7168x256_S128x128_6656_0 inb_S7168x256_S128x128_6656_128) (wR arg2 arg5 i f2 f5 53 (k0_off120 i) (k0_off120_inb i) inb_S7168x256_S128x128_6784_0 inb_S7168x256_S128x128_6784_128) (wR arg2 arg5 i f2 f5 54 (k0_off121 i) (k0_off121_inb i) inb_S7168x256_S128x128_6912_0 inb_S7168x256_S128x128_6912_128) (wR arg2 arg5 i f2 f5 55 (k0_off122 i) (k0_off122_inb i) inb_S7168x256_S128x128_7040_0 inb_S7168x256_S128x128_7040_128)) (arg16.view.readAt (Elt F) (Rect.unit (s := S7168x256) ![6656, 0] S512x256.size inb_S7168x256_S512x256_6656_0).toLoadRect f16)⟩,
    ⟨Rect.unit (s := S7168x256) ![6144, 0] S512x256.size inb_S7168x256_S512x256_6144_0, accC (DYQ arg1 arg6 arg20 f1 f6) (wchunk (wR arg2 arg5 i f2 f5 48 (k0_off115 i) (k0_off115_inb i) inb_S7168x256_S128x128_6144_0 inb_S7168x256_S128x128_6144_128) (wR arg2 arg5 i f2 f5 49 (k0_off116 i) (k0_off116_inb i) inb_S7168x256_S128x128_6272_0 inb_S7168x256_S128x128_6272_128) (wR arg2 arg5 i f2 f5 50 (k0_off117 i) (k0_off117_inb i) inb_S7168x256_S128x128_6400_0 inb_S7168x256_S128x128_6400_128) (wR arg2 arg5 i f2 f5 51 (k0_off118 i) (k0_off118_inb i) inb_S7168x256_S128x128_6528_0 inb_S7168x256_S128x128_6528_128)) (arg16.view.readAt (Elt F) (Rect.unit (s := S7168x256) ![6144, 0] S512x256.size inb_S7168x256_S512x256_6144_0).toLoadRect f16)⟩,
    ⟨Rect.unit (s := S7168x256) ![5632, 0] S512x256.size inb_S7168x256_S512x256_5632_0, accC (DYQ arg1 arg6 arg20 f1 f6) (wchunk (wR arg2 arg5 i f2 f5 44 (k0_off111 i) (k0_off111_inb i) inb_S7168x256_S128x128_5632_0 inb_S7168x256_S128x128_5632_128) (wR arg2 arg5 i f2 f5 45 (k0_off112 i) (k0_off112_inb i) inb_S7168x256_S128x128_5760_0 inb_S7168x256_S128x128_5760_128) (wR arg2 arg5 i f2 f5 46 (k0_off113 i) (k0_off113_inb i) inb_S7168x256_S128x128_5888_0 inb_S7168x256_S128x128_5888_128) (wR arg2 arg5 i f2 f5 47 (k0_off114 i) (k0_off114_inb i) inb_S7168x256_S128x128_6016_0 inb_S7168x256_S128x128_6016_128)) (arg16.view.readAt (Elt F) (Rect.unit (s := S7168x256) ![5632, 0] S512x256.size inb_S7168x256_S512x256_5632_0).toLoadRect f16)⟩,
    ⟨Rect.unit (s := S7168x256) ![5120, 0] S512x256.size inb_S7168x256_S512x256_5120_0, accC (DYQ arg1 arg6 arg20 f1 f6) (wchunk (wR arg2 arg5 i f2 f5 40 (k0_off107 i) (k0_off107_inb i) inb_S7168x256_S128x128_5120_0 inb_S7168x256_S128x128_5120_128) (wR arg2 arg5 i f2 f5 41 (k0_off108 i) (k0_off108_inb i) inb_S7168x256_S128x128_5248_0 inb_S7168x256_S128x128_5248_128) (wR arg2 arg5 i f2 f5 42 (k0_off109 i) (k0_off109_inb i) inb_S7168x256_S128x128_5376_0 inb_S7168x256_S128x128_5376_128) (wR arg2 arg5 i f2 f5 43 (k0_off110 i) (k0_off110_inb i) inb_S7168x256_S128x128_5504_0 inb_S7168x256_S128x128_5504_128)) (arg16.view.readAt (Elt F) (Rect.unit (s := S7168x256) ![5120, 0] S512x256.size inb_S7168x256_S512x256_5120_0).toLoadRect f16)⟩,
    ⟨Rect.unit (s := S7168x256) ![4608, 0] S512x256.size inb_S7168x256_S512x256_4608_0, accC (DYQ arg1 arg6 arg20 f1 f6) (wchunk (wR arg2 arg5 i f2 f5 36 (k0_off103 i) (k0_off103_inb i) inb_S7168x256_S128x128_4608_0 inb_S7168x256_S128x128_4608_128) (wR arg2 arg5 i f2 f5 37 (k0_off104 i) (k0_off104_inb i) inb_S7168x256_S128x128_4736_0 inb_S7168x256_S128x128_4736_128) (wR arg2 arg5 i f2 f5 38 (k0_off105 i) (k0_off105_inb i) inb_S7168x256_S128x128_4864_0 inb_S7168x256_S128x128_4864_128) (wR arg2 arg5 i f2 f5 39 (k0_off106 i) (k0_off106_inb i) inb_S7168x256_S128x128_4992_0 inb_S7168x256_S128x128_4992_128)) (arg16.view.readAt (Elt F) (Rect.unit (s := S7168x256) ![4608, 0] S512x256.size inb_S7168x256_S512x256_4608_0).toLoadRect f16)⟩,
    ⟨Rect.unit (s := S7168x256) ![4096, 0] S512x256.size inb_S7168x256_S512x256_4096_0, accC (DYQ arg1 arg6 arg20 f1 f6) (wchunk (wR arg2 arg5 i f2 f5 32 (k0_off99 i) (k0_off99_inb i) inb_S7168x256_S128x128_4096_0 inb_S7168x256_S128x128_4096_128) (wR arg2 arg5 i f2 f5 33 (k0_off100 i) (k0_off100_inb i) inb_S7168x256_S128x128_4224_0 inb_S7168x256_S128x128_4224_128) (wR arg2 arg5 i f2 f5 34 (k0_off101 i) (k0_off101_inb i) inb_S7168x256_S128x128_4352_0 inb_S7168x256_S128x128_4352_128) (wR arg2 arg5 i f2 f5 35 (k0_off102 i) (k0_off102_inb i) inb_S7168x256_S128x128_4480_0 inb_S7168x256_S128x128_4480_128)) (arg16.view.readAt (Elt F) (Rect.unit (s := S7168x256) ![4096, 0] S512x256.size inb_S7168x256_S512x256_4096_0).toLoadRect f16)⟩,
    ⟨Rect.unit (s := S7168x256) ![3584, 0] S512x256.size inb_S7168x256_S512x256_3584_0, accC (DYQ arg1 arg6 arg20 f1 f6) (wchunk (wR arg2 arg5 i f2 f5 28 (k0_off95 i) (k0_off95_inb i) inb_S7168x256_S128x128_3584_0 inb_S7168x256_S128x128_3584_128) (wR arg2 arg5 i f2 f5 29 (k0_off96 i) (k0_off96_inb i) inb_S7168x256_S128x128_3712_0 inb_S7168x256_S128x128_3712_128) (wR arg2 arg5 i f2 f5 30 (k0_off97 i) (k0_off97_inb i) inb_S7168x256_S128x128_3840_0 inb_S7168x256_S128x128_3840_128) (wR arg2 arg5 i f2 f5 31 (k0_off98 i) (k0_off98_inb i) inb_S7168x256_S128x128_3968_0 inb_S7168x256_S128x128_3968_128)) (arg16.view.readAt (Elt F) (Rect.unit (s := S7168x256) ![3584, 0] S512x256.size inb_S7168x256_S512x256_3584_0).toLoadRect f16)⟩,
    ⟨Rect.unit (s := S7168x256) ![3072, 0] S512x256.size inb_S7168x256_S512x256_3072_0, accC (DYQ arg1 arg6 arg20 f1 f6) (wchunk (wR arg2 arg5 i f2 f5 24 (k0_off91 i) (k0_off91_inb i) inb_S7168x256_S128x128_3072_0 inb_S7168x256_S128x128_3072_128) (wR arg2 arg5 i f2 f5 25 (k0_off92 i) (k0_off92_inb i) inb_S7168x256_S128x128_3200_0 inb_S7168x256_S128x128_3200_128) (wR arg2 arg5 i f2 f5 26 (k0_off93 i) (k0_off93_inb i) inb_S7168x256_S128x128_3328_0 inb_S7168x256_S128x128_3328_128) (wR arg2 arg5 i f2 f5 27 (k0_off94 i) (k0_off94_inb i) inb_S7168x256_S128x128_3456_0 inb_S7168x256_S128x128_3456_128)) (arg16.view.readAt (Elt F) (Rect.unit (s := S7168x256) ![3072, 0] S512x256.size inb_S7168x256_S512x256_3072_0).toLoadRect f16)⟩,
    ⟨Rect.unit (s := S7168x256) ![2560, 0] S512x256.size inb_S7168x256_S512x256_2560_0, accC (DYQ arg1 arg6 arg20 f1 f6) (wchunk (wR arg2 arg5 i f2 f5 20 (k0_off87 i) (k0_off87_inb i) inb_S7168x256_S128x128_2560_0 inb_S7168x256_S128x128_2560_128) (wR arg2 arg5 i f2 f5 21 (k0_off88 i) (k0_off88_inb i) inb_S7168x256_S128x128_2688_0 inb_S7168x256_S128x128_2688_128) (wR arg2 arg5 i f2 f5 22 (k0_off89 i) (k0_off89_inb i) inb_S7168x256_S128x128_2816_0 inb_S7168x256_S128x128_2816_128) (wR arg2 arg5 i f2 f5 23 (k0_off90 i) (k0_off90_inb i) inb_S7168x256_S128x128_2944_0 inb_S7168x256_S128x128_2944_128)) (arg16.view.readAt (Elt F) (Rect.unit (s := S7168x256) ![2560, 0] S512x256.size inb_S7168x256_S512x256_2560_0).toLoadRect f16)⟩,
    ⟨Rect.unit (s := S7168x256) ![2048, 0] S512x256.size inb_S7168x256_S512x256_2048_0, accC (DYQ arg1 arg6 arg20 f1 f6) (wchunk (wR arg2 arg5 i f2 f5 16 (k0_off83 i) (k0_off83_inb i) inb_S7168x256_S128x128_2048_0 inb_S7168x256_S128x128_2048_128) (wR arg2 arg5 i f2 f5 17 (k0_off84 i) (k0_off84_inb i) inb_S7168x256_S128x128_2176_0 inb_S7168x256_S128x128_2176_128) (wR arg2 arg5 i f2 f5 18 (k0_off85 i) (k0_off85_inb i) inb_S7168x256_S128x128_2304_0 inb_S7168x256_S128x128_2304_128) (wR arg2 arg5 i f2 f5 19 (k0_off86 i) (k0_off86_inb i) inb_S7168x256_S128x128_2432_0 inb_S7168x256_S128x128_2432_128)) (arg16.view.readAt (Elt F) (Rect.unit (s := S7168x256) ![2048, 0] S512x256.size inb_S7168x256_S512x256_2048_0).toLoadRect f16)⟩,
    ⟨Rect.unit (s := S7168x256) ![1536, 0] S512x256.size inb_S7168x256_S512x256_1536_0, accC (DYQ arg1 arg6 arg20 f1 f6) (wchunk (wR arg2 arg5 i f2 f5 12 (k0_off79 i) (k0_off79_inb i) inb_S7168x256_S128x128_1536_0 inb_S7168x256_S128x128_1536_128) (wR arg2 arg5 i f2 f5 13 (k0_off80 i) (k0_off80_inb i) inb_S7168x256_S128x128_1664_0 inb_S7168x256_S128x128_1664_128) (wR arg2 arg5 i f2 f5 14 (k0_off81 i) (k0_off81_inb i) inb_S7168x256_S128x128_1792_0 inb_S7168x256_S128x128_1792_128) (wR arg2 arg5 i f2 f5 15 (k0_off82 i) (k0_off82_inb i) inb_S7168x256_S128x128_1920_0 inb_S7168x256_S128x128_1920_128)) (arg16.view.readAt (Elt F) (Rect.unit (s := S7168x256) ![1536, 0] S512x256.size inb_S7168x256_S512x256_1536_0).toLoadRect f16)⟩,
    ⟨Rect.unit (s := S7168x256) ![1024, 0] S512x256.size inb_S7168x256_S512x256_1024_0, accC (DYQ arg1 arg6 arg20 f1 f6) (wchunk (wR arg2 arg5 i f2 f5 8 (k0_off75 i) (k0_off75_inb i) inb_S7168x256_S128x128_1024_0 inb_S7168x256_S128x128_1024_128) (wR arg2 arg5 i f2 f5 9 (k0_off76 i) (k0_off76_inb i) inb_S7168x256_S128x128_1152_0 inb_S7168x256_S128x128_1152_128) (wR arg2 arg5 i f2 f5 10 (k0_off77 i) (k0_off77_inb i) inb_S7168x256_S128x128_1280_0 inb_S7168x256_S128x128_1280_128) (wR arg2 arg5 i f2 f5 11 (k0_off78 i) (k0_off78_inb i) inb_S7168x256_S128x128_1408_0 inb_S7168x256_S128x128_1408_128)) (arg16.view.readAt (Elt F) (Rect.unit (s := S7168x256) ![1024, 0] S512x256.size inb_S7168x256_S512x256_1024_0).toLoadRect f16)⟩,
    ⟨Rect.unit (s := S7168x256) ![512, 0] S512x256.size inb_S7168x256_S512x256_512_0, accC (DYQ arg1 arg6 arg20 f1 f6) (wchunk (wR arg2 arg5 i f2 f5 4 (k0_off71 i) (k0_off71_inb i) inb_S7168x256_S128x128_512_0 inb_S7168x256_S128x128_512_128) (wR arg2 arg5 i f2 f5 5 (k0_off72 i) (k0_off72_inb i) inb_S7168x256_S128x128_640_0 inb_S7168x256_S128x128_640_128) (wR arg2 arg5 i f2 f5 6 (k0_off73 i) (k0_off73_inb i) inb_S7168x256_S128x128_768_0 inb_S7168x256_S128x128_768_128) (wR arg2 arg5 i f2 f5 7 (k0_off74 i) (k0_off74_inb i) inb_S7168x256_S128x128_896_0 inb_S7168x256_S128x128_896_128)) (arg16.view.readAt (Elt F) (Rect.unit (s := S7168x256) ![512, 0] S512x256.size inb_S7168x256_S512x256_512_0).toLoadRect f16)⟩,
    ⟨Rect.unit (s := S7168x256) ![0, 0] S512x256.size inb_S7168x256_S512x256_0_0, accC (DYQ arg1 arg6 arg20 f1 f6) (wchunk (wR arg2 arg5 i f2 f5 0 (k0_off67 i) (k0_off67_inb i) inb_S7168x256_S128x128_0_0 inb_S7168x256_S128x128_0_128) (wR arg2 arg5 i f2 f5 1 (k0_off68 i) (k0_off68_inb i) inb_S7168x256_S128x128_128_0 inb_S7168x256_S128x128_128_128) (wR arg2 arg5 i f2 f5 2 (k0_off69 i) (k0_off69_inb i) inb_S7168x256_S128x128_256_0 inb_S7168x256_S128x128_256_128) (wR arg2 arg5 i f2 f5 3 (k0_off70 i) (k0_off70_inb i) inb_S7168x256_S128x128_384_0 inb_S7168x256_S128x128_384_128)) (arg16.view.readAt (Elt F) (Rect.unit (s := S7168x256) ![0, 0] S512x256.size inb_S7168x256_S512x256_0_0).toLoadRect f16)⟩] := rfl

end

end Cert.Val

end
-- ==== Proof.Val.Reads.lean ====
module

public import proofs.«01_k».proof.Proof.Val.At
public import proofs.«01_k».proof.Proof.Val.MidL2
public import Idealize.ShloMosaic.Lib.Pipeline.Value
public import Idealize.ShloMosaic.Lib.MatmulPlain

@[expose] public section

noncomputable section

namespace Cert.Val

open Idealize.ShloMosaic Idealize.SL.Sem Idealize.ShloMosaic.ValueIdx
open Cert.KernelIdeal Cert.KernelIdeal.Gen

/-! ## Buffers by numbers -/

section
variable {κ : Kind} {sp : Space} {e : EltTy} {A B C : ℕ}

/-- A piece holds what `W` says at its place. -/
def Agrees (W : ℕ → ℕ → Elt Ideal e) (p : View.Piece (Elt Ideal) ⟨2, ![A, B]⟩ e) : Prop :=
  ∀ x, p.2 x = W (p.1.emb x 0).val (p.1.emb x 1).val
def Agrees3 (W : ℕ → ℕ → Elt Ideal e) (p : View.Piece (Elt Ideal) ⟨3, ![A, B, C]⟩ e) : Prop :=
  ∀ x, p.2 x = W (p.1.emb x 0).val (p.1.emb x 2).val

theorem agrees_unit (W : ℕ → ℕ → Elt Ideal e) {a b : ℕ} (off : Fin 2 → ℕ) (inb) (P : (⟨2, ![a, b]⟩ : Shape).Idx → Elt Ideal e)
    (h : ∀ x : (⟨2, ![a, b]⟩ : Shape).Idx, P x = W (off 0 + (x 0).val) (off 1 + (x 1).val)) :
    Agrees (A := A) (B := B) W ⟨Rect.unit (s := ⟨2, ![A, B]⟩) off ![a, b] inb, P⟩ := by
  intro x
  refine (h x).trans ?_
  show _ = W (off 0 + 1 * (x 0).val) (off 1 + 1 * (x 1).val)
  rw [Nat.one_mul, Nat.one_mul]

theorem agrees3_unit (W : ℕ → ℕ → Elt Ideal e) {a b c : ℕ} (off : Fin 3 → ℕ) (inb) (P : (⟨3, ![a, b, c]⟩ : Shape).Idx → Elt Ideal e)
    (h : ∀ x : (⟨3, ![a, b, c]⟩ : Shape).Idx, P x = W (off 0 + (x 0).val) (off 2 + (x 2).val)) :
    Agrees3 (A := A) (B := B) (C := C) W ⟨Rect.unit (s := ⟨3, ![A, B, C]⟩) off ![a, b, c] inb, P⟩ := by
  intro x
  refine (h x).trans ?_
  show _ = W (off 0 + 1 * (x 0).val) (off 2 + 1 * (x 2).val)
  rw [Nat.one_mul, Nat.one_mul]

variable (v : View sig κ sp ⟨2, ![A, B]⟩ e) (f : v.ty.Contents (Elt Ideal))

/-- A rectangle read out of a buffer. -/
theorem rd2 (W : ℕ → ℕ → Elt Ideal e) (hf : ∀ y : (⟨2, ![A, B]⟩ : Shape).Idx, v.read (Elt Ideal) f y = W (y 0).val (y 1).val)
    {a b : ℕ} (off : Fin 2 → ℕ) (inb) (x : (⟨2, ![a, b]⟩ : Shape).Idx) :
    v.readAt (Elt Ideal) (Rect.unit (s := ⟨2, ![A, B]⟩) off ![a, b] inb).toLoadRect f x = W (off 0 + (x 0).val) (off 1 + (x 1).val) := by
  refine (hf _).trans ?_
  show W (off 0 + 1 * (x 0).val) (off 1 + 1 * (x 1).val) = _
  rw [Nat.one_mul, Nat.one_mul]

/-- What pieces that agree with `W` leave, where one of them lies. -/
theorem wr2 (W : ℕ → ℕ → Elt Ideal e) (L : List (View.Piece (Elt Ideal) ⟨2, ![A, B]⟩ e)) (hL : ∀ p ∈ L, Agrees W p)
    (y : (⟨2, ![A, B]⟩ : Shape).Idx) (hy : ∃ p ∈ L, y ∈ p.1.set) : v.read (Elt Ideal) (v.writes (Elt Ideal) f L) y = W (y 0).val (y 1).val :=
  View.read_writes_apply_of_pieces v f (fun y => W (y 0).val (y 1).val) L hL y hy

theorem wr3 (v : View sig κ sp ⟨3, ![A, B, C]⟩ e) (f : v.ty.Contents (Elt Ideal)) (W : ℕ → ℕ → Elt Ideal e)
    (L : List (View.Piece (Elt Ideal) ⟨3, ![A, B, C]⟩ e)) (hL : ∀ p ∈ L, Agrees3 W p)
    (y : (⟨3, ![A, B, C]⟩ : Shape).Idx) (hy : ∃ p ∈ L, y ∈ p.1.set) : v.read (Elt Ideal) (v.writes (Elt Ideal) f L) y = W (y 0).val (y 2).val :=
  View.read_writes_apply_of_pieces v f (fun y => W (y 0).val (y 2).val) L hL y hy

theorem mem_unit2 (off : Fin 2 → ℕ) {a b : ℕ} (inb) (y : (⟨2, ![A, B]⟩ : Shape).Idx)
    (h0 : off 0 ≤ (y 0).val ∧ (y 0).val < off 0 + a) (h1 : off 1 ≤ (y 1).val ∧ (y 1).val < off 1 + b) :
    y ∈ (Rect.unit (s := ⟨2, ![A, B]⟩) off ![a, b] inb).set := by
  rw [Rect.mem_set_unit]
  intro d
  match d with
  | ⟨0, _⟩ => exact h0
  | ⟨1, _⟩ => exact h1

theorem mem_unit3 (off : Fin 3 → ℕ) {a b c : ℕ} (inb) (y : (⟨3, ![A, B, C]⟩ : Shape).Idx)
    (h0 : off 0 ≤ (y 0).val ∧ (y 0).val < off 0 + a) (h1 : off 1 ≤ (y 1).val ∧ (y 1).val < off 1 + b)
    (h2 : off 2 ≤ (y 2).val ∧ (y 2).val < off 2 + c) :
    y ∈ (Rect.unit (s := ⟨3, ![A, B, C]⟩) off ![a, b, c] inb).set := by
  rw [Rect.mem_set_unit]
  intro d
  match d with
  | ⟨0, _⟩ => exact h0
  | ⟨1, _⟩ => exact h1
  | ⟨2, _⟩ => exact h2
end

section
variable {e : EltTy} (W : ℕ → ℕ → Elt Ideal e) (P00 P01 P10 P11 : S128x128.Idx → Elt Ideal e)
  (h00 : ∀ x : S128x128.Idx, P00 x = W (x 0).val (x 1).val) (h01 : ∀ x : S128x128.Idx, P01 x = W (x 0).val (128 + (x 1).val))
  (h10 : ∀ x : S128x128.Idx, P10 x = W (128 + (x 0).val) (x 1).val) (h11 : ∀ x : S128x128.Idx, P11 x = W (128 + (x 0).val) (128 + (x 1).val))
include h00 h01 h10 h11

theorem quarters_agree : ∀ p ∈ quarters (F := Ideal) P00 P01 P10 P11, Agrees W p := by
  unfold quarters
  intro p hp
  simp only [List.mem_cons, List.not_mem_nil, or_false] at hp
  rcases hp with rfl | rfl | rfl | rfl
  · exact agrees_unit W _ _ _ h11
  · refine agrees_unit W _ _ _ fun x => (h10 x).trans ?_
    show W (128 + (x 0).val) (x 1).val = W (128 + (x 0).val) (0 + (x 1).val)
    rw [Nat.zero_add]
  · refine agrees_unit W _ _ _ fun x => (h01 x).trans ?_
    show W (x 0).val (128 + (x 1).val) = W (0 + (x 0).val) (128 + (x 1).val)
    rw [Nat.zero_add]
  · refine agrees_unit W _ _ _ fun x => (h00 x).trans ?_
    show W (x 0).val (x 1).val = W (0 + (x 0).val) (0 + (x 1).val)
    rw [Nat.zero_add, Nat.zero_add]
end

theorem quarters_cover {e : EltTy} (P00 P01 P10 P11 : S128x128.Idx → Elt Ideal e) (y : S256x256.Idx) :
    ∃ p ∈ quarters (F := Ideal) P00 P01 P10 P11, y ∈ p.1.set := by
  have h0 : (y 0).val < 256 := (y 0).isLt
  have h1 : (y 1).val < 256 := (y 1).isLt
  unfold quarters
  rcases lt_or_ge (y 0).val 128 with a | a <;> rcases lt_or_ge (y 1).val 128 with b | b
  · exact ⟨_, .tail _ (.tail _ (.tail _ (.head _))), mem_unit2 _ inb_S256x256_S128x128_0_0 _ ⟨Nat.zero_le _, by show _ < 0 + 128; omega⟩ ⟨Nat.zero_le _, by show _ < 0 + 128; omega⟩⟩
  · exact ⟨_, .tail _ (.tail _ (.head _)), mem_unit2 _ inb_S256x256_S128x128_0_128 _ ⟨Nat.zero_le _, by show _ < 0 + 128; omega⟩ ⟨b, by show _ < 128 + 128; omega⟩⟩
  · exact ⟨_, .tail _ (.head _), mem_unit2 _ inb_S256x256_S128x128_128_0 _ ⟨a, by show _ < 128 + 128; omega⟩ ⟨Nat.zero_le _, by show _ < 0 + 128; omega⟩⟩
  · exact ⟨_, .head _, mem_unit2 _ inb_S256x256_S128x128_128_128 _ ⟨a, by show _ < 128 + 128; omega⟩ ⟨b, by show _ < 128 + 128; omega⟩⟩

/-- A loop's pieces are its trips' pieces. -/
theorem mem_trips {α : Type*} {N : ℕ} (pb : ℕ → List α) (tr : Fin N → List α) (h0 : pb 0 = []) (hs : ∀ k : Fin N, pb (k.val + 1) = tr k ++ pb k.val)
    (p : α) : p ∈ pb N ↔ ∃ k, p ∈ tr k := by
  have key : ∀ n, n ≤ N → (p ∈ pb n ↔ ∃ k : Fin N, k.val < n ∧ p ∈ tr k) := by
    intro n
    induction n with
    | zero => intro _; rw [h0]; simp
    | succ n ih =>
      intro hn
      have := hs ⟨n, hn⟩
      rw [show pb (n + 1) = _ from this, List.mem_append, ih (Nat.le_of_succ_le hn)]
      constructor
      · rintro (h | ⟨k, hk, h⟩)
        · exact ⟨⟨n, hn⟩, Nat.lt_succ_self _, h⟩
        · exact ⟨k, Nat.lt_succ_of_lt hk, h⟩
      · rintro ⟨k, hk, h⟩
        rcases Nat.lt_succ_iff_lt_or_eq.mp hk with hk | hk
        · exact .inr ⟨k, hk, h⟩
        · obtain rfl : k = ⟨n, hn⟩ := Fin.ext hk
          exact .inl h
  rw [key N le_rfl]
  exact ⟨fun ⟨k, _, h⟩ => ⟨k, h⟩, fun ⟨k, h⟩ => ⟨k, k.isLt, h⟩⟩

/-! ## The gradient's tile -/

section
variable (a : In) (ha : a.Fin') (n : ℕ)
variable (arg1 : Memref sig .tc .smem S2 .i32) (arg6 : Memref sig .tc .vmem S256x256 .bf16) (f1 : BufTy.Contents (Elt Ideal) arg1.view.ty) (f6 : BufTy.Contents (Elt Ideal) arg6.view.ty)
variable (h1 : ∀ y : S2.Idx, arg1.view.read (Elt Ideal) f1 y = a.S (y 0).val)
variable (h6 : ∀ y : S256x256.Idx, arg6.view.read (Elt Ideal) f6 y = a.D (y 0).val (256 * n + (y 1).val))
include h1

theorem len0 : firstRunA.sl.r (F := Ideal) arg1 f1 = a.S 0 := h1 _
theorem len1 : midRun.sl.r_19 (F := Ideal) arg1 f1 = a.S 1 := h1 _

include h6
theorem B00_apply (x : S128x128.Idx) : B00 (F := Ideal) arg1 arg6 f1 f6 x = a.dy (x 0).val (256 * n + (x 1).val) := by
  have hx : (x 0).val < 128 := (x 0).isLt
  unfold B00 In.dy In.ok
  rw [dblk_apply, len0 a arg1 f1 h1, rd2 arg6.view f6 (fun s l => a.D s (256 * n + l)) h6]
  show sel (IntOp.cmpi .slt (BitVec.ofNat 32 (x 0).val) (a.S 0)) (a.D (0 + (x 0).val) (256 * n + (0 + (x 1).val))) = _
  rw [Nat.mod_eq_of_lt hx, Nat.div_eq_of_lt hx, Nat.zero_add, Nat.zero_add]
theorem B01_apply (x : S128x128.Idx) : B01 (F := Ideal) arg1 arg6 f1 f6 x = a.dy (x 0).val (256 * n + (128 + (x 1).val)) := by
  have hx : (x 0).val < 128 := (x 0).isLt
  unfold B01 In.dy In.ok
  rw [dblk_apply, len0 a arg1 f1 h1, rd2 arg6.view f6 (fun s l => a.D s (256 * n + l)) h6]
  show sel (IntOp.cmpi .slt (BitVec.ofNat 32 (x 0).val) (a.S 0)) (a.D (0 + (x 0).val) (256 * n + (128 + (x 1).val))) = _
  rw [Nat.mod_eq_of_lt hx, Nat.div_eq_of_lt hx, Nat.zero_add]
theorem B10_apply (x : S128x128.Idx) : B10 (F := Ideal) arg1 arg6 f1 f6 x = a.dy (128 + (x 0).val) (256 * n + (x 1).val) := by
  have hx : (x 0).val < 128 := (x 0).isLt
  unfold B10 In.dy In.ok
  rw [dblk_apply, len1 a arg1 f1 h1, rd2 arg6.view f6 (fun s l => a.D s (256 * n + l)) h6]
  show sel (IntOp.cmpi .slt (BitVec.ofNat 32 (x 0).val) (a.S 1)) (a.D (128 + (x 0).val) (256 * n + (0 + (x 1).val))) = _
  rw [show (128 + (x 0).val) % 128 = (x 0).val by omega, show (128 + (x 0).val) / 128 = 1 by omega, Nat.zero_add]
theorem B11_apply (x : S128x128.Idx) : B11 (F := Ideal) arg1 arg6 f1 f6 x = a.dy (128 + (x 0).val) (256 * n + (128 + (x 1).val)) := by
  have hx : (x 0).val < 128 := (x 0).isLt
  unfold B11 In.dy In.ok
  rw [dblk_apply, len1 a arg1 f1 h1, rd2 arg6.view f6 (fun s l => a.D s (256 * n + l)) h6]
  show sel (IntOp.cmpi .slt (BitVec.ofNat 32 (x 0).val) (a.S 1)) (a.D (128 + (x 0).val) (256 * n + (128 + (x 1).val))) = _
  rw [show (128 + (x 0).val) % 128 = (x 0).val by omega, show (128 + (x 0).val) / 128 = 1 by omega]
end

/-! ### A block of the tile by numbers -/

section
variable (a : In) (ha : a.Fin') (b j : ℕ) (v : FVec Ideal S128x128 .f32)
variable (hv : ∀ x : S128x128.Idx, v x = a.dy (128 * b + (x 0).val) (128 * j + (x 1).val))
include ha hv

theorem blk_rowC (x : S128x128.Idx) : rowC v x = a.rC (128 * b + (x 0).val) (128 * j + (x 1).val) := by
  have h1 : (x 1).val < 128 := (x 1).isLt
  rw [rowC_apply v (fun s l => a.dy (128 * b + s) (128 * j + l)) hv (fun s l => a.dy_le ha _ _)]
  unfold In.rC In.rA
  rw [show (128 * j + (x 1).val) / 128 = j by omega]
theorem blk_rowS (y : S128x1.Idx) : vscale (rowA v) y = a.rS (128 * b + (y 0).val) j :=
  rowS_apply v (fun s l => a.dy (128 * b + s) (128 * j + l)) hv (fun s l => a.dy_le ha _ _) y
theorem blk_rowQ (x : S128x128.Idx) : rowQ v x = a.rQ (128 * b + (x 0).val) (128 * j + (x 1).val) := by
  have h1 : (x 1).val < 128 := (x 1).isLt
  rw [rowQ_apply v (fun s l => a.dy (128 * b + s) (128 * j + l)) hv (fun s l => a.dy_le ha _ _)]
  unfold In.rQ In.rC In.rS In.rA
  rw [show (128 * j + (x 1).val) / 128 = j by omega]
theorem blk_colC (x : S128x128.Idx) : colC v x = a.cC (128 * b + (x 0).val) (128 * j + (x 1).val) := by
  have h1 : (x 0).val < 128 := (x 0).isLt
  rw [colC_apply v (fun s l => a.dy (128 * b + s) (128 * j + l)) hv (fun s l => a.dy_le ha _ _)]
  unfold In.cC In.cA
  rw [show (128 * b + (x 0).val) / 128 = b by omega]
theorem blk_colS (y : S1x1x128.Idx) : colS 0x37924925#32 v y = a.cS b (128 * j + (y 2).val) :=
  colS_apply v (fun s l => a.dy (128 * b + s) (128 * j + l)) hv (fun s l => a.dy_le ha _ _) y
theorem blk_colQ (x : S128x128.Idx) : colQ v x = a.cQ (128 * b + (x 0).val) (128 * j + (x 1).val) := by
  have h1 : (x 0).val < 128 := (x 0).isLt
  rw [colQ_apply v (fun s l => a.dy (128 * b + s) (128 * j + l)) hv (fun s l => a.dy_le ha _ _)]
  unfold In.cQ In.cC In.cS In.cA
  rw [show (128 * b + (x 0).val) / 128 = b by omega]
end

end Cert.Val

end
-- ==== Proof.Val.LoopL.lean ====
module

public import proofs.«01_k».proof.Proof.Val.MidL

@[expose] public section

noncomputable section

namespace Cert.Val

open Idealize.ShloMosaic Idealize.SL.Sem
open Cert.KernelIdeal Cert.KernelIdeal.Gen

variable {F : FTy → Type} [FloatOps F]

/-! ## What one trip of the activations' quantiser writes -/

section
variable (arg1 : Memref sig .tc .smem S2 .i32) (arg3 : Memref sig .tc .vmem S256x7168 .bf16) (arg4 : Memref sig .tc .vmem S1x7168 .f32) (arg18 : Memref sig .tc .vmem S256x128 .f32)
variable (i : grid0.Coords) (hc : k0_cond1 i = 1#1) (X1 : BufTy.Contents (Elt F) arg1.view.ty) (X3 : BufTy.Contents (Elt F) arg3.view.ty) (X4 : BufTy.Contents (Elt F) arg4.view.ty) (X18 : BufTy.Contents (Elt F) arg18.view.ty) (k : Fin k0_t2_loop.trips)

/-- The normalised activations of trip `k`: block `(b, r)` is of sequence `b` and of the `r`-th 128 columns. -/
def xB00 : FVec F S128x128 .f32 :=
  xblk (k0_pay73 (F := F) (firstRunA.sl.r arg1 X1)) (arg3.view.readAt (Elt F) (Rect.unit (s := S256x7168) (k0_off58 k 0#32) S128x128.size (k0_off58_inb i k hc 0)).toLoadRect X3)
    (arg18.view.readAt (Elt F) (Rect.unit (s := S256x128) ![0, 0] S128x128.size inb_S256x128_S128x128_0_0).toLoadRect X18) (arg4.view.readAt (Elt F) (Rect.unit (s := S1x7168) (k0_off59 k 0#32) S1x128.size (k0_off59_inb i k hc 0)).toLoadRect X4)
def xB01 : FVec F S128x128 .f32 :=
  xblk (k0_pay73 (F := F) (firstRunA.sl.r arg1 X1)) (arg3.view.readAt (Elt F) (Rect.unit (s := S256x7168) (k0_off58 k 128#32) S128x128.size (k0_off58_inb i k hc 1)).toLoadRect X3)
    (arg18.view.readAt (Elt F) (Rect.unit (s := S256x128) ![0, 0] S128x128.size inb_S256x128_S128x128_0_0).toLoadRect X18) (arg4.view.readAt (Elt F) (Rect.unit (s := S1x7168) (k0_off59 k 128#32) S1x128.size (k0_off59_inb i k hc 1)).toLoadRect X4)
def xB10 : FVec F S128x128 .f32 :=
  xblk (k0_pay73 (F := F) (midRun.sl.r_19 arg1 X1)) (arg3.view.readAt (Elt F) (Rect.unit (s := S256x7168) (k0_off62 k 0#32) S128x128.size (k0_off62_inb i k hc 0)).toLoadRect X3)
    (arg18.view.readAt (Elt F) (Rect.unit (s := S256x128) ![128, 0] S128x128.size inb_S256x128_S128x128_128_0).toLoadRect X18) (arg4.view.readAt (Elt F) (Rect.unit (s := S1x7168) (k0_off59 k 0#32) S1x128.size (k0_off59_inb i k hc 0)).toLoadRect X4)
def xB11 : FVec F S128x128 .f32 :=
  xblk (k0_pay73 (F := F) (midRun.sl.r_19 arg1 X1)) (arg3.view.readAt (Elt F) (Rect.unit (s := S256x7168) (k0_off62 k 128#32) S128x128.size (k0_off62_inb i k hc 1)).toLoadRect X3)
    (arg18.view.readAt (Elt F) (Rect.unit (s := S256x128) ![128, 0] S128x128.size inb_S256x128_S128x128_128_0).toLoadRect X18) (arg4.view.readAt (Elt F) (Rect.unit (s := S1x7168) (k0_off59 k 128#32) S1x128.size (k0_off59_inb i k hc 1)).toLoadRect X4)
end

section
variable (c : Dev nD) (i : grid0.Coords) (arg1 : Memref sig .tc .smem S2 .i32) (harg1 : arg1.IsWhole) (arg2 : Memref sig .tc .smem S56x144 .f32) (harg2 : arg2.IsWhole) (arg3 : Memref sig .tc .vmem S256x7168 .bf16) (harg3 : arg3.IsWhole) (arg4 : Memref sig .tc .vmem S1x7168 .f32) (harg4 : arg4.IsWhole) (arg5 : Memref sig .tc .vmem S7168x256 .fp8e4m3) (harg5 : arg5.IsWhole) (arg6 : Memref sig .tc .vmem S256x256 .bf16) (harg6 : arg6.IsWhole) (arg7 : Memref sig .tc .vmem S256x7168 .bf16) (harg7 : arg7.IsWhole) (arg8 : Memref sig .tc .vmem S7168x256 .f32) (harg8 : arg8.IsWhole) (arg9 : Memref sig .tc .vmem S1x7168 .f32) (harg9 : arg9.IsWhole) (arg10 : Memref sig .tc .vmem S256x7168 .fp8e4m3) (harg10 : arg10.IsWhole) (arg11 : Memref sig .tc .vmem S2x1x7168 .f32) (harg11 : arg11.IsWhole) (arg12 : Memref sig .tc .vmem S256x256 .fp8e5m2) (harg12 : arg12.IsWhole) (arg13 : Memref sig .tc .vmem S256x144 .f32) (harg13 : arg13.IsWhole) (arg14 : Memref sig .tc .vmem S256x256 .fp8e5m2) (harg14 : arg14.IsWhole) (arg15 : Memref sig .tc .vmem S2x1x256 .f32) (harg15 : arg15.IsWhole) (arg16 : Memref sig .tc .vmem S7168x256 .f32) (harg16 : arg16.IsWhole) (arg17 : Memref sig .tc .vmem S7168x256 .bf16) (harg17 : arg17.IsWhole) (arg18 : Memref sig .tc .vmem S256x128 .f32) (harg18 : arg18.IsWhole) (arg19 : Memref sig .tc .vmem S256x256 .f32) (harg19 : arg19.IsWhole) (arg20 : Memref sig .tc .vmem S256x256 .bf16) (harg20 : arg20.IsWhole) (arg21 : Memref sig .tc .vmem S256x256 .bf16) (harg21 : arg21.IsWhole) (arg22 : Memref sig .tc .vmem S256x7168 .f32) (harg22 : arg22.IsWhole)
variable (hc : k0_cond1 i = 1#1) (X1 : BufTy.Contents (Elt F) arg1.view.ty) (X3 : BufTy.Contents (Elt F) arg3.view.ty) (X4 : BufTy.Contents (Elt F) arg4.view.ty) (X18 : BufTy.Contents (Elt F) arg18.view.ty) (k : Fin k0_t2_loop.trips)

theorem t2_10 : (trip_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc X1 X3 X4 X18 k).1 =
    [⟨Rect.unit (s := S256x7168) (k0_off62 k 128#32) S128x128.size (k0_off62_inb i k hc 1), xC8 (xB11 arg1 arg3 arg4 arg18 i hc X1 X3 X4 X18 k)⟩,
    ⟨Rect.unit (s := S256x7168) (k0_off62 k 0#32) S128x128.size (k0_off62_inb i k hc 0), xC8 (xB10 arg1 arg3 arg4 arg18 i hc X1 X3 X4 X18 k)⟩,
    ⟨Rect.unit (s := S256x7168) (k0_off58 k 128#32) S128x128.size (k0_off58_inb i k hc 1), xC8 (xB01 arg1 arg3 arg4 arg18 i hc X1 X3 X4 X18 k)⟩,
    ⟨Rect.unit (s := S256x7168) (k0_off58 k 0#32) S128x128.size (k0_off58_inb i k hc 0), xC8 (xB00 arg1 arg3 arg4 arg18 i hc X1 X3 X4 X18 k)⟩] := by
  unfold trip_k0_t2; rfl

theorem t2_11 : (trip_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc X1 X3 X4 X18 k).2.1 =
    [⟨Rect.unit (s := S2x1x7168) (k0_off63 k 128#32) S1x1x128.size (k0_off63_inb i k hc 1), colS 0x3B124925#32 (xB11 arg1 arg3 arg4 arg18 i hc X1 X3 X4 X18 k)⟩,
    ⟨Rect.unit (s := S2x1x7168) (k0_off63 k 0#32) S1x1x128.size (k0_off63_inb i k hc 0), colS 0x3B124925#32 (xB10 arg1 arg3 arg4 arg18 i hc X1 X3 X4 X18 k)⟩,
    ⟨Rect.unit (s := S2x1x7168) (k0_off60 k 128#32) S1x1x128.size (k0_off60_inb i k hc 1), colS 0x3B124925#32 (xB01 arg1 arg3 arg4 arg18 i hc X1 X3 X4 X18 k)⟩,
    ⟨Rect.unit (s := S2x1x7168) (k0_off60 k 0#32) S1x1x128.size (k0_off60_inb i k hc 0), colS 0x3B124925#32 (xB00 arg1 arg3 arg4 arg18 i hc X1 X3 X4 X18 k)⟩] := by
  unfold trip_k0_t2; rfl

theorem t2_17 : (trip_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc X1 X3 X4 X18 k).2.2.1 =
    [⟨Rect.unit (s := S7168x256) (k0_off64 k 128#32) S128x128.size (k0_off64_inb i k hc 1), xQT (xB11 arg1 arg3 arg4 arg18 i hc X1 X3 X4 X18 k)⟩,
    ⟨Rect.unit (s := S7168x256) (k0_off64 k 0#32) S128x128.size (k0_off64_inb i k hc 0), xQT (xB10 arg1 arg3 arg4 arg18 i hc X1 X3 X4 X18 k)⟩,
    ⟨Rect.unit (s := S7168x256) (k0_off61 k 128#32) S128x128.size (k0_off61_inb i k hc 1), xQT (xB01 arg1 arg3 arg4 arg18 i hc X1 X3 X4 X18 k)⟩,
    ⟨Rect.unit (s := S7168x256) (k0_off61 k 0#32) S128x128.size (k0_off61_inb i k hc 0), xQT (xB00 arg1 arg3 arg4 arg18 i hc X1 X3 X4 X18 k)⟩] := by
  unfold trip_k0_t2; rfl

end

end Cert.Val

end
-- ==== Proof.Val.LoopL2.lean ====
module

public import proofs.«01_k».proof.Proof.Val.MidL2
public import proofs.«01_k».proof.Proof.Ideal.Epi

@[expose] public section

noncomputable section

namespace Cert.Val

open Idealize.ShloMosaic Idealize.SL.Sem
open Cert.KernelIdeal Cert.KernelIdeal.Gen

variable {F : FTy → Type} [FloatOps F]

/-! ## What the other loops' trips write -/

/-- Sixteen rows of one column chunk, squared and added. -/
def sqAdd (a : FVec F S16x128 .f32) (x : Vec F S16x128 .bf16) : FVec F S16x128 .f32 :=
  addf a (mulf (extf .f32 (shapeCast S16x128 x shapeCasts_S16x128_S16x128) bitsLt_bf16_f32) (extf .f32 (shapeCast S16x128 x shapeCasts_S16x128_S16x128) bitsLt_bf16_f32))
/-- The reciprocal root mean square of sixteen rows from their squares' sums, in every lane. -/
def rowR (a : FVec F S16x128 .f32) : FVec F S16x128 .f32 :=
  shapeCast S16x128 (broadcastTo S16x128 (shapeCast S16x1 (rsqrt (addf (mulf (shapeCast S16x1 (multiReduction .add [1] S16 a 0x00000000#32 reduces_S16x128_S16 (.inl rfl) rfl) shapeCasts_S16_S16x1)
    (broadcast S16x1 (Scalar.ofBits .f32 0x39124925#32))) (broadcast S16x1 (Scalar.ofBits .f32 0x358637BD#32)))) shapeCasts_S16x1_S16x1) broadcasts_S16x1_S16x128) shapeCasts_S16x128_S16x128

/-- The offsets of trip `k`'s column chunks. -/
def chunks (i : grid0.Coords) (hc : k0_cond1 i = 1#1) (k : Fin k0_t1_loop.trips) : List {o : Fin 2 → ℕ // ∀ a, o a + S16x128.size a ≤ S256x7168.size a} :=
  [⟨k0_off1 k, k0_off1_inb i k hc⟩,
   ⟨k0_off2 k, k0_off2_inb i k hc⟩,
   ⟨k0_off3 k, k0_off3_inb i k hc⟩,
   ⟨k0_off4 k, k0_off4_inb i k hc⟩,
   ⟨k0_off5 k, k0_off5_inb i k hc⟩,
   ⟨k0_off6 k, k0_off6_inb i k hc⟩,
   ⟨k0_off7 k, k0_off7_inb i k hc⟩,
   ⟨k0_off8 k, k0_off8_inb i k hc⟩,
   ⟨k0_off9 k, k0_off9_inb i k hc⟩,
   ⟨k0_off10 k, k0_off10_inb i k hc⟩,
   ⟨k0_off11 k, k0_off11_inb i k hc⟩,
   ⟨k0_off12 k, k0_off12_inb i k hc⟩,
   ⟨k0_off13 k, k0_off13_inb i k hc⟩,
   ⟨k0_off14 k, k0_off14_inb i k hc⟩,
   ⟨k0_off15 k, k0_off15_inb i k hc⟩,
   ⟨k0_off16 k, k0_off16_inb i k hc⟩,
   ⟨k0_off17 k, k0_off17_inb i k hc⟩,
   ⟨k0_off18 k, k0_off18_inb i k hc⟩,
   ⟨k0_off19 k, k0_off19_inb i k hc⟩,
   ⟨k0_off20 k, k0_off20_inb i k hc⟩,
   ⟨k0_off21 k, k0_off21_inb i k hc⟩,
   ⟨k0_off22 k, k0_off22_inb i k hc⟩,
   ⟨k0_off23 k, k0_off23_inb i k hc⟩,
   ⟨k0_off24 k, k0_off24_inb i k hc⟩,
   ⟨k0_off25 k, k0_off25_inb i k hc⟩,
   ⟨k0_off26 k, k0_off26_inb i k hc⟩,
   ⟨k0_off27 k, k0_off27_inb i k hc⟩,
   ⟨k0_off28 k, k0_off28_inb i k hc⟩,
   ⟨k0_off29 k, k0_off29_inb i k hc⟩,
   ⟨k0_off30 k, k0_off30_inb i k hc⟩,
   ⟨k0_off31 k, k0_off31_inb i k hc⟩,
   ⟨k0_off32 k, k0_off32_inb i k hc⟩,
   ⟨k0_off33 k, k0_off33_inb i k hc⟩,
   ⟨k0_off34 k, k0_off34_inb i k hc⟩,
   ⟨k0_off35 k, k0_off35_inb i k hc⟩,
   ⟨k0_off36 k, k0_off36_inb i k hc⟩,
   ⟨k0_off37 k, k0_off37_inb i k hc⟩,
   ⟨k0_off38 k, k0_off38_inb i k hc⟩,
   ⟨k0_off39 k, k0_off39_inb i k hc⟩,
   ⟨k0_off40 k, k0_off40_inb i k hc⟩,
   ⟨k0_off41 k, k0_off41_inb i k hc⟩,
   ⟨k0_off42 k, k0_off42_inb i k hc⟩,
   ⟨k0_off43 k, k0_off43_inb i k hc⟩,
   ⟨k0_off44 k, k0_off44_inb i k hc⟩,
   ⟨k0_off45 k, k0_off45_inb i k hc⟩,
   ⟨k0_off46 k, k0_off46_inb i k hc⟩,
   ⟨k0_off47 k, k0_off47_inb i k hc⟩,
   ⟨k0_off48 k, k0_off48_inb i k hc⟩,
   ⟨k0_off49 k, k0_off49_inb i k hc⟩,
   ⟨k0_off50 k, k0_off50_inb i k hc⟩,
   ⟨k0_off51 k, k0_off51_inb i k hc⟩,
   ⟨k0_off52 k, k0_off52_inb i k hc⟩,
   ⟨k0_off53 k, k0_off53_inb i k hc⟩,
   ⟨k0_off54 k, k0_off54_inb i k hc⟩,
   ⟨k0_off55 k, k0_off55_inb i k hc⟩,
   ⟨k0_off56 k, k0_off56_inb i k hc⟩]

section
variable (c : Dev nD) (i : grid0.Coords) (arg1 : Memref sig .tc .smem S2 .i32) (harg1 : arg1.IsWhole) (arg2 : Memref sig .tc .smem S56x144 .f32) (harg2 : arg2.IsWhole) (arg3 : Memref sig .tc .vmem S256x7168 .bf16) (harg3 : arg3.IsWhole) (arg4 : Memref sig .tc .vmem S1x7168 .f32) (harg4 : arg4.IsWhole) (arg5 : Memref sig .tc .vmem S7168x256 .fp8e4m3) (harg5 : arg5.IsWhole) (arg6 : Memref sig .tc .vmem S256x256 .bf16) (harg6 : arg6.IsWhole) (arg7 : Memref sig .tc .vmem S256x7168 .bf16) (harg7 : arg7.IsWhole) (arg8 : Memref sig .tc .vmem S7168x256 .f32) (harg8 : arg8.IsWhole) (arg9 : Memref sig .tc .vmem S1x7168 .f32) (harg9 : arg9.IsWhole) (arg10 : Memref sig .tc .vmem S256x7168 .fp8e4m3) (harg10 : arg10.IsWhole) (arg11 : Memref sig .tc .vmem S2x1x7168 .f32) (harg11 : arg11.IsWhole) (arg12 : Memref sig .tc .vmem S256x256 .fp8e5m2) (harg12 : arg12.IsWhole) (arg13 : Memref sig .tc .vmem S256x144 .f32) (harg13 : arg13.IsWhole) (arg14 : Memref sig .tc .vmem S256x256 .fp8e5m2) (harg14 : arg14.IsWhole) (arg15 : Memref sig .tc .vmem S2x1x256 .f32) (harg15 : arg15.IsWhole) (arg16 : Memref sig .tc .vmem S7168x256 .f32) (harg16 : arg16.IsWhole) (arg17 : Memref sig .tc .vmem S7168x256 .bf16) (harg17 : arg17.IsWhole) (arg18 : Memref sig .tc .vmem S256x128 .f32) (harg18 : arg18.IsWhole) (arg19 : Memref sig .tc .vmem S256x256 .f32) (harg19 : arg19.IsWhole) (arg20 : Memref sig .tc .vmem S256x256 .bf16) (harg20 : arg20.IsWhole) (arg21 : Memref sig .tc .vmem S256x256 .bf16) (harg21 : arg21.IsWhole) (arg22 : Memref sig .tc .vmem S256x7168 .f32) (harg22 : arg22.IsWhole)

set_option maxHeartbeats 4000000 in
theorem t1_18 (hc : k0_cond1 i = 1#1) (X3 : BufTy.Contents (Elt F) arg3.view.ty) (k : Fin k0_t1_loop.trips) :
    (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc X3 k).1 = [⟨Rect.unit (s := S256x128) (k0_off57 k) S16x128.size (k0_off57_inb i k hc),
      rowR ((chunks i hc k).foldl (fun a o => sqAdd a (arg3.view.readAt (Elt F) (Rect.unit (s := S256x7168) o.1 S16x128.size o.2).toLoadRect X3)) (broadcast S16x128 (Scalar.ofBits .f32 0x00000000#32)))⟩] := by
  unfold trip_k0_t1; rfl

section
variable (hc : k0_cond2 i = 1#1) (X3 : BufTy.Contents (Elt F) arg3.view.ty) (X4 : BufTy.Contents (Elt F) arg4.view.ty) (X16 : BufTy.Contents (Elt F) arg16.view.ty) (X18 : BufTy.Contents (Elt F) arg18.view.ty) (k : Fin k0_t3_loop.trips) (a : FVec F S256x128 .f32)

theorem t3_acc : (trip_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc X3 X4 X16 X18 k).1 a = k0_pay9 a (arg16.view.readAt (Elt F) (Rect.unit (s := S7168x256) (k0_off123 k) S128x256.size (k0_off123_inb i k hc)).toLoadRect X16) (arg3.view.readAt (Elt F) (Rect.unit (s := S256x7168) (k0_off124 k) S256x128.size (k0_off124_inb i k hc)).toLoadRect X3) (arg18.view.readAt (Elt F) (Rect.unit (s := S256x128) ![0, 0] S256x128.size inb_S256x128_S256x128_0_0).toLoadRect X18) (arg4.view.readAt (Elt F) (Rect.unit (s := S1x7168) (k0_off125 k) S1x128.size (k0_off125_inb i k hc)).toLoadRect X4) := by unfold trip_k0_t3; rfl
theorem t3_9 : (trip_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc X3 X4 X16 X18 k).2.1 a = [⟨Rect.unit (s := S1x7168) (k0_off125 k) S1x128.size (k0_off125_inb i k hc), k0_pay6 (arg16.view.readAt (Elt F) (Rect.unit (s := S7168x256) (k0_off123 k) S128x256.size (k0_off123_inb i k hc)).toLoadRect X16) (arg3.view.readAt (Elt F) (Rect.unit (s := S256x7168) (k0_off124 k) S256x128.size (k0_off124_inb i k hc)).toLoadRect X3) (arg18.view.readAt (Elt F) (Rect.unit (s := S256x128) ![0, 0] S256x128.size inb_S256x128_S256x128_0_0).toLoadRect X18)⟩] := by unfold trip_k0_t3; rfl
theorem t3_22 : (trip_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc X3 X4 X16 X18 k).2.2.1 a = [⟨Rect.unit (s := S256x7168) (k0_off124 k) S256x128.size (k0_off124_inb i k hc), k0_pay8 (arg16.view.readAt (Elt F) (Rect.unit (s := S7168x256) (k0_off123 k) S128x256.size (k0_off123_inb i k hc)).toLoadRect X16) (arg4.view.readAt (Elt F) (Rect.unit (s := S1x7168) (k0_off125 k) S1x128.size (k0_off125_inb i k hc)).toLoadRect X4)⟩] := by unfold trip_k0_t3; rfl
end

theorem t4_7 (hc : k0_cond2 i = 1#1) (s : FVec F S256x128 .f32) (X3 : BufTy.Contents (Elt F) arg3.view.ty) (X18 : BufTy.Contents (Elt F) arg18.view.ty) (X22 : BufTy.Contents (Elt F) arg22.view.ty) (k : Fin k0_t4_loop.trips) :
    (trip_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc s X3 X18 X22 k).1 = [⟨Rect.unit (s := S256x7168) (k0_off126 k) S256x128.size (k0_off126_inb i k hc), k0_pay10 s (arg18.view.readAt (Elt F) (Rect.unit (s := S256x128) ![0, 0] S256x128.size inb_S256x128_S256x128_0_0).toLoadRect X18) (arg3.view.readAt (Elt F) (Rect.unit (s := S256x7168) (k0_off126 k) S256x128.size (k0_off126_inb i k hc)).toLoadRect X3) (arg22.view.readAt (Elt F) (Rect.unit (s := S256x7168) (k0_off126 k) S256x128.size (k0_off126_inb i k hc)).toLoadRect X22)⟩] := by
  unfold trip_k0_t4; rfl

section
variable (hc : k0_cond2 i = 1#1) (f3 : BufTy.Contents (Elt F) arg3.view.ty) (f4 : BufTy.Contents (Elt F) arg4.view.ty) (f7 : BufTy.Contents (Elt F) arg7.view.ty) (f9 : BufTy.Contents (Elt F) arg9.view.ty) (f13 : BufTy.Contents (Elt F) arg13.view.ty) (f16 : BufTy.Contents (Elt F) arg16.view.ty) (f18 : BufTy.Contents (Elt F) arg18.view.ty) (f19 : BufTy.Contents (Elt F) arg19.view.ty) (f22 : BufTy.Contents (Elt F) arg22.view.ty)

theorem epi_9 : (epiRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f7 f9 f13 f16 f18 f19 f22).2.1 = (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f16 f18 (k0_pay3 (F := F)) k0_t3_loop.trips).2.1 := rfl
theorem epi_13 : (epiRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f7 f9 f13 f16 f18 f19 f22).2.2.1 = [⟨Rect.unit (s := S256x144) ![0, 0] S256x144.size inb_S256x144_S256x144_0_0, arg19.view.readAt (Elt F) (Rect.unit (s := S256x256) ![0, 0] S256x144.size inb_S256x256_S256x144_0_0).toLoadRect f19⟩] := rfl
theorem epi_7 : (epiRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f7 f9 f13 f16 f18 f19 f22).1 = pb_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f16 f18 (k0_pay3 (F := F)) k0_t3_loop.trips).1 f3 f18 (arg22.view.writes (Elt F) f22 (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f16 f18 (k0_pay3 (F := F)) k0_t3_loop.trips).2.2) k0_t4_loop.trips := rfl
end

section
variable (hc : k0_cond1 i = 1#1) (f1 : BufTy.Contents (Elt F) arg1.view.ty) (f3 : BufTy.Contents (Elt F) arg3.view.ty) (f4 : BufTy.Contents (Elt F) arg4.view.ty) (f6 : BufTy.Contents (Elt F) arg6.view.ty) (f10 : BufTy.Contents (Elt F) arg10.view.ty) (f11 : BufTy.Contents (Elt F) arg11.view.ty) (f16 : BufTy.Contents (Elt F) arg16.view.ty) (f17 : BufTy.Contents (Elt F) arg17.view.ty) (f18 : BufTy.Contents (Elt F) arg18.view.ty) (f19 : BufTy.Contents (Elt F) arg19.view.ty)

theorem first_10 : (firstRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f6 f10 f11 f16 f17 f18 f19).2.1 = (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 (arg18.view.writes (Elt F) f18 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 k0_t1_loop.trips)) k0_t2_loop.trips).1 := rfl
theorem first_11 : (firstRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f6 f10 f11 f16 f17 f18 f19).2.2.1 = (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 (arg18.view.writes (Elt F) f18 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 k0_t1_loop.trips)) k0_t2_loop.trips).2.1 := rfl
theorem first_16 : (firstRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f6 f10 f11 f16 f17 f18 f19).2.2.2.1 = [⟨Rect.unit (s := S7168x256) ![0, 0] S7168x256.size inb_S7168x256_S7168x256_0_0, k0_pay72⟩] := rfl
theorem first_17 : (firstRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f6 f10 f11 f16 f17 f18 f19).2.2.2.2.1 = (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 (arg18.view.writes (Elt F) f18 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 k0_t1_loop.trips)) k0_t2_loop.trips).2.2 := rfl
theorem first_18 : (firstRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f6 f10 f11 f16 f17 f18 f19).2.2.2.2.2.1 = (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 k0_t1_loop.trips) := rfl
theorem first_19 : (firstRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f6 f10 f11 f16 f17 f18 f19).2.2.2.2.2.2.1 = [⟨Rect.unit (s := S256x256) ![0, 0] S256x256.size inb_S256x256_S256x256_0_0, k0_pay71⟩] := rfl
end

section
variable (v0 : BitVec 32) (v3 : IVec S128x128 32) (v23 : BitVec 32) (v29 : Vec F S128x128 .f32) (f1 : BufTy.Contents (Elt F) arg1.view.ty) (f2 : BufTy.Contents (Elt F) arg2.view.ty) (f5 : BufTy.Contents (Elt F) arg5.view.ty) (f6 : BufTy.Contents (Elt F) arg6.view.ty) (f8 : BufTy.Contents (Elt F) arg8.view.ty) (f12 : BufTy.Contents (Elt F) arg12.view.ty) (f14 : BufTy.Contents (Elt F) arg14.view.ty) (f15 : BufTy.Contents (Elt F) arg15.view.ty) (f16 : BufTy.Contents (Elt F) arg16.view.ty) (f17 : BufTy.Contents (Elt F) arg17.view.ty) (f19 : BufTy.Contents (Elt F) arg19.view.ty) (f20 : BufTy.Contents (Elt F) arg20.view.ty) (f21 : BufTy.Contents (Elt F) arg21.view.ty)

theorem mid19 : (midRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v3 v23 (k0_pay73 (F := F) (firstRunA.sl.r arg1 f1)) v29 (B00 arg1 arg6 f1 f6) (absf (B00 arg1 arg6 f1 f6)) (rowA (B00 arg1 arg6 f1 f6)) f1 f2 f5 f6 f8 f12 f14 f15 f16 f17 f19 f20 f21).2.2.2.2.2.1 = [⟨Rect.unit (s := S256x256) (k0_off66 i) S128x128.size (k0_off66_inb i), k0_pay171 (k0_pay109 v0 v3 (k0_pay84 v0 v3
        (arg19.view.readAt (Elt F) (Rect.unit (s := S256x256) (k0_off66 i) S128x128.size (k0_off66_inb i)).toLoadRect f19) (vscale (rowA (B10 arg1 arg6 f1 f6)))) (vscale (rowA (B11 arg1 arg6 f1 f6))))⟩,
      ⟨Rect.unit (s := S256x256) (k0_off65 i) S128x128.size (k0_off65_inb i), k0_pay121 (k0_pay109 v0 v3 (k0_pay84 v0 v3 v29 (vscale (rowA (B00 arg1 arg6 f1 f6)))) (vscale (rowA (B01 arg1 arg6 f1 f6))))⟩] := rfl
end
end

end Cert.Val

end
-- ==== Proof.Val.FirstV.lean ====
module

public import proofs.«01_k».proof.Proof.Val.Reads
public import proofs.«01_k».proof.Proof.Val.LoopL
public import proofs.«01_k».proof.Proof.Val.LoopL2

@[expose] public section

noncomputable section

namespace Cert.Val

open Idealize.ShloMosaic Idealize.SL.Sem Idealize.ShloMosaic.ValueIdx
open Cert.KernelIdeal Cert.KernelIdeal.Gen

/-! ## The rows' reciprocal root mean squares -/

/-- A sum over columns taken chunk by chunk. -/
theorem sum_chunks (m n : ℕ) (f : ℕ → EReal) : ∑ l : Fin n, ∑ j ∈ Finset.range m, f (n * j + l.val) = ∑ i : Fin (m * n), f i.val := by
  rw [Finset.sum_comm, Finset.sum_range, ← Fintype.sum_prod_type']
  refine Fintype.sum_equiv finProdFinEquiv _ _ fun x => ?_
  show f (n * x.1.val + x.2.val) = f (x.2.val + n * x.1.val)
  rw [Nat.add_comm]

theorem cast16_apply (u : FVec Ideal S16 .f32) (y : S16x1.Idx) : shapeCast S16x1 u shapeCasts_S16_S16x1 y = u (ix1 (y 0)) := by
  refine shapeCast_apply _ _ _ _ ?_
  rw [Shape.rowMajor_val_one, Shape.rowMajor_val_two]
  have : (y 1).val < 1 := (y 1).isLt
  show (y 0).val = (y 0).val * 1 + (y 1).val
  omega

theorem rowR_apply (A : FVec Ideal S16x128 .f32) (x : S16x128.Idx) :
    rowR A x = Ideal.rsqrt ((∑ l : Fin 128, A (ix2 (x 0) l)) * Ideal.ofBits .f32 0x39124925#32 + Ideal.ofBits .f32 0x358637BD#32) := by
  unfold rowR
  rw [shapeCast_self]
  refine (broadcastTo_apply _ _ x (ix2 (x 0) (0 : Fin 1)) fun a => ?_).trans ?_
  · match a with
    | ⟨0, _⟩ => rfl
    | ⟨1, _⟩ => rfl
  rw [shapeCast_self]
  refine congrArg (fun z => Ideal.rsqrt (z * Ideal.ofBits .f32 0x39124925#32 + Ideal.ofBits .f32 0x358637BD#32)) ?_
  refine (cast16_apply _ _).trans ((Ideal.multiReduction_add_single _ _ _ _ _ _).trans ?_)
  refine Finset.sum_congr rfl fun k _ => congrArg A ?_
  funext a
  match a with
  | ⟨0, _⟩ => rfl
  | ⟨1, _⟩ => rfl

theorem foldl_sq {α : Type*} (L : List α) (rd : α → Vec Ideal S16x128 .bf16) (init : FVec Ideal S16x128 .f32) (x : S16x128.Idx) :
    L.foldl (fun a o => sqAdd a (rd o)) init x = init x + (L.map fun o => rd o x * rd o x).sum := by
  induction L generalizing init with
  | nil => simp
  | cons o L ih =>
    rw [List.foldl_cons, ih, List.map_cons, List.sum_cons, ← add_assoc]
    refine congrArg (· + _) ?_
    unfold sqAdd
    rw [shapeCast_self]
    rfl

theorem chunks_eq (i : grid0.Coords) (hc : k0_cond1 i = 1#1) (k : Fin k0_t1_loop.trips) :
    (chunks i hc k).map Subtype.val = (List.range 56).map fun j => ![16 * k.val, 128 * j] := by
  simp only [chunks, List.map_cons, List.map_nil, k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, k0_off52_eq, k0_off53_eq, k0_off54_eq, k0_off55_eq, k0_off56_eq]
  rfl

section
variable (c : Dev nD) (i : grid0.Coords) (arg1 : Memref sig .tc .smem S2 .i32) (harg1 : arg1.IsWhole) (arg2 : Memref sig .tc .smem S56x144 .f32) (harg2 : arg2.IsWhole) (arg3 : Memref sig .tc .vmem S256x7168 .bf16) (harg3 : arg3.IsWhole) (arg4 : Memref sig .tc .vmem S1x7168 .f32) (harg4 : arg4.IsWhole) (arg5 : Memref sig .tc .vmem S7168x256 .fp8e4m3) (harg5 : arg5.IsWhole) (arg6 : Memref sig .tc .vmem S256x256 .bf16) (harg6 : arg6.IsWhole) (arg7 : Memref sig .tc .vmem S256x7168 .bf16) (harg7 : arg7.IsWhole) (arg8 : Memref sig .tc .vmem S7168x256 .f32) (harg8 : arg8.IsWhole) (arg9 : Memref sig .tc .vmem S1x7168 .f32) (harg9 : arg9.IsWhole) (arg10 : Memref sig .tc .vmem S256x7168 .fp8e4m3) (harg10 : arg10.IsWhole) (arg11 : Memref sig .tc .vmem S2x1x7168 .f32) (harg11 : arg11.IsWhole) (arg12 : Memref sig .tc .vmem S256x256 .fp8e5m2) (harg12 : arg12.IsWhole) (arg13 : Memref sig .tc .vmem S256x144 .f32) (harg13 : arg13.IsWhole) (arg14 : Memref sig .tc .vmem S256x256 .fp8e5m2) (harg14 : arg14.IsWhole) (arg15 : Memref sig .tc .vmem S2x1x256 .f32) (harg15 : arg15.IsWhole) (arg16 : Memref sig .tc .vmem S7168x256 .f32) (harg16 : arg16.IsWhole) (arg17 : Memref sig .tc .vmem S7168x256 .bf16) (harg17 : arg17.IsWhole) (arg18 : Memref sig .tc .vmem S256x128 .f32) (harg18 : arg18.IsWhole) (arg19 : Memref sig .tc .vmem S256x256 .f32) (harg19 : arg19.IsWhole) (arg20 : Memref sig .tc .vmem S256x256 .bf16) (harg20 : arg20.IsWhole) (arg21 : Memref sig .tc .vmem S256x256 .bf16) (harg21 : arg21.IsWhole) (arg22 : Memref sig .tc .vmem S256x7168 .f32) (harg22 : arg22.IsWhole)
variable (a : In) (ha : a.Fin') (hc : k0_cond1 i = 1#1)
variable (f1 : BufTy.Contents (Elt Ideal) arg1.view.ty) (f3 : BufTy.Contents (Elt Ideal) arg3.view.ty) (f4 : BufTy.Contents (Elt Ideal) arg4.view.ty) (f18 : BufTy.Contents (Elt Ideal) arg18.view.ty)
variable (h1 : ∀ y : S2.Idx, arg1.view.read (Elt Ideal) f1 y = a.S (y 0).val)
variable (h3 : ∀ y : S256x7168.Idx, arg3.view.read (Elt Ideal) f3 y = a.X (y 0).val (y 1).val)
variable (h4 : ∀ y : S1x7168.Idx, arg4.view.read (Elt Ideal) f4 y = a.G (y 1).val)
variable (h18 : ∀ y : S256x128.Idx, arg18.view.read (Elt Ideal) f18 y = a.rr (y 0).val)

section
include h3
theorem rows_apply (k : Fin k0_t1_loop.trips) (x : S16x128.Idx) :
    rowR ((chunks i hc k).foldl (fun a o => sqAdd a (arg3.view.readAt (Elt Ideal) (Rect.unit (s := S256x7168) o.1 S16x128.size o.2).toLoadRect f3)) (broadcast S16x128 (Scalar.ofBits .f32 0x00000000#32))) x
      = a.rr (16 * k.val + (x 0).val) := by
  rw [rowR_apply]
  unfold In.rr
  refine congrArg (fun z => Ideal.rsqrt (z * Ideal.ofBits .f32 0x39124925#32 + Ideal.ofBits .f32 0x358637BD#32)) ?_
  refine Eq.trans (Finset.sum_congr rfl fun l _ => ?_) (sum_chunks 56 128 fun q => a.X (16 * k.val + (x 0).val) q * a.X (16 * k.val + (x 0).val) q)
  rw [foldl_sq]
  refine (congrArg₂ (· + ·) (show (broadcast (α := EReal) S16x128 (Ideal.ofBits .f32 0x00000000#32) (ix2 (x 0) l)) = 0 from by
    show Ideal.ieee 8 23 0x00000000#32 = 0
    unfold Ideal.ieee
    simp) rfl).trans ((zero_add _).trans ?_)
  refine Eq.trans (congrArg List.sum (List.map_congr_left (g := fun o => (fun p : Fin 2 → ℕ => a.X (p 0 + (x 0).val) (p 1 + l.val) * a.X (p 0 + (x 0).val) (p 1 + l.val)) o.1) fun o _ => ?_)) ?_
  · have := rd2 arg3.view f3 a.X h3 o.1 o.2 (ix2 (x 0) l)
    exact congrArg₂ (· * ·) this this
  · rw [show (chunks i hc k).map (fun o => (fun p : Fin 2 → ℕ => a.X (p 0 + (x 0).val) (p 1 + l.val) * a.X (p 0 + (x 0).val) (p 1 + l.val)) o.1)
        = ((chunks i hc k).map Subtype.val).map (fun p : Fin 2 → ℕ => a.X (p 0 + (x 0).val) (p 1 + l.val) * a.X (p 0 + (x 0).val) (p 1 + l.val)) from by rw [List.map_map]; rfl,
      chunks_eq, List.map_map]
    exact (Finset.sum_range (M := EReal) _).symm ▸ (by
      rw [← List.sum_ofFn]; rw [List.ofFn_eq_map]; rw [← List.map_coe_finRange_eq_range, List.map_map]; rfl)

theorem out18 (y : S256x128.Idx) :
    arg18.view.read (Elt Ideal) (arg18.view.writes (Elt Ideal) f18 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 k0_t1_loop.trips)) y = a.rr (y 0).val := by
  have mem := fun p => mem_trips (fun n => pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 n) (fun k => (trip_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 k).1) rfl
    (fun k => pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 k) p
  have ht : k0_t1_loop.trips = 16 := by decide
  have y0 : (y 0).val < 256 := (y 0).isLt
  refine wr2 arg18.view f18 (fun t _ => a.rr t) _ (fun p hp => ?_) y ?_
  · obtain ⟨k, hk⟩ := (mem p).mp hp
    rw [t1_18] at hk
    obtain rfl := List.mem_singleton.mp hk
    refine agrees_unit _ _ _ _ fun x => (rows_apply i arg3 a hc f3 h3 k x).trans ?_
    rw [congrFun (k0_off57_eq k) 0]; rfl
  · obtain ⟨p, hp, hy⟩ : ∃ p ∈ (trip_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 ⟨(y 0).val / 16, by omega⟩).1, y ∈ p.1.set := by
      rw [t1_18]
      refine ⟨_, List.mem_singleton_self _, mem_unit2 _ (k0_off57_inb i _ hc) _ ?_ ?_⟩
      · rw [congrFun (k0_off57_eq _) 0]; show 16 * ((y 0).val / 16) ≤ _ ∧ _ < 16 * ((y 0).val / 16) + 16; omega
      · rw [congrFun (k0_off57_eq _) 1]; exact ⟨Nat.zero_le _, by show _ < 0 + 128; have : (y 1).val < 128 := (y 1).isLt; omega⟩
    exact ⟨p, (mem p).mpr ⟨_, hp⟩, hy⟩
end
end

end Cert.Val

end
-- ==== Proof.Val.FirstV2.lean ====
module

public import proofs.«01_k».proof.Proof.Val.FirstV

@[expose] public section

noncomputable section

namespace Cert.Val

open Idealize.ShloMosaic Idealize.SL.Sem Idealize.ShloMosaic.ValueIdx
open Cert.KernelIdeal Cert.KernelIdeal.Gen

theorem t2_trips : k0_t2_loop.trips = 28 := by decide

/-! ## A block of the activations by numbers -/

section
variable (a : In) (ha : a.Fin') (b j : ℕ) (hj : j < 56) (v : FVec Ideal S128x128 .f32)
variable (hv : ∀ x : S128x128.Idx, v x = a.xn (128 * b + (x 0).val) (128 * j + (x 1).val))
include ha hj hv

theorem blk_xC (x : S128x128.Idx) : xC8 v x = a.xC (128 * b + (x 0).val) (128 * j + (x 1).val) := by
  have h0 : (x 0).val < 128 := (x 0).isLt
  rw [xC8_apply v (fun s l => a.xn (128 * b + s) (128 * j + l)) hv (fun s l hl => a.xn_le ha _ _ (by omega))]
  unfold In.xC In.xA
  rw [show (128 * b + (x 0).val) / 128 = b by omega]
theorem blk_xS (y : S1x1x128.Idx) : colS 0x3B124925#32 v y = a.xS b (128 * j + (y 2).val) :=
  xS3_apply v (fun s l => a.xn (128 * b + s) (128 * j + l)) hv (fun s l hl => a.xn_le ha _ _ (by omega)) y
theorem blk_xQ (x : S128x128.Idx) : xQT v x = a.xQ (128 * b + (x 1).val) (128 * j + (x 0).val) := by
  have h0 : (x 1).val < 128 := (x 1).isLt
  rw [xQT_apply v (fun s l => a.xn (128 * b + s) (128 * j + l)) hv (fun s l hl => a.xn_le ha _ _ (by omega))]
  unfold In.xQ In.xC In.xS In.xA
  rw [show (128 * b + (x 1).val) / 128 = b by omega]
end

section
variable (c : Dev nD) (i : grid0.Coords) (arg1 : Memref sig .tc .smem S2 .i32) (harg1 : arg1.IsWhole) (arg2 : Memref sig .tc .smem S56x144 .f32) (harg2 : arg2.IsWhole) (arg3 : Memref sig .tc .vmem S256x7168 .bf16) (harg3 : arg3.IsWhole) (arg4 : Memref sig .tc .vmem S1x7168 .f32) (harg4 : arg4.IsWhole) (arg5 : Memref sig .tc .vmem S7168x256 .fp8e4m3) (harg5 : arg5.IsWhole) (arg6 : Memref sig .tc .vmem S256x256 .bf16) (harg6 : arg6.IsWhole) (arg7 : Memref sig .tc .vmem S256x7168 .bf16) (harg7 : arg7.IsWhole) (arg8 : Memref sig .tc .vmem S7168x256 .f32) (harg8 : arg8.IsWhole) (arg9 : Memref sig .tc .vmem S1x7168 .f32) (harg9 : arg9.IsWhole) (arg10 : Memref sig .tc .vmem S256x7168 .fp8e4m3) (harg10 : arg10.IsWhole) (arg11 : Memref sig .tc .vmem S2x1x7168 .f32) (harg11 : arg11.IsWhole) (arg12 : Memref sig .tc .vmem S256x256 .fp8e5m2) (harg12 : arg12.IsWhole) (arg13 : Memref sig .tc .vmem S256x144 .f32) (harg13 : arg13.IsWhole) (arg14 : Memref sig .tc .vmem S256x256 .fp8e5m2) (harg14 : arg14.IsWhole) (arg15 : Memref sig .tc .vmem S2x1x256 .f32) (harg15 : arg15.IsWhole) (arg16 : Memref sig .tc .vmem S7168x256 .f32) (harg16 : arg16.IsWhole) (arg17 : Memref sig .tc .vmem S7168x256 .bf16) (harg17 : arg17.IsWhole) (arg18 : Memref sig .tc .vmem S256x128 .f32) (harg18 : arg18.IsWhole) (arg19 : Memref sig .tc .vmem S256x256 .f32) (harg19 : arg19.IsWhole) (arg20 : Memref sig .tc .vmem S256x256 .bf16) (harg20 : arg20.IsWhole) (arg21 : Memref sig .tc .vmem S256x256 .bf16) (harg21 : arg21.IsWhole) (arg22 : Memref sig .tc .vmem S256x7168 .f32) (harg22 : arg22.IsWhole)
variable (a : In) (ha : a.Fin') (hc : k0_cond1 i = 1#1)
variable (f1 : BufTy.Contents (Elt Ideal) arg1.view.ty) (f3 : BufTy.Contents (Elt Ideal) arg3.view.ty) (f4 : BufTy.Contents (Elt Ideal) arg4.view.ty) (f18 : BufTy.Contents (Elt Ideal) arg18.view.ty)
variable (h1 : ∀ y : S2.Idx, arg1.view.read (Elt Ideal) f1 y = a.S (y 0).val)
variable (h3 : ∀ y : S256x7168.Idx, arg3.view.read (Elt Ideal) f3 y = a.X (y 0).val (y 1).val)
variable (h4 : ∀ y : S1x7168.Idx, arg4.view.read (Elt Ideal) f4 y = a.G (y 1).val)
variable (h18 : ∀ y : S256x128.Idx, arg18.view.read (Elt Ideal) f18 y = a.rr (y 0).val)
include h1 h3 h4 h18

/-- A block whose reads are at known offsets. -/
theorem xblk_xn (b j : ℕ) (hb : b < 2) (n : BitVec 32) (hn : n = a.S b) (o3 : Fin 2 → ℕ) (b3) (e3 : o3 = ![128 * b, 128 * j]) (o18 : Fin 2 → ℕ) (b18) (e18 : o18 0 = 128 * b)
    (o4 : Fin 2 → ℕ) (b4) (e4 : o4 1 = 128 * j) (x : S128x128.Idx) :
    xblk (k0_pay73 (F := Ideal) n) (arg3.view.readAt (Elt Ideal) (Rect.unit (s := S256x7168) o3 S128x128.size b3).toLoadRect f3)
      (arg18.view.readAt (Elt Ideal) (Rect.unit (s := S256x128) o18 S128x128.size b18).toLoadRect f18)
      (arg4.view.readAt (Elt Ideal) (Rect.unit (s := S1x7168) o4 S1x128.size b4).toLoadRect f4) x = a.xn (128 * b + (x 0).val) (128 * j + (x 1).val) := by
  have h0 : (x 0).val < 128 := (x 0).isLt
  rw [xblk_apply]
  have r3 := rd2 arg3.view f3 a.X h3 o3 b3 x
  have r18 := rd2 arg18.view f18 (fun t _ => a.rr t) h18 o18 b18 x
  have r4 := rd2 arg4.view f4 (fun _ i => a.G i) h4 o4 b4 (ix2 (0 : Fin 1) (x 1))
  rw [congrFun e3 0, congrFun e3 1] at r3
  rw [e18] at r18
  rw [e4] at r4
  unfold In.xn In.xh In.ok
  rw [show (128 * b + (x 0).val) % 128 = (x 0).val by omega, show (128 * b + (x 0).val) / 128 = b by omega, hn]
  exact congrArg (sel _) (congrArg₂ (· * ·) (congrArg₂ (· * ·) r3 r18) r4)

theorem hx00 (k : Fin k0_t2_loop.trips) (x : S128x128.Idx) : xB00 (F := Ideal) arg1 arg3 arg4 arg18 i hc f1 f3 f4 f18 k x = a.xn (128 * 0 + (x 0).val) (128 * (2 * k.val) + (x 1).val) := by
  refine xblk_xn arg1 arg3 arg4 arg18 a f1 f3 f4 f18 h1 h3 h4 h18 0 _ (by norm_num) _ (len0 a arg1 f1 h1) _ _ ((k0_off58_eq k 0).trans ?_) _ _ rfl _ _ ((congrFun (k0_off59_eq k 0) 1).trans ?_) x
  · funext q; match q with
    | ⟨0, _⟩ => rfl
    | ⟨1, _⟩ => show 256 * k.val + 128 * 0 = 128 * (2 * k.val); omega
  · show 256 * k.val + 128 * 0 = 128 * (2 * k.val); omega
theorem hx01 (k : Fin k0_t2_loop.trips) (x : S128x128.Idx) : xB01 (F := Ideal) arg1 arg3 arg4 arg18 i hc f1 f3 f4 f18 k x = a.xn (128 * 0 + (x 0).val) (128 * (2 * k.val + 1) + (x 1).val) := by
  refine xblk_xn arg1 arg3 arg4 arg18 a f1 f3 f4 f18 h1 h3 h4 h18 0 _ (by norm_num) _ (len0 a arg1 f1 h1) _ _ ((k0_off58_eq k 1).trans ?_) _ _ rfl _ _ ((congrFun (k0_off59_eq k 1) 1).trans ?_) x
  · funext q; match q with
    | ⟨0, _⟩ => rfl
    | ⟨1, _⟩ => show 256 * k.val + 128 * 1 = 128 * (2 * k.val + 1); omega
  · show 256 * k.val + 128 * 1 = 128 * (2 * k.val + 1); omega
theorem hx10 (k : Fin k0_t2_loop.trips) (x : S128x128.Idx) : xB10 (F := Ideal) arg1 arg3 arg4 arg18 i hc f1 f3 f4 f18 k x = a.xn (128 * 1 + (x 0).val) (128 * (2 * k.val) + (x 1).val) := by
  refine xblk_xn arg1 arg3 arg4 arg18 a f1 f3 f4 f18 h1 h3 h4 h18 1 _ (by norm_num) _ (len1 a arg1 f1 h1) _ _ ((k0_off62_eq k 0).trans ?_) _ _ rfl _ _ ((congrFun (k0_off59_eq k 0) 1).trans ?_) x
  · funext q; match q with
    | ⟨0, _⟩ => rfl
    | ⟨1, _⟩ => show 256 * k.val + 128 * 0 = 128 * (2 * k.val); omega
  · show 256 * k.val + 128 * 0 = 128 * (2 * k.val); omega
theorem hx11 (k : Fin k0_t2_loop.trips) (x : S128x128.Idx) : xB11 (F := Ideal) arg1 arg3 arg4 arg18 i hc f1 f3 f4 f18 k x = a.xn (128 * 1 + (x 0).val) (128 * (2 * k.val + 1) + (x 1).val) := by
  refine xblk_xn arg1 arg3 arg4 arg18 a f1 f3 f4 f18 h1 h3 h4 h18 1 _ (by norm_num) _ (len1 a arg1 f1 h1) _ _ ((k0_off62_eq k 1).trans ?_) _ _ rfl _ _ ((congrFun (k0_off59_eq k 1) 1).trans ?_) x
  · funext q; match q with
    | ⟨0, _⟩ => rfl
    | ⟨1, _⟩ => show 256 * k.val + 128 * 1 = 128 * (2 * k.val + 1); omega
  · show 256 * k.val + 128 * 1 = 128 * (2 * k.val + 1); omega

include ha

theorem out10 (f : BufTy.Contents (Elt Ideal) arg10.view.ty) (y : S256x7168.Idx) :
    arg10.view.read (Elt Ideal) (arg10.view.writes (Elt Ideal) f (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f18 k0_t2_loop.trips).1) y = a.xC (y 0).val (y 1).val := by
  have mem := fun p => mem_trips (fun n => (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f18 n).1) (fun k => (trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f18 k).1) rfl
    (fun k => congrArg (fun q => q.1) (pb_k0_t2_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f18 k)) p
  have ht := t2_trips
  have kt : ∀ k : Fin k0_t2_loop.trips, k.val < 28 := fun k => lt_of_lt_of_eq k.isLt ht
  refine wr2 arg10.view f (a.xC) _ (fun p hp => ?_) y ?_
  · obtain ⟨k, hk⟩ := (mem p).mp hp
    have hk28 := kt k
    rw [t2_10] at hk
    simp only [List.mem_cons, List.not_mem_nil, or_false] at hk
    rcases hk with rfl | rfl | rfl | rfl
    · refine agrees_unit _ _ _ _ fun x => (blk_xC a ha 1 (2 * k.val + 1) (by omega) _ (hx11 i arg1 arg3 arg4 arg18 a hc f1 f3 f4 f18 h1 h3 h4 h18 k) x).trans ?_
      refine Eq.trans ?_ (congrArg₂ (fun p q => a.xC (p + (x 0).val) (q + (x 1).val)) (congrFun (k0_off62_eq k 1) 0) (congrFun (k0_off62_eq k 1) 1)).symm
      show _ = a.xC (128 + (x 0).val) (256 * k.val + 128 * 1 + (x 1).val)
      congr 1 <;> omega
    · refine agrees_unit _ _ _ _ fun x => (blk_xC a ha 1 (2 * k.val) (by omega) _ (hx10 i arg1 arg3 arg4 arg18 a hc f1 f3 f4 f18 h1 h3 h4 h18 k) x).trans ?_
      refine Eq.trans ?_ (congrArg₂ (fun p q => a.xC (p + (x 0).val) (q + (x 1).val)) (congrFun (k0_off62_eq k 0) 0) (congrFun (k0_off62_eq k 0) 1)).symm
      show _ = a.xC (128 + (x 0).val) (256 * k.val + 128 * 0 + (x 1).val)
      congr 1 <;> omega
    · refine agrees_unit _ _ _ _ fun x => (blk_xC a ha 0 (2 * k.val + 1) (by omega) _ (hx01 i arg1 arg3 arg4 arg18 a hc f1 f3 f4 f18 h1 h3 h4 h18 k) x).trans ?_
      refine Eq.trans ?_ (congrArg₂ (fun p q => a.xC (p + (x 0).val) (q + (x 1).val)) (congrFun (k0_off58_eq k 1) 0) (congrFun (k0_off58_eq k 1) 1)).symm
      show _ = a.xC (0 + (x 0).val) (256 * k.val + 128 * 1 + (x 1).val)
      congr 1 <;> omega
    · refine agrees_unit _ _ _ _ fun x => (blk_xC a ha 0 (2 * k.val) (by omega) _ (hx00 i arg1 arg3 arg4 arg18 a hc f1 f3 f4 f18 h1 h3 h4 h18 k) x).trans ?_
      refine Eq.trans ?_ (congrArg₂ (fun p q => a.xC (p + (x 0).val) (q + (x 1).val)) (congrFun (k0_off58_eq k 0) 0) (congrFun (k0_off58_eq k 0) 1)).symm
      show _ = a.xC (0 + (x 0).val) (256 * k.val + 128 * 0 + (x 1).val)
      congr 1 <;> omega
  · have y0 : (y 0).val < 256 := (y 0).isLt
    have y1 : (y 1).val < 7168 := (y 1).isLt
    obtain ⟨p, hp, hy⟩ : ∃ p ∈ (trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f18 ⟨(y 1).val / 256, by omega⟩).1, y ∈ p.1.set := by
      rw [t2_10]
      rcases lt_or_ge (y 0).val 128 with hb | hb <;> rcases lt_or_ge ((y 1).val % 256) 128 with hr | hr
      · refine ⟨_, .tail _ (.tail _ (.tail _ (.head _))), mem_unit2 _ (k0_off58_inb i _ hc 0) _ ?_ ?_⟩
        · refine (congrArg (fun z => z ≤ (y 0).val ∧ (y 0).val < z + 128) (congrFun (k0_off58_eq _ 0) 0)).mpr ?_; show 0 ≤ (y 0).val ∧ (y 0).val < 0 + 128; omega
        · refine (congrArg (fun z => z ≤ (y 1).val ∧ (y 1).val < z + 128) (congrFun (k0_off58_eq _ 0) 1)).mpr ?_; show 256 * ((y 1).val / 256) + 128 * 0 ≤ (y 1).val ∧ (y 1).val < 256 * ((y 1).val / 256) + 128 * 0 + 128; omega
      · refine ⟨_, .tail _ (.tail _ (.head _)), mem_unit2 _ (k0_off58_inb i _ hc 1) _ ?_ ?_⟩
        · refine (congrArg (fun z => z ≤ (y 0).val ∧ (y 0).val < z + 128) (congrFun (k0_off58_eq _ 1) 0)).mpr ?_; show 0 ≤ (y 0).val ∧ (y 0).val < 0 + 128; omega
        · refine (congrArg (fun z => z ≤ (y 1).val ∧ (y 1).val < z + 128) (congrFun (k0_off58_eq _ 1) 1)).mpr ?_; show 256 * ((y 1).val / 256) + 128 * 1 ≤ (y 1).val ∧ (y 1).val < 256 * ((y 1).val / 256) + 128 * 1 + 128; omega
      · refine ⟨_, .tail _ (.head _), mem_unit2 _ (k0_off62_inb i _ hc 0) _ ?_ ?_⟩
        · refine (congrArg (fun z => z ≤ (y 0).val ∧ (y 0).val < z + 128) (congrFun (k0_off62_eq _ 0) 0)).mpr ?_; show 128 ≤ (y 0).val ∧ (y 0).val < 128 + 128; omega
        · refine (congrArg (fun z => z ≤ (y 1).val ∧ (y 1).val < z + 128) (congrFun (k0_off62_eq _ 0) 1)).mpr ?_; show 256 * ((y 1).val / 256) + 128 * 0 ≤ (y 1).val ∧ (y 1).val < 256 * ((y 1).val / 256) + 128 * 0 + 128; omega
      · refine ⟨_, .head _, mem_unit2 _ (k0_off62_inb i _ hc 1) _ ?_ ?_⟩
        · refine (congrArg (fun z => z ≤ (y 0).val ∧ (y 0).val < z + 128) (congrFun (k0_off62_eq _ 1) 0)).mpr ?_; show 128 ≤ (y 0).val ∧ (y 0).val < 128 + 128; omega
        · refine (congrArg (fun z => z ≤ (y 1).val ∧ (y 1).val < z + 128) (congrFun (k0_off62_eq _ 1) 1)).mpr ?_; show 256 * ((y 1).val / 256) + 128 * 1 ≤ (y 1).val ∧ (y 1).val < 256 * ((y 1).val / 256) + 128 * 1 + 128; omega
    exact ⟨p, (mem p).mpr ⟨_, hp⟩, hy⟩

theorem out11 (f : BufTy.Contents (Elt Ideal) arg11.view.ty) (y : S2x1x7168.Idx) :
    arg11.view.read (Elt Ideal) (arg11.view.writes (Elt Ideal) f (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f18 k0_t2_loop.trips).2.1) y = a.xS (y 0).val (y 2).val := by
  have mem := fun p => mem_trips (fun n => (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f18 n).2.1) (fun k => (trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f18 k).2.1) rfl
    (fun k => congrArg (fun q => q.2.1) (pb_k0_t2_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f18 k)) p
  have ht := t2_trips
  have kt : ∀ k : Fin k0_t2_loop.trips, k.val < 28 := fun k => lt_of_lt_of_eq k.isLt ht
  refine wr3 arg11.view f (a.xS) _ (fun p hp => ?_) y ?_
  · obtain ⟨k, hk⟩ := (mem p).mp hp
    have hk28 := kt k
    rw [t2_11] at hk
    simp only [List.mem_cons, List.not_mem_nil, or_false] at hk
    rcases hk with rfl | rfl | rfl | rfl
    · refine agrees3_unit _ _ _ _ fun x => (blk_xS a ha 1 (2 * k.val + 1) (by omega) _ (hx11 i arg1 arg3 arg4 arg18 a hc f1 f3 f4 f18 h1 h3 h4 h18 k) x).trans ?_
      have x0 : (x 0).val < 1 := (x 0).isLt
      refine Eq.trans ?_ (congrArg₂ (fun p q => a.xS (p + (x 0).val) (q + (x 2).val)) (congrFun (k0_off63_eq k 1) 0) (congrFun (k0_off63_eq k 1) 2)).symm
      show _ = a.xS (1 + (x 0).val) (256 * k.val + 128 * 1 + (x 2).val)
      congr 1 <;> omega
    · refine agrees3_unit _ _ _ _ fun x => (blk_xS a ha 1 (2 * k.val) (by omega) _ (hx10 i arg1 arg3 arg4 arg18 a hc f1 f3 f4 f18 h1 h3 h4 h18 k) x).trans ?_
      have x0 : (x 0).val < 1 := (x 0).isLt
      refine Eq.trans ?_ (congrArg₂ (fun p q => a.xS (p + (x 0).val) (q + (x 2).val)) (congrFun (k0_off63_eq k 0) 0) (congrFun (k0_off63_eq k 0) 2)).symm
      show _ = a.xS (1 + (x 0).val) (256 * k.val + 128 * 0 + (x 2).val)
      congr 1 <;> omega
    · refine agrees3_unit _ _ _ _ fun x => (blk_xS a ha 0 (2 * k.val + 1) (by omega) _ (hx01 i arg1 arg3 arg4 arg18 a hc f1 f3 f4 f18 h1 h3 h4 h18 k) x).trans ?_
      have x0 : (x 0).val < 1 := (x 0).isLt
      refine Eq.trans ?_ (congrArg₂ (fun p q => a.xS (p + (x 0).val) (q + (x 2).val)) (congrFun (k0_off60_eq k 1) 0) (congrFun (k0_off60_eq k 1) 2)).symm
      show _ = a.xS (0 + (x 0).val) (256 * k.val + 128 * 1 + (x 2).val)
      congr 1 <;> omega
    · refine agrees3_unit _ _ _ _ fun x => (blk_xS a ha 0 (2 * k.val) (by omega) _ (hx00 i arg1 arg3 arg4 arg18 a hc f1 f3 f4 f18 h1 h3 h4 h18 k) x).trans ?_
      have x0 : (x 0).val < 1 := (x 0).isLt
      refine Eq.trans ?_ (congrArg₂ (fun p q => a.xS (p + (x 0).val) (q + (x 2).val)) (congrFun (k0_off60_eq k 0) 0) (congrFun (k0_off60_eq k 0) 2)).symm
      show _ = a.xS (0 + (x 0).val) (256 * k.val + 128 * 0 + (x 2).val)
      congr 1 <;> omega
  · have y0 : (y 0).val < 2 := (y 0).isLt
    have y1 : (y 1).val < 1 := (y 1).isLt
    have y2 : (y 2).val < 7168 := (y 2).isLt
    obtain ⟨p, hp, hy⟩ : ∃ p ∈ (trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f18 ⟨(y 2).val / 256, by omega⟩).2.1, y ∈ p.1.set := by
      rw [t2_11]
      rcases lt_or_ge (y 0).val 1 with hb | hb <;> rcases lt_or_ge ((y 2).val % 256) 128 with hr | hr
      · refine ⟨_, .tail _ (.tail _ (.tail _ (.head _))), mem_unit3 _ (k0_off60_inb i _ hc 0) _ ?_ ?_ ?_⟩
        · refine (congrArg (fun z => z ≤ (y 0).val ∧ (y 0).val < z + 1) (congrFun (k0_off60_eq _ 0) 0)).mpr ?_; show 0 ≤ (y 0).val ∧ (y 0).val < 0 + 1; omega
        · refine (congrArg (fun z => z ≤ (y 1).val ∧ (y 1).val < z + 1) (congrFun (k0_off60_eq _ 0) 1)).mpr ?_; show 0 ≤ (y 1).val ∧ (y 1).val < 0 + 1; omega
        · refine (congrArg (fun z => z ≤ (y 2).val ∧ (y 2).val < z + 128) (congrFun (k0_off60_eq _ 0) 2)).mpr ?_; show 256 * ((y 2).val / 256) + 128 * 0 ≤ (y 2).val ∧ (y 2).val < 256 * ((y 2).val / 256) + 128 * 0 + 128; omega
      · refine ⟨_, .tail _ (.tail _ (.head _)), mem_unit3 _ (k0_off60_inb i _ hc 1) _ ?_ ?_ ?_⟩
        · refine (congrArg (fun z => z ≤ (y 0).val ∧ (y 0).val < z + 1) (congrFun (k0_off60_eq _ 1) 0)).mpr ?_; show 0 ≤ (y 0).val ∧ (y 0).val < 0 + 1; omega
        · refine (congrArg (fun z => z ≤ (y 1).val ∧ (y 1).val < z + 1) (congrFun (k0_off60_eq _ 1) 1)).mpr ?_; show 0 ≤ (y 1).val ∧ (y 1).val < 0 + 1; omega
        · refine (congrArg (fun z => z ≤ (y 2).val ∧ (y 2).val < z + 128) (congrFun (k0_off60_eq _ 1) 2)).mpr ?_; show 256 * ((y 2).val / 256) + 128 * 1 ≤ (y 2).val ∧ (y 2).val < 256 * ((y 2).val / 256) + 128 * 1 + 128; omega
      · refine ⟨_, .tail _ (.head _), mem_unit3 _ (k0_off63_inb i _ hc 0) _ ?_ ?_ ?_⟩
        · refine (congrArg (fun z => z ≤ (y 0).val ∧ (y 0).val < z + 1) (congrFun (k0_off63_eq _ 0) 0)).mpr ?_; show 1 ≤ (y 0).val ∧ (y 0).val < 1 + 1; omega
        · refine (congrArg (fun z => z ≤ (y 1).val ∧ (y 1).val < z + 1) (congrFun (k0_off63_eq _ 0) 1)).mpr ?_; show 0 ≤ (y 1).val ∧ (y 1).val < 0 + 1; omega
        · refine (congrArg (fun z => z ≤ (y 2).val ∧ (y 2).val < z + 128) (congrFun (k0_off63_eq _ 0) 2)).mpr ?_; show 256 * ((y 2).val / 256) + 128 * 0 ≤ (y 2).val ∧ (y 2).val < 256 * ((y 2).val / 256) + 128 * 0 + 128; omega
      · refine ⟨_, .head _, mem_unit3 _ (k0_off63_inb i _ hc 1) _ ?_ ?_ ?_⟩
        · refine (congrArg (fun z => z ≤ (y 0).val ∧ (y 0).val < z + 1) (congrFun (k0_off63_eq _ 1) 0)).mpr ?_; show 1 ≤ (y 0).val ∧ (y 0).val < 1 + 1; omega
        · refine (congrArg (fun z => z ≤ (y 1).val ∧ (y 1).val < z + 1) (congrFun (k0_off63_eq _ 1) 1)).mpr ?_; show 0 ≤ (y 1).val ∧ (y 1).val < 0 + 1; omega
        · refine (congrArg (fun z => z ≤ (y 2).val ∧ (y 2).val < z + 128) (congrFun (k0_off63_eq _ 1) 2)).mpr ?_; show 256 * ((y 2).val / 256) + 128 * 1 ≤ (y 2).val ∧ (y 2).val < 256 * ((y 2).val / 256) + 128 * 1 + 128; omega
    exact ⟨p, (mem p).mpr ⟨_, hp⟩, hy⟩

theorem out17 (f : BufTy.Contents (Elt Ideal) arg17.view.ty) (y : S7168x256.Idx) :
    arg17.view.read (Elt Ideal) (arg17.view.writes (Elt Ideal) f (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f18 k0_t2_loop.trips).2.2) y = a.xQ (y 1).val (y 0).val := by
  have mem := fun p => mem_trips (fun n => (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f18 n).2.2) (fun k => (trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f18 k).2.2.1) rfl
    (fun k => congrArg (fun q => q.2.2) (pb_k0_t2_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f18 k)) p
  have ht := t2_trips
  have kt : ∀ k : Fin k0_t2_loop.trips, k.val < 28 := fun k => lt_of_lt_of_eq k.isLt ht
  refine wr2 arg17.view f (fun i t => a.xQ t i) _ (fun p hp => ?_) y ?_
  · obtain ⟨k, hk⟩ := (mem p).mp hp
    have hk28 := kt k
    rw [t2_17] at hk
    simp only [List.mem_cons, List.not_mem_nil, or_false] at hk
    rcases hk with rfl | rfl | rfl | rfl
    · refine agrees_unit _ _ _ _ fun x => (blk_xQ a ha 1 (2 * k.val + 1) (by omega) _ (hx11 i arg1 arg3 arg4 arg18 a hc f1 f3 f4 f18 h1 h3 h4 h18 k) x).trans ?_
      refine Eq.trans ?_ (congrArg₂ (fun p q => a.xQ (q + (x 1).val) (p + (x 0).val)) (congrFun (k0_off64_eq k 1) 0) (congrFun (k0_off64_eq k 1) 1)).symm
      show _ = a.xQ (128 + (x 1).val) (256 * k.val + 128 * 1 + (x 0).val)
      congr 1 <;> omega
    · refine agrees_unit _ _ _ _ fun x => (blk_xQ a ha 1 (2 * k.val) (by omega) _ (hx10 i arg1 arg3 arg4 arg18 a hc f1 f3 f4 f18 h1 h3 h4 h18 k) x).trans ?_
      refine Eq.trans ?_ (congrArg₂ (fun p q => a.xQ (q + (x 1).val) (p + (x 0).val)) (congrFun (k0_off64_eq k 0) 0) (congrFun (k0_off64_eq k 0) 1)).symm
      show _ = a.xQ (128 + (x 1).val) (256 * k.val + 128 * 0 + (x 0).val)
      congr 1 <;> omega
    · refine agrees_unit _ _ _ _ fun x => (blk_xQ a ha 0 (2 * k.val + 1) (by omega) _ (hx01 i arg1 arg3 arg4 arg18 a hc f1 f3 f4 f18 h1 h3 h4 h18 k) x).trans ?_
      refine Eq.trans ?_ (congrArg₂ (fun p q => a.xQ (q + (x 1).val) (p + (x 0).val)) (congrFun (k0_off61_eq k 1) 0) (congrFun (k0_off61_eq k 1) 1)).symm
      show _ = a.xQ (0 + (x 1).val) (256 * k.val + 128 * 1 + (x 0).val)
      congr 1 <;> omega
    · refine agrees_unit _ _ _ _ fun x => (blk_xQ a ha 0 (2 * k.val) (by omega) _ (hx00 i arg1 arg3 arg4 arg18 a hc f1 f3 f4 f18 h1 h3 h4 h18 k) x).trans ?_
      refine Eq.trans ?_ (congrArg₂ (fun p q => a.xQ (q + (x 1).val) (p + (x 0).val)) (congrFun (k0_off61_eq k 0) 0) (congrFun (k0_off61_eq k 0) 1)).symm
      show _ = a.xQ (0 + (x 1).val) (256 * k.val + 128 * 0 + (x 0).val)
      congr 1 <;> omega
  · have y0 : (y 0).val < 7168 := (y 0).isLt
    have y1 : (y 1).val < 256 := (y 1).isLt
    obtain ⟨p, hp, hy⟩ : ∃ p ∈ (trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f1 f3 f4 f18 ⟨(y 0).val / 256, by omega⟩).2.2.1, y ∈ p.1.set := by
      rw [t2_17]
      rcases lt_or_ge (y 1).val 128 with hb | hb <;> rcases lt_or_ge ((y 0).val % 256) 128 with hr | hr
      · refine ⟨_, .tail _ (.tail _ (.tail _ (.head _))), mem_unit2 _ (k0_off61_inb i _ hc 0) _ ?_ ?_⟩
        · refine (congrArg (fun z => z ≤ (y 0).val ∧ (y 0).val < z + 128) (congrFun (k0_off61_eq _ 0) 0)).mpr ?_; show 256 * ((y 0).val / 256) + 128 * 0 ≤ (y 0).val ∧ (y 0).val < 256 * ((y 0).val / 256) + 128 * 0 + 128; omega
        · refine (congrArg (fun z => z ≤ (y 1).val ∧ (y 1).val < z + 128) (congrFun (k0_off61_eq _ 0) 1)).mpr ?_; show 0 ≤ (y 1).val ∧ (y 1).val < 0 + 128; omega
      · refine ⟨_, .tail _ (.tail _ (.head _)), mem_unit2 _ (k0_off61_inb i _ hc 1) _ ?_ ?_⟩
        · refine (congrArg (fun z => z ≤ (y 0).val ∧ (y 0).val < z + 128) (congrFun (k0_off61_eq _ 1) 0)).mpr ?_; show 256 * ((y 0).val / 256) + 128 * 1 ≤ (y 0).val ∧ (y 0).val < 256 * ((y 0).val / 256) + 128 * 1 + 128; omega
        · refine (congrArg (fun z => z ≤ (y 1).val ∧ (y 1).val < z + 128) (congrFun (k0_off61_eq _ 1) 1)).mpr ?_; show 0 ≤ (y 1).val ∧ (y 1).val < 0 + 128; omega
      · refine ⟨_, .tail _ (.head _), mem_unit2 _ (k0_off64_inb i _ hc 0) _ ?_ ?_⟩
        · refine (congrArg (fun z => z ≤ (y 0).val ∧ (y 0).val < z + 128) (congrFun (k0_off64_eq _ 0) 0)).mpr ?_; show 256 * ((y 0).val / 256) + 128 * 0 ≤ (y 0).val ∧ (y 0).val < 256 * ((y 0).val / 256) + 128 * 0 + 128; omega
        · refine (congrArg (fun z => z ≤ (y 1).val ∧ (y 1).val < z + 128) (congrFun (k0_off64_eq _ 0) 1)).mpr ?_; show 128 ≤ (y 1).val ∧ (y 1).val < 128 + 128; omega
      · refine ⟨_, .head _, mem_unit2 _ (k0_off64_inb i _ hc 1) _ ?_ ?_⟩
        · refine (congrArg (fun z => z ≤ (y 0).val ∧ (y 0).val < z + 128) (congrFun (k0_off64_eq _ 1) 0)).mpr ?_; show 256 * ((y 0).val / 256) + 128 * 1 ≤ (y 0).val ∧ (y 0).val < 256 * ((y 0).val / 256) + 128 * 1 + 128; omega
        · refine (congrArg (fun z => z ≤ (y 1).val ∧ (y 1).val < z + 128) (congrFun (k0_off64_eq _ 1) 1)).mpr ?_; show 128 ≤ (y 1).val ∧ (y 1).val < 128 + 128; omega
    exact ⟨p, (mem p).mpr ⟨_, hp⟩, hy⟩

end

end Cert.Val

end
-- ==== Proof.Val.MidV.lean ====
module

public import proofs.«01_k».proof.Proof.Val.Reads

@[expose] public section

noncomputable section

namespace Cert.Val

open Idealize.ShloMosaic Idealize.SL.Sem Idealize.ShloMosaic.ValueIdx
open Cert.KernelIdeal Cert.KernelIdeal.Gen

/-! ## The two products, chunk by chunk -/

theorem zero_bits : Ideal.ofBits .f32 0x00000000#32 = (0 : EReal) := by
  show Ideal.ieee 8 23 0x00000000#32 = 0
  unfold Ideal.ieee
  simp

theorem dwC_apply (dq : Vec Ideal S256x256 .bf16) (xq : Vec Ideal S512x256 .bf16) (y : S512x256.Idx) :
    dwC dq xq y = ∑ k : Fin 256, xq (ix2 (y 0) k) * dq (ix2 k (y 1)) := by
  obtain ⟨r, c, rfl⟩ : ∃ (r : Fin 512) (c : Fin 256), y = ix2 r c := ⟨y 0, y 1, funext fun a => by match a with | ⟨0, _⟩ => rfl | ⟨1, _⟩ => rfl⟩
  refine (Ideal.matmul_plain_apply (M := 512) (K := 256) (N := 256) none xq dq (constant S512x256 .f32 0x00000000#32) r c).trans ?_
  exact (congrArg₂ (· + ·) (show (constant (F := Ideal) S512x256 .f32 0x00000000#32 (ix2 r c) : EReal) = 0 from zero_bits) rfl).trans (zero_add _)

theorem accC_apply (dyq : Vec Ideal S256x256 .bf16) (w : FVec Ideal S512x256 .bf16) (old : Vec Ideal S512x256 .f32) (y : S512x256.Idx) :
    accC dyq w old y = old y + ∑ k : Fin 256, w (ix2 (y 0) k) * dyq (ix2 (y 1) k) := by
  unfold accC
  rw [shapeCast_self]
  obtain ⟨r, c, rfl⟩ : ∃ (r : Fin 512) (c : Fin 256), y = ix2 r c := ⟨y 0, y 1, funext fun a => by match a with | ⟨0, _⟩ => rfl | ⟨1, _⟩ => rfl⟩
  refine congrArg (old (ix2 r c) + ·) ?_
  refine (Ideal.matmul_transposedRhs_apply (M := 512) (K := 256) (N := 256) none w dyq (constant S512x256 .f32 0x00000000#32) r c).trans ?_
  exact (congrArg₂ (· + ·) (show (constant (F := Ideal) S512x256 .f32 0x00000000#32 (ix2 r c) : EReal) = 0 from zero_bits) rfl).trans (zero_add _)

theorem wrow_apply (u v : FVec Ideal S128x128 .bf16) (W : ℕ → ℕ → EReal) (hu : ∀ x : S128x128.Idx, u x = W (x 0).val (x 1).val)
    (hv : ∀ x : S128x128.Idx, v x = W (x 0).val (128 + (x 1).val)) (y : S128x256.Idx) : wrow u v y = W (y 0).val (y 1).val := by
  have h1 : (y 1).val < 256 := (y 1).isLt
  unfold wrow
  rcases lt_or_ge (y 1).val 128 with h | h
  · refine (concatenate_pair_apply_left 1 u v _ y rfl (ix2 (y 0) ⟨(y 1).val, h⟩) (fun b => ?_)).trans (hu _)
    match b with
    | ⟨0, _⟩ => rfl
    | ⟨1, _⟩ => rfl
  · refine (concatenate_pair_apply_right 1 u v _ y rfl rfl (ix2 (y 0) ⟨(y 1).val - 128, by omega⟩) (fun b hb => ?_) ?_).trans ((hv _).trans ?_)
    · match b with
      | ⟨0, _⟩ => rfl
      | ⟨1, _⟩ => exact absurd rfl hb
    · show (y 1).val - 128 + 128 = (y 1).val
      omega
    · show W (y 0).val (128 + ((y 1).val - 128)) = _
      rw [show 128 + ((y 1).val - 128) = (y 1).val by omega]

theorem wchunk_apply (p q r s : FVec Ideal S128x256 .bf16) (W : ℕ → ℕ → EReal) (hp : ∀ x : S128x256.Idx, p x = W (x 0).val (x 1).val)
    (hq : ∀ x : S128x256.Idx, q x = W (128 + (x 0).val) (x 1).val) (hr : ∀ x : S128x256.Idx, r x = W (256 + (x 0).val) (x 1).val)
    (hs : ∀ x : S128x256.Idx, s x = W (384 + (x 0).val) (x 1).val) (y : S512x256.Idx) : wchunk p q r s y = W (y 0).val (y 1).val := by
  have h0 : (y 0).val < 512 := (y 0).isLt
  have key : ∀ (k : Fin 4) (z : FVec Ideal S128x256 .bf16) (hz : ([⟨S128x256, p⟩, ⟨S128x256, q⟩, ⟨S128x256, r⟩, ⟨S128x256, s⟩] : List ((s : Shape) × (s.Idx → Elt Ideal .bf16)))[k.val] = ⟨S128x256, z⟩)
      (hW : ∀ x : S128x256.Idx, z x = W (128 * k.val + (x 0).val) (x 1).val) (h : 128 * k.val ≤ (y 0).val ∧ (y 0).val < 128 * k.val + 128), wchunk p q r s y = W (y 0).val (y 1).val := by
    intro k z hz hW h
    unfold wchunk
    refine (concatenate_apply_piece 0 _ _ y k.val (by have := k.isLt; simpa using this) S128x256 z hz rfl (128 * k.val) ?_ (ix2 ⟨(y 0).val - 128 * k.val, by omega⟩ (y 1)) (fun b hb => ?_) ?_).trans ((hW _).trans ?_)
    · match k with
      | ⟨0, _⟩ => rfl
      | ⟨1, _⟩ => rfl
      | ⟨2, _⟩ => rfl
      | ⟨3, _⟩ => rfl
    · match b with
      | ⟨0, _⟩ => exact absurd rfl hb
      | ⟨1, _⟩ => rfl
    · show 128 * k.val + ((y 0).val - 128 * k.val) = (y 0).val
      omega
    · show W (128 * k.val + ((y 0).val - 128 * k.val)) (y 1).val = _
      rw [show 128 * k.val + ((y 0).val - 128 * k.val) = (y 0).val by omega]
  rcases lt_or_ge (y 0).val 128 with h | h
  · exact key 0 p rfl (fun x => (hp x).trans (by rw [show 128 * (0 : Fin 4).val + (x 0).val = (x 0).val from Nat.zero_add _])) ⟨Nat.zero_le _, h⟩
  rcases lt_or_ge (y 0).val 256 with h' | h'
  · exact key 1 q rfl hq ⟨h, h'⟩
  rcases lt_or_ge (y 0).val 384 with h'' | h''
  · exact key 2 r rfl hr ⟨h', h''⟩
  · exact key 3 s rfl hs ⟨h'', h0⟩

section
variable (a : In) (ha : a.Fin') (i : grid0.Coords)
variable (arg1 : Memref sig .tc .smem S2 .i32) (arg2 : Memref sig .tc .smem S56x144 .f32) (arg5 : Memref sig .tc .vmem S7168x256 .fp8e4m3) (arg6 : Memref sig .tc .vmem S256x256 .bf16)
variable (f1 : BufTy.Contents (Elt Ideal) arg1.view.ty) (f2 : BufTy.Contents (Elt Ideal) arg2.view.ty) (f5 : BufTy.Contents (Elt Ideal) arg5.view.ty) (f6 : BufTy.Contents (Elt Ideal) arg6.view.ty)
variable (h1 : ∀ y : S2.Idx, arg1.view.read (Elt Ideal) f1 y = a.S (y 0).val)
variable (h2 : ∀ y : S56x144.Idx, arg2.view.read (Elt Ideal) f2 y = a.WS (y 0).val (y 1).val)
variable (h5 : ∀ y : S7168x256.Idx, arg5.view.read (Elt Ideal) f5 y = a.W (y 0).val (256 * (i 0).val + (y 1).val))
variable (h6 : ∀ y : S256x256.Idx, arg6.view.read (Elt Ideal) f6 y = a.D (y 0).val (256 * (i 0).val + (y 1).val))

/-! ### The four blocks at their numbers -/
section
include h1 h6
theorem hB00 (x : S128x128.Idx) : B00 (F := Ideal) arg1 arg6 f1 f6 x = a.dy (128 * 0 + (x 0).val) (128 * (2 * (i 0).val) + (x 1).val) := by
  rw [B00_apply a _ arg1 arg6 f1 f6 h1 h6]; congr 1 <;> omega
theorem hB01 (x : S128x128.Idx) : B01 (F := Ideal) arg1 arg6 f1 f6 x = a.dy (128 * 0 + (x 0).val) (128 * (2 * (i 0).val + 1) + (x 1).val) := by
  rw [B01_apply a _ arg1 arg6 f1 f6 h1 h6]; congr 1 <;> omega
theorem hB10 (x : S128x128.Idx) : B10 (F := Ideal) arg1 arg6 f1 f6 x = a.dy (128 * 1 + (x 0).val) (128 * (2 * (i 0).val) + (x 1).val) := by
  rw [B10_apply a _ arg1 arg6 f1 f6 h1 h6]; congr 1 <;> omega
theorem hB11 (x : S128x128.Idx) : B11 (F := Ideal) arg1 arg6 f1 f6 x = a.dy (128 * 1 + (x 0).val) (128 * (2 * (i 0).val + 1) + (x 1).val) := by
  rw [B11_apply a _ arg1 arg6 f1 f6 h1 h6]; congr 1 <;> omega

include ha

/-- Pieces made block by block agree with a function of the tile. -/
theorem tile_agree {e : EltTy} (g : FVec Ideal S128x128 .f32 → S128x128.Idx → Elt Ideal e) (W : ℕ → ℕ → Elt Ideal e)
    (hg : ∀ (b j : ℕ) (v : FVec Ideal S128x128 .f32), (∀ x : S128x128.Idx, v x = a.dy (128 * b + (x 0).val) (128 * j + (x 1).val)) →
      ∀ x : S128x128.Idx, g v x = W (128 * b + (x 0).val) (128 * j + (x 1).val)) :
    ∀ p ∈ quarters (F := Ideal) (g (B00 arg1 arg6 f1 f6)) (g (B01 arg1 arg6 f1 f6)) (g (B10 arg1 arg6 f1 f6)) (g (B11 arg1 arg6 f1 f6)),
      Agrees (fun t o => W t (256 * (i 0).val + o)) p := by
  refine quarters_agree _ _ _ _ _ ?_ ?_ ?_ ?_ <;> intro x
  · rw [hg _ _ _ (hB00 a i arg1 arg6 f1 f6 h1 h6)]; congr 1 <;> omega
  · rw [hg _ _ _ (hB01 a i arg1 arg6 f1 f6 h1 h6)]; congr 1 <;> omega
  · rw [hg _ _ _ (hB10 a i arg1 arg6 f1 f6 h1 h6)]; congr 1 <;> omega
  · rw [hg _ _ _ (hB11 a i arg1 arg6 f1 f6 h1 h6)]; congr 1 <;> omega

theorem DYQ_apply (arg20 : Memref sig .tc .vmem S256x256 .bf16) (y : S256x256.Idx) :
    DYQ (F := Ideal) arg1 arg6 arg20 f1 f6 y = a.rQ (y 0).val (256 * (i 0).val + (y 1).val) := by
  refine (rd2 arg20.view (arg20.view.writes (Elt Ideal) arg20.view.junk _) (fun t o => a.rQ t (256 * (i 0).val + o))
    (fun z => wr2 arg20.view _ _ _ (tile_agree a ha i arg1 arg6 f1 f6 h1 h6 rowQ a.rQ fun b j v hv => blk_rowQ a ha b j v hv) z (quarters_cover _ _ _ _ z)) _ _ y).trans ?_
  show a.rQ (0 + _) (_ + (0 + _)) = _
  rw [Nat.zero_add, Nat.zero_add]
theorem DQ_apply (arg21 : Memref sig .tc .vmem S256x256 .bf16) (y : S256x256.Idx) :
    DQ (F := Ideal) arg1 arg6 arg21 f1 f6 y = a.cQ (y 0).val (256 * (i 0).val + (y 1).val) := by
  refine (rd2 arg21.view (arg21.view.writes (Elt Ideal) arg21.view.junk _) (fun t o => a.cQ t (256 * (i 0).val + o))
    (fun z => wr2 arg21.view _ _ _ (tile_agree a ha i arg1 arg6 f1 f6 h1 h6 colQ a.cQ fun b j v hv => blk_colQ a ha b j v hv) z (quarters_cover _ _ _ _ z)) _ _ y).trans ?_
  show a.cQ (0 + _) (_ + (0 + _)) = _
  rw [Nat.zero_add, Nat.zero_add]
end

section
include h2 h5

theorem wR_apply (b : ℕ) (o : BitVec 32 → Fin 2 → ℕ) (h) (h0) (h1') (ho : ∀ r : Fin 2, o (BitVec.ofNat 32 r.val) = ![b, 2 * (i 0).val + r.val]) (y : S128x256.Idx) :
    wR (F := Ideal) arg2 arg5 i f2 f5 b o h h0 h1' y = a.wQ (128 * b + (y 0).val) (256 * (i 0).val + (y 1).val) := by
  have hs : ∀ r : Fin 2, wS (F := Ideal) arg2 i f2 (o (BitVec.ofNat 32 r.val)) (h r) = a.WS b (2 * (i 0).val + r.val) := by
    intro r
    unfold wS
    refine (rd2 arg2.view f2 a.WS h2 _ (h r) _).trans ?_
    show a.WS (o (BitVec.ofNat 32 r.val) 0 + 0) (o (BitVec.ofNat 32 r.val) 1 + 0) = _
    rw [ho r]; rfl
  refine wrow_apply _ _ (fun k o => a.wQ (128 * b + k) (256 * (i 0).val + o)) ?_ ?_ y <;> intro x
  · have x0 : (x 0).val < 128 := (x 0).isLt
    have x1 : (x 1).val < 128 := (x 1).isLt
    refine (congrArg₂ (· * ·) (rd2 arg5.view f5 (fun k o => a.W k (256 * (i 0).val + o)) h5 _ h0 x) (hs 0)).trans ?_
    show a.W (128 * b + _) (_ + (0 + _)) * a.WS b (2 * (i 0).val + 0) = a.wQ (128 * b + (x 0).val) (256 * (i 0).val + (x 1).val)
    unfold In.wQ
    rw [Nat.zero_add, show (128 * b + (x 0).val) / 128 = b by omega, show (256 * (i 0).val + (x 1).val) / 128 = 2 * (i 0).val + 0 by omega]
  · have x0 : (x 0).val < 128 := (x 0).isLt
    have x1 : (x 1).val < 128 := (x 1).isLt
    refine (congrArg₂ (· * ·) (rd2 arg5.view f5 (fun k o => a.W k (256 * (i 0).val + o)) h5 _ h1' x) (hs 1)).trans ?_
    show a.W (128 * b + _) (_ + (128 + _)) * a.WS b (2 * (i 0).val + 1) = a.wQ (128 * b + (x 0).val) (256 * (i 0).val + (128 + (x 1).val))
    unfold In.wQ
    rw [show (128 * b + (x 0).val) / 128 = b by omega, show (256 * (i 0).val + (128 + (x 1).val)) / 128 = 2 * (i 0).val + 1 by omega]
end
end

end Cert.Val

end
-- ==== Proof.Val.MidW.lean ====
module

public import proofs.«01_k».proof.Proof.Val.MidV

@[expose] public section

noncomputable section

namespace Cert.Val

open Idealize.ShloMosaic Idealize.SL.Sem Idealize.ShloMosaic.ValueIdx
open Cert.KernelIdeal Cert.KernelIdeal.Gen

/-! ## What the unrolled part leaves in the outputs and the scratch, by numbers -/

section
variable (c : Dev nD) (i : grid0.Coords) (arg1 : Memref sig .tc .smem S2 .i32) (harg1 : arg1.IsWhole) (arg2 : Memref sig .tc .smem S56x144 .f32) (harg2 : arg2.IsWhole) (arg3 : Memref sig .tc .vmem S256x7168 .bf16) (harg3 : arg3.IsWhole) (arg4 : Memref sig .tc .vmem S1x7168 .f32) (harg4 : arg4.IsWhole) (arg5 : Memref sig .tc .vmem S7168x256 .fp8e4m3) (harg5 : arg5.IsWhole) (arg6 : Memref sig .tc .vmem S256x256 .bf16) (harg6 : arg6.IsWhole) (arg7 : Memref sig .tc .vmem S256x7168 .bf16) (harg7 : arg7.IsWhole) (arg8 : Memref sig .tc .vmem S7168x256 .f32) (harg8 : arg8.IsWhole) (arg9 : Memref sig .tc .vmem S1x7168 .f32) (harg9 : arg9.IsWhole) (arg10 : Memref sig .tc .vmem S256x7168 .fp8e4m3) (harg10 : arg10.IsWhole) (arg11 : Memref sig .tc .vmem S2x1x7168 .f32) (harg11 : arg11.IsWhole) (arg12 : Memref sig .tc .vmem S256x256 .fp8e5m2) (harg12 : arg12.IsWhole) (arg13 : Memref sig .tc .vmem S256x144 .f32) (harg13 : arg13.IsWhole) (arg14 : Memref sig .tc .vmem S256x256 .fp8e5m2) (harg14 : arg14.IsWhole) (arg15 : Memref sig .tc .vmem S2x1x256 .f32) (harg15 : arg15.IsWhole) (arg16 : Memref sig .tc .vmem S7168x256 .f32) (harg16 : arg16.IsWhole) (arg17 : Memref sig .tc .vmem S7168x256 .bf16) (harg17 : arg17.IsWhole) (arg18 : Memref sig .tc .vmem S256x128 .f32) (harg18 : arg18.IsWhole) (arg19 : Memref sig .tc .vmem S256x256 .f32) (harg19 : arg19.IsWhole) (arg20 : Memref sig .tc .vmem S256x256 .bf16) (harg20 : arg20.IsWhole) (arg21 : Memref sig .tc .vmem S256x256 .bf16) (harg21 : arg21.IsWhole) (arg22 : Memref sig .tc .vmem S256x7168 .f32) (harg22 : arg22.IsWhole)
variable (v0 : BitVec 32) (v3 : IVec S128x128 32) (v23 : BitVec 32) (v29 : Vec Ideal S128x128 .f32)
variable (f1 : BufTy.Contents (Elt Ideal) arg1.view.ty) (f2 : BufTy.Contents (Elt Ideal) arg2.view.ty) (f5 : BufTy.Contents (Elt Ideal) arg5.view.ty) (f6 : BufTy.Contents (Elt Ideal) arg6.view.ty) (f8 : BufTy.Contents (Elt Ideal) arg8.view.ty) (f12 : BufTy.Contents (Elt Ideal) arg12.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f19 : BufTy.Contents (Elt Ideal) arg19.view.ty) (f20 : BufTy.Contents (Elt Ideal) arg20.view.ty) (f21 : BufTy.Contents (Elt Ideal) arg21.view.ty)
variable (a : In) (ha : a.Fin')
variable (h1 : ∀ y : S2.Idx, arg1.view.read (Elt Ideal) f1 y = a.S (y 0).val)
variable (h2 : ∀ y : S56x144.Idx, arg2.view.read (Elt Ideal) f2 y = a.WS (y 0).val (y 1).val)
variable (h5 : ∀ y : S7168x256.Idx, arg5.view.read (Elt Ideal) f5 y = a.W (y 0).val (256 * (i 0).val + (y 1).val))
variable (h6 : ∀ y : S256x256.Idx, arg6.view.read (Elt Ideal) f6 y = a.D (y 0).val (256 * (i 0).val + (y 1).val))
variable (h16 : ∀ y : S7168x256.Idx, arg16.view.read (Elt Ideal) f16 y = a.acc (256 * (i 0).val) (y 0).val (y 1).val)
variable (h17 : ∀ y : S7168x256.Idx, arg17.view.read (Elt Ideal) f17 y = a.xQ (y 1).val (y 0).val)
include ha h1 h6

theorem out12 (y : S256x256.Idx) : arg12.view.read (Elt Ideal) (arg12.view.writes (Elt Ideal) f12 (midRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v3 v23 (k0_pay73 (F := Ideal) (firstRunA.sl.r arg1 f1)) v29 (B00 arg1 arg6 f1 f6) (absf (B00 arg1 arg6 f1 f6)) (rowA (B00 arg1 arg6 f1 f6)) f1 f2 f5 f6 f8 f12 f14 f15 f16 f17 f19 f20 f21).2.1) y = a.rC (y 0).val (256 * (i 0).val + (y 1).val) := by
  rw [mid12]
  refine wr2 arg12.view f12 (fun t o => a.rC t (256 * (i 0).val + o)) _ ?_ y (quarters_cover _ _ _ _ y)
  exact tile_agree (e := .fp8e5m2) a ha i arg1 arg6 f1 f6 h1 h6 rowC a.rC fun b j v hv => blk_rowC a ha b j v hv
theorem out14 (y : S256x256.Idx) : arg14.view.read (Elt Ideal) (arg14.view.writes (Elt Ideal) f14 (midRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v3 v23 (k0_pay73 (F := Ideal) (firstRunA.sl.r arg1 f1)) v29 (B00 arg1 arg6 f1 f6) (absf (B00 arg1 arg6 f1 f6)) (rowA (B00 arg1 arg6 f1 f6)) f1 f2 f5 f6 f8 f12 f14 f15 f16 f17 f19 f20 f21).2.2.1) y = a.cC (y 0).val (256 * (i 0).val + (y 1).val) := by
  rw [mid14]
  refine wr2 arg14.view f14 (fun t o => a.cC t (256 * (i 0).val + o)) _ ?_ y (quarters_cover _ _ _ _ y)
  exact tile_agree (e := .fp8e5m2) a ha i arg1 arg6 f1 f6 h1 h6 colC a.cC fun b j v hv => blk_colC a ha b j v hv
theorem out15 (y : S2x1x256.Idx) : arg15.view.read (Elt Ideal) (arg15.view.writes (Elt Ideal) f15 (midRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v3 v23 (k0_pay73 (F := Ideal) (firstRunA.sl.r arg1 f1)) v29 (B00 arg1 arg6 f1 f6) (absf (B00 arg1 arg6 f1 f6)) (rowA (B00 arg1 arg6 f1 f6)) f1 f2 f5 f6 f8 f12 f14 f15 f16 f17 f19 f20 f21).2.2.2.1) y = a.cS (y 0).val (256 * (i 0).val + (y 2).val) := by
  rw [mid15]
  refine wr3 arg15.view f15 (fun b o => a.cS b (256 * (i 0).val + o)) _ ?_ y ?_
  rotate_left
  · exact View.cover_of_tiled (s := S2x1x256) _ S1x1x128.size rfl y
  unfold quarters3
  simp only [List.forall_mem_cons]
  refine ⟨agrees3_unit _ _ _ _ fun x => ?_, agrees3_unit _ _ _ _ fun x => ?_, agrees3_unit _ _ _ _ fun x => ?_, agrees3_unit _ _ _ _ fun x => ?_, fun p hp => absurd hp List.not_mem_nil⟩ <;> have hx : (x 0).val < 1 := (x 0).isLt
  · rw [blk_colS a ha _ _ _ (hB11 a i arg1 arg6 f1 f6 h1 h6)]; show _ = a.cS (1 + (x 0).val) (256 * (i 0).val + (128 + (x 2).val)); congr 1 <;> omega
  · rw [blk_colS a ha _ _ _ (hB10 a i arg1 arg6 f1 f6 h1 h6)]; show _ = a.cS (1 + (x 0).val) (256 * (i 0).val + (0 + (x 2).val)); congr 1 <;> omega
  · rw [blk_colS a ha _ _ _ (hB01 a i arg1 arg6 f1 f6 h1 h6)]; show _ = a.cS (0 + (x 0).val) (256 * (i 0).val + (128 + (x 2).val)); congr 1 <;> omega
  · rw [blk_colS a ha _ _ _ (hB00 a i arg1 arg6 f1 f6 h1 h6)]; show _ = a.cS (0 + (x 0).val) (256 * (i 0).val + (0 + (x 2).val)); congr 1 <;> omega

section
include h17
/-- A chunk of the weight's gradient agrees with it. -/
theorem chunk8 (m : ℕ) (inb) : Agrees (A := 7168) (B := 256) (e := .f32) (fun k o => a.dw k (256 * (i 0).val + o))
    ⟨Rect.unit (s := S7168x256) ![m, 0] S512x256.size inb, dwC (DQ arg1 arg6 arg21 f1 f6) (arg17.view.readAt (Elt Ideal) (Rect.unit (s := S7168x256) ![m, 0] S512x256.size inb).toLoadRect f17)⟩ := by
  refine agrees_unit _ _ _ _ fun y => ?_
  rw [dwC_apply]
  show _ = a.dw (m + (y 0).val) (256 * (i 0).val + (0 + (y 1).val))
  rw [Nat.zero_add]
  unfold In.dw
  refine Finset.sum_congr rfl fun k _ => congrArg₂ (· * ·) ?_ (DQ_apply a ha i arg1 arg6 f1 f6 h1 h6 arg21 _)
  refine (rd2 arg17.view f17 (fun k t => a.xQ t k) h17 _ inb _).trans ?_
  show a.xQ (0 + k.val) (m + (y 0).val) = _
  rw [Nat.zero_add]

set_option maxRecDepth 8000 in
theorem out8 (y : S7168x256.Idx) : arg8.view.read (Elt Ideal) (arg8.view.writes (Elt Ideal) f8 (midRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v3 v23 (k0_pay73 (F := Ideal) (firstRunA.sl.r arg1 f1)) v29 (B00 arg1 arg6 f1 f6) (absf (B00 arg1 arg6 f1 f6)) (rowA (B00 arg1 arg6 f1 f6)) f1 f2 f5 f6 f8 f12 f14 f15 f16 f17 f19 f20 f21).1) y = a.dw (y 0).val (256 * (i 0).val + (y 1).val) := by
  rw [mid8]
  refine wr2 arg8.view f8 (fun k o => a.dw k (256 * (i 0).val + o)) _ ?_ y ?_
  rotate_left
  · exact View.cover_of_tiled (s := S7168x256) _ S512x256.size rfl y
  simp only [List.forall_mem_cons]
  refine ⟨?_, ?_, ?_, ?_, ?_, ?_, ?_, ?_, ?_, ?_, ?_, ?_, ?_, ?_, fun p hp => absurd hp List.not_mem_nil⟩ <;>
    exact chunk8 i arg1 arg6 arg17 arg21 f1 f6 f17 a ha h1 h6 h17 _ _
end

section
include h2 h5 h16
/-- A chunk of the accumulator agrees with the sum over the first columns. -/
theorem chunk16 (m b : ℕ) (hm : m = 128 * b) (inb) (p q r s : FVec Ideal S128x256 .bf16)
    (hp : ∀ x : S128x256.Idx, p x = a.wQ (128 * b + (x 0).val) (256 * (i 0).val + (x 1).val))
    (hq : ∀ x : S128x256.Idx, q x = a.wQ (128 * (b + 1) + (x 0).val) (256 * (i 0).val + (x 1).val))
    (hr : ∀ x : S128x256.Idx, r x = a.wQ (128 * (b + 2) + (x 0).val) (256 * (i 0).val + (x 1).val))
    (hs : ∀ x : S128x256.Idx, s x = a.wQ (128 * (b + 3) + (x 0).val) (256 * (i 0).val + (x 1).val)) :
    Agrees (A := 7168) (B := 256) (e := .f32) (fun k t => a.acc (256 * ((i 0).val + 1)) k t)
    ⟨Rect.unit (s := S7168x256) ![m, 0] S512x256.size inb, accC (DYQ arg1 arg6 arg20 f1 f6) (wchunk p q r s) (arg16.view.readAt (Elt Ideal) (Rect.unit (s := S7168x256) ![m, 0] S512x256.size inb).toLoadRect f16)⟩ := by
  subst hm
  refine agrees_unit _ _ _ _ fun y => ?_
  rw [accC_apply]
  show _ = a.acc (256 * ((i 0).val + 1)) (128 * b + (y 0).val) (0 + (y 1).val)
  rw [Nat.zero_add]
  unfold In.acc
  rw [Nat.mul_add, Nat.mul_one, Finset.sum_range_add]
  refine congrArg₂ (· + ·) ?_ ?_
  · refine (rd2 arg16.view f16 (fun k t => a.acc (256 * (i 0).val) k t) h16 _ inb _).trans ?_
    show a.acc (256 * (i 0).val) (128 * b + (y 0).val) (0 + (y 1).val) = _
    rw [Nat.zero_add]; rfl
  · rw [Finset.sum_range]
    refine Finset.sum_congr rfl fun k _ => congrArg₂ (· * ·) ?_ (DYQ_apply a ha i arg1 arg6 f1 f6 h1 h6 arg20 _)
    refine (wchunk_apply p q r s (fun k o => a.wQ (128 * b + k) (256 * (i 0).val + o)) hp ?_ ?_ ?_ _) <;> intro x
    · rw [hq]; congr 1; omega
    · rw [hr]; congr 1; omega
    · rw [hs]; congr 1; omega

set_option maxRecDepth 8000 in
set_option maxHeartbeats 1000000 in
theorem out16 (y : S7168x256.Idx) : arg16.view.read (Elt Ideal) (arg16.view.writes (Elt Ideal) f16 (midRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v3 v23 (k0_pay73 (F := Ideal) (firstRunA.sl.r arg1 f1)) v29 (B00 arg1 arg6 f1 f6) (absf (B00 arg1 arg6 f1 f6)) (rowA (B00 arg1 arg6 f1 f6)) f1 f2 f5 f6 f8 f12 f14 f15 f16 f17 f19 f20 f21).2.2.2.2.1) y = a.acc (256 * ((i 0).val + 1)) (y 0).val (y 1).val := by
  rw [mid16]
  refine wr2 arg16.view f16 (fun k t => a.acc (256 * ((i 0).val + 1)) k t) _ ?_ y ?_
  rotate_left
  · exact View.cover_of_tiled (s := S7168x256) _ S512x256.size rfl y
  have C := chunk16 i arg1 arg2 arg5 arg6 arg16 arg20 f1 f2 f5 f6 f16 a ha h1 h2 h5 h6 h16
  simp only [List.forall_mem_cons]
  exact ⟨C 6656 52 rfl _ _ _ _ _ (wR_apply a i arg2 arg5 f2 f5 h2 h5 _ _ _ _ _ (k0_off119_eq i)) (wR_apply a i arg2 arg5 f2 f5 h2 h5 _ _ _ _ _ (k0_off120_eq i)) (wR_apply a i arg2 arg5 f2 f5 h2 h5 _ _ _ _ _ (k0_off121_eq i)) (wR_apply a i arg2 arg5 f2 f5 h2 h5 _ _ _ _ _ (k0_off122_eq i)),
    C 6144 48 rfl _ _ _ _ _ (wR_apply a i arg2 arg5 f2 f5 h2 h5 _ _ _ _ _ (k0_off115_eq i)) (wR_apply a i arg2 arg5 f2 f5 h2 h5 _ _ _ _ _ (k0_off116_eq i)) (wR_apply a i arg2 arg5 f2 f5 h2 h5 _ _ _ _ _ (k0_off117_eq i)) (wR_apply a i arg2 arg5 f2 f5 h2 h5 _ _ _ _ _ (k0_off118_eq i)),
    C 5632 44 rfl _ _ _ _ _ (wR_apply a i arg2 arg5 f2 f5 h2 h5 _ _ _ _ _ (k0_off111_eq i)) (wR_apply a i arg2 arg5 f2 f5 h2 h5 _ _ _ _ _ (k0_off112_eq i)) (wR_apply a i arg2 arg5 f2 f5 h2 h5 _ _ _ _ _ (k0_off113_eq i)) (wR_apply a i arg2 arg5 f2 f5 h2 h5 _ _ _ _ _ (k0_off114_eq i)),
    C 5120 40 rfl _ _ _ _ _ (wR_apply a i arg2 arg5 f2 f5 h2 h5 _ _ _ _ _ (k0_off107_eq i)) (wR_apply a i arg2 arg5 f2 f5 h2 h5 _ _ _ _ _ (k0_off108_eq i)) (wR_apply a i arg2 arg5 f2 f5 h2 h5 _ _ _ _ _ (k0_off109_eq i)) (wR_apply a i arg2 arg5 f2 f5 h2 h5 _ _ _ _ _ (k0_off110_eq i)),
    C 4608 36 rfl _ _ _ _ _ (wR_apply a i arg2 arg5 f2 f5 h2 h5 _ _ _ _ _ (k0_off103_eq i)) (wR_apply a i arg2 arg5 f2 f5 h2 h5 _ _ _ _ _ (k0_off104_eq i)) (wR_apply a i arg2 arg5 f2 f5 h2 h5 _ _ _ _ _ (k0_off105_eq i)) (wR_apply a i arg2 arg5 f2 f5 h2 h5 _ _ _ _ _ (k0_off106_eq i)),
    C 4096 32 rfl _ _ _ _ _ (wR_apply a i arg2 arg5 f2 f5 h2 h5 _ _ _ _ _ (k0_off99_eq i)) (wR_apply a i arg2 arg5 f2 f5 h2 h5 _ _ _ _ _ (k0_off100_eq i)) (wR_apply a i arg2 arg5 f2 f5 h2 h5 _ _ _ _ _ (k0_off101_eq i)) (wR_apply a i arg2 arg5 f2 f5 h2 h5 _ _ _ _ _ (k0_off102_eq i)),
    C 3584 28 rfl _ _ _ _ _ (wR_apply a i arg2 arg5 f2 f5 h2 h5 _ _ _ _ _ (k0_off95_eq i)) (wR_apply a i arg2 arg5 f2 f5 h2 h5 _ _ _ _ _ (k0_off96_eq i)) (wR_apply a i arg2 arg5 f2 f5 h2 h5 _ _ _ _ _ (k0_off97_eq i)) (wR_apply a i arg2 arg5 f2 f5 h2 h5 _ _ _ _ _ (k0_off98_eq i)),
    C 3072 24 rfl _ _ _ _ _ (wR_apply a i arg2 arg5 f2 f5 h2 h5 _ _ _ _ _ (k0_off91_eq i)) (wR_apply a i arg2 arg5 f2 f5 h2 h5 _ _ _ _ _ (k0_off92_eq i)) (wR_apply a i arg2 arg5 f2 f5 h2 h5 _ _ _ _ _ (k0_off93_eq i)) (wR_apply a i arg2 arg5 f2 f5 h2 h5 _ _ _ _ _ (k0_off94_eq i)),
    C 2560 20 rfl _ _ _ _ _ (wR_apply a i arg2 arg5 f2 f5 h2 h5 _ _ _ _ _ (k0_off87_eq i)) (wR_apply a i arg2 arg5 f2 f5 h2 h5 _ _ _ _ _ (k0_off88_eq i)) (wR_apply a i arg2 arg5 f2 f5 h2 h5 _ _ _ _ _ (k0_off89_eq i)) (wR_apply a i arg2 arg5 f2 f5 h2 h5 _ _ _ _ _ (k0_off90_eq i)),
    C 2048 16 rfl _ _ _ _ _ (wR_apply a i arg2 arg5 f2 f5 h2 h5 _ _ _ _ _ (k0_off83_eq i)) (wR_apply a i arg2 arg5 f2 f5 h2 h5 _ _ _ _ _ (k0_off84_eq i)) (wR_apply a i arg2 arg5 f2 f5 h2 h5 _ _ _ _ _ (k0_off85_eq i)) (wR_apply a i arg2 arg5 f2 f5 h2 h5 _ _ _ _ _ (k0_off86_eq i)),
    C 1536 12 rfl _ _ _ _ _ (wR_apply a i arg2 arg5 f2 f5 h2 h5 _ _ _ _ _ (k0_off79_eq i)) (wR_apply a i arg2 arg5 f2 f5 h2 h5 _ _ _ _ _ (k0_off80_eq i)) (wR_apply a i arg2 arg5 f2 f5 h2 h5 _ _ _ _ _ (k0_off81_eq i)) (wR_apply a i arg2 arg5 f2 f5 h2 h5 _ _ _ _ _ (k0_off82_eq i)),
    C 1024 8 rfl _ _ _ _ _ (wR_apply a i arg2 arg5 f2 f5 h2 h5 _ _ _ _ _ (k0_off75_eq i)) (wR_apply a i arg2 arg5 f2 f5 h2 h5 _ _ _ _ _ (k0_off76_eq i)) (wR_apply a i arg2 arg5 f2 f5 h2 h5 _ _ _ _ _ (k0_off77_eq i)) (wR_apply a i arg2 arg5 f2 f5 h2 h5 _ _ _ _ _ (k0_off78_eq i)),
    C 512 4 rfl _ _ _ _ _ (wR_apply a i arg2 arg5 f2 f5 h2 h5 _ _ _ _ _ (k0_off71_eq i)) (wR_apply a i arg2 arg5 f2 f5 h2 h5 _ _ _ _ _ (k0_off72_eq i)) (wR_apply a i arg2 arg5 f2 f5 h2 h5 _ _ _ _ _ (k0_off73_eq i)) (wR_apply a i arg2 arg5 f2 f5 h2 h5 _ _ _ _ _ (k0_off74_eq i)),
    C 0 0 rfl _ _ _ _ _ (wR_apply a i arg2 arg5 f2 f5 h2 h5 _ _ _ _ _ (k0_off67_eq i)) (wR_apply a i arg2 arg5 f2 f5 h2 h5 _ _ _ _ _ (k0_off68_eq i)) (wR_apply a i arg2 arg5 f2 f5 h2 h5 _ _ _ _ _ (k0_off69_eq i)) (wR_apply a i arg2 arg5 f2 f5 h2 h5 _ _ _ _ _ (k0_off70_eq i)), fun p hp => absurd hp List.not_mem_nil⟩
end
end

end Cert.Val

end
-- ==== Proof.Val.MidR.lean ====
module

public import proofs.«01_k».proof.Proof.Val.MidW
public import proofs.«01_k».proof.Proof.Val.LoopL2
public import proofs.«01_k».proof.Proof.Ideal.Cut

@[expose] public section

noncomputable section

namespace Cert.Val

open Idealize.ShloMosaic Idealize.SL.Sem Idealize.ShloMosaic.ValueIdx
open Cert.KernelIdeal Cert.KernelIdeal.Gen

/-! ## The row scales' scratch -/

/-- The lane a row scale goes to. -/
def lane (n j : BitVec 32) : BitVec 32 :=
  let v347 : BitVec 32 := Scalar.muli n 2#32
  let v348 : BitVec 32 := Scalar.addi v347 j
  let v349 : BitVec 1 := Scalar.cmpi .eq 128#32 0#32
  let v350 : BitVec 32 := Scalar.select v349 1#32 128#32
  let v351 : BitVec 32 := Scalar.remsi v348 v350
  let v352 : BitVec 1 := Scalar.cmpi .ne v351 0#32
  let v353 : BitVec 1 := Scalar.cmpi .slt v351 0#32
  let v354 : BitVec 1 := Scalar.cmpi .slt v350 0#32
  let v355 : BitVec 1 := Scalar.xori v353 v354
  let v356 : BitVec 1 := Scalar.andi v355 v352
  let v357 : BitVec 32 := Scalar.addi v351 v350
  Scalar.select v356 v357 v351

theorem lane_eq : ∀ (n : Fin 72) (j : Fin 2), lane (BitVec.ofNat 32 n.val) (BitVec.ofNat 32 j.val) = BitVec.ofNat 32 ((2 * n.val + j.val) % 128) := by decide +kernel

theorem cmp_lane (x m : ℕ) (hx : x < 128) (hm : m < 128) : IntOp.cmpi .eq (BitVec.ofNat 32 x) (BitVec.ofNat 32 m) = if x = m then 1#1 else 0#1 := by
  by_cases h : x = m
  · subst h; rw [if_pos rfl]; simp [IntOp.cmpi]
  · rw [if_neg h]
    have : BitVec.ofNat 32 x ≠ BitVec.ofNat 32 m := by
      intro e
      have := congrArg BitVec.toNat e
      rw [BitVec.toNat_ofNat, BitVec.toNat_ofNat, Nat.mod_eq_of_lt (by omega), Nat.mod_eq_of_lt (by omega)] at this
      exact h this
    show BitVec.ofBool (BitVec.ofNat 32 x == BitVec.ofNat 32 m) = 0#1
    rw [beq_false_of_ne this]; rfl

section
variable (n : Fin 72) (v3 : IVec S128x128 32) (hv3 : ∀ x : S128x128.Idx, v3 x = BitVec.ofNat 32 (x 1).val) (old : FVec Ideal S128x128 .f32) (sc : FVec Ideal S128x1 .f32) (x : S128x128.Idx)
include hv3
theorem pay84_apply : k0_pay84 (BitVec.ofNat 32 n.val) v3 old sc x = if (x 1).val = (2 * n.val) % 128 then sc (ix2 (x 0) (0 : Fin 1)) else old x := by
  show Scalar.select (IntOp.cmpi .eq (v3 x) (lane (BitVec.ofNat 32 n.val) (BitVec.ofNat 32 (0 : Fin 2).val))) (broadcastTo S128x128 (shapeCast S128x1 sc shapeCasts_S128x1_S128x1) broadcasts_S128x1_S128x128 x) (old x) = _
  rw [shapeCast_self, brow_apply, lane_eq, show (2 * n.val + (0 : Fin 2).val) % 128 = (2 * n.val) % 128 from rfl, hv3, cmp_lane _ _ (x 1).isLt (Nat.mod_lt _ (by norm_num))]
  split_ifs <;> rfl
theorem pay109_apply : k0_pay109 (BitVec.ofNat 32 n.val) v3 old sc x = if (x 1).val = (2 * n.val + 1) % 128 then sc (ix2 (x 0) (0 : Fin 1)) else old x := by
  show Scalar.select (IntOp.cmpi .eq (v3 x) (lane (BitVec.ofNat 32 n.val) (BitVec.ofNat 32 (1 : Fin 2).val))) (broadcastTo S128x128 (shapeCast S128x1 sc shapeCasts_S128x1_S128x1) broadcasts_S128x1_S128x128 x) (old x) = _
  rw [shapeCast_self, brow_apply, lane_eq, show (2 * n.val + (1 : Fin 2).val) % 128 = (2 * n.val + 1) % 128 from rfl, hv3, cmp_lane _ _ (x 1).isLt (Nat.mod_lt _ (by norm_num))]
  split_ifs <;> rfl

/-- Both scales put in their lanes: every scale so far is in place. -/
theorem two_apply (a : In) (ha : a.Fin') (b : ℕ) (v w : FVec Ideal S128x128 .f32)
    (hv : ∀ x : S128x128.Idx, v x = a.dy (128 * b + (x 0).val) (128 * (2 * n.val) + (x 1).val))
    (hw : ∀ x : S128x128.Idx, w x = a.dy (128 * b + (x 0).val) (128 * (2 * n.val + 1) + (x 1).val))
    (ho : n.val / 64 * 128 + (x 1).val < 2 * n.val → old x = a.rS (128 * b + (x 0).val) (n.val / 64 * 128 + (x 1).val))
    (hx : n.val / 64 * 128 + (x 1).val < 2 * n.val + 2) :
    k0_pay109 (BitVec.ofNat 32 n.val) v3 (k0_pay84 (BitVec.ofNat 32 n.val) v3 old (vscale (rowA v))) (vscale (rowA w)) x = a.rS (128 * b + (x 0).val) (n.val / 64 * 128 + (x 1).val) := by
  have x1 : (x 1).val < 128 := (x 1).isLt
  rw [pay109_apply n v3 hv3, pay84_apply n v3 hv3]
  split_ifs with h h'
  · rw [blk_rowS a ha b _ w hw]; show a.rS (128 * b + (x 0).val) _ = _; congr 1; omega
  · rw [blk_rowS a ha b _ v hv]; show a.rS (128 * b + (x 0).val) _ = _; congr 1; omega
  · exact ho (by omega)
end

section
variable (c : Dev nD) (i : grid0.Coords) (arg1 : Memref sig .tc .smem S2 .i32) (harg1 : arg1.IsWhole) (arg2 : Memref sig .tc .smem S56x144 .f32) (harg2 : arg2.IsWhole) (arg3 : Memref sig .tc .vmem S256x7168 .bf16) (harg3 : arg3.IsWhole) (arg4 : Memref sig .tc .vmem S1x7168 .f32) (harg4 : arg4.IsWhole) (arg5 : Memref sig .tc .vmem S7168x256 .fp8e4m3) (harg5 : arg5.IsWhole) (arg6 : Memref sig .tc .vmem S256x256 .bf16) (harg6 : arg6.IsWhole) (arg7 : Memref sig .tc .vmem S256x7168 .bf16) (harg7 : arg7.IsWhole) (arg8 : Memref sig .tc .vmem S7168x256 .f32) (harg8 : arg8.IsWhole) (arg9 : Memref sig .tc .vmem S1x7168 .f32) (harg9 : arg9.IsWhole) (arg10 : Memref sig .tc .vmem S256x7168 .fp8e4m3) (harg10 : arg10.IsWhole) (arg11 : Memref sig .tc .vmem S2x1x7168 .f32) (harg11 : arg11.IsWhole) (arg12 : Memref sig .tc .vmem S256x256 .fp8e5m2) (harg12 : arg12.IsWhole) (arg13 : Memref sig .tc .vmem S256x144 .f32) (harg13 : arg13.IsWhole) (arg14 : Memref sig .tc .vmem S256x256 .fp8e5m2) (harg14 : arg14.IsWhole) (arg15 : Memref sig .tc .vmem S2x1x256 .f32) (harg15 : arg15.IsWhole) (arg16 : Memref sig .tc .vmem S7168x256 .f32) (harg16 : arg16.IsWhole) (arg17 : Memref sig .tc .vmem S7168x256 .bf16) (harg17 : arg17.IsWhole) (arg18 : Memref sig .tc .vmem S256x128 .f32) (harg18 : arg18.IsWhole) (arg19 : Memref sig .tc .vmem S256x256 .f32) (harg19 : arg19.IsWhole) (arg20 : Memref sig .tc .vmem S256x256 .bf16) (harg20 : arg20.IsWhole) (arg21 : Memref sig .tc .vmem S256x256 .bf16) (harg21 : arg21.IsWhole) (arg22 : Memref sig .tc .vmem S256x7168 .f32) (harg22 : arg22.IsWhole)
variable (v0 : BitVec 32) (v3 : IVec S128x128 32) (v23 : BitVec 32) (v29 : Vec Ideal S128x128 .f32)
variable (f1 : BufTy.Contents (Elt Ideal) arg1.view.ty) (f2 : BufTy.Contents (Elt Ideal) arg2.view.ty) (f5 : BufTy.Contents (Elt Ideal) arg5.view.ty) (f6 : BufTy.Contents (Elt Ideal) arg6.view.ty) (f8 : BufTy.Contents (Elt Ideal) arg8.view.ty) (f12 : BufTy.Contents (Elt Ideal) arg12.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f19 : BufTy.Contents (Elt Ideal) arg19.view.ty) (f20 : BufTy.Contents (Elt Ideal) arg20.view.ty) (f21 : BufTy.Contents (Elt Ideal) arg21.view.ty)
variable (a : In) (ha : a.Fin')
variable (h1 : ∀ y : S2.Idx, arg1.view.read (Elt Ideal) f1 y = a.S (y 0).val)
variable (h6 : ∀ y : S256x256.Idx, arg6.view.read (Elt Ideal) f6 y = a.D (y 0).val (256 * (i 0).val + (y 1).val))
variable (hv0 : v0 = BitVec.ofNat 32 (i 0).val) (hv3 : ∀ x : S128x128.Idx, v3 x = BitVec.ofNat 32 (x 1).val)
variable (hv29 : ∀ x : S128x128.Idx, (i 0).val / 64 * 128 + (x 1).val < 2 * (i 0).val → v29 x = a.rS (x 0).val ((i 0).val / 64 * 128 + (x 1).val))
variable (h19 : ∀ y : S256x256.Idx, (y 1).val < 2 * (i 0).val → arg19.view.read (Elt Ideal) f19 y = a.rS (y 0).val (y 1).val)
include ha h1 h6 hv0 hv3 hv29 h19

theorem out19 (y : S256x256.Idx) (hy : (y 1).val < 2 * ((i 0).val + 1)) :
    arg19.view.read (Elt Ideal) (arg19.view.writes (Elt Ideal) f19 (midRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v3 v23 (k0_pay73 (F := Ideal) (firstRunA.sl.r arg1 f1)) v29 (B00 arg1 arg6 f1 f6) (absf (B00 arg1 arg6 f1 f6)) (rowA (B00 arg1 arg6 f1 f6)) f1 f2 f5 f6 f8 f12 f14 f15 f16 f17 f19 f20 f21).2.2.2.2.2.1) y = a.rS (y 0).val (y 1).val := by
  rw [mid19]
  subst hv0
  have y0 : (y 0).val < 256 := (y 0).isLt
  have e66 : k0_off66 i = ![128, (i 0).val / 64 * 128] := off66_eq i
  have e65 : k0_off65 i = ![0, (i 0).val / 64 * 128] := off65_eq i
  have d66 : ∀ x : S128x128.Idx, (i 0).val / 64 * 128 + (x 1).val < 2 * (i 0).val → arg19.view.readAt (Elt Ideal) (Rect.unit (s := S256x256) (k0_off66 i) S128x128.size (k0_off66_inb i)).toLoadRect f19 x = a.rS (128 * 1 + (x 0).val) ((i 0).val / 64 * 128 + (x 1).val) := by
    intro x hx
    refine (h19 _ ?_).trans ?_
    · show k0_off66 i 1 + 1 * (x 1).val < _
      rw [e66]; show (i 0).val / 64 * 128 + 1 * (x 1).val < _; omega
    · show a.rS (k0_off66 i 0 + 1 * (x 0).val) (k0_off66 i 1 + 1 * (x 1).val) = _
      rw [e66]; show a.rS (128 + 1 * (x 0).val) ((i 0).val / 64 * 128 + 1 * (x 1).val) = _
      congr 1 <;> omega
  by_cases hb : (i 0).val / 64 * 128 ≤ (y 1).val ∧ (y 1).val < (i 0).val / 64 * 128 + 128
  · by_cases hr : 128 ≤ (y 0).val
    · obtain ⟨x, rfl⟩ : ∃ x, (Rect.unit (s := S256x256) (k0_off66 i) S128x128.size (k0_off66_inb i)).emb x = y :=
        (Rect.unit (s := S256x256) (k0_off66 i) S128x128.size (k0_off66_inb i)).exists_idx_of_mem (mem_unit2 _ (k0_off66_inb i) _ (by rw [e66]; exact ⟨hr, by show _ < 128 + 128; omega⟩) (by rw [e66]; exact hb))
      have p0 : ((Rect.unit (s := S256x256) (k0_off66 i) S128x128.size (k0_off66_inb i)).emb x 0).val = 128 * 1 + (x 0).val := by
        show k0_off66 i 0 + 1 * (x 0).val = _
        rw [congrFun e66 0]; show 128 + 1 * (x 0).val = _; omega
      have p1 : ((Rect.unit (s := S256x256) (k0_off66 i) S128x128.size (k0_off66_inb i)).emb x 1).val = (i 0).val / 64 * 128 + (x 1).val := by
        show k0_off66 i 1 + 1 * (x 1).val = _
        rw [congrFun e66 1]; show (i 0).val / 64 * 128 + 1 * (x 1).val = _; omega
      rw [p1] at hy
      refine (View.read_writes_cons_emb _ _ _ _ _ x).trans ?_
      rw [p0, p1]
      unfold k0_pay171
      rw [shapeCast_self]
      exact two_apply (i 0) v3 hv3 _ x a ha 1 _ _ (hB10 a i arg1 arg6 f1 f6 h1 h6) (hB11 a i arg1 arg6 f1 f6 h1 h6) (d66 x) (by omega)
    · refine (View.read_writes_cons_miss _ _ _ _ _ (fun hm => ?_)).trans ?_
      · have := (Rect.mem_set_unit (inb := k0_off66_inb i)).mp hm 0
        rw [congrFun e66 0] at this
        exact hr this.1
      obtain ⟨x, rfl⟩ : ∃ x, (Rect.unit (s := S256x256) (k0_off65 i) S128x128.size (k0_off65_inb i)).emb x = y :=
        (Rect.unit (s := S256x256) (k0_off65 i) S128x128.size (k0_off65_inb i)).exists_idx_of_mem (mem_unit2 _ (k0_off65_inb i) _ (by rw [e65]; exact ⟨Nat.zero_le _, by show _ < 0 + 128; omega⟩) (by rw [e65]; exact hb))
      have p0 : ((Rect.unit (s := S256x256) (k0_off65 i) S128x128.size (k0_off65_inb i)).emb x 0).val = 128 * 0 + (x 0).val := by
        show k0_off65 i 0 + 1 * (x 0).val = _
        rw [congrFun e65 0]; show 0 + 1 * (x 0).val = _; omega
      have p1 : ((Rect.unit (s := S256x256) (k0_off65 i) S128x128.size (k0_off65_inb i)).emb x 1).val = (i 0).val / 64 * 128 + (x 1).val := by
        show k0_off65 i 1 + 1 * (x 1).val = _
        rw [congrFun e65 1]; show (i 0).val / 64 * 128 + 1 * (x 1).val = _; omega
      rw [p1] at hy
      refine (View.read_writes_cons_emb _ _ _ _ _ x).trans ?_
      rw [p0, p1]
      unfold k0_pay121
      rw [shapeCast_self]
      exact two_apply (i 0) v3 hv3 _ x a ha 0 _ _ (hB00 a i arg1 arg6 f1 f6 h1 h6) (hB01 a i arg1 arg6 f1 f6 h1 h6) (fun h => (hv29 x h).trans (by rw [Nat.mul_zero, Nat.zero_add])) (by omega)
  · have h72 : (i 0).val < 72 := (i 0).isLt
    refine (View.read_writes_apply_of_forall_not_mem _ _ y _ (fun p hp hm => ?_)).trans (h19 y (by omega))
    simp only [List.mem_cons, List.not_mem_nil, or_false] at hp
    rcases hp with rfl | rfl
    · have := (Rect.mem_set_unit (inb := k0_off66_inb i)).mp hm 1
      rw [congrFun e66 1] at this
      exact hb this
    · have := (Rect.mem_set_unit (inb := k0_off65_inb i)).mp hm 1
      rw [congrFun e65 1] at this
      exact hb this
end

end Cert.Val

end
-- ==== Proof.Val.EpiV.lean ====
module

public import proofs.«01_k».proof.Proof.Val.FirstV

@[expose] public section

noncomputable section

namespace Cert.Val

open Idealize.ShloMosaic Idealize.SL.Sem Idealize.ShloMosaic.ValueIdx
open Cert.KernelIdeal Cert.KernelIdeal.Gen

theorem t3_trips : k0_t3_loop.trips = 56 := by decide
theorem t4_trips : k0_t4_loop.trips = 56 := by decide

/-! ## The last point's payloads on numbers -/

section
variable (a : In) (k : ℕ) (A : Vec Ideal S128x256 .f32) (X : Vec Ideal S256x128 .bf16) (R : Vec Ideal S256x128 .f32) (G : Vec Ideal S1x128 .f32)
variable (hA : ∀ x : S128x256.Idx, A x = a.acc 18432 (128 * k + (x 0).val) (x 1).val)
variable (hX : ∀ x : S256x128.Idx, X x = a.X (x 0).val (128 * k + (x 1).val))
variable (hR : ∀ x : S256x128.Idx, R x = a.rr (x 0).val)
variable (hG : ∀ x : S1x128.Idx, G x = a.G (128 * k + (x 1).val))

include hA in
theorem pay4_apply (x : S256x128.Idx) : k0_pay4 (F := Ideal) A x = a.dxn (x 0).val (128 * k + (x 1).val) := by
  unfold k0_pay4
  refine (transpose_apply _ _ _ x (ix2 (x 1) (x 0)) fun b => ?_).trans (hA _)
  match b with
  | ⟨0, _⟩ => rfl
  | ⟨1, _⟩ => rfl

include hX hR in
theorem pay5_apply (x : S256x128.Idx) : k0_pay5 (F := Ideal) X R x = a.xh (x 0).val (128 * k + (x 1).val) := by
  unfold k0_pay5
  rw [shapeCast_self]
  exact congrArg₂ (· * ·) (hX x) (hR x)

include hA hX hR in
theorem pay6_apply (y : S1x128.Idx) : k0_pay6 (F := Ideal) A X R y = a.dgamma (128 * k + (y 1).val) := by
  unfold k0_pay6
  have : (y 0).val < 1 := (y 0).isLt
  refine (shapeCast_apply _ _ _ (ix1 (y 1)) ?_).trans ((Ideal.multiReduction_add_single _ _ _ _ _ _).trans ?_)
  · rw [Shape.rowMajor_val_one, Shape.rowMajor_val_two]
    show (y 1).val = (y 0).val * 128 + (y 1).val
    omega
  · unfold In.dgamma
    refine Finset.sum_congr rfl fun t _ => ?_
    exact congrArg₂ (· * ·) (pay4_apply a k A hA _) (pay5_apply a k X R hX hR _)

include hA hG in
theorem pay7_apply (x : S256x128.Idx) : k0_pay7 (F := Ideal) A G x = a.g (x 0).val (128 * k + (x 1).val) := by
  unfold k0_pay7
  refine congrArg₂ (· * ·) (pay4_apply a k A hA x) ?_
  refine (broadcastTo_apply _ _ x (ix2 (0 : Fin 1) (x 1)) fun b => ?_).trans ?_
  · match b with
    | ⟨0, _⟩ => rfl
    | ⟨1, _⟩ => rfl
  rw [shapeCast_self]
  exact hG _

include hA hG in
theorem pay8_apply (x : S256x128.Idx) : k0_pay8 (F := Ideal) A G x = a.g (x 0).val (128 * k + (x 1).val) := by
  unfold k0_pay8
  rw [shapeCast_self]
  exact pay7_apply a k A G hA hG x

include hA hX hR hG in
theorem pay9_apply (s : FVec Ideal S256x128 .f32) (x : S256x128.Idx) :
    k0_pay9 (F := Ideal) s A X R G x = s x + a.g (x 0).val (128 * k + (x 1).val) * a.xh (x 0).val (128 * k + (x 1).val) := by
  unfold k0_pay9
  exact congrArg (s x + ·) (congrArg₂ (· * ·) (pay7_apply a k A G hA hG x) (pay5_apply a k X R hX hR x))
end

theorem pay10_apply (a : In) (k : ℕ) (s : FVec Ideal S256x128 .f32) (R : Vec Ideal S256x128 .f32) (X : Vec Ideal S256x128 .bf16) (Q : Vec Ideal S256x128 .f32)
    (hs : ∀ x : S256x128.Idx, s x = ∑ j ∈ Finset.range 56, a.g (x 0).val (128 * j + (x 1).val) * a.xh (x 0).val (128 * j + (x 1).val))
    (hX : ∀ x : S256x128.Idx, X x = a.X (x 0).val (128 * k + (x 1).val))
    (hR : ∀ x : S256x128.Idx, R x = a.rr (x 0).val)
    (hQ : ∀ x : S256x128.Idx, Q x = a.g (x 0).val (128 * k + (x 1).val)) (x : S256x128.Idx) :
    k0_pay10 (F := Ideal) s R X Q x = a.dx (x 0).val (128 * k + (x 1).val) := by
  unfold k0_pay10
  rw [shapeCast_self]
  refine congrArg₂ (· * ·) (hR x) (congrArg₂ (· - ·) (hQ x) (congrArg₂ (· * ·) (congrArg₂ (· * ·) (hX x) (hR x)) ?_))
  refine (broadcastTo_apply _ _ x (ix2 (x 0) (0 : Fin 1)) fun b => ?_).trans ?_
  · match b with
    | ⟨0, _⟩ => rfl
    | ⟨1, _⟩ => rfl
  refine congrArg (fun z : EReal => z * Ideal.ofBits .f32 0x39124925#32) ?_
  refine (shapeCast_apply _ _ _ (ix1 (x 0)) ?_).trans ((Ideal.multiReduction_add_single _ _ _ _ _ _).trans ?_)
  · refine (Shape.rowMajor_val_one _).trans (Eq.trans ?_ (Shape.rowMajor_val_two _).symm)
    show (x 0).val = (x 0).val * 1 + 0
    omega
  · refine Eq.trans (Finset.sum_congr rfl fun l _ => ?_) (sum_chunks 56 128 fun q => a.g (x 0).val q * a.xh (x 0).val q)
    exact hs _

section
variable (c : Dev nD) (i : grid0.Coords) (arg1 : Memref sig .tc .smem S2 .i32) (harg1 : arg1.IsWhole) (arg2 : Memref sig .tc .smem S56x144 .f32) (harg2 : arg2.IsWhole) (arg3 : Memref sig .tc .vmem S256x7168 .bf16) (harg3 : arg3.IsWhole) (arg4 : Memref sig .tc .vmem S1x7168 .f32) (harg4 : arg4.IsWhole) (arg5 : Memref sig .tc .vmem S7168x256 .fp8e4m3) (harg5 : arg5.IsWhole) (arg6 : Memref sig .tc .vmem S256x256 .bf16) (harg6 : arg6.IsWhole) (arg7 : Memref sig .tc .vmem S256x7168 .bf16) (harg7 : arg7.IsWhole) (arg8 : Memref sig .tc .vmem S7168x256 .f32) (harg8 : arg8.IsWhole) (arg9 : Memref sig .tc .vmem S1x7168 .f32) (harg9 : arg9.IsWhole) (arg10 : Memref sig .tc .vmem S256x7168 .fp8e4m3) (harg10 : arg10.IsWhole) (arg11 : Memref sig .tc .vmem S2x1x7168 .f32) (harg11 : arg11.IsWhole) (arg12 : Memref sig .tc .vmem S256x256 .fp8e5m2) (harg12 : arg12.IsWhole) (arg13 : Memref sig .tc .vmem S256x144 .f32) (harg13 : arg13.IsWhole) (arg14 : Memref sig .tc .vmem S256x256 .fp8e5m2) (harg14 : arg14.IsWhole) (arg15 : Memref sig .tc .vmem S2x1x256 .f32) (harg15 : arg15.IsWhole) (arg16 : Memref sig .tc .vmem S7168x256 .f32) (harg16 : arg16.IsWhole) (arg17 : Memref sig .tc .vmem S7168x256 .bf16) (harg17 : arg17.IsWhole) (arg18 : Memref sig .tc .vmem S256x128 .f32) (harg18 : arg18.IsWhole) (arg19 : Memref sig .tc .vmem S256x256 .f32) (harg19 : arg19.IsWhole) (arg20 : Memref sig .tc .vmem S256x256 .bf16) (harg20 : arg20.IsWhole) (arg21 : Memref sig .tc .vmem S256x256 .bf16) (harg21 : arg21.IsWhole) (arg22 : Memref sig .tc .vmem S256x7168 .f32) (harg22 : arg22.IsWhole)
variable (a : In) (hc : k0_cond2 i = 1#1)
variable (f3 : BufTy.Contents (Elt Ideal) arg3.view.ty) (f4 : BufTy.Contents (Elt Ideal) arg4.view.ty) (f16 : BufTy.Contents (Elt Ideal) arg16.view.ty) (f18 : BufTy.Contents (Elt Ideal) arg18.view.ty)
variable (h3 : ∀ y : S256x7168.Idx, arg3.view.read (Elt Ideal) f3 y = a.X (y 0).val (y 1).val)
variable (h4 : ∀ y : S1x7168.Idx, arg4.view.read (Elt Ideal) f4 y = a.G (y 1).val)
variable (h16 : ∀ y : S7168x256.Idx, arg16.view.read (Elt Ideal) f16 y = a.acc 18432 (y 0).val (y 1).val)
variable (h18 : ∀ y : S256x128.Idx, arg18.view.read (Elt Ideal) f18 y = a.rr (y 0).val)

include h16 in
theorem rdA (k : Fin k0_t3_loop.trips) (x : S128x256.Idx) :
    arg16.view.readAt (Elt Ideal) (Rect.unit (s := S7168x256) (k0_off123 k) S128x256.size (k0_off123_inb i k hc)).toLoadRect f16 x = a.acc 18432 (128 * k.val + (x 0).val) (x 1).val := by
  refine (rd2 arg16.view f16 (fun p q => a.acc 18432 p q) h16 (k0_off123 k) (k0_off123_inb i k hc) x).trans ?_
  rw [k0_off123_eq]
  show a.acc 18432 (128 * k.val + (x 0).val) (0 + (x 1).val) = _
  rw [Nat.zero_add]
include h3 in
theorem rdX (o : Fin 2 → ℕ) (n : ℕ) (ho : o = ![0, 128 * n]) (inb) (x : S256x128.Idx) :
    arg3.view.readAt (Elt Ideal) (Rect.unit (s := S256x7168) o S256x128.size inb).toLoadRect f3 x = a.X (x 0).val (128 * n + (x 1).val) := by
  refine (rd2 arg3.view f3 a.X h3 o inb x).trans ?_
  rw [ho]
  show a.X (0 + (x 0).val) (128 * n + (x 1).val) = _
  rw [Nat.zero_add]
include h18 in
theorem rdR (x : S256x128.Idx) :
    arg18.view.readAt (Elt Ideal) (Rect.unit (s := S256x128) ![0, 0] S256x128.size inb_S256x128_S256x128_0_0).toLoadRect f18 x = a.rr (x 0).val := by
  refine (rd2 arg18.view f18 (fun p _ => a.rr p) h18 ![0, 0] inb_S256x128_S256x128_0_0 x).trans ?_
  show a.rr (0 + (x 0).val) = _
  rw [Nat.zero_add]
include h4 in
theorem rdG (k : Fin k0_t3_loop.trips) (x : S1x128.Idx) :
    arg4.view.readAt (Elt Ideal) (Rect.unit (s := S1x7168) (k0_off125 k) S1x128.size (k0_off125_inb i k hc)).toLoadRect f4 x = a.G (128 * k.val + (x 1).val) := by
  refine (rd2 arg4.view f4 (fun _ q => a.G q) h4 (k0_off125 k) (k0_off125_inb i k hc) x).trans ?_
  rw [k0_off125_eq]; rfl

include h3 h4 h16 h18

theorem st_acc (n : ℕ) (hn : n ≤ k0_t3_loop.trips) (x : S256x128.Idx) :
    (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f16 f18 (k0_pay3 (F := Ideal)) n).1 x
      = ∑ j ∈ Finset.range n, a.g (x 0).val (128 * j + (x 1).val) * a.xh (x 0).val (128 * j + (x 1).val) := by
  induction n with
  | zero => exact c_zero
  | succ n ih =>
    rw [Finset.sum_range_succ, ← ih (Nat.le_of_succ_le hn)]
    refine (congrFun (congrArg (fun q => q.1) (st_k0_t3_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f16 f18 (k0_pay3 (F := Ideal)) ⟨n, hn⟩)) x).trans ?_
    refine (congrFun (t3_acc (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f16 f18 ⟨n, hn⟩ _) x).trans ?_
    exact pay9_apply a n _ _ _ _ (rdA i arg16 a hc f16 h16 ⟨n, hn⟩) (rdX arg3 a f3 h3 _ n (k0_off124_eq ⟨n, hn⟩) _) (rdR arg18 a f18 h18) (rdG i arg4 a hc f4 h4 ⟨n, hn⟩) _ x

theorem out9 (f : BufTy.Contents (Elt Ideal) arg9.view.ty) (y : S1x7168.Idx) :
    arg9.view.read (Elt Ideal) (arg9.view.writes (Elt Ideal) f (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f16 f18 (k0_pay3 (F := Ideal)) k0_t3_loop.trips).2.1) y = a.dgamma (y 1).val := by
  have mem := fun p => mem_trips (fun n => (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f16 f18 (k0_pay3 (F := Ideal)) n).2.1)
    (fun k : Fin k0_t3_loop.trips => (trip_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f16 f18 k).2.1 (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f16 f18 (k0_pay3 (F := Ideal)) k.val).1) rfl
    (fun k => congrArg (fun q => q.2.1) (st_k0_t3_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f16 f18 (k0_pay3 (F := Ideal)) k)) p
  have y0 : (y 0).val < 1 := (y 0).isLt
  have y1 : (y 1).val < 7168 := (y 1).isLt
  have ht := t3_trips
  refine wr2 arg9.view f (fun _ q => a.dgamma q) _ (fun p hp => ?_) y ?_
  · obtain ⟨k, hk⟩ := (mem p).mp hp
    rw [t3_9] at hk
    obtain rfl := List.mem_singleton.mp hk
    refine agrees_unit _ _ _ _ fun x => (pay6_apply a k.val _ _ _ (rdA i arg16 a hc f16 h16 k) (rdX arg3 a f3 h3 _ k.val (k0_off124_eq k) _) (rdR arg18 a f18 h18) x).trans ?_
    rw [k0_off125_eq]; rfl
  · obtain ⟨p, hp, hy⟩ : ∃ p ∈ (trip_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f16 f18 ⟨(y 1).val / 128, by omega⟩).2.1 (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f16 f18 (k0_pay3 (F := Ideal)) ((y 1).val / 128)).1, y ∈ p.1.set := by
      rw [t3_9]
      refine ⟨_, List.mem_singleton_self _, mem_unit2 _ (k0_off125_inb i _ hc) _ ?_ ?_⟩
      · rw [congrFun (k0_off125_eq _) 0]; exact ⟨Nat.zero_le _, by show _ < 0 + 1; omega⟩
      · rw [congrFun (k0_off125_eq _) 1]; show 128 * ((y 1).val / 128) ≤ _ ∧ _ < 128 * ((y 1).val / 128) + 128; omega
    exact ⟨p, (mem p).mpr ⟨_, hp⟩, hy⟩

theorem out22 (f : BufTy.Contents (Elt Ideal) arg22.view.ty) (y : S256x7168.Idx) :
    arg22.view.read (Elt Ideal) (arg22.view.writes (Elt Ideal) f (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f16 f18 (k0_pay3 (F := Ideal)) k0_t3_loop.trips).2.2) y = a.g (y 0).val (y 1).val := by
  have mem := fun p => mem_trips (fun n => (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f16 f18 (k0_pay3 (F := Ideal)) n).2.2)
    (fun k : Fin k0_t3_loop.trips => (trip_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f16 f18 k).2.2.1 (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f16 f18 (k0_pay3 (F := Ideal)) k.val).1) rfl
    (fun k => congrArg (fun q => q.2.2) (st_k0_t3_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f16 f18 (k0_pay3 (F := Ideal)) k)) p
  have y0 : (y 0).val < 256 := (y 0).isLt
  have y1 : (y 1).val < 7168 := (y 1).isLt
  have ht := t3_trips
  refine wr2 arg22.view f a.g _ (fun p hp => ?_) y ?_
  · obtain ⟨k, hk⟩ := (mem p).mp hp
    rw [t3_22] at hk
    obtain rfl := List.mem_singleton.mp hk
    refine agrees_unit _ _ _ _ fun x => (pay8_apply a k.val _ _ (rdA i arg16 a hc f16 h16 k) (rdG i arg4 a hc f4 h4 k) x).trans ?_
    rw [k0_off124_eq]
    show _ = a.g (0 + _) _
    rw [Nat.zero_add]; rfl
  · obtain ⟨p, hp, hy⟩ : ∃ p ∈ (trip_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f16 f18 ⟨(y 1).val / 128, by omega⟩).2.2.1 (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f16 f18 (k0_pay3 (F := Ideal)) ((y 1).val / 128)).1, y ∈ p.1.set := by
      rw [t3_22]
      refine ⟨_, List.mem_singleton_self _, mem_unit2 _ (k0_off124_inb i _ hc) _ ?_ ?_⟩
      · rw [congrFun (k0_off124_eq _) 0]; exact ⟨Nat.zero_le _, by show _ < 0 + 256; omega⟩
      · rw [congrFun (k0_off124_eq _) 1]; show 128 * ((y 1).val / 128) ≤ _ ∧ _ < 128 * ((y 1).val / 128) + 128; omega
    exact ⟨p, (mem p).mpr ⟨_, hp⟩, hy⟩

theorem out7 (f : BufTy.Contents (Elt Ideal) arg7.view.ty) (f22 : BufTy.Contents (Elt Ideal) arg22.view.ty) (y : S256x7168.Idx) :
    arg7.view.read (Elt Ideal) (arg7.view.writes (Elt Ideal) f (pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f16 f18 (k0_pay3 (F := Ideal)) k0_t3_loop.trips).1 f3 f18 (arg22.view.writes (Elt Ideal) f22 (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f16 f18 (k0_pay3 (F := Ideal)) k0_t3_loop.trips).2.2) k0_t4_loop.trips)) y = a.dx (y 0).val (y 1).val := by
  have hs := st_acc c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 a hc f3 f4 f16 f18 h3 h4 h16 h18 k0_t3_loop.trips le_rfl
  have h22 := out22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 a hc f3 f4 f16 f18 h3 h4 h16 h18 f22
  rw [show Finset.range k0_t3_loop.trips = Finset.range 56 from congrArg _ t3_trips] at hs
  generalize (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f16 f18 (k0_pay3 (F := Ideal)) k0_t3_loop.trips).1 = s at hs ⊢
  generalize (arg22.view.writes (Elt Ideal) f22 (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc f3 f4 f16 f18 (k0_pay3 (F := Ideal)) k0_t3_loop.trips).2.2) = q at h22 ⊢
  have mem := fun p => mem_trips (fun n => pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc s f3 f18 q n) (fun k : Fin k0_t4_loop.trips => (trip_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc s f3 f18 q k).1) rfl
    (fun k => pb_k0_t4_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc s f3 f18 q k) p
  have y0 : (y 0).val < 256 := (y 0).isLt
  have y1 : (y 1).val < 7168 := (y 1).isLt
  have ht := t4_trips
  refine wr2 arg7.view f a.dx _ (fun p hp => ?_) y ?_
  · obtain ⟨k, hk⟩ := (mem p).mp hp
    rw [t4_7] at hk
    obtain rfl := List.mem_singleton.mp hk
    refine agrees_unit _ _ _ _ fun x => (pay10_apply a k.val s _ _ _ hs (rdX arg3 a f3 h3 _ k.val (k0_off126_eq k) _) (rdR arg18 a f18 h18) (fun x => ?_) x).trans ?_
    · refine (rd2 arg22.view q a.g h22 (k0_off126 k) (k0_off126_inb i k hc) x).trans ?_
      rw [k0_off126_eq]
      show a.g (0 + _) _ = _
      rw [Nat.zero_add]; rfl
    · rw [k0_off126_eq]
      show _ = a.dx (0 + _) _
      rw [Nat.zero_add]; rfl
  · obtain ⟨p, hp, hy⟩ : ∃ p ∈ (trip_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc s f3 f18 q ⟨(y 1).val / 128, by omega⟩).1, y ∈ p.1.set := by
      rw [t4_7]
      refine ⟨_, List.mem_singleton_self _, mem_unit2 _ (k0_off126_inb i _ hc) _ ?_ ?_⟩
      · rw [congrFun (k0_off126_eq _) 0]; exact ⟨Nat.zero_le _, by show _ < 0 + 256; omega⟩
      · rw [congrFun (k0_off126_eq _) 1]; show 128 * ((y 1).val / 128) ≤ _ ∧ _ < 128 * ((y 1).val / 128) + 128; omega
    exact ⟨p, (mem p).mpr ⟨_, hp⟩, hy⟩
end

end Cert.Val

end
-- ==== Proof.Val.Inv.lean ====
module

public import proofs.«01_k».proof.Proof.Ideal.Run
public import proofs.«01_k».proof.Proof.Val.FirstV2
public import proofs.«01_k».proof.Proof.Val.MidW
public import proofs.«01_k».proof.Proof.Val.MidR
public import proofs.«01_k».proof.Proof.Val.EpiV

@[expose] public section

set_option maxRecDepth 16384
set_option maxHeartbeats 4000000

noncomputable section

namespace Cert.Val

open Idealize.ShloMosaic Idealize.SL.Sem Idealize.ShloMosaic.ValueIdx
open Cert.KernelIdeal Cert.KernelIdeal.Gen

/-! ## What the body leaves, from point to point -/

theorem acc_zero (a : In) (p q : ℕ) : a.acc 0 p q = 0 := Finset.sum_range_zero _

section
variable (c : Dev nD) (i : grid0.Coords) (arg1 : Memref sig .tc .smem S2 .i32) (harg1 : arg1.IsWhole) (arg2 : Memref sig .tc .smem S56x144 .f32) (harg2 : arg2.IsWhole) (arg3 : Memref sig .tc .vmem S256x7168 .bf16) (harg3 : arg3.IsWhole) (arg4 : Memref sig .tc .vmem S1x7168 .f32) (harg4 : arg4.IsWhole) (arg5 : Memref sig .tc .vmem S7168x256 .fp8e4m3) (harg5 : arg5.IsWhole) (arg6 : Memref sig .tc .vmem S256x256 .bf16) (harg6 : arg6.IsWhole) (arg7 : Memref sig .tc .vmem S256x7168 .bf16) (harg7 : arg7.IsWhole) (arg8 : Memref sig .tc .vmem S7168x256 .f32) (harg8 : arg8.IsWhole) (arg9 : Memref sig .tc .vmem S1x7168 .f32) (harg9 : arg9.IsWhole) (arg10 : Memref sig .tc .vmem S256x7168 .fp8e4m3) (harg10 : arg10.IsWhole) (arg11 : Memref sig .tc .vmem S2x1x7168 .f32) (harg11 : arg11.IsWhole) (arg12 : Memref sig .tc .vmem S256x256 .fp8e5m2) (harg12 : arg12.IsWhole) (arg13 : Memref sig .tc .vmem S256x144 .f32) (harg13 : arg13.IsWhole) (arg14 : Memref sig .tc .vmem S256x256 .fp8e5m2) (harg14 : arg14.IsWhole) (arg15 : Memref sig .tc .vmem S2x1x256 .f32) (harg15 : arg15.IsWhole) (arg16 : Memref sig .tc .vmem S7168x256 .f32) (harg16 : arg16.IsWhole) (arg17 : Memref sig .tc .vmem S7168x256 .bf16) (harg17 : arg17.IsWhole) (arg18 : Memref sig .tc .vmem S256x128 .f32) (harg18 : arg18.IsWhole) (arg19 : Memref sig .tc .vmem S256x256 .f32) (harg19 : arg19.IsWhole) (arg20 : Memref sig .tc .vmem S256x256 .bf16) (harg20 : arg20.IsWhole) (arg21 : Memref sig .tc .vmem S256x256 .bf16) (harg21 : arg21.IsWhole) (arg22 : Memref sig .tc .vmem S256x7168 .f32) (harg22 : arg22.IsWhole)
variable (a : In) (ha : a.Fin')
variable (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 g7 : BufTy.Contents (Elt Ideal) arg7.view.ty) (f8 g8 : BufTy.Contents (Elt Ideal) arg8.view.ty) (f9 g9 : BufTy.Contents (Elt Ideal) arg9.view.ty) (f10 g10 : BufTy.Contents (Elt Ideal) arg10.view.ty) (f11 g11 : BufTy.Contents (Elt Ideal) arg11.view.ty) (f12 g12 : BufTy.Contents (Elt Ideal) arg12.view.ty) (f13 g13 : BufTy.Contents (Elt Ideal) arg13.view.ty) (f14 g14 : BufTy.Contents (Elt Ideal) arg14.view.ty) (f15 g15 : BufTy.Contents (Elt Ideal) arg15.view.ty) (f16 h16 g16 : BufTy.Contents (Elt Ideal) arg16.view.ty) (f17 g17 : BufTy.Contents (Elt Ideal) arg17.view.ty) (f18 g18 : BufTy.Contents (Elt Ideal) arg18.view.ty) (f19 h19 g19 : BufTy.Contents (Elt Ideal) arg19.view.ty) (f20 g20 : BufTy.Contents (Elt Ideal) arg20.view.ty) (f21 g21 : BufTy.Contents (Elt Ideal) arg21.view.ty) (f22 g22 : BufTy.Contents (Elt Ideal) arg22.view.ty)
variable (H1 : ∀ y : S2.Idx, arg1.view.read (Elt Ideal) f1 y = a.S (y 0).val)
variable (H2 : ∀ y : S56x144.Idx, arg2.view.read (Elt Ideal) f2 y = a.WS (y 0).val (y 1).val)
variable (H3 : ∀ y : S256x7168.Idx, arg3.view.read (Elt Ideal) f3 y = a.X (y 0).val (y 1).val)
variable (H4 : ∀ y : S1x7168.Idx, arg4.view.read (Elt Ideal) f4 y = a.G (y 1).val)
variable (H5 : ∀ y : S7168x256.Idx, arg5.view.read (Elt Ideal) f5 y = a.W (y 0).val (256 * (i 0).val + (y 1).val))
variable (H6 : ∀ y : S256x256.Idx, arg6.view.read (Elt Ideal) f6 y = a.D (y 0).val (256 * (i 0).val + (y 1).val))
variable (hc1 : k0_cond1 i = 1#1 ↔ (i 0).val = 0) (hc2 : k0_cond2 i = 1#1 ↔ (i 0).val = 71)

/-- What is carried: the accumulator, the quantised activations, the row statistics and the row scales before point `n`. -/
def carried (n : ℕ) (u16 : S7168x256.Idx → Elt Ideal .f32) (u17 : S7168x256.Idx → Elt Ideal .bf16) (u18 : S256x128.Idx → Elt Ideal .f32) (u19 : S256x256.Idx → Elt Ideal .f32) : Prop :=
  (∀ y : S7168x256.Idx, u16 y = a.acc (256 * n) (y 0).val (y 1).val) ∧ (∀ y : S7168x256.Idx, u17 y = a.xQ (y 1).val (y 0).val)
    ∧ (∀ y : S256x128.Idx, u18 y = a.rr (y 0).val) ∧ (∀ y : S256x256.Idx, (y 1).val < 2 * n → u19 y = a.rS (y 0).val (y 1).val)
def isXC (u : S256x7168.Idx → Elt Ideal .fp8e4m3) : Prop := ∀ y : S256x7168.Idx, u y = a.xC (y 0).val (y 1).val
def isXS (u : S2x1x7168.Idx → Elt Ideal .f32) : Prop := ∀ y : S2x1x7168.Idx, u y = a.xS (y 0).val (y 2).val

variable (hp : (i 0).val ≠ 0 → carried a (i 0).val (arg16.view.read (Elt Ideal) f16) (arg17.view.read (Elt Ideal) f17) (arg18.view.read (Elt Ideal) f18) (arg19.view.read (Elt Ideal) f19)
  ∧ isXC a (arg10.view.read (Elt Ideal) f10) ∧ isXS a (arg11.view.read (Elt Ideal) f11))

section
include ha H1 H3 H4 hc1 hp
theorem first_vals (R : RetTy Ideal) (hs : FirstStep c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f3 f4 f6 f10 f11 f16 f17 f18 f19 g10 g11 h16 g17 g18 h19 R) :
    (carried a (i 0).val (arg16.view.read (Elt Ideal) h16) (arg17.view.read (Elt Ideal) g17) (arg18.view.read (Elt Ideal) g18) (arg19.view.read (Elt Ideal) h19)
      ∧ isXC a (arg10.view.read (Elt Ideal) g10) ∧ isXS a (arg11.view.read (Elt Ideal) g11))
    ∧ R.1 = BitVec.ofNat 32 (i 0).val ∧ (∀ x : S128x128.Idx, R.2.1 x = BitVec.ofNat 32 (x 1).val) ∧ R.2.2.2.1 = k0_pay73 (F := Ideal) (firstRunA.sl.r arg1 f1)
    ∧ (∀ x : S128x128.Idx, (i 0).val / 64 * 128 + (x 1).val < 2 * (i 0).val → R.2.2.2.2.1 x = a.rS (x 0).val ((i 0).val / 64 * 128 + (x 1).val))
    ∧ R.2.2.2.2.2.1 = B00 arg1 arg6 f1 f6 ∧ R.2.2.2.2.2.2.1 = absf (B00 arg1 arg6 f1 f6) ∧ R.2.2.2.2.2.2.2 = rowA (B00 arg1 arg6 f1 f6) := by
  by_cases hc : k0_cond1 i = 1#1
  · have hi := hc1.mp hc
    obtain ⟨e10, e11, e16, e17, e18, e19, rfl⟩ := hs.taken hc
    rw [first_18] at e18
    rw [first_10, ← e18] at e10
    rw [first_11, ← e18] at e11
    rw [first_17, ← e18] at e17
    rw [first_16] at e16
    have K18 : ∀ y : S256x128.Idx, arg18.view.read (Elt Ideal) g18 y = a.rr (y 0).val := by
      rw [e18]; exact out18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 a hc f3 f18 H3
    refine ⟨⟨⟨?_, ?_, K18, ?_⟩, ?_, ?_⟩, rfl, ?_, rfl, ?_, rfl, rfl, rfl⟩
    · rw [hi, e16]
      intro y
      refine wr2 arg16.view f16 (fun p q => a.acc (256 * 0) p q) _ (fun p hm => ?_) y ⟨_, List.mem_singleton_self _, mem_unit2 ![0, 0] inb_S7168x256_S7168x256_0_0 y ⟨Nat.zero_le _, ?_⟩ ⟨Nat.zero_le _, ?_⟩⟩
      · obtain rfl := List.mem_singleton.mp hm
        exact agrees_unit _ _ _ _ fun x => c_zero.trans (acc_zero a _ _).symm
      · show (y 0).val < 0 + 7168
        have : (y 0).val < 7168 := (y 0).isLt
        omega
      · show (y 1).val < 0 + 256
        have : (y 1).val < 256 := (y 1).isLt
        omega
    · rw [e17]; exact out17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 a ha hc f1 f3 f4 g18 H1 H3 H4 K18 f17
    · intro y hy; omega
    · rw [e10]; exact out10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 a ha hc f1 f3 f4 g18 H1 H3 H4 K18 f10
    · rw [e11]; exact out11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 a ha hc f1 f3 f4 g18 H1 H3 H4 K18 f11
    · intro x
      show iota .tc S128x128 32 [1] iota_S128x128_d1_w32 x = _
      simp [iota]
    · intro x hx; omega
  · obtain ⟨rfl, rfl, rfl, rfl, rfl, rfl, rfl⟩ := hs.skipped hc
    have P := hp fun h => hc (hc1.mpr h)
    refine ⟨P, rfl, ?_, rfl, ?_, rfl, rfl, rfl⟩
    · intro x
      show iota .tc S128x128 32 [1] iota_S128x128_d1_w32 x = _
      simp [iota]
    · intro x hx
      show arg19.view.readAt (Elt Ideal) (Rect.unit (s := S256x256) (k0_off65 i) S128x128.size (k0_off65_inb i)).toLoadRect h19 x = _
      have e65 : k0_off65 i = ![0, (i 0).val / 64 * 128] := off65_eq i
      refine (P.1.2.2.2 _ ?_).trans ?_
      · show k0_off65 i 1 + 1 * (x 1).val < _
        rw [e65]; show (i 0).val / 64 * 128 + 1 * (x 1).val < _; omega
      · show a.rS (k0_off65 i 0 + 1 * (x 0).val) (k0_off65 i 1 + 1 * (x 1).val) = _
        rw [e65]; show a.rS (0 + 1 * (x 0).val) ((i 0).val / 64 * 128 + 1 * (x 1).val) = _
        congr 1 <;> omega
end

include ha H1 H2 H3 H4 H5 H6 hc1 hc2 hp in
theorem step_vals (hs : Step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f11 f12 f13 f14 f15 f16 f17 f18 f19 f20 f21 f22 g7 g8 g9 g10 g11 g12 g13 g14 g15 g16 g17 g18 g19 g20 g21 g22) :
    carried a ((i 0).val + 1) (arg16.view.read (Elt Ideal) g16) (arg17.view.read (Elt Ideal) g17) (arg18.view.read (Elt Ideal) g18) (arg19.view.read (Elt Ideal) g19)
    ∧ ((i 0).val = 71 → ∀ y : S256x7168.Idx, arg7.view.read (Elt Ideal) g7 y = a.dx (y 0).val (y 1).val)
    ∧ (∀ y : S7168x256.Idx, arg8.view.read (Elt Ideal) g8 y = a.dw (y 0).val (256 * (i 0).val + (y 1).val))
    ∧ ((i 0).val = 71 → ∀ y : S1x7168.Idx, arg9.view.read (Elt Ideal) g9 y = a.dgamma (y 1).val)
    ∧ isXC a (arg10.view.read (Elt Ideal) g10) ∧ isXS a (arg11.view.read (Elt Ideal) g11)
    ∧ (∀ y : S256x256.Idx, arg12.view.read (Elt Ideal) g12 y = a.rC (y 0).val (256 * (i 0).val + (y 1).val))
    ∧ ((i 0).val = 71 → ∀ y : S256x144.Idx, arg13.view.read (Elt Ideal) g13 y = a.rS (y 0).val (y 1).val)
    ∧ (∀ y : S256x256.Idx, arg14.view.read (Elt Ideal) g14 y = a.cC (y 0).val (256 * (i 0).val + (y 1).val))
    ∧ (∀ y : S2x1x256.Idx, arg15.view.read (Elt Ideal) g15 y = a.cS (y 0).val (256 * (i 0).val + (y 2).val)) := by
  obtain ⟨R, h16, h19, hf, hm, he⟩ := hs
  obtain ⟨⟨⟨K16, K17, K18, K19⟩, K10, K11⟩, r0, r3, r27, r29, r34, r35, r39⟩ := first_vals c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 a ha f1 f3 f4 f6 f10 g10 f11 g11 f16 h16 f17 g17 f18 g18 f19 h19 H1 H3 H4 hc1 hp R hf
  obtain ⟨v0, v3, v23, v27, v29, v34, v35, v39⟩ := R
  dsimp only at r0 r3 r27 r29 r34 r35 r39
  subst r27 r34 r35 r39
  obtain ⟨e8, e12, e14, e15, e16, e19, -, -⟩ := hm
  have G16 : ∀ y : S7168x256.Idx, arg16.view.read (Elt Ideal) g16 y = a.acc (256 * ((i 0).val + 1)) (y 0).val (y 1).val := by
    rw [e16]; exact out16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v3 v23 v29 f1 f2 f5 f6 f8 f12 f14 f15 h16 g17 h19 f20 f21 a ha H1 H2 H5 H6 K16
  have G19 : ∀ y : S256x256.Idx, (y 1).val < 2 * ((i 0).val + 1) → arg19.view.read (Elt Ideal) g19 y = a.rS (y 0).val (y 1).val := by
    rw [e19]; exact out19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v3 v23 v29 f1 f2 f5 f6 f8 f12 f14 f15 h16 g17 h19 f20 f21 a ha H1 H6 r0 r3 r29 K19
  refine ⟨⟨G16, K17, K18, G19⟩, fun hi => ?_, ?_, fun hi => ?_, K10, K11, ?_, fun hi => ?_, ?_, ?_⟩
  · have hc := hc2.mpr hi
    obtain ⟨e7, -, -, -⟩ := he.taken hc
    rw [hi] at G16
    rw [e7, epi_7]
    exact out7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 a hc f3 f4 g16 g18 H3 H4 G16 K18 f7 f22
  · rw [e8]; exact out8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v3 v23 v29 f1 f2 f5 f6 f8 f12 f14 f15 h16 g17 h19 f20 f21 a ha H1 H6 K17
  · have hc := hc2.mpr hi
    obtain ⟨-, e9, -, -⟩ := he.taken hc
    rw [hi] at G16
    rw [e9, epi_9]
    exact out9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 a hc f3 f4 g16 g18 H3 H4 G16 K18 f9
  · rw [e12]; exact out12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v3 v23 v29 f1 f2 f5 f6 f8 f12 f14 f15 h16 g17 h19 f20 f21 a ha H1 H6
  · have hc := hc2.mpr hi
    obtain ⟨-, -, -, q, e13⟩ := he.taken hc
    rw [hi] at G19
    rw [e13, epi_13]
    intro y
    have y0 : (y 0).val < 256 := (y 0).isLt
    have y1 : (y 1).val < 144 := (y 1).isLt
    refine wr2 arg13.view q a.rS _ (fun p hm => ?_) y ⟨_, List.mem_singleton_self _, mem_unit2 ![0, 0] inb_S256x144_S256x144_0_0 y ⟨Nat.zero_le _, ?_⟩ ⟨Nat.zero_le _, ?_⟩⟩
    · obtain rfl := List.mem_singleton.mp hm
      refine agrees_unit _ _ _ _ fun x => ?_
      have x1 : (x 1).val < 144 := (x 1).isLt
      refine (G19 _ ?_).trans ?_
      · show 0 + 1 * (x 1).val < 2 * (71 + 1)
        omega
      · show a.rS (0 + 1 * (x 0).val) (0 + 1 * (x 1).val) = a.rS (0 + (x 0).val) (0 + (x 1).val)
        rw [Nat.one_mul, Nat.one_mul]
    · show (y 0).val < 0 + 256; omega
    · show (y 1).val < 0 + 144; omega
  · rw [e14]; exact out14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v3 v23 v29 f1 f2 f5 f6 f8 f12 f14 f15 h16 g17 h19 f20 f21 a ha H1 H6
  · rw [e15]; exact out15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v3 v23 v29 f1 f2 f5 f6 f8 f12 f14 f15 h16 g17 h19 f20 f21 a ha H1 H6
end

/-! ## The statement carried through the run -/

/-- The carried statement, and what each output's buffer holds after each point. -/
def stated (a : In) : Inv Ideal where
  P n u16 u17 u18 u19 := carried a n u16 u17 u18 u19
  q7 n u := n = 71 → ∀ y : S256x7168.Idx, u y = a.dx (y 0).val (y 1).val
  q8 n u := ∀ y : S7168x256.Idx, u y = a.dw (y 0).val (256 * n + (y 1).val)
  q9 n u := n = 71 → ∀ y : S1x7168.Idx, u y = a.dgamma (y 1).val
  q10 u := isXC a u
  q11 u := isXS a u
  q12 n u := ∀ y : S256x256.Idx, u y = a.rC (y 0).val (256 * n + (y 1).val)
  q13 n u := n = 71 → ∀ y : S256x144.Idx, u y = a.rS (y 0).val (y 1).val
  q14 n u := ∀ y : S256x256.Idx, u y = a.cC (y 0).val (256 * n + (y 1).val)
  q15 n u := ∀ y : S2x1x256.Idx, u y = a.cS (y 0).val (256 * n + (y 2).val)

theorem coord_eq : ∀ t : Fin cfg0.N, (grid0.coords t 0).val = t.val := by decide +kernel
theorem cond1_eq : ∀ t : Fin cfg0.N, k0_cond1 (grid0.coords t) = 1#1 ↔ (grid0.coords t 0).val = 0 := by decide +kernel
theorem cond2_eq : ∀ t : Fin cfg0.N, k0_cond2 (grid0.coords t) = 1#1 ↔ (grid0.coords t 0).val = 71 := by decide +kernel

/-- The inputs' blocks are the numbers of `a`. -/
structure Blocks (m : (ℓ : Loc nD τ sig) → Buf (Elt Ideal) ℓ) (c : Dev nD) (a : In) : Prop where
  b0 : ∀ (t : Fin cfg0.N) (y : S2.Idx), (iblk m c 0 t : S2.Idx → BitVec 32) y = a.S (y 0).val
  b1 : ∀ (t : Fin cfg0.N) (y : S56x144.Idx), (iblk m c 1 t : S56x144.Idx → EReal) y = a.WS (y 0).val (y 1).val
  b2 : ∀ (t : Fin cfg0.N) (y : S256x7168.Idx), (iblk m c 2 t : S256x7168.Idx → EReal) y = a.X (y 0).val (y 1).val
  b3 : ∀ (t : Fin cfg0.N) (y : S1x7168.Idx), (iblk m c 3 t : S1x7168.Idx → EReal) y = a.G (y 1).val
  b4 : ∀ (t : Fin cfg0.N) (y : S7168x256.Idx), (iblk m c 4 t : S7168x256.Idx → EReal) y = a.W (y 0).val (256 * t.val + (y 1).val)
  b5 : ∀ (t : Fin cfg0.N) (y : S256x256.Idx), (iblk m c 5 t : S256x256.Idx → EReal) y = a.D (y 0).val (256 * t.val + (y 1).val)

theorem stated_good (m : (ℓ : Loc nD τ sig) → Buf (Elt Ideal) ℓ) (c : Dev nD) (a : In) (ha : a.Fin') (hb : Blocks m c a) : (stated a).Good m c := by
  intro t f1 f2 f3 f4 f5 f6 f7 f8 f9 f10 f11 f12 f13 f14 f15 f16 f17 f18 f19 f20 f21 f22 g7 g8 g9 g10 g11 g12 g13 g14 g15 g16 g17 g18 g19 g20 g21 g22 E1 E2 E3 E4 E5 E6 hp hs
  have ht := coord_eq t
  have key := step_vals c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _)
    a ha f1 f2 f3 f4 f5 f6 f7 g7 f8 g8 f9 g9 f10 g10 f11 g11 f12 g12 f13 g13 f14 g14 f15 g15 f16 g16 f17 g17 f18 g18 f19 g19 f20 g20 f21 g21 f22 g22
    (fun y => (congrFun E1 y).trans (hb.b0 t y)) (fun y => (congrFun E2 y).trans (hb.b1 t y)) (fun y => (congrFun E3 y).trans (hb.b2 t y)) (fun y => (congrFun E4 y).trans (hb.b3 t y))
    (fun y => (congrFun E5 y).trans ((hb.b4 t y).trans (by rw [ht]))) (fun y => (congrFun E6 y).trans ((hb.b5 t y).trans (by rw [ht])))
    (cond1_eq t) (cond2_eq t) (by rw [ht]; exact hp) hs
  rw [ht] at key
  exact key

end Cert.Val

end
-- ==== Proof.Val.Inp.lean ====
module

public import proofs.«01_k».proof.Proof.Val.Bounds
public import proofs.«01_k».proof.Proof.Gen.KernelIdeal.Frame
public import Idealize.ShloMosaic.Lib.Pipeline.Value
public import Idealize.ShloMosaic.Lib.Pipeline.ValueKit
public import Idealize.ShloMosaic.Lib.ValueIdx

@[expose] public section

set_option maxRecDepth 16384
set_option maxHeartbeats 1000000

noncomputable section

namespace Cert.Val

open Idealize.ShloMosaic Idealize.ShloMosaic.TcCoe Idealize.SL.Sem Idealize.ShloMosaic.ValueIdx
open Cert.KernelIdeal Cert.KernelIdeal.Gen

/-! ## The inputs by number -/

/-- The inputs' numbers, from the six arrays. -/
def inOf (x : S2x128x7168.Idx → EReal) (g : S7168.Idx → EReal) (w : S7168x18432.Idx → EReal) (ws : S56x144.Idx → EReal)
    (d : S2x128x18432.Idx → EReal) (s : S2.Idx → BitVec 32) : In where
  S b := s (ValueIdx.ix1 (Fin.ofNat 2 b))
  X t i := x (ValueIdx.ix3 (Fin.ofNat 2 (t / 128)) (Fin.ofNat 128 t) (Fin.ofNat 7168 i))
  G i := g (ValueIdx.ix1 (Fin.ofNat 7168 i))
  W i o := w (ValueIdx.ix2 (Fin.ofNat 7168 i) (Fin.ofNat 18432 o))
  WS i o := ws (ValueIdx.ix2 (Fin.ofNat 56 i) (Fin.ofNat 144 o))
  D t o := d (ValueIdx.ix3 (Fin.ofNat 2 (t / 128)) (Fin.ofNat 128 t) (Fin.ofNat 18432 o))

section
variable (x : S2x128x7168.Idx → EReal) (g : S7168.Idx → EReal) (w : S7168x18432.Idx → EReal) (ws : S56x144.Idx → EReal)
    (d : S2x128x18432.Idx → EReal) (s : S2.Idx → BitVec 32)

theorem in_S (y : S2.Idx) : s y = (inOf x g w ws d s).S (y 0).val := by
  have y0 : (y 0).val < 2 := (y 0).isLt
  refine congrArg s (funext fun k => ?_)
  match k with
  | ⟨0, _⟩ => exact Fin.ext (Nat.mod_eq_of_lt y0).symm
theorem in_G (y : S7168.Idx) : g y = (inOf x g w ws d s).G (y 0).val := by
  have y0 : (y 0).val < 7168 := (y 0).isLt
  refine congrArg g (funext fun k => ?_)
  match k with
  | ⟨0, _⟩ => exact Fin.ext (Nat.mod_eq_of_lt y0).symm
theorem in_W (y : S7168x18432.Idx) : w y = (inOf x g w ws d s).W (y 0).val (y 1).val := by
  have y0 : (y 0).val < 7168 := (y 0).isLt
  have y1 : (y 1).val < 18432 := (y 1).isLt
  refine congrArg w (funext fun k => ?_)
  match k with
  | ⟨0, _⟩ => exact Fin.ext (Nat.mod_eq_of_lt y0).symm
  | ⟨1, _⟩ => exact Fin.ext (Nat.mod_eq_of_lt y1).symm
theorem in_WS (y : S56x144.Idx) : ws y = (inOf x g w ws d s).WS (y 0).val (y 1).val := by
  have y0 : (y 0).val < 56 := (y 0).isLt
  have y1 : (y 1).val < 144 := (y 1).isLt
  refine congrArg ws (funext fun k => ?_)
  match k with
  | ⟨0, _⟩ => exact Fin.ext (Nat.mod_eq_of_lt y0).symm
  | ⟨1, _⟩ => exact Fin.ext (Nat.mod_eq_of_lt y1).symm
theorem in_X (y : S2x128x7168.Idx) : x y = (inOf x g w ws d s).X (128 * (y 0).val + (y 1).val) (y 2).val := by
  have y0 : (y 0).val < 2 := (y 0).isLt
  have y1 : (y 1).val < 128 := (y 1).isLt
  have y2 : (y 2).val < 7168 := (y 2).isLt
  refine congrArg x (funext fun k => ?_)
  match k with
  | ⟨0, _⟩ => exact Fin.ext (show (y 0).val = (128 * (y 0).val + (y 1).val) / 128 % 2 by omega)
  | ⟨1, _⟩ => exact Fin.ext (show (y 1).val = (128 * (y 0).val + (y 1).val) % 128 by omega)
  | ⟨2, _⟩ => exact Fin.ext (Nat.mod_eq_of_lt y2).symm
theorem in_D (y : S2x128x18432.Idx) : d y = (inOf x g w ws d s).D (128 * (y 0).val + (y 1).val) (y 2).val := by
  have y0 : (y 0).val < 2 := (y 0).isLt
  have y1 : (y 1).val < 128 := (y 1).isLt
  have y2 : (y 2).val < 18432 := (y 2).isLt
  refine congrArg d (funext fun k => ?_)
  match k with
  | ⟨0, _⟩ => exact Fin.ext (show (y 0).val = (128 * (y 0).val + (y 1).val) / 128 % 2 by omega)
  | ⟨1, _⟩ => exact Fin.ext (show (y 1).val = (128 * (y 0).val + (y 1).val) % 128 by omega)
  | ⟨2, _⟩ => exact Fin.ext (Nat.mod_eq_of_lt y2).symm

theorem in_fin (hg : ∀ y, max (g y) (-(g y)) ≤ (((2 : ℝ) ^ (128 : ℤ) : ℝ) : EReal)) (hd : ∀ y, max (d y) (-(d y)) ≤ (((2 : ℝ) ^ (128 : ℤ) : ℝ) : EReal)) :
    (inOf x g w ws d s).Fin' := ⟨fun _ => hg _, fun _ _ => hd _⟩
end

/-- The greatest finite number of the format is below `2 ^ 128`. -/
theorem c_max : Ideal.ofBits .f32 0x7F7FFFFF#32 ≤ (((2 : ℝ) ^ (128 : ℤ) : ℝ) : EReal) := by
  have : Ideal.ofBits .f32 0x7F7FFFFF#32 = ((16777215 * (2 : ℝ) ^ (104 : ℤ) : ℝ) : EReal) := by
    show Ideal.ieee 8 23 0x7F7FFFFF#32 = _
    unfold Ideal.ieee
    simp
  rw [this]
  exact_mod_cast (by norm_num : 16777215 * (2 : ℝ) ^ (104 : ℤ) ≤ (2 : ℝ) ^ (128 : ℤ))

/-- What a comparison that holds says. -/
theorem le_of_cmp (u v : EReal) (h : Ideal.cmp .ole u v = 1#1) : u ≤ v := by
  unfold Ideal.cmp at h
  by_contra hn
  simp [hn] at h

/-! ## The launch's arrays and the kernel's blocks -/

variable (m : (ℓ : Loc nD τ sig) → Buf (Elt Ideal) ℓ)

/-- The inputs of device `c`. -/
def inM (c : Dev nD) : In :=
  inOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

theorem inM_S (c : Dev nD) (y : S2.Idx) : (m ((c : Thread nD τ).loc main_arg5) : S2.Idx → BitVec 32) y = (inM m c).S (y 0).val := in_S _ _ _ _ _ _ y
theorem inM_G (c : Dev nD) (y : S7168.Idx) : (m ((c : Thread nD τ).loc main_arg1) : S7168.Idx → EReal) y = (inM m c).G (y 0).val := in_G _ _ _ _ _ _ y
theorem inM_W (c : Dev nD) (y : S7168x18432.Idx) : (m ((c : Thread nD τ).loc main_arg2) : S7168x18432.Idx → EReal) y = (inM m c).W (y 0).val (y 1).val := in_W _ _ _ _ _ _ y
theorem inM_WS (c : Dev nD) (y : S56x144.Idx) : (m ((c : Thread nD τ).loc main_arg3) : S56x144.Idx → EReal) y = (inM m c).WS (y 0).val (y 1).val := in_WS _ _ _ _ _ _ y
theorem inM_X (c : Dev nD) (y : S2x128x7168.Idx) : (m ((c : Thread nD τ).loc main_arg0) : S2x128x7168.Idx → EReal) y = (inM m c).X (128 * (y 0).val + (y 1).val) (y 2).val := in_X _ _ _ _ _ _ y
theorem inM_D (c : Dev nD) (y : S2x128x18432.Idx) : (m ((c : Thread nD τ).loc main_arg4) : S2x128x18432.Idx → EReal) y = (inM m c).D (128 * (y 0).val + (y 1).val) (y 2).val := in_D _ _ _ _ _ _ y

theorem V_main_v0 (c : Dev nD) : (V m c main_v0 : S256x7168.Idx → EReal) = shapeCast S256x7168 (m ((c : Thread nD τ).loc main_arg0) : S2x128x7168.Idx → EReal) shapeCasts_S2x128x7168_S256x7168 := by
  unfold V hostOps0
  after_results
  rfl
theorem V_main_v1 (c : Dev nD) : (V m c main_v1 : S1x7168.Idx → EReal) = shapeCast S1x7168 (m ((c : Thread nD τ).loc main_arg1) : S7168.Idx → EReal) shapeCasts_S7168_S1x7168 := by
  unfold V hostOps0
  after_results
  rfl
theorem V_main_v2 (c : Dev nD) : (V m c main_v2 : S256x18432.Idx → EReal) = shapeCast S256x18432 (m ((c : Thread nD τ).loc main_arg4) : S2x128x18432.Idx → EReal) shapeCasts_S2x128x18432_S256x18432 := by
  unfold V hostOps0
  after_results
  rfl

theorem v0_at (c : Dev nD) (y : S256x7168.Idx) : (V m c main_v0 : S256x7168.Idx → EReal) y = (inM m c).X (y 0).val (y 1).val := by
  have y0 : (y 0).val < 256 := (y 0).isLt
  rw [V_main_v0]
  refine (shapeCast_apply _ _ _ (ValueIdx.ix3 (⟨(y 0).val / 128, by omega⟩ : Fin 2) (⟨(y 0).val % 128, by omega⟩ : Fin 128) (y 1)) ?_).trans ((inM_X m c _).trans ?_)
  · refine (Shape.rowMajor_val_three _).trans (Eq.trans ?_ (Shape.rowMajor_val_two _).symm)
    show ((y 0).val / 128 * 128 + (y 0).val % 128) * 7168 + (y 1).val = (y 0).val * 7168 + (y 1).val
    omega
  · show (inM m c).X (128 * ((y 0).val / 128) + (y 0).val % 128) (y 1).val = _
    rw [Nat.div_add_mod]
theorem v1_at (c : Dev nD) (y : S1x7168.Idx) : (V m c main_v1 : S1x7168.Idx → EReal) y = (inM m c).G (y 1).val := by
  have y0 : (y 0).val < 1 := (y 0).isLt
  rw [V_main_v1]
  refine (shapeCast_apply _ _ _ (ValueIdx.ix1 (y 1)) ?_).trans (inM_G m c _)
  refine (Shape.rowMajor_val_one _).trans (Eq.trans ?_ (Shape.rowMajor_val_two _).symm)
  show (y 1).val = (y 0).val * 7168 + (y 1).val
  omega
theorem v2_at (c : Dev nD) (y : S256x18432.Idx) : (V m c main_v2 : S256x18432.Idx → EReal) y = (inM m c).D (y 0).val (y 1).val := by
  have y0 : (y 0).val < 256 := (y 0).isLt
  rw [V_main_v2]
  refine (shapeCast_apply _ _ _ (ValueIdx.ix3 (⟨(y 0).val / 128, by omega⟩ : Fin 2) (⟨(y 0).val % 128, by omega⟩ : Fin 128) (y 1)) ?_).trans ((inM_D m c _).trans ?_)
  · refine (Shape.rowMajor_val_three _).trans (Eq.trans ?_ (Shape.rowMajor_val_two _).symm)
    show ((y 0).val / 128 * 128 + (y 0).val % 128) * 18432 + (y 1).val = (y 0).val * 18432 + (y 1).val
    omega
  · show (inM m c).D (128 * ((y 0).val / 128) + (y 0).val % 128) (y 1).val = _
    rw [Nat.div_add_mod]

theorem at0 : ∀ t : Fin cfg0.N, win0_0.index t 0 = 0 := (by decide +kernel : ∀ t : Fin grid0.N, win0_0.index t 0 = 0)
theorem at1 : ∀ t : Fin cfg0.N, win0_1.index t 0 = 0 ∧ win0_1.index t 1 = 0 := (by decide +kernel : ∀ t : Fin grid0.N, win0_1.index t 0 = 0 ∧ win0_1.index t 1 = 0)
theorem at2 : ∀ t : Fin cfg0.N, win0_2.index t 0 = 0 ∧ win0_2.index t 1 = 0 := (by decide +kernel : ∀ t : Fin grid0.N, win0_2.index t 0 = 0 ∧ win0_2.index t 1 = 0)
theorem at3 : ∀ t : Fin cfg0.N, win0_3.index t 0 = 0 ∧ win0_3.index t 1 = 0 := (by decide +kernel : ∀ t : Fin grid0.N, win0_3.index t 0 = 0 ∧ win0_3.index t 1 = 0)
theorem at4 : ∀ t : Fin cfg0.N, win0_4.index t 0 = 0 ∧ win0_4.index t 1 = t.val := (by decide +kernel : ∀ t : Fin grid0.N, win0_4.index t 0 = 0 ∧ win0_4.index t 1 = t.val)
theorem at5 : ∀ t : Fin cfg0.N, win0_5.index t 0 = 0 ∧ win0_5.index t 1 = t.val := (by decide +kernel : ∀ t : Fin grid0.N, win0_5.index t 0 = 0 ∧ win0_5.index t 1 = t.val)

theorem blk0 (c : Dev nD) (t : Fin cfg0.N) (y : S2.Idx) : (iblk m c 0 t : S2.Idx → BitVec 32) y = (inM m c).S (y 0).val := by
  show (V m c main_arg5 : S2.Idx → BitVec 32) ((win0_0.rect t).emb y) = _
  rw [V_main_arg5]
  refine (inM_S m c _).trans ?_
  rw [win0_0.rect_emb_val_of_index_zero t 0 (at0 t)]
theorem blk1 (c : Dev nD) (t : Fin cfg0.N) (y : S56x144.Idx) : (iblk m c 1 t : S56x144.Idx → EReal) y = (inM m c).WS (y 0).val (y 1).val := by
  show (V m c main_arg3 : S56x144.Idx → EReal) ((win0_1.rect t).emb y) = _
  rw [V_main_arg3]
  refine (inM_WS m c _).trans ?_
  rw [win0_1.rect_emb_val_of_index_zero t 0 (at1 t).1, win0_1.rect_emb_val_of_index_zero t 1 (at1 t).2]
theorem blk2 (c : Dev nD) (t : Fin cfg0.N) (y : S256x7168.Idx) : (iblk m c 2 t : S256x7168.Idx → EReal) y = (inM m c).X (y 0).val (y 1).val := by
  show (V m c main_v0 : S256x7168.Idx → EReal) ((win0_2.rect t).emb y) = _
  refine (v0_at m c _).trans ?_
  rw [win0_2.rect_emb_val_of_index_zero t 0 (at2 t).1, win0_2.rect_emb_val_of_index_zero t 1 (at2 t).2]
theorem blk3 (c : Dev nD) (t : Fin cfg0.N) (y : S1x7168.Idx) : (iblk m c 3 t : S1x7168.Idx → EReal) y = (inM m c).G (y 1).val := by
  show (V m c main_v1 : S1x7168.Idx → EReal) ((win0_3.rect t).emb y) = _
  refine (v1_at m c _).trans ?_
  rw [win0_3.rect_emb_val_of_index_zero t 1 (at3 t).2]
theorem blk4 (c : Dev nD) (t : Fin cfg0.N) (y : S7168x256.Idx) : (iblk m c 4 t : S7168x256.Idx → EReal) y = (inM m c).W (y 0).val (256 * t.val + (y 1).val) := by
  show (V m c main_arg2 : S7168x18432.Idx → EReal) ((win0_4.rect t).emb y) = _
  rw [V_main_arg2]
  refine (inM_W m c _).trans ?_
  rw [win0_4.rect_emb_val_of_index_zero t 0 (at4 t).1, win0_4.rect_emb_val t y 1, (at4 t).2]
  show (inM m c).W (y 0).val (t.val * 256 + (y 1).val) = _
  rw [Nat.mul_comm]
theorem blk5 (c : Dev nD) (t : Fin cfg0.N) (y : S256x256.Idx) : (iblk m c 5 t : S256x256.Idx → EReal) y = (inM m c).D (y 0).val (256 * t.val + (y 1).val) := by
  show (V m c main_v2 : S256x18432.Idx → EReal) ((win0_5.rect t).emb y) = _
  refine (v2_at m c _).trans ?_
  rw [win0_5.rect_emb_val_of_index_zero t 0 (at5 t).1, win0_5.rect_emb_val t y 1, (at5 t).2]
  show (inM m c).D (y 0).val (t.val * 256 + (y 1).val) = _
  rw [Nat.mul_comm]

end Cert.Val

end
-- ==== Proof.Val.Arr.lean ====
module

public import proofs.«01_k».proof.Proof.Val.Spec
public import proofs.«01_k».proof.Proof.Gen.KernelIdeal.Frame
public import Idealize.ShloMosaic.Lib.Pipeline.Value
public import Idealize.ShloMosaic.Lib.Pipeline.ValueKit

@[expose] public section

set_option maxRecDepth 16384
set_option maxHeartbeats 1000000

noncomputable section

namespace Cert.Val

open Idealize.ShloMosaic Idealize.ShloMosaic.TcCoe Idealize.SL.Sem
open Cert.KernelIdeal Cert.KernelIdeal.Gen
open Idealize.ShloMosaic.Pipeline (Dat)

/-! ## Each result's array from the blocks written back -/

variable {c : Dev nD} (dat : Dat τ (Elt Ideal) Unit ℕ (UR sig nD τ) ℕ cfg0 c)

theorem ix_6 : ∀ t : Fin cfg0.N, win0_6.index t 0 = 0 ∧ win0_6.index t 1 = 0 := (by decide +kernel : ∀ t : Fin grid0.N, win0_6.index t 0 = 0 ∧ win0_6.index t 1 = 0)
theorem fl_6 : ∀ t : Fin cfg0.N, (cfg0.win 6).flush t = true → t.val = 71 := (by decide +kernel : ∀ t : Fin grid0.N, win0_6.flush t = true → t.val = 71)
theorem arr_6 (f : ℕ → ℕ → EReal) (h : ∀ t : Fin cfg0.N, (cfg0.win 6).flush t = true → ∀ y : S256x7168.Idx, (dat.after 6 t : S256x7168.Idx → EReal) y = f (y 0).val (y 1).val) :
    dat.arrAt 6 cfg0.N = (fun y : S256x7168.Idx => f (y 0).val (y 1).val) := by
  refine dat.arrAt_eq_of_covers 6 _ (by decide +kernel) fun t hf y => ?_
  refine (h t hf _).trans ?_
  show f (y 0).val (y 1).val = f ((win0_6.rect t).emb y 0).val ((win0_6.rect t).emb y 1).val
  rw [win0_6.rect_emb_val_of_index_zero t 0 (ix_6 t).1]
  rw [win0_6.rect_emb_val_of_index_zero t 1 (ix_6 t).2]

theorem ix_7 : ∀ t : Fin cfg0.N, win0_7.index t 0 = 0 ∧ win0_7.index t 1 = t.val := (by decide +kernel : ∀ t : Fin grid0.N, win0_7.index t 0 = 0 ∧ win0_7.index t 1 = t.val)
theorem arr_7 (f : ℕ → ℕ → EReal) (h : ∀ t : Fin cfg0.N, (cfg0.win 7).flush t = true → ∀ y : S7168x256.Idx, (dat.after 7 t : S7168x256.Idx → EReal) y = f (y 0).val (256 * t.val + (y 1).val)) :
    dat.arrAt 7 cfg0.N = (fun y : S7168x18432.Idx => f (y 0).val (y 1).val) := by
  refine dat.arrAt_eq_of_covers 7 _ (by decide +kernel) fun t hf y => ?_
  refine (h t hf _).trans ?_
  show f (y 0).val (256 * t.val + (y 1).val) = f ((win0_7.rect t).emb y 0).val ((win0_7.rect t).emb y 1).val
  rw [win0_7.rect_emb_val_of_index_zero t 0 (ix_7 t).1]
  rw [win0_7.rect_emb_val t y 1, (ix_7 t).2]
  show _ = f (y 0).val (t.val * 256 + (y 1).val)
  rw [Nat.mul_comm]

theorem ix_8 : ∀ t : Fin cfg0.N, win0_8.index t 0 = 0 ∧ win0_8.index t 1 = 0 := (by decide +kernel : ∀ t : Fin grid0.N, win0_8.index t 0 = 0 ∧ win0_8.index t 1 = 0)
theorem fl_8 : ∀ t : Fin cfg0.N, (cfg0.win 8).flush t = true → t.val = 71 := (by decide +kernel : ∀ t : Fin grid0.N, win0_8.flush t = true → t.val = 71)
theorem arr_8 (f : ℕ → EReal) (h : ∀ t : Fin cfg0.N, (cfg0.win 8).flush t = true → ∀ y : S1x7168.Idx, (dat.after 8 t : S1x7168.Idx → EReal) y = f (y 1).val) :
    dat.arrAt 8 cfg0.N = (fun y : S1x7168.Idx => f (y 1).val) := by
  refine dat.arrAt_eq_of_covers 8 _ (by decide +kernel) fun t hf y => ?_
  refine (h t hf _).trans ?_
  show f (y 1).val = f ((win0_8.rect t).emb y 1).val
  rw [win0_8.rect_emb_val_of_index_zero t 1 (ix_8 t).2]

theorem ix_9 : ∀ t : Fin cfg0.N, win0_9.index t 0 = 0 ∧ win0_9.index t 1 = 0 := (by decide +kernel : ∀ t : Fin grid0.N, win0_9.index t 0 = 0 ∧ win0_9.index t 1 = 0)
theorem fl_9 : ∀ t : Fin cfg0.N, (cfg0.win 9).flush t = true → t.val = 71 := (by decide +kernel : ∀ t : Fin grid0.N, win0_9.flush t = true → t.val = 71)
theorem arr_9 (f : ℕ → ℕ → EReal) (h : ∀ t : Fin cfg0.N, (cfg0.win 9).flush t = true → ∀ y : S256x7168.Idx, (dat.after 9 t : S256x7168.Idx → EReal) y = f (y 0).val (y 1).val) :
    dat.arrAt 9 cfg0.N = (fun y : S256x7168.Idx => f (y 0).val (y 1).val) := by
  refine dat.arrAt_eq_of_covers 9 _ (by decide +kernel) fun t hf y => ?_
  refine (h t hf _).trans ?_
  show f (y 0).val (y 1).val = f ((win0_9.rect t).emb y 0).val ((win0_9.rect t).emb y 1).val
  rw [win0_9.rect_emb_val_of_index_zero t 0 (ix_9 t).1]
  rw [win0_9.rect_emb_val_of_index_zero t 1 (ix_9 t).2]

theorem ix_10 : ∀ t : Fin cfg0.N, win0_10.index t 0 = 0 ∧ win0_10.index t 1 = 0 ∧ win0_10.index t 2 = 0 := (by decide +kernel : ∀ t : Fin grid0.N, win0_10.index t 0 = 0 ∧ win0_10.index t 1 = 0 ∧ win0_10.index t 2 = 0)
theorem fl_10 : ∀ t : Fin cfg0.N, (cfg0.win 10).flush t = true → t.val = 71 := (by decide +kernel : ∀ t : Fin grid0.N, win0_10.flush t = true → t.val = 71)
theorem arr_10 (f : ℕ → ℕ → EReal) (h : ∀ t : Fin cfg0.N, (cfg0.win 10).flush t = true → ∀ y : S2x1x7168.Idx, (dat.after 10 t : S2x1x7168.Idx → EReal) y = f (y 0).val (y 2).val) :
    dat.arrAt 10 cfg0.N = (fun y : S2x1x7168.Idx => f (y 0).val (y 2).val) := by
  refine dat.arrAt_eq_of_covers 10 _ (by decide +kernel) fun t hf y => ?_
  refine (h t hf _).trans ?_
  show f (y 0).val (y 2).val = f ((win0_10.rect t).emb y 0).val ((win0_10.rect t).emb y 2).val
  rw [win0_10.rect_emb_val_of_index_zero t 0 (ix_10 t).1]
  rw [win0_10.rect_emb_val_of_index_zero t 2 (ix_10 t).2.2]

theorem ix_11 : ∀ t : Fin cfg0.N, win0_11.index t 0 = 0 ∧ win0_11.index t 1 = t.val := (by decide +kernel : ∀ t : Fin grid0.N, win0_11.index t 0 = 0 ∧ win0_11.index t 1 = t.val)
theorem arr_11 (f : ℕ → ℕ → EReal) (h : ∀ t : Fin cfg0.N, (cfg0.win 11).flush t = true → ∀ y : S256x256.Idx, (dat.after 11 t : S256x256.Idx → EReal) y = f (y 0).val (256 * t.val + (y 1).val)) :
    dat.arrAt 11 cfg0.N = (fun y : S256x18432.Idx => f (y 0).val (y 1).val) := by
  refine dat.arrAt_eq_of_covers 11 _ (by decide +kernel) fun t hf y => ?_
  refine (h t hf _).trans ?_
  show f (y 0).val (256 * t.val + (y 1).val) = f ((win0_11.rect t).emb y 0).val ((win0_11.rect t).emb y 1).val
  rw [win0_11.rect_emb_val_of_index_zero t 0 (ix_11 t).1]
  rw [win0_11.rect_emb_val t y 1, (ix_11 t).2]
  show _ = f (y 0).val (t.val * 256 + (y 1).val)
  rw [Nat.mul_comm]

theorem ix_12 : ∀ t : Fin cfg0.N, win0_12.index t 0 = 0 ∧ win0_12.index t 1 = 0 := (by decide +kernel : ∀ t : Fin grid0.N, win0_12.index t 0 = 0 ∧ win0_12.index t 1 = 0)
theorem fl_12 : ∀ t : Fin cfg0.N, (cfg0.win 12).flush t = true → t.val = 71 := (by decide +kernel : ∀ t : Fin grid0.N, win0_12.flush t = true → t.val = 71)
theorem arr_12 (f : ℕ → ℕ → EReal) (h : ∀ t : Fin cfg0.N, (cfg0.win 12).flush t = true → ∀ y : S256x144.Idx, (dat.after 12 t : S256x144.Idx → EReal) y = f (y 0).val (y 1).val) :
    dat.arrAt 12 cfg0.N = (fun y : S256x144.Idx => f (y 0).val (y 1).val) := by
  refine dat.arrAt_eq_of_covers 12 _ (by decide +kernel) fun t hf y => ?_
  refine (h t hf _).trans ?_
  show f (y 0).val (y 1).val = f ((win0_12.rect t).emb y 0).val ((win0_12.rect t).emb y 1).val
  rw [win0_12.rect_emb_val_of_index_zero t 0 (ix_12 t).1]
  rw [win0_12.rect_emb_val_of_index_zero t 1 (ix_12 t).2]

theorem ix_13 : ∀ t : Fin cfg0.N, win0_13.index t 0 = 0 ∧ win0_13.index t 1 = t.val := (by decide +kernel : ∀ t : Fin grid0.N, win0_13.index t 0 = 0 ∧ win0_13.index t 1 = t.val)
theorem arr_13 (f : ℕ → ℕ → EReal) (h : ∀ t : Fin cfg0.N, (cfg0.win 13).flush t = true → ∀ y : S256x256.Idx, (dat.after 13 t : S256x256.Idx → EReal) y = f (y 0).val (256 * t.val + (y 1).val)) :
    dat.arrAt 13 cfg0.N = (fun y : S256x18432.Idx => f (y 0).val (y 1).val) := by
  refine dat.arrAt_eq_of_covers 13 _ (by decide +kernel) fun t hf y => ?_
  refine (h t hf _).trans ?_
  show f (y 0).val (256 * t.val + (y 1).val) = f ((win0_13.rect t).emb y 0).val ((win0_13.rect t).emb y 1).val
  rw [win0_13.rect_emb_val_of_index_zero t 0 (ix_13 t).1]
  rw [win0_13.rect_emb_val t y 1, (ix_13 t).2]
  show _ = f (y 0).val (t.val * 256 + (y 1).val)
  rw [Nat.mul_comm]

theorem ix_14 : ∀ t : Fin cfg0.N, win0_14.index t 0 = 0 ∧ win0_14.index t 1 = 0 ∧ win0_14.index t 2 = t.val := (by decide +kernel : ∀ t : Fin grid0.N, win0_14.index t 0 = 0 ∧ win0_14.index t 1 = 0 ∧ win0_14.index t 2 = t.val)
theorem arr_14 (f : ℕ → ℕ → EReal) (h : ∀ t : Fin cfg0.N, (cfg0.win 14).flush t = true → ∀ y : S2x1x256.Idx, (dat.after 14 t : S2x1x256.Idx → EReal) y = f (y 0).val (256 * t.val + (y 2).val)) :
    dat.arrAt 14 cfg0.N = (fun y : S2x1x18432.Idx => f (y 0).val (y 2).val) := by
  refine dat.arrAt_eq_of_covers 14 _ (by decide +kernel) fun t hf y => ?_
  refine (h t hf _).trans ?_
  show f (y 0).val (256 * t.val + (y 2).val) = f ((win0_14.rect t).emb y 0).val ((win0_14.rect t).emb y 2).val
  rw [win0_14.rect_emb_val_of_index_zero t 0 (ix_14 t).1]
  rw [win0_14.rect_emb_val t y 2, (ix_14 t).2.2]
  show _ = f (y 0).val (t.val * 256 + (y 2).val)
  rw [Nat.mul_comm]

end Cert.Val

end
-- ==== Proof.Val.Out.lean ====
module

public import proofs.«01_k».proof.Proof.Val.Inv
public import proofs.«01_k».proof.Proof.Val.Inp
public import proofs.«01_k».proof.Proof.Val.Arr
public import proofs.«01_k».proof.Proof.Ideal.Run

@[expose] public section

set_option maxRecDepth 16384
set_option maxHeartbeats 1000000

noncomputable section

namespace Cert.Val

open Idealize.ShloMosaic Idealize.ShloMosaic.TcCoe Idealize.SL.Sem
open Cert.KernelIdeal Cert.KernelIdeal.Gen

/-! ## What the kernel returns -/

variable (m : (ℓ : Loc nD τ sig) → Buf (Elt Ideal) ℓ) (ρ : Dev nD → PrngReg)

theorem blocks_inM (c : Dev nD) : Blocks m c (inM m c) := ⟨blk0 m c, blk1 m c, blk2 m c, blk3 m c, blk4 m c, blk5 m c⟩

theorem one_dev (c c' : Dev nD) : c = c' := Subsingleton.elim (α := Fin 1) c c'

/-- Every device's inputs, which are the one device's. -/
abbrev inK : In := inM m (0 : Fin 1)

/-- From finite gains and gradients the kernel ends with the nine results the mathematics asks for, and its arguments unchanged. -/
theorem run_out (ha : (inK m).Fin') : θ_run defs (onTc (τ := τ) (main (F := Ideal))) ⟨m, fun _ => 0, ρ⟩ fun r => ∀ c : Dev nD,
      r.2.mem ((c : Thread nD τ).loc main_v3_0) = (fun y : S256x7168.Idx => (inK m).dx (y 0).val (y 1).val)
      ∧ r.2.mem ((c : Thread nD τ).loc main_v3_1) = (fun y : S7168x18432.Idx => (inK m).dw (y 0).val (y 1).val)
      ∧ r.2.mem ((c : Thread nD τ).loc main_v3_2) = (fun y : S1x7168.Idx => (inK m).dgamma (y 1).val)
      ∧ r.2.mem ((c : Thread nD τ).loc main_v3_3) = (fun y : S256x7168.Idx => (inK m).xC (y 0).val (y 1).val)
      ∧ r.2.mem ((c : Thread nD τ).loc main_v3_4) = (fun y : S2x1x7168.Idx => (inK m).xS (y 0).val (y 2).val)
      ∧ r.2.mem ((c : Thread nD τ).loc main_v3_5) = (fun y : S256x18432.Idx => (inK m).rC (y 0).val (y 1).val)
      ∧ r.2.mem ((c : Thread nD τ).loc main_v3_6) = (fun y : S256x144.Idx => (inK m).rS (y 0).val (y 1).val)
      ∧ r.2.mem ((c : Thread nD τ).loc main_v3_7) = (fun y : S256x18432.Idx => (inK m).cC (y 0).val (y 1).val)
      ∧ r.2.mem ((c : Thread nD τ).loc main_v3_8) = (fun y : S2x1x18432.Idx => (inK m).cS (y 0).val (y 2).val)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_)
    (run_rel m ρ (stated (inK m)) fun c => stated_good m c _ ha (one_dev c (0 : Fin 1) ▸ blocks_inM m (0 : Fin 1)))
  obtain ⟨after, hl, hA⟩ := h.1.exists_exact c
  refine ⟨(hA 6).trans (arr_6 _ (inK m).dx fun t hf => (Pipeline.Dat.toRRel_leaves (dats m (stated (inK m)) 0 c) (w := 6) rfl (hl 6 t hf)) (fl_6 t hf)),
    (hA 7).trans (arr_7 _ (inK m).dw fun t hf => Pipeline.Dat.toRRel_leaves (dats m (stated (inK m)) 0 c) (w := 7) rfl (hl 7 t hf)),
    (hA 8).trans (arr_8 _ (inK m).dgamma fun t hf => (Pipeline.Dat.toRRel_leaves (dats m (stated (inK m)) 0 c) (w := 8) rfl (hl 8 t hf)) (fl_8 t hf)),
    (hA 9).trans (arr_9 _ (inK m).xC fun t hf => Pipeline.Dat.toRRel_leaves (dats m (stated (inK m)) 0 c) (w := 9) rfl (hl 9 t hf)),
    (hA 10).trans (arr_10 _ (inK m).xS fun t hf => Pipeline.Dat.toRRel_leaves (dats m (stated (inK m)) 0 c) (w := 10) rfl (hl 10 t hf)),
    (hA 11).trans (arr_11 _ (inK m).rC fun t hf => Pipeline.Dat.toRRel_leaves (dats m (stated (inK m)) 0 c) (w := 11) rfl (hl 11 t hf)),
    (hA 12).trans (arr_12 _ (inK m).rS fun t hf => (Pipeline.Dat.toRRel_leaves (dats m (stated (inK m)) 0 c) (w := 12) rfl (hl 12 t hf)) (fl_12 t hf)),
    (hA 13).trans (arr_13 _ (inK m).cC fun t hf => Pipeline.Dat.toRRel_leaves (dats m (stated (inK m)) 0 c) (w := 13) rfl (hl 13 t hf)),
    (hA 14).trans (arr_14 _ (inK m).cS fun t hf => Pipeline.Dat.toRRel_leaves (dats m (stated (inK m)) 0 c) (w := 14) rfl (hl 14 t hf)),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    (h.1.arr_in c 4 rfl).trans (V_main_arg2 m c),
    (h.1.arr_in c 1 rfl).trans (V_main_arg3 m c),
    ((h.1 c).2 main_arg4 (Pipeline.mem_restRefs_of main_arg4 (by decide) (by decide))).trans (V_main_arg4 m c),
    (h.1.arr_in c 0 rfl).trans (V_main_arg5 m c)⟩

end Cert.Val

end
-- ==== Proof.Val.RefRun.lean ====
module

public import proofs.«01_k».proof.Proof.Gen.ReferenceIdeal.Frame
public import Idealize.ShloMosaic.Lib.Pipeline.Value

@[expose] public section

noncomputable section

namespace Cert.RVal

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t) (iblk m c 5 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S256x7168.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S7168x18432.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S1x7168.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S256x7168.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S2x1x7168.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the body's result for that window (`Gen.out0_11`: its stores
    as pieces over the input windows' blocks), read through the window's block. -/
theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t)) := by
  show (cfg0.win 11).cut (grid0.coords t) ((dats m 0 c).after 11 t) = _
  rw [after0_11]

/-- The index map sends distinct grid points to distinct block indices (decided over the 1 point). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S256x18432.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- WHAT POINT `t` WRITES BACK to output window 12's array: the body's result for that window (`Gen.out0_12`: its stores
    as pieces over the input windows' blocks), read through the window's block. -/
theorem flushed12 (c : Dev nD) (t : Fin cfg0.N) :
    (dats m 0 c).flushed 12 t = (cfg0.win 12).cut (grid0.coords t) (out0_12 (iblk m c 0 t) (iblk m c 1 t) (iblk m c 2 t) (iblk m c 3 t) (iblk m c 4 t) (iblk m c 5 t)) := by
  show (cfg0.win 12).cut (grid0.coords t) ((dats m 0 c).after 12 t) = _
  rw [after0_12]

/-- The index map sends distinct grid points to distinct block indices (decided over the 1 point). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S256x144.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- WHAT POINT `t` WRITES BACK to output window 13's array: the body's result for that window (`Gen.out0_13`: its stores
    as pieces over the input windows' blocks), read through the window's block. -/
theorem flushed13 (c : Dev nD) (t : Fin cfg0.N) :
    (dats m 0 c).flushed 13 t = (cfg0.win 13).cut (grid0.coords t) (out0_13 (iblk m c 0 t) (iblk m c 1 t) (iblk m c 2 t) (iblk m c 3 t) (iblk m c 4 t) (iblk m c 5 t)) := by
  show (cfg0.win 13).cut (grid0.coords t) ((dats m 0 c).after 13 t) = _
  rw [after0_13]

/-- The index map sends distinct grid points to distinct block indices (decided over the 1 point). -/
theorem idx_inj13 : ∀ t t' : Fin cfg0.N, win0_13.index t = win0_13.index t' → t = t' :=
  (by decide +kernel : ∀ t t' : Fin grid0.N, win0_13.index t = win0_13.index t' → t = t')

/-- So two flushing points' blocks share no array index (Lib/Pipeline/Cells.lean `Window.disjoint_blk`). -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- An index that no flushing point's block covers keeps output window 13's array contents at region entry. -/
theorem entry13 (c : Dev nD) (i : S256x18432.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- WHAT POINT `t` WRITES BACK to output window 14's array: the body's result for that window (`Gen.out0_14`: its stores
    as pieces over the input windows' blocks), read through the window's block. -/
theorem flushed14 (c : Dev nD) (t : Fin cfg0.N) :
    (dats m 0 c).flushed 14 t = (cfg0.win 14).cut (grid0.coords t) (out0_14 (iblk m c 0 t) (iblk m c 1 t) (iblk m c 2 t) (iblk m c 3 t) (iblk m c 4 t) (iblk m c 5 t)) := by
  show (cfg0.win 14).cut (grid0.coords t) ((dats m 0 c).after 14 t) = _
  rw [after0_14]

/-- The index map sends distinct grid points to distinct block indices (decided over the 1 point). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- An index that no flushing point's block covers keeps output window 14's array contents at region entry. -/
theorem entry14 (c : Dev nD) (i : S2x1x18432.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v2_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v2_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v2_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v2_3) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v2_4) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v2_5) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v2_6) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v2_7) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v2_8) = (dats m 0 c).arrAt 14 cfg0.N :=
  (h c).1 14

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 4 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

/-- After the frame run, argument `main_arg3` is as launched: input window 1 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 1).trans (((dats m 0 c).arrAt_in 1 rfl _).trans ((A_eq m c 1).trans (V_main_arg3 m c)))

/-- After the frame run, argument `main_arg4` is as launched: input window 5 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 5).trans (((dats m 0 c).arrAt_in 5 rfl _).trans ((A_eq m c 5).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 6 cfg0.N
      ∧ r.2.mem ((c : Thread nD τ).loc main_v2_1) = (dats m 0 c).arrAt 7 cfg0.N
      ∧ r.2.mem ((c : Thread nD τ).loc main_v2_2) = (dats m 0 c).arrAt 8 cfg0.N
      ∧ r.2.mem ((c : Thread nD τ).loc main_v2_3) = (dats m 0 c).arrAt 9 cfg0.N
      ∧ r.2.mem ((c : Thread nD τ).loc main_v2_4) = (dats m 0 c).arrAt 10 cfg0.N
      ∧ r.2.mem ((c : Thread nD τ).loc main_v2_5) = (dats m 0 c).arrAt 11 cfg0.N
      ∧ r.2.mem ((c : Thread nD τ).loc main_v2_6) = (dats m 0 c).arrAt 12 cfg0.N
      ∧ r.2.mem ((c : Thread nD τ).loc main_v2_7) = (dats m 0 c).arrAt 13 cfg0.N
      ∧ r.2.mem ((c : Thread nD τ).loc main_v2_8) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      post9 m r h c,
      post10 m r h c,
      post11 m r h c,
      post12 m r h c,
      post13 m r h c,
      post14 m r h c,
      kept_main_arg0 m r h c,
      kept_main_arg1 m r h c,
      kept_main_arg2 m r h c,
      kept_main_arg3 m r h c,
      kept_main_arg4 m r h c,
      kept_main_arg5 m r h c⟩)
    (run_main m ρ)

end Cert.RVal

end
-- ==== Proof.Val.Ref.lean ====
module

public import proofs.«01_k».proof.Proof.Val.Bounds
public import proofs.«01_k».proof.Proof.Val.RefRun
public import Idealize.ShloMosaic.Lib.MatmulPlain
public import Idealize.ShloMosaic.Lib.ValueIdx

@[expose] public section

noncomputable section

namespace Cert.RVal

open Idealize.ShloMosaic Idealize.SL.Sem Idealize.ShloMosaic.ValueIdx
open Cert.Val Cert.ReferenceIdeal Cert.ReferenceIdeal.Gen

/-! ## Two matrix products read at an index -/

theorem dot_t (l : FVec Ideal S256x18432 .bf16) (r : FVec Ideal S7168x18432 .bf16) (x : S256x7168.Idx) :
    matmul (F := Ideal) dot_S256x18432_S7168x18432_S256x7168_1_1_0_0_n_n none l r (constant S256x7168 .f32 0x00000000#32) x
      = ∑ k : Fin 18432, l (ix2 (x 0) k) * r (ix2 (x 1) k) := by
  have e : x = ix2 (x 0) (x 1) := by
    funext a
    match a with
    | ⟨0, _⟩ => rfl
    | ⟨1, _⟩ => rfl
  refine (congrArg (matmul (F := Ideal) dot_S256x18432_S7168x18432_S256x7168_1_1_0_0_n_n none l r (constant S256x7168 .f32 0x00000000#32)) e).trans ?_
  refine (Ideal.matmul_transposedRhs_apply (M := 256) (K := 18432) (N := 7168) none l r (constant S256x7168 .f32 0x00000000#32) (x 0) (x 1)).trans ?_
  exact (congrArg (· + _) c_zero).trans (zero_add _)

abbrev dims0 : DotDims S256x7168 S256x18432 S7168x18432 := dot_S256x7168_S256x18432_S7168x18432_0_0_1_1_n_n
theorem dims0_rank : dims0.contr.rank = 1 := rfl
theorem dims0_size : dims0.contr.size ⟨0, by rw [dims0_rank]; exact Nat.one_pos⟩ = 256 := rfl

theorem dot_0 (l : FVec Ideal S256x7168 .bf16) (r : FVec Ideal S256x18432 .bf16) (x : S7168x18432.Idx) :
    matmul (F := Ideal) dot_S256x7168_S256x18432_S7168x18432_0_0_1_1_n_n none l r (constant S7168x18432 .f32 0x00000000#32) x
      = ∑ k : Fin 256, l (ix2 k (x 0)) * r (ix2 k (x 1)) := by
  have main : FloatOps.matmul (F := Ideal) dims0 none l r (constant S7168x18432 .f32 0x00000000#32) x
      = (constant (F := Ideal) S7168x18432 .f32 0x00000000#32) x + ∑ k : Fin 256, l (ix2 k (x 0)) * r (ix2 k (x 1)) := by
    rw [Ideal.matmul_apply, ← Equiv.sum_comp (contrEquiv1 dims0 256 dims0_rank dims0_size).symm]
    refine congrArg ((constant (F := Ideal) S7168x18432 .f32 0x00000000#32) x + ·) (Finset.sum_congr rfl fun k _ => ?_)
    have hk := contrEquiv1_symm_val dims0 256 dims0_rank dims0_size k
    have el : dims0.lhsIdx x ((contrEquiv1 dims0 256 dims0_rank dims0_size).symm k) = ix2 k (x 0) := by
      funext a; apply Fin.ext
      match a with
      | ⟨0, _⟩ => exact hk
      | ⟨1, _⟩ => rfl
    have er : dims0.rhsIdx x ((contrEquiv1 dims0 256 dims0_rank dims0_size).symm k) = ix2 k (x 1) := by
      funext a; apply Fin.ext
      match a with
      | ⟨0, _⟩ => exact hk
      | ⟨1, _⟩ => rfl
    rw [el, er]
    rfl
  exact main.trans ((congrArg (· + _) c_zero).trans (zero_add _))

/-! ## Operations on whole arrays read at an index -/

section
variable {F : FTy → Type} [FloatOps F]

theorem at_pay5 (L : Vec F S2x128x7168 .bf16) (y : S2x128x1.Idx) :
    k0_pay5 L y = FloatOps.rsqrt (FloatOps.addf (FloatOps.mulf (shapeCast S2x128x1 (multiReduction .add [2] S2x128 (mulf (k0_pay3 L) (k0_pay3 L)) 0x00000000#32 reduces_S2x128x7168_S2x128 (.inl rfl) rfl) shapeCasts_S2x128_S2x128x1 y)
      (FloatOps.ofBits .f32 0x39124925#32)) (FloatOps.ofBits .f32 0x358637BD#32)) := rfl
theorem at_pay14 (v w : FVec F S2x1x7168 .f32) (y : S2x1x7168.Idx) : k0_pay14 v w y = FloatOps.exp2 (k0_pay12 v w y) := rfl
theorem at_pay16 (D : FVec F S2x128x18432 .f32) (y : S2x128x144x1.Idx) :
    k0_pay16 D y = rexp 0x37924925#32 (shapeCast S2x128x144x1 (multiReduction .maximumf [3] S2x128x144 (absf (k0_pay15 D)) 0xFF800000#32 reduces_S2x128x144x128_S2x128x144 (.inl rfl) rfl) shapeCasts_S2x128x144_S2x128x144x1 y) := rfl
theorem at_pay19 (v : FVec F S2x128x144x1 .f32) (y : S2x128x144x1.Idx) : k0_pay19 v y = FloatOps.exp2 (v y) := rfl
theorem at_pay20 (D : FVec F S2x128x18432 .f32) (y : S2x1x18432.Idx) :
    k0_pay20 D y = rexp 0x37924925#32 (shapeCast S2x1x18432 (multiReduction .maximumf [1] S2x18432 (absf D) 0xFF800000#32 reduces_S2x128x18432_S2x18432 (.inl rfl) rfl) shapeCasts_S2x18432_S2x1x18432 y) := rfl
theorem at_pay22 (D : FVec F S2x128x18432 .f32) (y : S2x1x18432.Idx) : k0_pay22 D y = FloatOps.exp2 (k0_pay20 D y) := rfl
theorem at_pay11 (L2 : Vec F S2x128x7168 .bf16) (L3 : Vec F S1x7168 .f32) (L0 : Vec F S2x1x1 .i32) :
    k0_pay11 L2 L3 L0 = divf (log (mulf (k0_pay10 L2 L3 L0) (broadcast S2x1x7168 (Scalar.ofBits .f32 0x3B124925#32)))) (log (broadcast S2x1x7168 (Scalar.ofBits .f32 0x40000000#32))) := rfl
theorem at_pay12 (v : FVec F S2x1x7168 .f32) (y : S2x1x7168.Idx) :
    k0_pay12 v (divf (log (mulf v (broadcast S2x1x7168 (Scalar.ofBits .f32 0x3B124925#32)))) (log (broadcast S2x1x7168 (Scalar.ofBits .f32 0x40000000#32)))) y = rexp 0x3B124925#32 (v y) := rfl
theorem at_inv {T : Shape} (v : FVec F T .f32) (y : T.Idx) :
    exp2 (subf (broadcast T (Scalar.ofBits .f32 0x00000000#32)) v) y = FloatOps.exp2 (FloatOps.subf (FloatOps.ofBits .f32 0x00000000#32) (v y)) := rfl
theorem at_mulc {T : Shape} (v : FVec F T .f32) (k : BitVec 32) (y : T.Idx) :
    mulf v (broadcast T (Scalar.ofBits .f32 k)) y = FloatOps.mulf (v y) (FloatOps.ofBits .f32 k) := rfl
end

/-! ## The reference's values by numbers -/

section
variable (a : In)
variable (L0 : Vec Ideal S2x1x1 .i32) (L1 : Vec Ideal S56x144 .f32) (L2 : Vec Ideal S2x128x7168 .bf16) (L3 : Vec Ideal S1x7168 .f32) (L4 : Vec Ideal S7168x18432 .fp8e4m3) (L5 : Vec Ideal S2x128x18432 .bf16)
variable (h0 : ∀ y : S2x1x1.Idx, L0 y = a.S (y 0).val)
variable (h1 : ∀ y : S56x144.Idx, L1 y = a.WS (y 0).val (y 1).val)
variable (h2 : ∀ y : S2x128x7168.Idx, L2 y = a.X (128 * (y 0).val + (y 1).val) (y 2).val)
variable (h3 : ∀ y : S1x7168.Idx, L3 y = a.G (y 1).val)
variable (h4 : ∀ y : S7168x18432.Idx, L4 y = a.W (y 0).val (y 1).val)
variable (h5 : ∀ y : S2x128x18432.Idx, L5 y = a.D (128 * (y 0).val + (y 1).val) (y 2).val)

include h2 in
theorem r_rr (y : S2x128x1.Idx) : k0_pay5 (F := Ideal) L2 y = a.rr (128 * (y 0).val + (y 1).val) := by
  have key : shapeCast S2x128x1 (multiReduction (F := Ideal) .add [2] S2x128 (mulf (k0_pay3 L2) (k0_pay3 L2)) 0x00000000#32 reduces_S2x128x7168_S2x128 (.inl rfl) rfl) shapeCasts_S2x128_S2x128x1 y
      = ∑ i : Fin 7168, a.X (128 * (y 0).val + (y 1).val) i * a.X (128 * (y 0).val + (y 1).val) i := by
    have y2 : (y 2).val < 1 := (y 2).isLt
    refine (shapeCast_apply _ _ _ (ix2 (y 0) (y 1)) ?_).trans ((Ideal.multiReduction_add_single _ _ _ _ _ _).trans ?_)
    · refine (Shape.rowMajor_val_two _).trans (Eq.trans ?_ (Shape.rowMajor_val_three _).symm)
      show (y 0).val * 128 + (y 1).val = ((y 0).val * 128 + (y 1).val) * 1 + (y 2).val
      omega
    · exact Finset.sum_congr rfl fun k _ => congrArg₂ (· * ·) (h2 _) (h2 _)
  refine (at_pay5 L2 y).trans ?_
  rw [key]
  rfl

include h2 in
theorem r_xh (y : S2x128x7168.Idx) : k0_pay6 (F := Ideal) L2 y = a.xh (128 * (y 0).val + (y 1).val) (y 2).val := by
  unfold k0_pay6
  refine congrArg₂ (· * ·) (h2 y) ((broadcastTo_apply _ _ y (ix3 (y 0) (y 1) (0 : Fin 1)) fun b => ?_).trans (r_rr a L2 h2 _))
  match b with
  | ⟨0, _⟩ => rfl
  | ⟨1, _⟩ => rfl
  | ⟨2, _⟩ => rfl

include h0 in
theorem r_ok (y : S2x128x1.Idx) : k0_pay7 (F := Ideal) L0 y = a.ok (128 * (y 0).val + (y 1).val) := by
  unfold k0_pay7 In.ok
  have y1 : (y 1).val < 128 := (y 1).isLt
  rw [shapeCast_self, show (128 * (y 0).val + (y 1).val) % 128 = (y 1).val by omega, show (128 * (y 0).val + (y 1).val) / 128 = (y 0).val by omega]
  refine congrArg₂ (IntOp.cmpi .slt) ?_ ((broadcastTo_apply _ _ y (ix3 (y 0) (0 : Fin 1) (0 : Fin 1)) fun b => ?_).trans (h0 _))
  · simp [iota]
  · match b with
    | ⟨0, _⟩ => rfl
    | ⟨1, _⟩ => rfl
    | ⟨2, _⟩ => rfl

include h0 h2 h3 in
theorem r_xn (y : S2x128x7168.Idx) : k0_pay8 (F := Ideal) L2 L3 L0 y = a.xn (128 * (y 0).val + (y 1).val) (y 2).val := by
  unfold k0_pay8 In.xn
  rw [shapeCast_self]
  refine congrArg₂ (fun k w => Scalar.select k w (Ideal.ofBits .f32 0x00000000#32)) ((broadcastTo_apply _ _ y (ix3 (y 0) (y 1) (0 : Fin 1)) fun b => ?_).trans (r_ok a L0 h0 _))
    (congrArg₂ (· * ·) (r_xh a L2 h2 y) ?_)
  · match b with
    | ⟨0, _⟩ => rfl
    | ⟨1, _⟩ => rfl
    | ⟨2, _⟩ => rfl
  · refine (broadcastTo_apply _ _ y (ix3 (0 : Fin 1) (0 : Fin 1) (y 2)) fun b => ?_).trans ((shapeCast_apply _ _ _ (ix2 (0 : Fin 1) (y 2)) ?_).trans ?_)
    · match b with
      | ⟨0, _⟩ => rfl
      | ⟨1, _⟩ => rfl
      | ⟨2, _⟩ => rfl
    · refine (Shape.rowMajor_val_two _).trans (Eq.trans ?_ (Shape.rowMajor_val_three _).symm)
      show 0 * 7168 + (y 2).val = (0 * 1 + 0) * 7168 + (y 2).val
      omega
    · unfold k0_pay4
      rw [shapeCast_self]
      exact h3 _

include h0 h5 in
theorem r_dy (y : S2x128x18432.Idx) : k0_pay9 (F := Ideal) L0 L5 y = a.dy (128 * (y 0).val + (y 1).val) (y 2).val := by
  unfold k0_pay9 In.dy
  rw [shapeCast_self]
  refine congrArg₂ (fun k w => Scalar.select k w (Ideal.ofBits .f32 0x00000000#32)) ((broadcastTo_apply _ _ y (ix3 (y 0) (y 1) (0 : Fin 1)) fun b => ?_).trans (r_ok a L0 h0 _)) (h5 y)
  match b with
  | ⟨0, _⟩ => rfl
  | ⟨1, _⟩ => rfl
  | ⟨2, _⟩ => rfl

include h0 h2 h3 in
theorem r_xA (y : S2x1x7168.Idx) : k0_pay10 (F := Ideal) L2 L3 L0 y = a.xA (y 0).val (y 2).val := by
  unfold k0_pay10 In.xA top
  have y1 : (y 1).val < 1 := (y 1).isLt
  refine (shapeCast_apply _ _ _ (ix2 (y 0) (y 2)) ?_).trans ((Ideal.multiReduction_maximumf_single _ _ _ _ _ _).trans ?_)
  · refine (Shape.rowMajor_val_two _).trans (Eq.trans ?_ (Shape.rowMajor_val_three _).symm)
    show (y 0).val * 7168 + (y 2).val = ((y 0).val * 1 + (y 1).val) * 7168 + (y 2).val
    omega
  · refine congrArg (fun g => (Finset.univ : Finset (Fin 128)).fold max (Ideal.ofBits .f32 0xFF800000#32) g) (funext fun k => ?_)
    exact congrArg (fun z : EReal => max z (-z)) (r_xn a L0 L2 L3 h0 h2 h3 _)

theorem r_xe (y : S2x1x7168.Idx) : k0_pay12 (F := Ideal) (k0_pay10 L2 L3 L0) (k0_pay11 L2 L3 L0) y = rexp (F := Ideal) 0x3B124925#32 (k0_pay10 (F := Ideal) L2 L3 L0 y) :=
  (congrArg (fun w => k0_pay12 (F := Ideal) (k0_pay10 L2 L3 L0) w y) (at_pay11 L2 L3 L0)).trans (at_pay12 _ y)

include h0 h2 h3 in
theorem r_xS (y : S2x1x7168.Idx) : k0_pay14 (F := Ideal) (k0_pay10 L2 L3 L0) (k0_pay11 L2 L3 L0) y = a.xS (y 0).val (y 2).val := by
  have e := r_xe L0 L2 L3 y
  rw [r_xA a L0 L2 L3 h0 h2 h3 y] at e
  rw [at_pay14, e]
  rfl

/-- The codes from the values and the exponents. -/
theorem q_xC (U : FVec Ideal S2x128x7168 .f32) (E : FVec Ideal S2x1x7168 .f32) (hU : ∀ y : S2x128x7168.Idx, U y = a.xn (128 * (y 0).val + (y 1).val) (y 2).val)
    (hE : ∀ y : S2x1x7168.Idx, E y = rexp (F := Ideal) 0x3B124925#32 (a.xA (y 0).val (y 2).val)) (y : S2x128x7168.Idx) :
    code 0xC3E00000#32 0x43E00000#32 (U y) (broadcastTo S2x128x7168 (exp2 (subf (broadcast S2x1x7168 (Scalar.ofBits .f32 0x00000000#32)) E)) broadcasts_S2x1x7168_S2x128x7168 y)
      = a.xC (128 * (y 0).val + (y 1).val) (y 2).val := by
  unfold In.xC
  have y1 : (y 1).val < 128 := (y 1).isLt
  rw [show (128 * (y 0).val + (y 1).val) / 128 = (y 0).val by omega]
  refine congrArg₂ (code 0xC3E00000#32 0x43E00000#32) (hU y) ((broadcastTo_apply _ _ y (ix3 (y 0) (0 : Fin 1) (y 2)) fun b => ?_).trans ?_)
  · match b with
    | ⟨0, _⟩ => rfl
    | ⟨1, _⟩ => rfl
    | ⟨2, _⟩ => rfl
  · exact (at_inv _ _).trans (congrArg (fun z : Ideal .f32 => FloatOps.exp2 (F := Ideal) (FloatOps.subf (FloatOps.ofBits .f32 0x00000000#32) z)) (hE _))

theorem q_pay13 (U : FVec Ideal S2x128x7168 .f32) (v w : FVec Ideal S2x1x7168 .f32) (y : S2x128x7168.Idx) :
    k0_pay13 (F := Ideal) U v w y = code 0xC3E00000#32 0x43E00000#32 (U y) (broadcastTo S2x128x7168 (exp2 (subf (broadcast S2x1x7168 (Scalar.ofBits .f32 0x00000000#32)) (k0_pay12 (F := Ideal) v w))) broadcasts_S2x1x7168_S2x128x7168 y) := rfl

include h0 h2 h3 in
theorem r_xC (y : S2x128x7168.Idx) : k0_pay13 (F := Ideal) (k0_pay8 L2 L3 L0) (k0_pay10 L2 L3 L0) (k0_pay11 L2 L3 L0) y = a.xC (128 * (y 0).val + (y 1).val) (y 2).val := by
  refine (q_pay13 _ _ _ y).trans (q_xC a _ _ (r_xn a L0 L2 L3 h0 h2 h3) (fun z => ?_) y)
  have e := r_xe L0 L2 L3 z
  rw [r_xA a L0 L2 L3 h0 h2 h3 z] at e
  exact e

/-! The gradient, for which `D` stands, already cleared past the sequences' ends. -/
variable (D : FVec Ideal S2x128x18432 .f32) (hD : ∀ y : S2x128x18432.Idx, D y = a.dy (128 * (y 0).val + (y 1).val) (y 2).val)
include hD

theorem r_dy4 (y : S2x128x144x128.Idx) : k0_pay15 (F := Ideal) D y = a.dy (128 * (y 0).val + (y 1).val) (128 * (y 2).val + (y 3).val) := by
  unfold k0_pay15
  have y2 : (y 2).val < 144 := (y 2).isLt
  have y3 : (y 3).val < 128 := (y 3).isLt
  refine (shapeCast_apply _ _ _ (ix3 (y 0) (y 1) (⟨128 * (y 2).val + (y 3).val, by omega⟩ : Fin 18432)) ?_).trans (hD _)
  refine (Shape.rowMajor_val_three _).trans (Eq.trans ?_ (Shape.rowMajor_val_four _).symm)
  show ((y 0).val * 128 + (y 1).val) * 18432 + (128 * (y 2).val + (y 3).val) = (((y 0).val * 128 + (y 1).val) * 144 + (y 2).val) * 128 + (y 3).val
  omega

theorem r_re (y : S2x128x144x1.Idx) : k0_pay16 (F := Ideal) D y = rexp (F := Ideal) 0x37924925#32 (a.rA (128 * (y 0).val + (y 1).val) (y 2).val) := by
  have key : shapeCast S2x128x144x1 (multiReduction (F := Ideal) .maximumf [3] S2x128x144 (absf (k0_pay15 D)) 0xFF800000#32 reduces_S2x128x144x128_S2x128x144 (.inl rfl) rfl) shapeCasts_S2x128x144_S2x128x144x1 y
      = a.rA (128 * (y 0).val + (y 1).val) (y 2).val := by
    unfold In.rA top
    have y3 : (y 3).val < 1 := (y 3).isLt
    refine (shapeCast_apply _ _ _ (ix3 (y 0) (y 1) (y 2)) ?_).trans ((Ideal.multiReduction_maximumf_single _ _ _ _ _ _).trans ?_)
    · refine (Shape.rowMajor_val_three _).trans (Eq.trans ?_ (Shape.rowMajor_val_four _).symm)
      show ((y 0).val * 128 + (y 1).val) * 144 + (y 2).val = (((y 0).val * 128 + (y 1).val) * 144 + (y 2).val) * 1 + (y 3).val
      omega
    · refine congrArg (fun g => (Finset.univ : Finset (Fin 128)).fold max (Ideal.ofBits .f32 0xFF800000#32) g) (funext fun k => ?_)
      exact congrArg (fun z : EReal => max z (-z)) (r_dy4 a D hD _)
  exact (at_pay16 D y).trans (congrArg (rexp (F := Ideal) 0x37924925#32) key)

theorem r_rS (y : S2x128x144x1.Idx) : k0_pay19 (F := Ideal) (k0_pay16 D) y = a.rS (128 * (y 0).val + (y 1).val) (y 2).val :=
  (at_pay19 _ y).trans (congrArg (FloatOps.exp2 (F := Ideal)) (r_re a D hD y))

theorem r_rC (y : S2x128x144x128.Idx) : k0_pay18 (F := Ideal) (k0_pay17 D) (Scalar.ofBits .f32 0xC7600000#32) y = a.rC (128 * (y 0).val + (y 1).val) (128 * (y 2).val + (y 3).val) := by
  unfold k0_pay18 k0_pay17 In.rC
  have y3 : (y 3).val < 128 := (y 3).isLt
  rw [show (128 * (y 2).val + (y 3).val) / 128 = (y 2).val by omega]
  refine congrArg₂ (code 0xC7600000#32 0x47600000#32) (r_dy4 a D hD y) ((broadcastTo_apply _ _ y (ix4 (y 0) (y 1) (y 2) (0 : Fin 1)) fun b => ?_).trans ?_)
  · match b with
    | ⟨0, _⟩ => rfl
    | ⟨1, _⟩ => rfl
    | ⟨2, _⟩ => rfl
    | ⟨3, _⟩ => rfl
  · exact (at_inv _ _).trans (congrArg (fun z : Ideal .f32 => FloatOps.exp2 (F := Ideal) (FloatOps.subf (FloatOps.ofBits .f32 0x00000000#32) z)) (r_re a D hD _))

theorem r_ce (y : S2x1x18432.Idx) : k0_pay20 (F := Ideal) D y = rexp (F := Ideal) 0x37924925#32 (a.cA (y 0).val (y 2).val) := by
  have key : shapeCast S2x1x18432 (multiReduction (F := Ideal) .maximumf [1] S2x18432 (absf D) 0xFF800000#32 reduces_S2x128x18432_S2x18432 (.inl rfl) rfl) shapeCasts_S2x18432_S2x1x18432 y
      = a.cA (y 0).val (y 2).val := by
    unfold In.cA top
    have y1 : (y 1).val < 1 := (y 1).isLt
    refine (shapeCast_apply _ _ _ (ix2 (y 0) (y 2)) ?_).trans ((Ideal.multiReduction_maximumf_single _ _ _ _ _ _).trans ?_)
    · refine (Shape.rowMajor_val_two _).trans (Eq.trans ?_ (Shape.rowMajor_val_three _).symm)
      show (y 0).val * 18432 + (y 2).val = ((y 0).val * 1 + (y 1).val) * 18432 + (y 2).val
      omega
    · refine congrArg (fun g => (Finset.univ : Finset (Fin 128)).fold max (Ideal.ofBits .f32 0xFF800000#32) g) (funext fun k => ?_)
      exact congrArg (fun z : EReal => max z (-z)) (hD _)
  exact (at_pay20 D y).trans (congrArg (rexp (F := Ideal) 0x37924925#32) key)

theorem r_cS (y : S2x1x18432.Idx) : k0_pay22 (F := Ideal) D y = a.cS (y 0).val (y 2).val := (at_pay22 D y).trans (congrArg (FloatOps.exp2 (F := Ideal)) (r_ce a D hD y))

theorem r_cC (y : S2x128x18432.Idx) : k0_pay21 (F := Ideal) D y = a.cC (128 * (y 0).val + (y 1).val) (y 2).val := by
  unfold k0_pay21 In.cC
  have y1 : (y 1).val < 128 := (y 1).isLt
  rw [show (128 * (y 0).val + (y 1).val) / 128 = (y 0).val by omega]
  refine congrArg₂ (code 0xC7600000#32 0x47600000#32) (hD y) ((broadcastTo_apply _ _ y (ix3 (y 0) (0 : Fin 1) (y 2)) fun b => ?_).trans ?_)
  · match b with
    | ⟨0, _⟩ => rfl
    | ⟨1, _⟩ => rfl
    | ⟨2, _⟩ => rfl
  · exact (at_inv _ _).trans (congrArg (fun z : Ideal .f32 => FloatOps.exp2 (F := Ideal) (FloatOps.subf (FloatOps.ofBits .f32 0x00000000#32) z)) (r_ce a D hD _))
end

/-! ## Leading axes joined -/

section
variable {α : Type} (f : ℕ → ℕ → α)

theorem join_x (u : S2x128x7168.Idx → α) (hu : ∀ y : S2x128x7168.Idx, u y = f (128 * (y 0).val + (y 1).val) (y 2).val) (y : S256x7168.Idx) :
    shapeCast S256x7168 u shapeCasts_S2x128x7168_S256x7168 y = f (y 0).val (y 1).val := by
  have y0 : (y 0).val < 256 := (y 0).isLt
  refine (shapeCast_apply _ _ _ (ix3 (⟨(y 0).val / 128, by omega⟩ : Fin 2) (⟨(y 0).val % 128, by omega⟩ : Fin 128) (y 1)) ?_).trans ((hu _).trans ?_)
  · refine (Shape.rowMajor_val_three _).trans (Eq.trans ?_ (Shape.rowMajor_val_two _).symm)
    show ((y 0).val / 128 * 128 + (y 0).val % 128) * 7168 + (y 1).val = (y 0).val * 7168 + (y 1).val
    omega
  · show f (128 * ((y 0).val / 128) + (y 0).val % 128) (y 1).val = _
    rw [Nat.div_add_mod]

theorem join_y (u : S2x128x18432.Idx → α) (hu : ∀ y : S2x128x18432.Idx, u y = f (128 * (y 0).val + (y 1).val) (y 2).val) (y : S256x18432.Idx) :
    shapeCast S256x18432 u shapeCasts_S2x128x18432_S256x18432 y = f (y 0).val (y 1).val := by
  have y0 : (y 0).val < 256 := (y 0).isLt
  refine (shapeCast_apply _ _ _ (ix3 (⟨(y 0).val / 128, by omega⟩ : Fin 2) (⟨(y 0).val % 128, by omega⟩ : Fin 128) (y 1)) ?_).trans ((hu _).trans ?_)
  · refine (Shape.rowMajor_val_three _).trans (Eq.trans ?_ (Shape.rowMajor_val_two _).symm)
    show ((y 0).val / 128 * 128 + (y 0).val % 128) * 18432 + (y 1).val = (y 0).val * 18432 + (y 1).val
    omega
  · show f (128 * ((y 0).val / 128) + (y 0).val % 128) (y 1).val = _
    rw [Nat.div_add_mod]

theorem join_y4 (u : S2x128x144x128.Idx → α) (hu : ∀ y : S2x128x144x128.Idx, u y = f (128 * (y 0).val + (y 1).val) (128 * (y 2).val + (y 3).val)) (y : S256x18432.Idx) :
    shapeCast S256x18432 u shapeCasts_S2x128x144x128_S256x18432 y = f (y 0).val (y 1).val := by
  have y0 : (y 0).val < 256 := (y 0).isLt
  have y1 : (y 1).val < 18432 := (y 1).isLt
  refine (shapeCast_apply _ _ _ (ix4 (⟨(y 0).val / 128, by omega⟩ : Fin 2) (⟨(y 0).val % 128, by omega⟩ : Fin 128) (⟨(y 1).val / 128, by omega⟩ : Fin 144) (⟨(y 1).val % 128, by omega⟩ : Fin 128)) ?_).trans ((hu _).trans ?_)
  · refine (Shape.rowMajor_val_four _).trans (Eq.trans ?_ (Shape.rowMajor_val_two _).symm)
    show (((y 0).val / 128 * 128 + (y 0).val % 128) * 144 + (y 1).val / 128) * 128 + (y 1).val % 128 = (y 0).val * 18432 + (y 1).val
    omega
  · show f (128 * ((y 0).val / 128) + (y 0).val % 128) (128 * ((y 1).val / 128) + (y 1).val % 128) = _
    rw [Nat.div_add_mod, Nat.div_add_mod]

theorem join_s (u : S2x128x144x1.Idx → α) (hu : ∀ y : S2x128x144x1.Idx, u y = f (128 * (y 0).val + (y 1).val) (y 2).val) (y : S256x144.Idx) :
    shapeCast S256x144 u shapeCasts_S2x128x144x1_S256x144 y = f (y 0).val (y 1).val := by
  have y0 : (y 0).val < 256 := (y 0).isLt
  have y1 : (y 1).val < 144 := (y 1).isLt
  refine (shapeCast_apply _ _ _ (ix4 (⟨(y 0).val / 128, by omega⟩ : Fin 2) (⟨(y 0).val % 128, by omega⟩ : Fin 128) (y 1) (0 : Fin 1)) ?_).trans ((hu _).trans ?_)
  · refine (Shape.rowMajor_val_four _).trans (Eq.trans ?_ (Shape.rowMajor_val_two _).symm)
    show (((y 0).val / 128 * 128 + (y 0).val % 128) * 144 + (y 1).val) * 1 + 0 = (y 0).val * 144 + (y 1).val
    omega
  · show f (128 * ((y 0).val / 128) + (y 0).val % 128) (y 1).val = _
    rw [Nat.div_add_mod]

theorem join_r (f : ℕ → α) (u : S2x128x1.Idx → α) (hu : ∀ y : S2x128x1.Idx, u y = f (128 * (y 0).val + (y 1).val)) (y : S256x1.Idx) :
    shapeCast S256x1 u shapeCasts_S2x128x1_S256x1 y = f (y 0).val := by
  have y0 : (y 0).val < 256 := (y 0).isLt
  have y1 : (y 1).val < 1 := (y 1).isLt
  refine (shapeCast_apply _ _ _ (ix3 (⟨(y 0).val / 128, by omega⟩ : Fin 2) (⟨(y 0).val % 128, by omega⟩ : Fin 128) (0 : Fin 1)) ?_).trans ((hu _).trans ?_)
  · refine (Shape.rowMajor_val_three _).trans (Eq.trans ?_ (Shape.rowMajor_val_two _).symm)
    show ((y 0).val / 128 * 128 + (y 0).val % 128) * 1 + 0 = (y 0).val * 1 + (y 1).val
    omega
  · show f (128 * ((y 0).val / 128) + (y 0).val % 128) = _
    rw [Nat.div_add_mod]
end

/-! ## The products and the last stage -/

section
variable (a : In) (C4 : FVec Ideal S2x128x144x128 .fp8e5m2) (S4 : FVec Ideal S2x128x144x1 .f32) (L1 : Vec Ideal S56x144 .f32) (L4 : Vec Ideal S7168x18432 .fp8e4m3) (L3 : FVec Ideal S1x7168 .f32)
  (H : FVec Ideal S2x128x7168 .f32)
variable (hC : ∀ y : S2x128x144x128.Idx, C4 y = a.rC (128 * (y 0).val + (y 1).val) (128 * (y 2).val + (y 3).val))
variable (hS : ∀ y : S2x128x144x1.Idx, S4 y = a.rS (128 * (y 0).val + (y 1).val) (y 2).val)
variable (h1 : ∀ y : S56x144.Idx, L1 y = a.WS (y 0).val (y 1).val)
variable (h4 : ∀ y : S7168x18432.Idx, L4 y = a.W (y 0).val (y 1).val)
variable (h3 : ∀ y : S1x7168.Idx, L3 y = a.G (y 1).val)
variable (hH : ∀ y : S2x128x7168.Idx, H y = a.xh (128 * (y 0).val + (y 1).val) (y 2).val)

include hC hS in
theorem r_rQ (y : S2x128x144x128.Idx) :
    mulf (F := Ideal) (extf .bf16 C4 bitsLt_fp8e5m2_bf16) (broadcastTo S2x128x144x128 (truncf .bf16 S4 bitsLt_bf16_f32) broadcasts_S2x128x144x1_S2x128x144x128) y
      = a.rQ (128 * (y 0).val + (y 1).val) (128 * (y 2).val + (y 3).val) := by
  unfold In.rQ
  have y3 : (y 3).val < 128 := (y 3).isLt
  rw [show (128 * (y 2).val + (y 3).val) / 128 = (y 2).val by omega]
  refine congrArg₂ (· * ·) (hC y) ((broadcastTo_apply _ _ y (ix4 (y 0) (y 1) (y 2) (0 : Fin 1)) fun b => ?_).trans (hS _))
  match b with
  | ⟨0, _⟩ => rfl
  | ⟨1, _⟩ => rfl
  | ⟨2, _⟩ => rfl
  | ⟨3, _⟩ => rfl

include h1 h4 in
theorem r_wQ (y : S7168x18432.Idx) :
    shapeCast S7168x18432 (mulf (F := Ideal) (shapeCast S56x128x144x128 (extf .bf16 L4 bitsLt_fp8e4m3_bf16) shapeCasts_S7168x18432_S56x128x144x128)
      (broadcastTo S56x128x144x128 (shapeCast S56x1x144x1 (truncf (F := Ideal) .bf16 L1 bitsLt_bf16_f32) shapeCasts_S56x144_S56x1x144x1) broadcasts_S56x1x144x1_S56x128x144x128)) shapeCasts_S56x128x144x128_S7168x18432 y
      = a.wQ (y 0).val (y 1).val := by
  unfold In.wQ
  have y0 : (y 0).val < 7168 := (y 0).isLt
  have y1 : (y 1).val < 18432 := (y 1).isLt
  refine (shapeCast_apply _ _ _ (ix4 (⟨(y 0).val / 128, by omega⟩ : Fin 56) (⟨(y 0).val % 128, by omega⟩ : Fin 128) (⟨(y 1).val / 128, by omega⟩ : Fin 144) (⟨(y 1).val % 128, by omega⟩ : Fin 128)) ?_).trans (congrArg₂ (· * ·) ?_ ?_)
  · refine (Shape.rowMajor_val_four _).trans (Eq.trans ?_ (Shape.rowMajor_val_two _).symm)
    show (((y 0).val / 128 * 128 + (y 0).val % 128) * 144 + (y 1).val / 128) * 128 + (y 1).val % 128 = (y 0).val * 18432 + (y 1).val
    omega
  · refine (shapeCast_apply _ _ _ y ?_).trans (h4 y)
    refine (Shape.rowMajor_val_two _).trans (Eq.trans ?_ (Shape.rowMajor_val_four _).symm)
    show (y 0).val * 18432 + (y 1).val = (((y 0).val / 128 * 128 + (y 0).val % 128) * 144 + (y 1).val / 128) * 128 + (y 1).val % 128
    omega
  · refine (broadcastTo_apply _ _ _ (ix4 (⟨(y 0).val / 128, by omega⟩ : Fin 56) (0 : Fin 1) (⟨(y 1).val / 128, by omega⟩ : Fin 144) (0 : Fin 1)) fun b => ?_).trans ?_
    · match b with
      | ⟨0, _⟩ => rfl
      | ⟨1, _⟩ => rfl
      | ⟨2, _⟩ => rfl
      | ⟨3, _⟩ => rfl
    · refine (shapeCast_apply _ _ _ (ix2 (⟨(y 0).val / 128, by omega⟩ : Fin 56) (⟨(y 1).val / 128, by omega⟩ : Fin 144)) ?_).trans (h1 _)
      refine (Shape.rowMajor_val_two _).trans (Eq.trans ?_ (Shape.rowMajor_val_four _).symm)
      show (y 0).val / 128 * 144 + (y 1).val / 128 = (((y 0).val / 128 * 1 + 0) * 144 + (y 1).val / 128) * 1 + 0
      omega

include hC hS h1 h4 in
theorem r_dxn (y : S256x7168.Idx) : k0_pay27 (F := Ideal) C4 S4 L4 L1 y = a.dxn (y 0).val (y 1).val := by
  unfold k0_pay27 In.dxn In.acc
  refine (dot_t _ _ y).trans ?_
  rw [Finset.sum_range]
  refine Finset.sum_congr rfl fun k _ => ?_
  rw [mul_comm (a.wQ _ _)]
  exact congrArg₂ (· * ·) (join_y4 a.rQ _ (r_rQ a C4 S4 hC hS) _) (r_wQ a L1 L4 h1 h4 _)

include hH in
theorem r_xh2 (y : S256x7168.Idx) : k0_pay30 (F := Ideal) H y = a.xh (y 0).val (y 1).val := join_x a.xh H hH y

include hC hS h1 h4 h3 in
theorem r_g (y : S256x7168.Idx) : k0_pay31 (F := Ideal) L3 C4 S4 L4 L1 y = a.g (y 0).val (y 1).val := by
  unfold k0_pay31
  refine congrArg₂ (· * ·) (r_dxn a C4 S4 L1 L4 hC hS h1 h4 y) ((broadcastTo_apply _ _ y (ix2 (0 : Fin 1) (y 1)) fun b => ?_).trans (h3 _))
  match b with
  | ⟨0, _⟩ => rfl
  | ⟨1, _⟩ => rfl

include hC hS h1 h4 hH in
theorem r_dgamma (y : S1x7168.Idx) : k0_pay2 (F := Ideal) (k0_pay27 C4 S4 L4 L1) (k0_pay30 H) y = a.dgamma (y 1).val := by
  unfold k0_pay2 In.dgamma
  have y0 : (y 0).val < 1 := (y 0).isLt
  refine (shapeCast_apply _ _ _ (ix1 (y 1)) ?_).trans ((Ideal.multiReduction_add_single _ _ _ _ _ _).trans ?_)
  · refine (Shape.rowMajor_val_one _).trans (Eq.trans ?_ (Shape.rowMajor_val_two _).symm)
    show (y 1).val = (y 0).val * 7168 + (y 1).val
    omega
  · exact Finset.sum_congr rfl fun k _ => congrArg₂ (· * ·) (r_dxn a C4 S4 L1 L4 hC hS h1 h4 _) (r_xh2 a H hH _)

include hC hS h1 h4 h3 hH in
theorem r_cc (y : S256x1.Idx) : k0_pay32 (F := Ideal) L3 H C4 S4 L4 L1 y = ∑ i : Fin 7168, a.g (y 0).val i.val * a.xh (y 0).val i.val := by
  unfold k0_pay32
  have y1 : (y 1).val < 1 := (y 1).isLt
  refine (shapeCast_apply _ _ _ (ix1 (y 0)) ?_).trans ((Ideal.multiReduction_add_single _ _ _ _ _ _).trans ?_)
  · refine (Shape.rowMajor_val_one _).trans (Eq.trans ?_ (Shape.rowMajor_val_two _).symm)
    show (y 0).val = (y 0).val * 1 + (y 1).val
    omega
  · exact Finset.sum_congr rfl fun k _ => congrArg₂ (· * ·) (r_g a C4 S4 L1 L4 L3 hC hS h1 h4 h3 _) (r_xh2 a H hH _)

include hC hS h1 h4 h3 hH in
theorem r_dx (R : FVec Ideal S2x128x1 .f32) (hR : ∀ y : S2x128x1.Idx, R y = a.rr (128 * (y 0).val + (y 1).val)) (y : S256x7168.Idx) :
    k0_pay1 (F := Ideal) (k0_pay29 R) (k0_pay30 H) (k0_pay31 L3 C4 S4 L4 L1) (k0_pay32 L3 H C4 S4 L4 L1) y = a.dx (y 0).val (y 1).val := by
  unfold k0_pay1 In.dx In.cc
  refine congrArg₂ (· * ·) ((broadcastTo_apply _ _ y (ix2 (y 0) (0 : Fin 1)) fun b => ?_).trans (join_r a.rr R hR _))
    (congrArg₂ (· - ·) (r_g a C4 S4 L1 L4 L3 hC hS h1 h4 h3 y) (congrArg₂ (· * ·) (r_xh2 a H hH y) ((broadcastTo_apply _ _ y (ix2 (y 0) (0 : Fin 1)) fun b => ?_).trans
      ((at_mulc _ _ _).trans (congrArg (fun z : Ideal .f32 => FloatOps.mulf (F := Ideal) z (FloatOps.ofBits .f32 0x39124925#32)) (r_cc a C4 S4 L1 L4 L3 H hC hS h1 h4 h3 hH _))))))
  all_goals
    match b with
    | ⟨0, _⟩ => rfl
    | ⟨1, _⟩ => rfl
end

section
variable (a : In) (X3 : FVec Ideal S2x128x7168 .fp8e4m3) (XS : FVec Ideal S2x1x7168 .f32) (C3 : FVec Ideal S2x128x18432 .fp8e5m2) (CS : FVec Ideal S2x1x18432 .f32)
variable (hX : ∀ y : S2x128x7168.Idx, X3 y = a.xC (128 * (y 0).val + (y 1).val) (y 2).val)
variable (hXS : ∀ y : S2x1x7168.Idx, XS y = a.xS (y 0).val (y 2).val)
variable (hC : ∀ y : S2x128x18432.Idx, C3 y = a.cC (128 * (y 0).val + (y 1).val) (y 2).val)
variable (hCS : ∀ y : S2x1x18432.Idx, CS y = a.cS (y 0).val (y 2).val)

include hX hXS hC hCS in
theorem r_dw (y : S7168x18432.Idx) : k0_pay28 (F := Ideal) X3 XS C3 CS y = a.dw (y 0).val (y 1).val := by
  unfold k0_pay28 In.dw
  refine (dot_0 _ _ y).trans (Finset.sum_congr rfl fun k _ => congrArg₂ (· * ·) (join_x a.xQ _ (fun z => ?_) _) (join_y a.cQ _ (fun z => ?_) _))
  · unfold In.xQ
    have z1 : (z 1).val < 128 := (z 1).isLt
    rw [show (128 * (z 0).val + (z 1).val) / 128 = (z 0).val by omega]
    refine congrArg₂ (· * ·) (hX z) ((broadcastTo_apply _ _ z (ix3 (z 0) (0 : Fin 1) (z 2)) fun b => ?_).trans (hXS _))
    match b with
    | ⟨0, _⟩ => rfl
    | ⟨1, _⟩ => rfl
    | ⟨2, _⟩ => rfl
  · unfold In.cQ
    have z1 : (z 1).val < 128 := (z 1).isLt
    rw [show (128 * (z 0).val + (z 1).val) / 128 = (z 0).val by omega]
    refine congrArg₂ (· * ·) (hC z) ((broadcastTo_apply _ _ z (ix3 (z 0) (0 : Fin 1) (z 2)) fun b => ?_).trans (hCS _))
    match b with
    | ⟨0, _⟩ => rfl
    | ⟨1, _⟩ => rfl
    | ⟨2, _⟩ => rfl
end

end Cert.RVal

end
-- ==== Proof.Val.RefVals.lean ====
module

public import proofs.«01_k».proof.Proof.Val.Ref

@[expose] public section

set_option maxRecDepth 16384
set_option maxHeartbeats 1000000

noncomputable section

namespace Cert.RVal

open Cert.ReferenceIdeal Cert.ReferenceIdeal.Gen Idealize.ShloMosaic Idealize.ShloMosaic.TcCoe Idealize.SL.Sem
open Cert.Val

/-! ## What the reference leaves in each result, by numbers -/

section
variable (a : In)
variable (L0 : Vec Ideal S2x1x1 .i32) (L1 : Vec Ideal S56x144 .f32) (L2 : Vec Ideal S2x128x7168 .bf16) (L3 : Vec Ideal S1x7168 .f32) (L4 : Vec Ideal S7168x18432 .fp8e4m3) (L5 : Vec Ideal S2x128x18432 .bf16)
variable (h0 : ∀ y : S2x1x1.Idx, L0 y = a.S (y 0).val)
variable (h1 : ∀ y : S56x144.Idx, L1 y = a.WS (y 0).val (y 1).val)
variable (h2 : ∀ y : S2x128x7168.Idx, L2 y = a.X (128 * (y 0).val + (y 1).val) (y 2).val)
variable (h3 : ∀ y : S1x7168.Idx, L3 y = a.G (y 1).val)
variable (h4 : ∀ y : S7168x18432.Idx, L4 y = a.W (y 0).val (y 1).val)
variable (h5 : ∀ y : S2x128x18432.Idx, L5 y = a.D (128 * (y 0).val + (y 1).val) (y 2).val)

include h0 in
theorem ld_0 (y : S2x1x1.Idx) : View.ld (Val := Elt Ideal) L0 r0_2 y = a.S (y 0).val := by
  refine (h0 (r0_2.emb y)).trans ?_
  show a.S (0 + 1 * (y 0).val) = _
  simp only [Nat.one_mul, Nat.zero_add]

include h1 in
theorem ld_1 (y : S56x144.Idx) : View.ld (Val := Elt Ideal) L1 r0_10 y = a.WS (y 0).val (y 1).val := by
  refine (h1 (r0_10.emb y)).trans ?_
  show a.WS (0 + 1 * (y 0).val) (0 + 1 * (y 1).val) = _
  simp only [Nat.one_mul, Nat.zero_add]

include h2 in
theorem ld_2 (y : S2x128x7168.Idx) : View.ld (Val := Elt Ideal) L2 r0_0 y = a.X (128 * (y 0).val + (y 1).val) (y 2).val := by
  refine (h2 (r0_0.emb y)).trans ?_
  show a.X (128 * (0 + 1 * (y 0).val) + (0 + 1 * (y 1).val)) (0 + 1 * (y 2).val) = _
  simp only [Nat.one_mul, Nat.zero_add]

include h3 in
theorem ld_3 (y : S1x7168.Idx) : View.ld (Val := Elt Ideal) L3 r0_1 y = a.G (y 1).val := by
  refine (h3 (r0_1.emb y)).trans ?_
  show a.G (0 + 1 * (y 1).val) = _
  simp only [Nat.one_mul, Nat.zero_add]

include h4 in
theorem ld_4 (y : S7168x18432.Idx) : View.ld (Val := Elt Ideal) L4 r0_9 y = a.W (y 0).val (y 1).val := by
  refine (h4 (r0_9.emb y)).trans ?_
  show a.W (0 + 1 * (y 0).val) (0 + 1 * (y 1).val) = _
  simp only [Nat.one_mul, Nat.zero_add]

include h5 in
theorem ld_5 (y : S2x128x18432.Idx) : View.ld (Val := Elt Ideal) L5 r0_3 y = a.D (128 * (y 0).val + (y 1).val) (y 2).val := by
  refine (h5 (r0_3.emb y)).trans ?_
  show a.D (128 * (0 + 1 * (y 0).val) + (0 + 1 * (y 1).val)) (0 + 1 * (y 2).val) = _
  simp only [Nat.one_mul, Nat.zero_add]

include h0 h5 in
theorem e_35 (y : S2x128x18432.Idx) : k0_pay35 (F := Ideal) L0 L1 L2 L3 L4 L5 y = a.dy (128 * (y 0).val + (y 1).val) (y 2).val :=
  r_dy a _ _ (ld_0 a L0 h0) (ld_5 a L5 h5) y
include h0 h2 h3 in
theorem e_38 (y : S2x128x7168.Idx) : k0_pay38 (F := Ideal) L0 L1 L2 L3 L4 L5 y = a.xC (128 * (y 0).val + (y 1).val) (y 2).val :=
  r_xC a _ _ _ (ld_0 a L0 h0) (ld_2 a L2 h2) (ld_3 a L3 h3) y
include h0 h2 h3 in
theorem e_39 (y : S2x1x7168.Idx) : k0_pay39 (F := Ideal) L0 L1 L2 L3 L4 L5 y = a.xS (y 0).val (y 2).val :=
  r_xS a _ _ _ (ld_0 a L0 h0) (ld_2 a L2 h2) (ld_3 a L3 h3) y
include h0 h5 in
theorem e_41 (y : S2x128x144x128.Idx) : k0_pay41 (F := Ideal) L0 L1 L2 L3 L4 L5 y = a.rC (128 * (y 0).val + (y 1).val) (128 * (y 2).val + (y 3).val) :=
  r_rC a _ (e_35 a L0 L1 L2 L3 L4 L5 h0 h5) y
include h0 h5 in
theorem e_42 (y : S2x128x144x1.Idx) : k0_pay42 (F := Ideal) L0 L1 L2 L3 L4 L5 y = a.rS (128 * (y 0).val + (y 1).val) (y 2).val :=
  r_rS a _ (e_35 a L0 L1 L2 L3 L4 L5 h0 h5) y
include h0 h5 in
theorem e_43 (y : S2x128x18432.Idx) : k0_pay43 (F := Ideal) L0 L1 L2 L3 L4 L5 y = a.cC (128 * (y 0).val + (y 1).val) (y 2).val :=
  r_cC a _ (e_35 a L0 L1 L2 L3 L4 L5 h0 h5) y
include h0 h5 in
theorem e_44 (y : S2x1x18432.Idx) : k0_pay44 (F := Ideal) L0 L1 L2 L3 L4 L5 y = a.cS (y 0).val (y 2).val :=
  r_cS a _ (e_35 a L0 L1 L2 L3 L4 L5 h0 h5) y
include h2 in
theorem e_34 (y : S2x128x7168.Idx) : k0_pay34 (F := Ideal) L0 L1 L2 L3 L4 L5 y = a.xh (128 * (y 0).val + (y 1).val) (y 2).val :=
  r_xh a _ (ld_2 a L2 h2) y
include h3 in
theorem e_33 (y : S1x7168.Idx) : k0_pay33 (F := Ideal) L0 L1 L2 L3 L4 L5 y = a.G (y 1).val := by
  unfold k0_pay33 k0_pay4
  rw [shapeCast_self]
  exact ld_3 a L3 h3 y

include h0 h1 h2 h3 h4 h5 in
theorem o_6 (y : S256x7168.Idx) : out0_6 (F := Ideal) L0 L1 L2 L3 L4 L5 y = a.dx (y 0).val (y 1).val := by
  unfold out0_6
  refine View.canon_apply_of_pieces (Val := Elt Ideal) (fun y : S256x7168.Idx => a.dx (y 0).val (y 1).val) _ ?_ y (cover0_6 _ y)
  intro pc hpc
  rcases List.mem_cons.mp hpc with rfl | hpc
  · intro x
    refine Eq.trans (b := a.dx (x 0).val (x 1).val) ?_ ?_
    · exact r_dx a _ _ _ _ _ _ (e_41 a L0 L1 L2 L3 L4 L5 h0 h5) (e_42 a L0 L1 L2 L3 L4 L5 h0 h5) (ld_1 a L1 h1) (ld_4 a L4 h4) (e_33 a L0 L1 L2 L3 L4 L5 h3) (e_34 a L0 L1 L2 L3 L4 L5 h2) _ (r_rr a _ (ld_2 a L2 h2)) x
    · show a.dx (x 0).val (x 1).val = a.dx (0 + 1 * (x 0).val) (0 + 1 * (x 1).val)
      simp only [Nat.one_mul, Nat.zero_add]
  · nomatch hpc

include h0 h2 h3 h5 in
theorem o_7 (y : S7168x18432.Idx) : out0_7 (F := Ideal) L0 L1 L2 L3 L4 L5 y = a.dw (y 0).val (y 1).val := by
  unfold out0_7
  refine View.canon_apply_of_pieces (Val := Elt Ideal) (fun y : S7168x18432.Idx => a.dw (y 0).val (y 1).val) _ ?_ y (cover0_7 _ y)
  intro pc hpc
  rcases List.mem_cons.mp hpc with rfl | hpc
  · intro x
    refine Eq.trans (b := a.dw (x 0).val (x 1).val) ?_ ?_
    · exact r_dw a _ _ _ _ (e_38 a L0 L1 L2 L3 L4 L5 h0 h2 h3) (e_39 a L0 L1 L2 L3 L4 L5 h0 h2 h3) (e_43 a L0 L1 L2 L3 L4 L5 h0 h5) (e_44 a L0 L1 L2 L3 L4 L5 h0 h5) x
    · show a.dw (x 0).val (x 1).val = a.dw (0 + 1 * (x 0).val) (0 + 1 * (x 1).val)
      simp only [Nat.one_mul, Nat.zero_add]
  · nomatch hpc

include h0 h1 h2 h4 h5 in
theorem o_8 (y : S1x7168.Idx) : out0_8 (F := Ideal) L0 L1 L2 L3 L4 L5 y = a.dgamma (y 1).val := by
  unfold out0_8
  refine View.canon_apply_of_pieces (Val := Elt Ideal) (fun y : S1x7168.Idx => a.dgamma (y 1).val) _ ?_ y (cover0_8 _ y)
  intro pc hpc
  rcases List.mem_cons.mp hpc with rfl | hpc
  · intro x
    refine Eq.trans (b := a.dgamma (x 1).val) ?_ ?_
    · exact r_dgamma a _ _ _ _ _ (e_41 a L0 L1 L2 L3 L4 L5 h0 h5) (e_42 a L0 L1 L2 L3 L4 L5 h0 h5) (ld_1 a L1 h1) (ld_4 a L4 h4) (e_34 a L0 L1 L2 L3 L4 L5 h2) x
    · show a.dgamma (x 1).val = a.dgamma (0 + 1 * (x 1).val)
      simp only [Nat.one_mul, Nat.zero_add]
  · nomatch hpc

include h0 h2 h3 in
theorem o_9 (y : S256x7168.Idx) : out0_9 (F := Ideal) L0 L1 L2 L3 L4 L5 y = a.xC (y 0).val (y 1).val := by
  unfold out0_9
  refine View.canon_apply_of_pieces (Val := Elt Ideal) (fun y : S256x7168.Idx => a.xC (y 0).val (y 1).val) _ ?_ y (cover0_9 _ y)
  intro pc hpc
  rcases List.mem_cons.mp hpc with rfl | hpc
  · intro x
    refine Eq.trans (b := a.xC (x 0).val (x 1).val) ?_ ?_
    · exact join_x a.xC _ (e_38 a L0 L1 L2 L3 L4 L5 h0 h2 h3) x
    · show a.xC (x 0).val (x 1).val = a.xC (0 + 1 * (x 0).val) (0 + 1 * (x 1).val)
      simp only [Nat.one_mul, Nat.zero_add]
  · nomatch hpc

include h0 h2 h3 in
theorem o_10 (y : S2x1x7168.Idx) : out0_10 (F := Ideal) L0 L1 L2 L3 L4 L5 y = a.xS (y 0).val (y 2).val := by
  unfold out0_10
  refine View.canon_apply_of_pieces (Val := Elt Ideal) (fun y : S2x1x7168.Idx => a.xS (y 0).val (y 2).val) _ ?_ y (cover0_10 _ y)
  intro pc hpc
  rcases List.mem_cons.mp hpc with rfl | hpc
  · intro x
    refine Eq.trans (b := a.xS (x 0).val (x 2).val) ?_ ?_
    · exact e_39 a L0 L1 L2 L3 L4 L5 h0 h2 h3 x
    · show a.xS (x 0).val (x 2).val = a.xS (0 + 1 * (x 0).val) (0 + 1 * (x 2).val)
      simp only [Nat.one_mul, Nat.zero_add]
  · nomatch hpc

include h0 h5 in
theorem o_11 (y : S256x18432.Idx) : out0_11 (F := Ideal) L0 L1 L2 L3 L4 L5 y = a.rC (y 0).val (y 1).val := by
  unfold out0_11
  refine View.canon_apply_of_pieces (Val := Elt Ideal) (fun y : S256x18432.Idx => a.rC (y 0).val (y 1).val) _ ?_ y (cover0_11 _ y)
  intro pc hpc
  rcases List.mem_cons.mp hpc with rfl | hpc
  · intro x
    refine Eq.trans (b := a.rC (x 0).val (x 1).val) ?_ ?_
    · exact join_y4 a.rC _ (e_41 a L0 L1 L2 L3 L4 L5 h0 h5) x
    · show a.rC (x 0).val (x 1).val = a.rC (0 + 1 * (x 0).val) (0 + 1 * (x 1).val)
      simp only [Nat.one_mul, Nat.zero_add]
  · nomatch hpc

include h0 h5 in
theorem o_12 (y : S256x144.Idx) : out0_12 (F := Ideal) L0 L1 L2 L3 L4 L5 y = a.rS (y 0).val (y 1).val := by
  unfold out0_12
  refine View.canon_apply_of_pieces (Val := Elt Ideal) (fun y : S256x144.Idx => a.rS (y 0).val (y 1).val) _ ?_ y (cover0_12 _ y)
  intro pc hpc
  rcases List.mem_cons.mp hpc with rfl | hpc
  · intro x
    refine Eq.trans (b := a.rS (x 0).val (x 1).val) ?_ ?_
    · exact join_s a.rS _ (e_42 a L0 L1 L2 L3 L4 L5 h0 h5) x
    · show a.rS (x 0).val (x 1).val = a.rS (0 + 1 * (x 0).val) (0 + 1 * (x 1).val)
      simp only [Nat.one_mul, Nat.zero_add]
  · nomatch hpc

include h0 h5 in
theorem o_13 (y : S256x18432.Idx) : out0_13 (F := Ideal) L0 L1 L2 L3 L4 L5 y = a.cC (y 0).val (y 1).val := by
  unfold out0_13
  refine View.canon_apply_of_pieces (Val := Elt Ideal) (fun y : S256x18432.Idx => a.cC (y 0).val (y 1).val) _ ?_ y (cover0_13 _ y)
  intro pc hpc
  rcases List.mem_cons.mp hpc with rfl | hpc
  · intro x
    refine Eq.trans (b := a.cC (x 0).val (x 1).val) ?_ ?_
    · exact join_y a.cC _ (e_43 a L0 L1 L2 L3 L4 L5 h0 h5) x
    · show a.cC (x 0).val (x 1).val = a.cC (0 + 1 * (x 0).val) (0 + 1 * (x 1).val)
      simp only [Nat.one_mul, Nat.zero_add]
  · nomatch hpc

include h0 h5 in
theorem o_14 (y : S2x1x18432.Idx) : out0_14 (F := Ideal) L0 L1 L2 L3 L4 L5 y = a.cS (y 0).val (y 2).val := by
  unfold out0_14
  refine View.canon_apply_of_pieces (Val := Elt Ideal) (fun y : S2x1x18432.Idx => a.cS (y 0).val (y 2).val) _ ?_ y (cover0_14 _ y)
  intro pc hpc
  rcases List.mem_cons.mp hpc with rfl | hpc
  · intro x
    refine Eq.trans (b := a.cS (x 0).val (x 2).val) ?_ ?_
    · exact e_44 a L0 L1 L2 L3 L4 L5 h0 h5 x
    · show a.cS (x 0).val (x 2).val = a.cS (0 + 1 * (x 0).val) (0 + 1 * (x 2).val)
      simp only [Nat.one_mul, Nat.zero_add]
  · nomatch hpc

end

end Cert.RVal

end
-- ==== Proof.Val.RefArr.lean ====
module

public import proofs.«01_k».proof.Proof.Val.Inp
public import proofs.«01_k».proof.Proof.Val.RefRun

@[expose] public section

set_option maxRecDepth 16384
set_option maxHeartbeats 1000000

noncomputable section

namespace Cert.RVal

open Cert.ReferenceIdeal Cert.ReferenceIdeal.Gen Idealize.ShloMosaic Idealize.ShloMosaic.TcCoe Idealize.SL.Sem
open Idealize.ShloMosaic.Pipeline (Dat)
open Cert.Val

/-! ## The reference's blocks and arrays -/

variable (m : (ℓ : Loc nD τ sig) → Buf (Elt Ideal) ℓ)

/-- The inputs of device `c`. -/
def inR (c : Dev nD) : In :=
  inOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

theorem inR_S (c : Dev nD) (y : S2.Idx) : (m ((c : Thread nD τ).loc main_arg5) : S2.Idx → BitVec 32) y = (inR m c).S (y 0).val := in_S _ _ _ _ _ _ y
theorem inR_G (c : Dev nD) (y : S7168.Idx) : (m ((c : Thread nD τ).loc main_arg1) : S7168.Idx → EReal) y = (inR m c).G (y 0).val := in_G _ _ _ _ _ _ y
theorem inR_W (c : Dev nD) (y : S7168x18432.Idx) : (m ((c : Thread nD τ).loc main_arg2) : S7168x18432.Idx → EReal) y = (inR m c).W (y 0).val (y 1).val := in_W _ _ _ _ _ _ y
theorem inR_WS (c : Dev nD) (y : S56x144.Idx) : (m ((c : Thread nD τ).loc main_arg3) : S56x144.Idx → EReal) y = (inR m c).WS (y 0).val (y 1).val := in_WS _ _ _ _ _ _ y
theorem inR_X (c : Dev nD) (y : S2x128x7168.Idx) : (m ((c : Thread nD τ).loc main_arg0) : S2x128x7168.Idx → EReal) y = (inR m c).X (128 * (y 0).val + (y 1).val) (y 2).val := in_X _ _ _ _ _ _ y
theorem inR_D (c : Dev nD) (y : S2x128x18432.Idx) : (m ((c : Thread nD τ).loc main_arg4) : S2x128x18432.Idx → EReal) y = (inR m c).D (128 * (y 0).val + (y 1).val) (y 2).val := in_D _ _ _ _ _ _ y

theorem V_main_v0 (c : Dev nD) : (V m c main_v0 : S2x1x1.Idx → BitVec 32) = shapeCast S2x1x1 (m ((c : Thread nD τ).loc main_arg5) : S2.Idx → BitVec 32) shapeCasts_S2_S2x1x1 := by
  unfold V hostOps0
  after_results
  rfl
theorem V_main_v1 (c : Dev nD) : (V m c main_v1 : S1x7168.Idx → EReal) = shapeCast S1x7168 (m ((c : Thread nD τ).loc main_arg1) : S7168.Idx → EReal) shapeCasts_S7168_S1x7168 := by
  unfold V hostOps0
  after_results
  rfl

theorem v0_at (c : Dev nD) (y : S2x1x1.Idx) : (V m c main_v0 : S2x1x1.Idx → BitVec 32) y = (inR m c).S (y 0).val := by
  have y1 : (y 1).val < 1 := (y 1).isLt
  have y2 : (y 2).val < 1 := (y 2).isLt
  rw [V_main_v0]
  refine (shapeCast_apply _ _ _ (ValueIdx.ix1 (y 0)) ?_).trans (inR_S m c _)
  refine (Shape.rowMajor_val_one _).trans (Eq.trans ?_ (Shape.rowMajor_val_three _).symm)
  show (y 0).val = ((y 0).val * 1 + (y 1).val) * 1 + (y 2).val
  omega
theorem v1_at (c : Dev nD) (y : S1x7168.Idx) : (V m c main_v1 : S1x7168.Idx → EReal) y = (inR m c).G (y 1).val := by
  have y0 : (y 0).val < 1 := (y 0).isLt
  rw [V_main_v1]
  refine (shapeCast_apply _ _ _ (ValueIdx.ix1 (y 1)) ?_).trans (inR_G m c _)
  refine (Shape.rowMajor_val_one _).trans (Eq.trans ?_ (Shape.rowMajor_val_two _).symm)
  show (y 1).val = (y 0).val * 7168 + (y 1).val
  omega

theorem blk0 (c : Dev nD) (t : Fin cfg0.N) (y : S2x1x1.Idx) : (iblk m c 0 t : S2x1x1.Idx → BitVec 32) y = (inR m c).S (y 0).val := by
  show (V m c main_v0 : S2x1x1.Idx → BitVec 32) ((win0_0.rect t).emb y) = _
  refine (v0_at m c _).trans ?_
  rw [win0_0.rect_emb_val_of_index_zero t 0 rfl]
theorem blk1 (c : Dev nD) (t : Fin cfg0.N) (y : S56x144.Idx) : (iblk m c 1 t : S56x144.Idx → EReal) y = (inR m c).WS (y 0).val (y 1).val := by
  show (V m c main_arg3 : S56x144.Idx → EReal) ((win0_1.rect t).emb y) = _
  rw [V_main_arg3]
  refine (inR_WS m c _).trans ?_
  rw [win0_1.rect_emb_val_of_index_zero t 0 rfl, win0_1.rect_emb_val_of_index_zero t 1 rfl]
theorem blk2 (c : Dev nD) (t : Fin cfg0.N) (y : S2x128x7168.Idx) : (iblk m c 2 t : S2x128x7168.Idx → EReal) y = (inR m c).X (128 * (y 0).val + (y 1).val) (y 2).val := by
  show (V m c main_arg0 : S2x128x7168.Idx → EReal) ((win0_2.rect t).emb y) = _
  rw [V_main_arg0]
  refine (inR_X m c _).trans ?_
  rw [win0_2.rect_emb_val_of_index_zero t 0 rfl, win0_2.rect_emb_val_of_index_zero t 1 rfl, win0_2.rect_emb_val_of_index_zero t 2 rfl]
theorem blk3 (c : Dev nD) (t : Fin cfg0.N) (y : S1x7168.Idx) : (iblk m c 3 t : S1x7168.Idx → EReal) y = (inR m c).G (y 1).val := by
  show (V m c main_v1 : S1x7168.Idx → EReal) ((win0_3.rect t).emb y) = _
  refine (v1_at m c _).trans ?_
  rw [win0_3.rect_emb_val_of_index_zero t 1 rfl]
theorem blk4 (c : Dev nD) (t : Fin cfg0.N) (y : S7168x18432.Idx) : (iblk m c 4 t : S7168x18432.Idx → EReal) y = (inR m c).W (y 0).val (y 1).val := by
  show (V m c main_arg2 : S7168x18432.Idx → EReal) ((win0_4.rect t).emb y) = _
  rw [V_main_arg2]
  refine (inR_W m c _).trans ?_
  rw [win0_4.rect_emb_val_of_index_zero t 0 rfl, win0_4.rect_emb_val_of_index_zero t 1 rfl]
theorem blk5 (c : Dev nD) (t : Fin cfg0.N) (y : S2x128x18432.Idx) : (iblk m c 5 t : S2x128x18432.Idx → EReal) y = (inR m c).D (128 * (y 0).val + (y 1).val) (y 2).val := by
  show (V m c main_arg4 : S2x128x18432.Idx → EReal) ((win0_5.rect t).emb y) = _
  rw [V_main_arg4]
  refine (inR_D m c _).trans ?_
  rw [win0_5.rect_emb_val_of_index_zero t 0 rfl, win0_5.rect_emb_val_of_index_zero t 1 rfl, win0_5.rect_emb_val_of_index_zero t 2 rfl]

variable {c : Dev nD} (dat : Dat τ (Elt Ideal) Unit ℕ (UR sig nD τ) ℕ cfg0 c)

theorem arr_6 (f : ℕ → ℕ → EReal) (h : ∀ t : Fin cfg0.N, ∀ y : S256x7168.Idx, (dat.after 6 t : S256x7168.Idx → EReal) y = f (y 0).val (y 1).val) :
    dat.arrAt 6 cfg0.N = (fun y : S256x7168.Idx => f (y 0).val (y 1).val) := by
  refine dat.arrAt_eq_of_covers 6 _ (by decide +kernel) fun t hf y => ?_
  refine (h t _).trans ?_
  show f (y 0).val (y 1).val = f ((win0_6.rect t).emb y 0).val ((win0_6.rect t).emb y 1).val
  rw [win0_6.rect_emb_val_of_index_zero t 0 rfl]
  rw [win0_6.rect_emb_val_of_index_zero t 1 rfl]

theorem arr_7 (f : ℕ → ℕ → EReal) (h : ∀ t : Fin cfg0.N, ∀ y : S7168x18432.Idx, (dat.after 7 t : S7168x18432.Idx → EReal) y = f (y 0).val (y 1).val) :
    dat.arrAt 7 cfg0.N = (fun y : S7168x18432.Idx => f (y 0).val (y 1).val) := by
  refine dat.arrAt_eq_of_covers 7 _ (by decide +kernel) fun t hf y => ?_
  refine (h t _).trans ?_
  show f (y 0).val (y 1).val = f ((win0_7.rect t).emb y 0).val ((win0_7.rect t).emb y 1).val
  rw [win0_7.rect_emb_val_of_index_zero t 0 rfl]
  rw [win0_7.rect_emb_val_of_index_zero t 1 rfl]

theorem arr_8 (f : ℕ → EReal) (h : ∀ t : Fin cfg0.N, ∀ y : S1x7168.Idx, (dat.after 8 t : S1x7168.Idx → EReal) y = f (y 1).val) :
    dat.arrAt 8 cfg0.N = (fun y : S1x7168.Idx => f (y 1).val) := by
  refine dat.arrAt_eq_of_covers 8 _ (by decide +kernel) fun t hf y => ?_
  refine (h t _).trans ?_
  show f (y 1).val = f ((win0_8.rect t).emb y 1).val
  rw [win0_8.rect_emb_val_of_index_zero t 1 rfl]

theorem arr_9 (f : ℕ → ℕ → EReal) (h : ∀ t : Fin cfg0.N, ∀ y : S256x7168.Idx, (dat.after 9 t : S256x7168.Idx → EReal) y = f (y 0).val (y 1).val) :
    dat.arrAt 9 cfg0.N = (fun y : S256x7168.Idx => f (y 0).val (y 1).val) := by
  refine dat.arrAt_eq_of_covers 9 _ (by decide +kernel) fun t hf y => ?_
  refine (h t _).trans ?_
  show f (y 0).val (y 1).val = f ((win0_9.rect t).emb y 0).val ((win0_9.rect t).emb y 1).val
  rw [win0_9.rect_emb_val_of_index_zero t 0 rfl]
  rw [win0_9.rect_emb_val_of_index_zero t 1 rfl]

theorem arr_10 (f : ℕ → ℕ → EReal) (h : ∀ t : Fin cfg0.N, ∀ y : S2x1x7168.Idx, (dat.after 10 t : S2x1x7168.Idx → EReal) y = f (y 0).val (y 2).val) :
    dat.arrAt 10 cfg0.N = (fun y : S2x1x7168.Idx => f (y 0).val (y 2).val) := by
  refine dat.arrAt_eq_of_covers 10 _ (by decide +kernel) fun t hf y => ?_
  refine (h t _).trans ?_
  show f (y 0).val (y 2).val = f ((win0_10.rect t).emb y 0).val ((win0_10.rect t).emb y 2).val
  rw [win0_10.rect_emb_val_of_index_zero t 0 rfl]
  rw [win0_10.rect_emb_val_of_index_zero t 2 rfl]

theorem arr_11 (f : ℕ → ℕ → EReal) (h : ∀ t : Fin cfg0.N, ∀ y : S256x18432.Idx, (dat.after 11 t : S256x18432.Idx → EReal) y = f (y 0).val (y 1).val) :
    dat.arrAt 11 cfg0.N = (fun y : S256x18432.Idx => f (y 0).val (y 1).val) := by
  refine dat.arrAt_eq_of_covers 11 _ (by decide +kernel) fun t hf y => ?_
  refine (h t _).trans ?_
  show f (y 0).val (y 1).val = f ((win0_11.rect t).emb y 0).val ((win0_11.rect t).emb y 1).val
  rw [win0_11.rect_emb_val_of_index_zero t 0 rfl]
  rw [win0_11.rect_emb_val_of_index_zero t 1 rfl]

theorem arr_12 (f : ℕ → ℕ → EReal) (h : ∀ t : Fin cfg0.N, ∀ y : S256x144.Idx, (dat.after 12 t : S256x144.Idx → EReal) y = f (y 0).val (y 1).val) :
    dat.arrAt 12 cfg0.N = (fun y : S256x144.Idx => f (y 0).val (y 1).val) := by
  refine dat.arrAt_eq_of_covers 12 _ (by decide +kernel) fun t hf y => ?_
  refine (h t _).trans ?_
  show f (y 0).val (y 1).val = f ((win0_12.rect t).emb y 0).val ((win0_12.rect t).emb y 1).val
  rw [win0_12.rect_emb_val_of_index_zero t 0 rfl]
  rw [win0_12.rect_emb_val_of_index_zero t 1 rfl]

theorem arr_13 (f : ℕ → ℕ → EReal) (h : ∀ t : Fin cfg0.N, ∀ y : S256x18432.Idx, (dat.after 13 t : S256x18432.Idx → EReal) y = f (y 0).val (y 1).val) :
    dat.arrAt 13 cfg0.N = (fun y : S256x18432.Idx => f (y 0).val (y 1).val) := by
  refine dat.arrAt_eq_of_covers 13 _ (by decide +kernel) fun t hf y => ?_
  refine (h t _).trans ?_
  show f (y 0).val (y 1).val = f ((win0_13.rect t).emb y 0).val ((win0_13.rect t).emb y 1).val
  rw [win0_13.rect_emb_val_of_index_zero t 0 rfl]
  rw [win0_13.rect_emb_val_of_index_zero t 1 rfl]

theorem arr_14 (f : ℕ → ℕ → EReal) (h : ∀ t : Fin cfg0.N, ∀ y : S2x1x18432.Idx, (dat.after 14 t : S2x1x18432.Idx → EReal) y = f (y 0).val (y 2).val) :
    dat.arrAt 14 cfg0.N = (fun y : S2x1x18432.Idx => f (y 0).val (y 2).val) := by
  refine dat.arrAt_eq_of_covers 14 _ (by decide +kernel) fun t hf y => ?_
  refine (h t _).trans ?_
  show f (y 0).val (y 2).val = f ((win0_14.rect t).emb y 0).val ((win0_14.rect t).emb y 2).val
  rw [win0_14.rect_emb_val_of_index_zero t 0 rfl]
  rw [win0_14.rect_emb_val_of_index_zero t 2 rfl]

end Cert.RVal

end
-- ==== Proof.Val.RefOut.lean ====
module

public import proofs.«01_k».proof.Proof.Val.RefVals
public import proofs.«01_k».proof.Proof.Val.RefArr

@[expose] public section

set_option maxRecDepth 16384
set_option maxHeartbeats 1000000

noncomputable section

namespace Cert.RVal

open Cert.ReferenceIdeal Cert.ReferenceIdeal.Gen Idealize.ShloMosaic Idealize.ShloMosaic.TcCoe Idealize.SL.Sem
open Cert.Val

/-! ## What the reference returns -/

variable (m : (ℓ : Loc nD τ sig) → Buf (Elt Ideal) ℓ) (ρ : Dev nD → PrngReg)

theorem res_6 (c : Dev nD) : (dats m 0 c).arrAt 6 cfg0.N = (fun y : S256x7168.Idx => (inR m c).dx (y 0).val (y 1).val) :=
  arr_6 (dats m 0 c) (inR m c).dx fun t y => (congrFun (after0_6 m c t) y).trans (o_6 (inR m c) _ _ _ _ _ _ (blk0 m c t) (blk1 m c t) (blk2 m c t) (blk3 m c t) (blk4 m c t) (blk5 m c t) y)

theorem res_7 (c : Dev nD) : (dats m 0 c).arrAt 7 cfg0.N = (fun y : S7168x18432.Idx => (inR m c).dw (y 0).val (y 1).val) :=
  arr_7 (dats m 0 c) (inR m c).dw fun t y => (congrFun (after0_7 m c t) y).trans (o_7 (inR m c) _ _ _ _ _ _ (blk0 m c t) (blk2 m c t) (blk3 m c t) (blk5 m c t) y)

theorem res_8 (c : Dev nD) : (dats m 0 c).arrAt 8 cfg0.N = (fun y : S1x7168.Idx => (inR m c).dgamma (y 1).val) :=
  arr_8 (dats m 0 c) (inR m c).dgamma fun t y => (congrFun (after0_8 m c t) y).trans (o_8 (inR m c) _ _ _ _ _ _ (blk0 m c t) (blk1 m c t) (blk2 m c t) (blk4 m c t) (blk5 m c t) y)

theorem res_9 (c : Dev nD) : (dats m 0 c).arrAt 9 cfg0.N = (fun y : S256x7168.Idx => (inR m c).xC (y 0).val (y 1).val) :=
  arr_9 (dats m 0 c) (inR m c).xC fun t y => (congrFun (after0_9 m c t) y).trans (o_9 (inR m c) _ _ _ _ _ _ (blk0 m c t) (blk2 m c t) (blk3 m c t) y)

theorem res_10 (c : Dev nD) : (dats m 0 c).arrAt 10 cfg0.N = (fun y : S2x1x7168.Idx => (inR m c).xS (y 0).val (y 2).val) :=
  arr_10 (dats m 0 c) (inR m c).xS fun t y => (congrFun (after0_10 m c t) y).trans (o_10 (inR m c) _ _ _ _ _ _ (blk0 m c t) (blk2 m c t) (blk3 m c t) y)

theorem res_11 (c : Dev nD) : (dats m 0 c).arrAt 11 cfg0.N = (fun y : S256x18432.Idx => (inR m c).rC (y 0).val (y 1).val) :=
  arr_11 (dats m 0 c) (inR m c).rC fun t y => (congrFun (after0_11 m c t) y).trans (o_11 (inR m c) _ _ _ _ _ _ (blk0 m c t) (blk5 m c t) y)

theorem res_12 (c : Dev nD) : (dats m 0 c).arrAt 12 cfg0.N = (fun y : S256x144.Idx => (inR m c).rS (y 0).val (y 1).val) :=
  arr_12 (dats m 0 c) (inR m c).rS fun t y => (congrFun (after0_12 m c t) y).trans (o_12 (inR m c) _ _ _ _ _ _ (blk0 m c t) (blk5 m c t) y)

theorem res_13 (c : Dev nD) : (dats m 0 c).arrAt 13 cfg0.N = (fun y : S256x18432.Idx => (inR m c).cC (y 0).val (y 1).val) :=
  arr_13 (dats m 0 c) (inR m c).cC fun t y => (congrFun (after0_13 m c t) y).trans (o_13 (inR m c) _ _ _ _ _ _ (blk0 m c t) (blk5 m c t) y)

theorem res_14 (c : Dev nD) : (dats m 0 c).arrAt 14 cfg0.N = (fun y : S2x1x18432.Idx => (inR m c).cS (y 0).val (y 2).val) :=
  arr_14 (dats m 0 c) (inR m c).cS fun t y => (congrFun (after0_14 m c t) y).trans (o_14 (inR m c) _ _ _ _ _ _ (blk0 m c t) (blk5 m c t) y)

/-- The reference ends with the nine results the mathematics asks for, and its arguments unchanged. -/
theorem run_out : θ_run defs (onTc (τ := τ) (main (F := Ideal))) ⟨m, fun _ => 0, ρ⟩ fun r => ∀ c : Dev nD,
      r.2.mem ((c : Thread nD τ).loc main_v2_0) = (fun y : S256x7168.Idx => (inR m c).dx (y 0).val (y 1).val)
      ∧ r.2.mem ((c : Thread nD τ).loc main_v2_1) = (fun y : S7168x18432.Idx => (inR m c).dw (y 0).val (y 1).val)
      ∧ r.2.mem ((c : Thread nD τ).loc main_v2_2) = (fun y : S1x7168.Idx => (inR m c).dgamma (y 1).val)
      ∧ r.2.mem ((c : Thread nD τ).loc main_v2_3) = (fun y : S256x7168.Idx => (inR m c).xC (y 0).val (y 1).val)
      ∧ r.2.mem ((c : Thread nD τ).loc main_v2_4) = (fun y : S2x1x7168.Idx => (inR m c).xS (y 0).val (y 2).val)
      ∧ r.2.mem ((c : Thread nD τ).loc main_v2_5) = (fun y : S256x18432.Idx => (inR m c).rC (y 0).val (y 1).val)
      ∧ r.2.mem ((c : Thread nD τ).loc main_v2_6) = (fun y : S256x144.Idx => (inR m c).rS (y 0).val (y 1).val)
      ∧ r.2.mem ((c : Thread nD τ).loc main_v2_7) = (fun y : S256x18432.Idx => (inR m c).cC (y 0).val (y 1).val)
      ∧ r.2.mem ((c : Thread nD τ).loc main_v2_8) = (fun y : S2x1x18432.Idx => (inR m c).cS (y 0).val (y 2).val)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    obtain ⟨e6, e7, e8, e9, e10, e11, e12, e13, e14, k⟩ := h c
    exact ⟨e6.trans (res_6 m c), e7.trans (res_7 m c), e8.trans (res_8 m c), e9.trans (res_9 m c), e10.trans (res_10 m c), e11.trans (res_11 m c), e12.trans (res_12 m c), e13.trans (res_13 m c), e14.trans (res_14 m c), k⟩)
    (run_blocks m ρ)

end Cert.RVal

end
-- ==== Proof.Val.Pre.lean ====
module

public import proofs.«01_k».proof.Pre_finite
public import proofs.«01_k».proof.Proof.Val.Inp

@[expose] public section

set_option maxRecDepth 16384

noncomputable section

namespace Cert.Val

open Idealize.ShloMosaic Idealize.SL.Sem

/-! ## The precondition: the gain and the gradient are finite -/

instance preFacts : Cert.Pre_finite.Facts where
  bcast_S_S7168 := by decide
  bitsLt_bf16_f32 := by decide
  bcast_S_S2x128x18432 := by decide

theorem pre_gain (x : FVec Ideal Pre_finite.S2x128x7168 .bf16) (g : FVec Ideal Pre_finite.S7168 .f32) (w : FVec Ideal Pre_finite.S7168x18432 .fp8e4m3)
    (ws : FVec Ideal Pre_finite.S56x144 .f32) (d : FVec Ideal Pre_finite.S2x128x18432 .bf16) (s : IVec Pre_finite.S2 32)
    (h : (Pre_finite.fn (F := Ideal) x g w ws d s).1 = fun _ => 1#1) (y : Pre_finite.S7168.Idx) :
    max (g y : EReal) (-(g y : EReal)) ≤ (((2 : ℝ) ^ (128 : ℤ) : ℝ) : EReal) :=
  (le_of_cmp _ _ (congrFun h y)).trans c_max

theorem pre_grad (x : FVec Ideal Pre_finite.S2x128x7168 .bf16) (g : FVec Ideal Pre_finite.S7168 .f32) (w : FVec Ideal Pre_finite.S7168x18432 .fp8e4m3)
    (ws : FVec Ideal Pre_finite.S56x144 .f32) (d : FVec Ideal Pre_finite.S2x128x18432 .bf16) (s : IVec Pre_finite.S2 32)
    (h : (Pre_finite.fn (F := Ideal) x g w ws d s).2 = fun _ => 1#1) (y : Pre_finite.S2x128x18432.Idx) :
    max (d y : EReal) (-(d y : EReal)) ≤ (((2 : ℝ) ^ (128 : ℤ) : ℝ) : EReal) :=
  (le_of_cmp _ _ (congrFun h y)).trans c_max

/-- Equal arguments are equal inputs. -/
theorem inOf_congr {x x' : KernelIdeal.S2x128x7168.Idx → EReal} {g g' : KernelIdeal.S7168.Idx → EReal} {w w' : KernelIdeal.S7168x18432.Idx → EReal}
    {ws ws' : KernelIdeal.S56x144.Idx → EReal} {d d' : KernelIdeal.S2x128x18432.Idx → EReal} {s s' : KernelIdeal.S2.Idx → BitVec 32}
    (h0 : x = x') (h1 : g = g') (h2 : w = w') (h3 : ws = ws') (h4 : d = d') (h5 : s = s') : inOf x g w ws d s = inOf x' g' w' ws' d' s' := by
  subst h0 h1 h2 h3 h4 h5; rfl

end Cert.Val

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Ideal.Run
public import proofs.«01_k».proof.Proof.Bits.Run
public import proofs.«01_k».proof.Proof.Val.Out
public import proofs.«01_k».proof.Proof.Val.RefOut
public import proofs.«01_k».proof.Proof.Val.Pre
public import Idealize.ShloMosaic.Adequacy
public import Idealize.ShloMosaic.Init

@[expose] public section

set_option maxRecDepth 16384

noncomputable section

namespace Cert.Proof

open Idealize.ShloMosaic Idealize.SL.Sem

/-- Under the precondition the inputs are finite where that is asked. -/
theorem fin_of_pre (m : (ℓ : Loc KernelIdeal.nD KernelIdeal.τ KernelIdeal.sig) → Buf (Elt Ideal) ℓ) (h : Pre_KernelIdeal_finite m) : (Val.inK m).Fin' :=
  Val.in_fin _ _ _ _ _ _ (Val.pre_gain _ _ _ _ _ _ (h (0 : Fin 1)).1) (Val.pre_grad _ _ _ _ _ _ (h (0 : Fin 1)).2)

theorem value : algebraic_KernelIdeal_ReferenceIdeal_pre_finite := by
  intro m g m' g' hp hm
  have e : ∀ c, RVal.inR m' c = Val.inK m := fun c => by
    rw [show c = (0 : Fin 1) from Subsingleton.elim (α := Fin 1) c 0]
    exact Val.inOf_congr (hm (0 : Fin 1)).1 (hm (0 : Fin 1)).2.1 (hm (0 : Fin 1)).2.2.1 (hm (0 : Fin 1)).2.2.2.1 (hm (0 : Fin 1)).2.2.2.2.1 (hm (0 : Fin 1)).2.2.2.2.2
  refine ⟨fun _ => (fun y : KernelIdeal.S256x7168.Idx => (Val.inK m).dx (y 0).val (y 1).val),
    fun _ => (fun y : KernelIdeal.S7168x18432.Idx => (Val.inK m).dw (y 0).val (y 1).val),
    fun _ => (fun y : KernelIdeal.S1x7168.Idx => (Val.inK m).dgamma (y 1).val),
    fun _ => (fun y : KernelIdeal.S256x7168.Idx => (Val.inK m).xC (y 0).val (y 1).val),
    fun _ => (fun y : KernelIdeal.S2x1x7168.Idx => (Val.inK m).xS (y 0).val (y 2).val),
    fun _ => (fun y : KernelIdeal.S256x18432.Idx => (Val.inK m).rC (y 0).val (y 1).val),
    fun _ => (fun y : KernelIdeal.S256x144.Idx => (Val.inK m).rS (y 0).val (y 1).val),
    fun _ => (fun y : KernelIdeal.S256x18432.Idx => (Val.inK m).cC (y 0).val (y 1).val),
    fun _ => (fun y : KernelIdeal.S2x1x18432.Idx => (Val.inK m).cS (y 0).val (y 2).val),
    Val.run_out m g (fin_of_pre m hp), (θ_run _ _ _).mono (fun r h c => ?_) (RVal.run_out m' g')⟩
  have k := h c
  rw [e c] at k
  exact k

theorem claim : Cert.Claim := ⟨Cert.Kernel.Gen.facts, Cert.KernelIdeal.Gen.facts, Cert.ReferenceIdeal.Gen.facts, Val.preFacts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, value⟩

end Cert.Proof

end
